-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0))) = (fun _ => 1#1)

def Pre_HProj (m : (ℓ : Loc Cert.HProj.nD Cert.HProj.τ Cert.HProj.sig) → Buf (Elt Bits) ℓ) : Prop :=
  True

def Pre_HProjIdeal (m : (ℓ : Loc Cert.HProjIdeal.nD Cert.HProjIdeal.τ Cert.HProjIdeal.sig) → Buf (Elt Ideal) ℓ) : Prop :=
  True

def Pre_HProjRefIdeal (m : (ℓ : Loc Cert.HProjRefIdeal.nD Cert.HProjRefIdeal.τ Cert.HProjRefIdeal.sig) → Buf (Elt Ideal) ℓ) : Prop :=
  True

def Pre_GLog (m : (ℓ : Loc Cert.GLog.nD Cert.GLog.τ Cert.GLog.sig) → Buf (Elt Bits) ℓ) : Prop :=
  True

def Pre_GLogIdeal (m : (ℓ : Loc Cert.GLogIdeal.nD Cert.GLogIdeal.τ Cert.GLogIdeal.sig) → Buf (Elt Ideal) ℓ) : Prop :=
  True

def Pre_GLogRefIdeal (m : (ℓ : Loc Cert.GLogRefIdeal.nD Cert.GLogRefIdeal.τ Cert.GLogRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))) = (fun _ => 1#1)

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_Qkv0RefIdeal (m : (ℓ : Loc Cert.Qkv0RefIdeal.nD Cert.Qkv0RefIdeal.τ Cert.Qkv0RefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_Qkv2 (m : (ℓ : Loc Cert.Qkv2.nD Cert.Qkv2.τ Cert.Qkv2.sig) → Buf (Elt Bits) ℓ) : Prop :=
  True

def Pre_Qkv2Ideal (m : (ℓ : Loc Cert.Qkv2Ideal.nD Cert.Qkv2Ideal.τ Cert.Qkv2Ideal.sig) → Buf (Elt Ideal) ℓ) : Prop :=
  True

def Pre_Qkv2RefIdeal (m : (ℓ : Loc Cert.Qkv2RefIdeal.nD Cert.Qkv2RefIdeal.τ Cert.Qkv2RefIdeal.sig) → Buf (Elt Ideal) ℓ) : Prop :=
  True

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_qk [hPre_finite_qk : Cert.Pre_finite_qk.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_qk.fn (F := Ideal) (m ((c.tc : Thread Cert.AttnBIdeal.nD Cert.AttnBIdeal.τ).loc Cert.AttnBIdeal.main_arg0))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_qk [hPre_finite_qk : Cert.Pre_finite_qk.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_qk.fn (F := Ideal) (m ((c.tc : Thread Cert.AttnBRefIdeal.nD Cert.AttnBRefIdeal.τ).loc Cert.AttnBRefIdeal.main_arg0))) = (fun _ => 1#1)

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite_qk [hPre_finite_qk : Cert.Pre_finite_qk.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite_qk.fn (F := Ideal) (m ((c.tc : Thread Cert.AttnCIdeal.nD Cert.AttnCIdeal.τ).loc Cert.AttnCIdeal.main_arg0))) = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite_qk [hPre_finite_qk : Cert.Pre_finite_qk.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite_qk.fn (F := Ideal) (m ((c.tc : Thread Cert.AttnCRefIdeal.nD Cert.AttnCRefIdeal.τ).loc Cert.AttnCRefIdeal.main_arg0))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_HProj [hHProj : Cert.HProj.Facts] : Prop :=
  ∀ (m : (ℓ : Loc Cert.HProj.nD Cert.HProj.τ Cert.HProj.sig) → Buf (Elt Bits) ℓ) (g : Dev Cert.HProj.nD → PrngReg), Pre_HProj m →
    θ_run (Cert.HProj.defs (F := Bits)) (onTc (τ := Cert.HProj.τ) (Cert.HProj.main (F := Bits))) ⟨m, fun _ => 0, g⟩ (fun r => (∀ c : Dev Cert.HProj.nD,
      r.2.mem ((c.tc : Thread Cert.HProj.nD Cert.HProj.τ).loc Cert.HProj.main_arg0) = m ((c.tc : Thread Cert.HProj.nD Cert.HProj.τ).loc Cert.HProj.main_arg0)
      ∧ r.2.mem ((c.tc : Thread Cert.HProj.nD Cert.HProj.τ).loc Cert.HProj.main_arg1) = m ((c.tc : Thread Cert.HProj.nD Cert.HProj.τ).loc Cert.HProj.main_arg1))
      ∧ r.2.sem = fun _ => 0)

def quiescent_HProjIdeal [hHProjIdeal : Cert.HProjIdeal.Facts] : Prop :=
  ∀ (m : (ℓ : Loc Cert.HProjIdeal.nD Cert.HProjIdeal.τ Cert.HProjIdeal.sig) → Buf (Elt Ideal) ℓ) (g : Dev Cert.HProjIdeal.nD → PrngReg), Pre_HProjIdeal m →
    θ_run (Cert.HProjIdeal.defs (F := Ideal)) (onTc (τ := Cert.HProjIdeal.τ) (Cert.HProjIdeal.main (F := Ideal))) ⟨m, fun _ => 0, g⟩ (fun r => (∀ c : Dev Cert.HProjIdeal.nD,
      r.2.mem ((c.tc : Thread Cert.HProjIdeal.nD Cert.HProjIdeal.τ).loc Cert.HProjIdeal.main_arg0) = m ((c.tc : Thread Cert.HProjIdeal.nD Cert.HProjIdeal.τ).loc Cert.HProjIdeal.main_arg0)
      ∧ r.2.mem ((c.tc : Thread Cert.HProjIdeal.nD Cert.HProjIdeal.τ).loc Cert.HProjIdeal.main_arg1) = m ((c.tc : Thread Cert.HProjIdeal.nD Cert.HProjIdeal.τ).loc Cert.HProjIdeal.main_arg1))
      ∧ r.2.sem = fun _ => 0)

def quiescent_HProjRefIdeal [hHProjRefIdeal : Cert.HProjRefIdeal.Facts] : Prop :=
  ∀ (m : (ℓ : Loc Cert.HProjRefIdeal.nD Cert.HProjRefIdeal.τ Cert.HProjRefIdeal.sig) → Buf (Elt Ideal) ℓ) (g : Dev Cert.HProjRefIdeal.nD → PrngReg), Pre_HProjRefIdeal m →
    θ_run (Cert.HProjRefIdeal.defs (F := Ideal)) (onTc (τ := Cert.HProjRefIdeal.τ) (Cert.HProjRefIdeal.main (F := Ideal))) ⟨m, fun _ => 0, g⟩ (fun r => (∀ c : Dev Cert.HProjRefIdeal.nD,
      r.2.mem ((c.tc : Thread Cert.HProjRefIdeal.nD Cert.HProjRefIdeal.τ).loc Cert.HProjRefIdeal.main_arg0) = m ((c.tc : Thread Cert.HProjRefIdeal.nD Cert.HProjRefIdeal.τ).loc Cert.HProjRefIdeal.main_arg0)
      ∧ r.2.mem ((c.tc : Thread Cert.HProjRefIdeal.nD Cert.HProjRefIdeal.τ).loc Cert.HProjRefIdeal.main_arg1) = m ((c.tc : Thread Cert.HProjRefIdeal.nD Cert.HProjRefIdeal.τ).loc Cert.HProjRefIdeal.main_arg1))
      ∧ r.2.sem = fun _ => 0)

def quiescent_GLog [hGLog : Cert.GLog.Facts] : Prop :=
  ∀ (m : (ℓ : Loc Cert.GLog.nD Cert.GLog.τ Cert.GLog.sig) → Buf (Elt Bits) ℓ) (g : Dev Cert.GLog.nD → PrngReg), Pre_GLog m →
    θ_run (Cert.GLog.defs (F := Bits)) (onTc (τ := Cert.GLog.τ) (Cert.GLog.main (F := Bits))) ⟨m, fun _ => 0, g⟩ (fun r => (∀ c : Dev Cert.GLog.nD,
      r.2.mem ((c.tc : Thread Cert.GLog.nD Cert.GLog.τ).loc Cert.GLog.main_arg0) = m ((c.tc : Thread Cert.GLog.nD Cert.GLog.τ).loc Cert.GLog.main_arg0)
      ∧ r.2.mem ((c.tc : Thread Cert.GLog.nD Cert.GLog.τ).loc Cert.GLog.main_arg1) = m ((c.tc : Thread Cert.GLog.nD Cert.GLog.τ).loc Cert.GLog.main_arg1))
      ∧ r.2.sem = fun _ => 0)

def quiescent_GLogIdeal [hGLogIdeal : Cert.GLogIdeal.Facts] : Prop :=
  ∀ (m : (ℓ : Loc Cert.GLogIdeal.nD Cert.GLogIdeal.τ Cert.GLogIdeal.sig) → Buf (Elt Ideal) ℓ) (g : Dev Cert.GLogIdeal.nD → PrngReg), Pre_GLogIdeal m →
    θ_run (Cert.GLogIdeal.defs (F := Ideal)) (onTc (τ := Cert.GLogIdeal.τ) (Cert.GLogIdeal.main (F := Ideal))) ⟨m, fun _ => 0, g⟩ (fun r => (∀ c : Dev Cert.GLogIdeal.nD,
      r.2.mem ((c.tc : Thread Cert.GLogIdeal.nD Cert.GLogIdeal.τ).loc Cert.GLogIdeal.main_arg0) = m ((c.tc : Thread Cert.GLogIdeal.nD Cert.GLogIdeal.τ).loc Cert.GLogIdeal.main_arg0)
      ∧ r.2.mem ((c.tc : Thread Cert.GLogIdeal.nD Cert.GLogIdeal.τ).loc Cert.GLogIdeal.main_arg1) = m ((c.tc : Thread Cert.GLogIdeal.nD Cert.GLogIdeal.τ).loc Cert.GLogIdeal.main_arg1))
      ∧ r.2.sem = fun _ => 0)

def quiescent_GLogRefIdeal [hGLogRefIdeal : Cert.GLogRefIdeal.Facts] : Prop :=
  ∀ (m : (ℓ : Loc Cert.GLogRefIdeal.nD Cert.GLogRefIdeal.τ Cert.GLogRefIdeal.sig) → Buf (Elt Ideal) ℓ) (g : Dev Cert.GLogRefIdeal.nD → PrngReg), Pre_GLogRefIdeal m →
    θ_run (Cert.GLogRefIdeal.defs (F := Ideal)) (onTc (τ := Cert.GLogRefIdeal.τ) (Cert.GLogRefIdeal.main (F := Ideal))) ⟨m, fun _ => 0, g⟩ (fun r => (∀ c : Dev Cert.GLogRefIdeal.nD,
      r.2.mem ((c.tc : Thread Cert.GLogRefIdeal.nD Cert.GLogRefIdeal.τ).loc Cert.GLogRefIdeal.main_arg0) = m ((c.tc : Thread Cert.GLogRefIdeal.nD Cert.GLogRefIdeal.τ).loc Cert.GLogRefIdeal.main_arg0)
      ∧ r.2.mem ((c.tc : Thread Cert.GLogRefIdeal.nD Cert.GLogRefIdeal.τ).loc Cert.GLogRefIdeal.main_arg1) = m ((c.tc : Thread Cert.GLogRefIdeal.nD Cert.GLogRefIdeal.τ).loc Cert.GLogRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ r.2.sem = fun _ => 0)

def quiescent_Qkv0RefIdeal [hQkv0RefIdeal : Cert.Qkv0RefIdeal.Facts] : Prop :=
  ∀ (m : (ℓ : Loc Cert.Qkv0RefIdeal.nD Cert.Qkv0RefIdeal.τ Cert.Qkv0RefIdeal.sig) → Buf (Elt Ideal) ℓ) (g : Dev Cert.Qkv0RefIdeal.nD → PrngReg), Pre_Qkv0RefIdeal m →
    θ_run (Cert.Qkv0RefIdeal.defs (F := Ideal)) (onTc (τ := Cert.Qkv0RefIdeal.τ) (Cert.Qkv0RefIdeal.main (F := Ideal))) ⟨m, fun _ => 0, g⟩ (fun r => (∀ c : Dev Cert.Qkv0RefIdeal.nD,
      r.2.mem ((c.tc : Thread Cert.Qkv0RefIdeal.nD Cert.Qkv0RefIdeal.τ).loc Cert.Qkv0RefIdeal.main_arg0) = m ((c.tc : Thread Cert.Qkv0RefIdeal.nD Cert.Qkv0RefIdeal.τ).loc Cert.Qkv0RefIdeal.main_arg0)
      ∧ r.2.mem ((c.tc : Thread Cert.Qkv0RefIdeal.nD Cert.Qkv0RefIdeal.τ).loc Cert.Qkv0RefIdeal.main_arg1) = m ((c.tc : Thread Cert.Qkv0RefIdeal.nD Cert.Qkv0RefIdeal.τ).loc Cert.Qkv0RefIdeal.main_arg1))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1))
      ∧ r.2.sem = fun _ => 0)

def quiescent_Qkv2 [hQkv2 : Cert.Qkv2.Facts] : Prop :=
  ∀ (m : (ℓ : Loc Cert.Qkv2.nD Cert.Qkv2.τ Cert.Qkv2.sig) → Buf (Elt Bits) ℓ) (g : Dev Cert.Qkv2.nD → PrngReg), Pre_Qkv2 m →
    θ_run (Cert.Qkv2.defs (F := Bits)) (onTc (τ := Cert.Qkv2.τ) (Cert.Qkv2.main (F := Bits))) ⟨m, fun _ => 0, g⟩ (fun r => (∀ c : Dev Cert.Qkv2.nD,
      r.2.mem ((c.tc : Thread Cert.Qkv2.nD Cert.Qkv2.τ).loc Cert.Qkv2.main_arg0) = m ((c.tc : Thread Cert.Qkv2.nD Cert.Qkv2.τ).loc Cert.Qkv2.main_arg0)
      ∧ r.2.mem ((c.tc : Thread Cert.Qkv2.nD Cert.Qkv2.τ).loc Cert.Qkv2.main_arg1) = m ((c.tc : Thread Cert.Qkv2.nD Cert.Qkv2.τ).loc Cert.Qkv2.main_arg1))
      ∧ r.2.sem = fun _ => 0)

def quiescent_Qkv2Ideal [hQkv2Ideal : Cert.Qkv2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg), Pre_Qkv2Ideal m →
    θ_run (Cert.Qkv2Ideal.defs (F := Ideal)) (onTc (τ := Cert.Qkv2Ideal.τ) (Cert.Qkv2Ideal.main (F := Ideal))) ⟨m, fun _ => 0, g⟩ (fun r => (∀ c : Dev Cert.Qkv2Ideal.nD,
      r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
      ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1))
      ∧ r.2.sem = fun _ => 0)

def quiescent_Qkv2RefIdeal [hQkv2RefIdeal : Cert.Qkv2RefIdeal.Facts] : Prop :=
  ∀ (m : (ℓ : Loc Cert.Qkv2RefIdeal.nD Cert.Qkv2RefIdeal.τ Cert.Qkv2RefIdeal.sig) → Buf (Elt Ideal) ℓ) (g : Dev Cert.Qkv2RefIdeal.nD → PrngReg), Pre_Qkv2RefIdeal m →
    θ_run (Cert.Qkv2RefIdeal.defs (F := Ideal)) (onTc (τ := Cert.Qkv2RefIdeal.τ) (Cert.Qkv2RefIdeal.main (F := Ideal))) ⟨m, fun _ => 0, g⟩ (fun r => (∀ c : Dev Cert.Qkv2RefIdeal.nD,
      r.2.mem ((c.tc : Thread Cert.Qkv2RefIdeal.nD Cert.Qkv2RefIdeal.τ).loc Cert.Qkv2RefIdeal.main_arg0) = m ((c.tc : Thread Cert.Qkv2RefIdeal.nD Cert.Qkv2RefIdeal.τ).loc Cert.Qkv2RefIdeal.main_arg0)
      ∧ r.2.mem ((c.tc : Thread Cert.Qkv2RefIdeal.nD Cert.Qkv2RefIdeal.τ).loc Cert.Qkv2RefIdeal.main_arg1) = m ((c.tc : Thread Cert.Qkv2RefIdeal.nD Cert.Qkv2RefIdeal.τ).loc Cert.Qkv2RefIdeal.main_arg1))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ r.2.sem = fun _ => 0)

def quiescent_AttnBIdeal_pre_finite_qk [hAttnBIdeal : Cert.AttnBIdeal.Facts] [hPre_finite_qk : Cert.Pre_finite_qk.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_qk m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0))
      ∧ r.2.sem = fun _ => 0)

def quiescent_AttnBRefIdeal_pre_finite_qk [hAttnBRefIdeal : Cert.AttnBRefIdeal.Facts] [hPre_finite_qk : Cert.Pre_finite_qk.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_qk m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ r.2.sem = fun _ => 0)

def quiescent_AttnCIdeal_pre_finite_qk [hAttnCIdeal : Cert.AttnCIdeal.Facts] [hPre_finite_qk : Cert.Pre_finite_qk.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite_qk m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0))
      ∧ r.2.sem = fun _ => 0)

def quiescent_AttnCRefIdeal_pre_finite_qk [hAttnCRefIdeal : Cert.AttnCRefIdeal.Facts] [hPre_finite_qk : Cert.Pre_finite_qk.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite_qk m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v113) = v0 c
          ∧ r.2.mem ((c.tc : Thread Cert.AttnRefIdeal.nD Cert.AttnRefIdeal.τ).loc Cert.AttnRefIdeal.main_v117) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_HProj_HProjIdeal : Prop :=
  True

def algebraic_HProjIdeal_HProjRefIdeal [hHProjIdeal : Cert.HProjIdeal.Facts] [hHProjRefIdeal : Cert.HProjRefIdeal.Facts] : Prop :=
  ∀ (m : (ℓ : Loc Cert.HProjIdeal.nD Cert.HProjIdeal.τ Cert.HProjIdeal.sig) → Buf (Elt Ideal) ℓ) (g : Dev Cert.HProjIdeal.nD → PrngReg)
    (m' : (ℓ : Loc Cert.HProjRefIdeal.nD Cert.HProjRefIdeal.τ Cert.HProjRefIdeal.sig) → Buf (Elt Ideal) ℓ) (g' : Dev Cert.HProjRefIdeal.nD → PrngReg), Pre_HProjIdeal m →
    (∀ c : Dev Cert.HProjIdeal.nD,
      m' ((c.tc : Thread Cert.HProjRefIdeal.nD Cert.HProjRefIdeal.τ).loc Cert.HProjRefIdeal.main_arg0) = m ((c.tc : Thread Cert.HProjIdeal.nD Cert.HProjIdeal.τ).loc Cert.HProjIdeal.main_arg0)
      ∧ m' ((c.tc : Thread Cert.HProjRefIdeal.nD Cert.HProjRefIdeal.τ).loc Cert.HProjRefIdeal.main_arg1) = m ((c.tc : Thread Cert.HProjIdeal.nD Cert.HProjIdeal.τ).loc Cert.HProjIdeal.main_arg1)) →
    ∃ (v0 : (c : Dev Cert.HProjIdeal.nD) → Buf (Elt Ideal) ((c.tc : Thread Cert.HProjIdeal.nD Cert.HProjIdeal.τ).loc Cert.HProjIdeal.main_v1)),
      θ_run (Cert.HProjIdeal.defs (F := Ideal)) (onTc (τ := Cert.HProjIdeal.τ) (Cert.HProjIdeal.main (F := Ideal))) ⟨m, fun _ => 0, g⟩ (fun r => ∀ c : Dev Cert.HProjIdeal.nD,
          r.2.mem ((c.tc : Thread Cert.HProjIdeal.nD Cert.HProjIdeal.τ).loc Cert.HProjIdeal.main_v1) = v0 c
          ∧ r.2.mem ((c.tc : Thread Cert.HProjIdeal.nD Cert.HProjIdeal.τ).loc Cert.HProjIdeal.main_arg0) = m ((c.tc : Thread Cert.HProjIdeal.nD Cert.HProjIdeal.τ).loc Cert.HProjIdeal.main_arg0)
          ∧ r.2.mem ((c.tc : Thread Cert.HProjIdeal.nD Cert.HProjIdeal.τ).loc Cert.HProjIdeal.main_arg1) = m ((c.tc : Thread Cert.HProjIdeal.nD Cert.HProjIdeal.τ).loc Cert.HProjIdeal.main_arg1))
      ∧ θ_run (Cert.HProjRefIdeal.defs (F := Ideal)) (onTc (τ := Cert.HProjRefIdeal.τ) (Cert.HProjRefIdeal.main (F := Ideal))) ⟨m', fun _ => 0, g'⟩ (fun r => ∀ c : Dev Cert.HProjRefIdeal.nD,
          r.2.mem ((c.tc : Thread Cert.HProjRefIdeal.nD Cert.HProjRefIdeal.τ).loc Cert.HProjRefIdeal.main_v3) = v0 c
          ∧ r.2.mem ((c.tc : Thread Cert.HProjRefIdeal.nD Cert.HProjRefIdeal.τ).loc Cert.HProjRefIdeal.main_arg0) = m' ((c.tc : Thread Cert.HProjRefIdeal.nD Cert.HProjRefIdeal.τ).loc Cert.HProjRefIdeal.main_arg0)
          ∧ r.2.mem ((c.tc : Thread Cert.HProjRefIdeal.nD Cert.HProjRefIdeal.τ).loc Cert.HProjRefIdeal.main_arg1) = m' ((c.tc : Thread Cert.HProjRefIdeal.nD Cert.HProjRefIdeal.τ).loc Cert.HProjRefIdeal.main_arg1))

def preserves_GLog_GLogIdeal : Prop :=
  True

def algebraic_GLogIdeal_GLogRefIdeal [hGLogIdeal : Cert.GLogIdeal.Facts] [hGLogRefIdeal : Cert.GLogRefIdeal.Facts] : Prop :=
  ∀ (m : (ℓ : Loc Cert.GLogIdeal.nD Cert.GLogIdeal.τ Cert.GLogIdeal.sig) → Buf (Elt Ideal) ℓ) (g : Dev Cert.GLogIdeal.nD → PrngReg)
    (m' : (ℓ : Loc Cert.GLogRefIdeal.nD Cert.GLogRefIdeal.τ Cert.GLogRefIdeal.sig) → Buf (Elt Ideal) ℓ) (g' : Dev Cert.GLogRefIdeal.nD → PrngReg), Pre_GLogIdeal m →
    (∀ c : Dev Cert.GLogIdeal.nD,
      m' ((c.tc : Thread Cert.GLogRefIdeal.nD Cert.GLogRefIdeal.τ).loc Cert.GLogRefIdeal.main_arg0) = m ((c.tc : Thread Cert.GLogIdeal.nD Cert.GLogIdeal.τ).loc Cert.GLogIdeal.main_arg0)
      ∧ m' ((c.tc : Thread Cert.GLogRefIdeal.nD Cert.GLogRefIdeal.τ).loc Cert.GLogRefIdeal.main_arg1) = m ((c.tc : Thread Cert.GLogIdeal.nD Cert.GLogIdeal.τ).loc Cert.GLogIdeal.main_arg1)) →
    ∃ (v0 : (c : Dev Cert.GLogIdeal.nD) → Buf (Elt Ideal) ((c.tc : Thread Cert.GLogIdeal.nD Cert.GLogIdeal.τ).loc Cert.GLogIdeal.main_v1)),
      θ_run (Cert.GLogIdeal.defs (F := Ideal)) (onTc (τ := Cert.GLogIdeal.τ) (Cert.GLogIdeal.main (F := Ideal))) ⟨m, fun _ => 0, g⟩ (fun r => ∀ c : Dev Cert.GLogIdeal.nD,
          r.2.mem ((c.tc : Thread Cert.GLogIdeal.nD Cert.GLogIdeal.τ).loc Cert.GLogIdeal.main_v1) = v0 c
          ∧ r.2.mem ((c.tc : Thread Cert.GLogIdeal.nD Cert.GLogIdeal.τ).loc Cert.GLogIdeal.main_arg0) = m ((c.tc : Thread Cert.GLogIdeal.nD Cert.GLogIdeal.τ).loc Cert.GLogIdeal.main_arg0)
          ∧ r.2.mem ((c.tc : Thread Cert.GLogIdeal.nD Cert.GLogIdeal.τ).loc Cert.GLogIdeal.main_arg1) = m ((c.tc : Thread Cert.GLogIdeal.nD Cert.GLogIdeal.τ).loc Cert.GLogIdeal.main_arg1))
      ∧ θ_run (Cert.GLogRefIdeal.defs (F := Ideal)) (onTc (τ := Cert.GLogRefIdeal.τ) (Cert.GLogRefIdeal.main (F := Ideal))) ⟨m', fun _ => 0, g'⟩ (fun r => ∀ c : Dev Cert.GLogRefIdeal.nD,
          r.2.mem ((c.tc : Thread Cert.GLogRefIdeal.nD Cert.GLogRefIdeal.τ).loc Cert.GLogRefIdeal.main_v3) = v0 c
          ∧ r.2.mem ((c.tc : Thread Cert.GLogRefIdeal.nD Cert.GLogRefIdeal.τ).loc Cert.GLogRefIdeal.main_arg0) = m' ((c.tc : Thread Cert.GLogRefIdeal.nD Cert.GLogRefIdeal.τ).loc Cert.GLogRefIdeal.main_arg0)
          ∧ r.2.mem ((c.tc : Thread Cert.GLogRefIdeal.nD Cert.GLogRefIdeal.τ).loc Cert.GLogRefIdeal.main_arg1) = m' ((c.tc : Thread Cert.GLogRefIdeal.nD Cert.GLogRefIdeal.τ).loc Cert.GLogRefIdeal.main_arg1))

def preserves_Merge_MergeIdeal : Prop :=
  True

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)) (v2 : (c : Dev Cert.MergeIdeal.nD) → Buf (Elt Ideal) ((c.tc : Thread Cert.MergeIdeal.nD Cert.MergeIdeal.τ).loc Cert.MergeIdeal.main_v4_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_v4_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_v59) = v1 c
          ∧ r.2.mem ((c.tc : Thread Cert.MergeRefIdeal.nD Cert.MergeRefIdeal.τ).loc Cert.MergeRefIdeal.main_v60) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Qkv0_Qkv0Ideal : Prop :=
  True

def algebraic_Qkv0Ideal_Qkv0RefIdeal [hQkv0Ideal : Cert.Qkv0Ideal.Facts] [hQkv0RefIdeal : Cert.Qkv0RefIdeal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.Qkv0RefIdeal.nD Cert.Qkv0RefIdeal.τ Cert.Qkv0RefIdeal.sig) → Buf (Elt Ideal) ℓ) (g' : Dev Cert.Qkv0RefIdeal.nD → PrngReg), Pre_Qkv0Ideal m →
    (∀ c : Dev Cert.Qkv0Ideal.nD,
      m' ((c.tc : Thread Cert.Qkv0RefIdeal.nD Cert.Qkv0RefIdeal.τ).loc Cert.Qkv0RefIdeal.main_arg0) = m ((c.tc : Thread Cert.Qkv0Ideal.nD Cert.Qkv0Ideal.τ).loc Cert.Qkv0Ideal.main_arg0)
      ∧ m' ((c.tc : Thread Cert.Qkv0RefIdeal.nD Cert.Qkv0RefIdeal.τ).loc Cert.Qkv0RefIdeal.main_arg1) = m ((c.tc : Thread Cert.Qkv0Ideal.nD Cert.Qkv0Ideal.τ).loc Cert.Qkv0Ideal.main_arg1)) →
    ∃ (v0 : (c : Dev Cert.Qkv0Ideal.nD) → Buf (Elt Ideal) ((c.tc : Thread Cert.Qkv0Ideal.nD Cert.Qkv0Ideal.τ).loc Cert.Qkv0Ideal.main_v1)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v1) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ θ_run (Cert.Qkv0RefIdeal.defs (F := Ideal)) (onTc (τ := Cert.Qkv0RefIdeal.τ) (Cert.Qkv0RefIdeal.main (F := Ideal))) ⟨m', fun _ => 0, g'⟩ (fun r => ∀ c : Dev Cert.Qkv0RefIdeal.nD,
          r.2.mem ((c.tc : Thread Cert.Qkv0RefIdeal.nD Cert.Qkv0RefIdeal.τ).loc Cert.Qkv0RefIdeal.main_v7) = v0 c
          ∧ r.2.mem ((c.tc : Thread Cert.Qkv0RefIdeal.nD Cert.Qkv0RefIdeal.τ).loc Cert.Qkv0RefIdeal.main_arg0) = m' ((c.tc : Thread Cert.Qkv0RefIdeal.nD Cert.Qkv0RefIdeal.τ).loc Cert.Qkv0RefIdeal.main_arg0)
          ∧ r.2.mem ((c.tc : Thread Cert.Qkv0RefIdeal.nD Cert.Qkv0RefIdeal.τ).loc Cert.Qkv0RefIdeal.main_arg1) = m' ((c.tc : Thread Cert.Qkv0RefIdeal.nD Cert.Qkv0RefIdeal.τ).loc Cert.Qkv0RefIdeal.main_arg1))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v1)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v1) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v7) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1))

def preserves_Qkv2_Qkv2Ideal : Prop :=
  True

def algebraic_Qkv2Ideal_Qkv2RefIdeal [hQkv2Ideal : Cert.Qkv2Ideal.Facts] [hQkv2RefIdeal : Cert.Qkv2RefIdeal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg)
    (m' : (ℓ : Loc Cert.Qkv2RefIdeal.nD Cert.Qkv2RefIdeal.τ Cert.Qkv2RefIdeal.sig) → Buf (Elt Ideal) ℓ) (g' : Dev Cert.Qkv2RefIdeal.nD → PrngReg), Pre_Qkv2Ideal m →
    (∀ c : Dev Cert.Qkv2Ideal.nD,
      m' ((c.tc : Thread Cert.Qkv2RefIdeal.nD Cert.Qkv2RefIdeal.τ).loc Cert.Qkv2RefIdeal.main_arg0) = m ((c.tc : Thread Cert.Qkv2Ideal.nD Cert.Qkv2Ideal.τ).loc Cert.Qkv2Ideal.main_arg0)
      ∧ m' ((c.tc : Thread Cert.Qkv2RefIdeal.nD Cert.Qkv2RefIdeal.τ).loc Cert.Qkv2RefIdeal.main_arg1) = m ((c.tc : Thread Cert.Qkv2Ideal.nD Cert.Qkv2Ideal.τ).loc Cert.Qkv2Ideal.main_arg1)) →
    ∃ (v0 : (c : Dev Cert.Qkv2Ideal.nD) → Buf (Elt Ideal) ((c.tc : Thread Cert.Qkv2Ideal.nD Cert.Qkv2Ideal.τ).loc Cert.Qkv2Ideal.main_v1)),
      θ_run (Cert.Qkv2Ideal.defs (F := Ideal)) (onTc (τ := Cert.Qkv2Ideal.τ) (Cert.Qkv2Ideal.main (F := Ideal))) ⟨m, fun _ => 0, g⟩ (fun r => ∀ c : Dev Cert.Qkv2Ideal.nD,
          r.2.mem ((c.tc : Thread Cert.Qkv2Ideal.nD Cert.Qkv2Ideal.τ).loc Cert.Qkv2Ideal.main_v1) = v0 c
          ∧ r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
          ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1))
      ∧ θ_run (Cert.Qkv2RefIdeal.defs (F := Ideal)) (onTc (τ := Cert.Qkv2RefIdeal.τ) (Cert.Qkv2RefIdeal.main (F := Ideal))) ⟨m', fun _ => 0, g'⟩ (fun r => ∀ c : Dev Cert.Qkv2RefIdeal.nD,
          r.2.mem ((c.tc : Thread Cert.Qkv2RefIdeal.nD Cert.Qkv2RefIdeal.τ).loc Cert.Qkv2RefIdeal.main_v7) = v0 c
          ∧ r.2.mem ((c.tc : Thread Cert.Qkv2RefIdeal.nD Cert.Qkv2RefIdeal.τ).loc Cert.Qkv2RefIdeal.main_arg0) = m' ((c.tc : Thread Cert.Qkv2RefIdeal.nD Cert.Qkv2RefIdeal.τ).loc Cert.Qkv2RefIdeal.main_arg0)
          ∧ r.2.mem ((c.tc : Thread Cert.Qkv2RefIdeal.nD Cert.Qkv2RefIdeal.τ).loc Cert.Qkv2RefIdeal.main_arg1) = m' ((c.tc : Thread Cert.Qkv2RefIdeal.nD Cert.Qkv2RefIdeal.τ).loc Cert.Qkv2RefIdeal.main_arg1))

def preserves_AttnB_AttnBIdeal : Prop :=
  IdealRules.named_const.Statement Cert.AttnBIdeal.κ "mask" .f32 0xF149F2CA#32 ⊥

def algebraic_AttnBIdeal_AttnBRefIdeal_pre_finite_qk [hAttnBIdeal : Cert.AttnBIdeal.Facts] [hAttnBRefIdeal : Cert.AttnBRefIdeal.Facts] [hPre_finite_qk : Cert.Pre_finite_qk.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_qk m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)) →
    ∃ (v0 : (c : Dev Cert.AttnBIdeal.nD) → Buf (Elt Ideal) ((c.tc : Thread Cert.AttnBIdeal.nD Cert.AttnBIdeal.τ).loc Cert.AttnBIdeal.main_v2_0)) (v1 : (c : Dev Cert.AttnBIdeal.nD) → Buf (Elt Ideal) ((c.tc : Thread Cert.AttnBIdeal.nD Cert.AttnBIdeal.τ).loc Cert.AttnBIdeal.main_v2_1)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v2_0) = v0 c
          ∧ r.2.mem ((c.tc : Thread Cert.AttnBIdeal.nD Cert.AttnBIdeal.τ).loc Cert.AttnBIdeal.main_v2_1) = v1 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v113) = v0 c
          ∧ r.2.mem ((c.tc : Thread Cert.AttnBRefIdeal.nD Cert.AttnBRefIdeal.τ).loc Cert.AttnBRefIdeal.main_v117) = v1 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0))

def preserves_AttnC_AttnCIdeal : Prop :=
  IdealRules.named_const.Statement Cert.AttnCIdeal.κ "mask" .f32 0xF149F2CA#32 ⊥

def algebraic_AttnCIdeal_AttnCRefIdeal_pre_finite_qk [hAttnCIdeal : Cert.AttnCIdeal.Facts] [hAttnCRefIdeal : Cert.AttnCRefIdeal.Facts] [hPre_finite_qk : Cert.Pre_finite_qk.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite_qk m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)) →
    ∃ (v0 : (c : Dev Cert.AttnCIdeal.nD) → Buf (Elt Ideal) ((c.tc : Thread Cert.AttnCIdeal.nD Cert.AttnCIdeal.τ).loc Cert.AttnCIdeal.main_v2_0)) (v1 : (c : Dev Cert.AttnCIdeal.nD) → Buf (Elt Ideal) ((c.tc : Thread Cert.AttnCIdeal.nD Cert.AttnCIdeal.τ).loc Cert.AttnCIdeal.main_v2_1)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v2_0) = v0 c
          ∧ r.2.mem ((c.tc : Thread Cert.AttnCIdeal.nD Cert.AttnCIdeal.τ).loc Cert.AttnCIdeal.main_v2_1) = v1 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v113) = v0 c
          ∧ r.2.mem ((c.tc : Thread Cert.AttnCRefIdeal.nD Cert.AttnCRefIdeal.τ).loc Cert.AttnCRefIdeal.main_v117) = v1 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v1_0)) (v1 : (c : Dev Cert.ShortIdeal.nD) → Buf (Elt Ideal) ((c.tc : Thread Cert.ShortIdeal.nD Cert.ShortIdeal.τ).loc Cert.ShortIdeal.main_v1_1)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v1_0) = v0 c
          ∧ r.2.mem ((c.tc : Thread Cert.ShortIdeal.nD Cert.ShortIdeal.τ).loc Cert.ShortIdeal.main_v1_1) = v1 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v28) = v0 c
          ∧ r.2.mem ((c.tc : Thread Cert.ShortRefIdeal.nD Cert.ShortRefIdeal.τ).loc Cert.ShortRefIdeal.main_v30) = v1 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2))

def Claim : Prop :=
  ∃ (hAttn : Cert.Attn.Facts) (hAttnIdeal : Cert.AttnIdeal.Facts) (hAttnRefIdeal : Cert.AttnRefIdeal.Facts) (hHProj : Cert.HProj.Facts) (hHProjIdeal : Cert.HProjIdeal.Facts) (hHProjRefIdeal : Cert.HProjRefIdeal.Facts) (hGLog : Cert.GLog.Facts) (hGLogIdeal : Cert.GLogIdeal.Facts) (hGLogRefIdeal : Cert.GLogRefIdeal.Facts) (hMerge : Cert.Merge.Facts) (hMergeIdeal : Cert.MergeIdeal.Facts) (hMergeRefIdeal : Cert.MergeRefIdeal.Facts) (hQkv0 : Cert.Qkv0.Facts) (hQkv0Ideal : Cert.Qkv0Ideal.Facts) (hQkv0RefIdeal : Cert.Qkv0RefIdeal.Facts) (hQkv1 : Cert.Qkv1.Facts) (hQkv1Ideal : Cert.Qkv1Ideal.Facts) (hQkv1RefIdeal : Cert.Qkv1RefIdeal.Facts) (hQkv2 : Cert.Qkv2.Facts) (hQkv2Ideal : Cert.Qkv2Ideal.Facts) (hQkv2RefIdeal : Cert.Qkv2RefIdeal.Facts) (hAttnB : Cert.AttnB.Facts) (hAttnBIdeal : Cert.AttnBIdeal.Facts) (hAttnBRefIdeal : Cert.AttnBRefIdeal.Facts) (hAttnC : Cert.AttnC.Facts) (hAttnCIdeal : Cert.AttnCIdeal.Facts) (hAttnCRefIdeal : Cert.AttnCRefIdeal.Facts) (hNorm : Cert.Norm.Facts) (hNormIdeal : Cert.NormIdeal.Facts) (hNormRefIdeal : Cert.NormRefIdeal.Facts) (hShort : Cert.Short.Facts) (hShortIdeal : Cert.ShortIdeal.Facts) (hShortRefIdeal : Cert.ShortRefIdeal.Facts) (hPre_finite_qk : Cert.Pre_finite_qk.Facts) (hPre_finite_lse : Cert.Pre_finite_lse.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_HProj (hHProj := hHProj)
    ∧ quiescent_HProjIdeal (hHProjIdeal := hHProjIdeal)
    ∧ quiescent_HProjRefIdeal (hHProjRefIdeal := hHProjRefIdeal)
    ∧ quiescent_GLog (hGLog := hGLog)
    ∧ quiescent_GLogIdeal (hGLogIdeal := hGLogIdeal)
    ∧ quiescent_GLogRefIdeal (hGLogRefIdeal := hGLogRefIdeal)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ quiescent_Qkv0 (hQkv0 := hQkv0)
    ∧ quiescent_Qkv0Ideal (hQkv0Ideal := hQkv0Ideal)
    ∧ quiescent_Qkv0RefIdeal (hQkv0RefIdeal := hQkv0RefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_Qkv2 (hQkv2 := hQkv2)
    ∧ quiescent_Qkv2Ideal (hQkv2Ideal := hQkv2Ideal)
    ∧ quiescent_Qkv2RefIdeal (hQkv2RefIdeal := hQkv2RefIdeal)
    ∧ quiescent_AttnB (hAttnB := hAttnB)
    ∧ quiescent_AttnBIdeal (hAttnBIdeal := hAttnBIdeal)
    ∧ quiescent_AttnBIdeal_pre_finite_qk (hAttnBIdeal := hAttnBIdeal) (hPre_finite_qk := hPre_finite_qk)
    ∧ quiescent_AttnBRefIdeal (hAttnBRefIdeal := hAttnBRefIdeal)
    ∧ quiescent_AttnBRefIdeal_pre_finite_qk (hAttnBRefIdeal := hAttnBRefIdeal) (hPre_finite_qk := hPre_finite_qk)
    ∧ quiescent_AttnC (hAttnC := hAttnC)
    ∧ quiescent_AttnCIdeal (hAttnCIdeal := hAttnCIdeal)
    ∧ quiescent_AttnCIdeal_pre_finite_qk (hAttnCIdeal := hAttnCIdeal) (hPre_finite_qk := hPre_finite_qk)
    ∧ quiescent_AttnCRefIdeal (hAttnCRefIdeal := hAttnCRefIdeal)
    ∧ quiescent_AttnCRefIdeal_pre_finite_qk (hAttnCRefIdeal := hAttnCRefIdeal) (hPre_finite_qk := hPre_finite_qk)
    ∧ quiescent_Norm (hNorm := hNorm)
    ∧ quiescent_NormIdeal (hNormIdeal := hNormIdeal)
    ∧ quiescent_NormRefIdeal (hNormRefIdeal := hNormRefIdeal)
    ∧ quiescent_Short (hShort := hShort)
    ∧ quiescent_ShortIdeal (hShortIdeal := hShortIdeal)
    ∧ quiescent_ShortRefIdeal (hShortRefIdeal := hShortRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_HProj_HProjIdeal
    ∧ algebraic_HProjIdeal_HProjRefIdeal (hHProjIdeal := hHProjIdeal) (hHProjRefIdeal := hHProjRefIdeal)
    ∧ preserves_GLog_GLogIdeal
    ∧ algebraic_GLogIdeal_GLogRefIdeal (hGLogIdeal := hGLogIdeal) (hGLogRefIdeal := hGLogRefIdeal)
    ∧ preserves_Merge_MergeIdeal
    ∧ algebraic_MergeIdeal_MergeRefIdeal_pre_finite_lse (hMergeIdeal := hMergeIdeal) (hMergeRefIdeal := hMergeRefIdeal) (hPre_finite_lse := hPre_finite_lse)
    ∧ preserves_Qkv0_Qkv0Ideal
    ∧ algebraic_Qkv0Ideal_Qkv0RefIdeal (hQkv0Ideal := hQkv0Ideal) (hQkv0RefIdeal := hQkv0RefIdeal)
    ∧ preserves_Qkv1_Qkv1Ideal
    ∧ algebraic_Qkv1Ideal_Qkv1RefIdeal (hQkv1Ideal := hQkv1Ideal) (hQkv1RefIdeal := hQkv1RefIdeal)
    ∧ preserves_Qkv2_Qkv2Ideal
    ∧ algebraic_Qkv2Ideal_Qkv2RefIdeal (hQkv2Ideal := hQkv2Ideal) (hQkv2RefIdeal := hQkv2RefIdeal)
    ∧ preserves_AttnB_AttnBIdeal
    ∧ algebraic_AttnBIdeal_AttnBRefIdeal_pre_finite_qk (hAttnBIdeal := hAttnBIdeal) (hAttnBRefIdeal := hAttnBRefIdeal) (hPre_finite_qk := hPre_finite_qk)
    ∧ preserves_AttnC_AttnCIdeal
    ∧ algebraic_AttnCIdeal_AttnCRefIdeal_pre_finite_qk (hAttnCIdeal := hAttnCIdeal) (hAttnCRefIdeal := hAttnCRefIdeal) (hPre_finite_qk := hPre_finite_qk)
    ∧ preserves_Norm_NormIdeal
    ∧ algebraic_NormIdeal_NormRefIdeal (hNormIdeal := hNormIdeal) (hNormRefIdeal := hNormRefIdeal)
    ∧ preserves_Short_ShortIdeal
    ∧ algebraic_ShortIdeal_ShortRefIdeal (hShortIdeal := hShortIdeal) (hShortRefIdeal := hShortRefIdeal)
-- ==== Pre_finite_lse.lean ====
abbrev S32768x2048 : Shape := ⟨2, ![32768, 2048]⟩
abbrev S32768x4096 : Shape := ⟨2, ![32768, 4096]⟩
abbrev S32768x1024 : Shape := ⟨2, ![32768, 1024]⟩
abbrev S16x4x2048x128 : Shape := ⟨4, ![16, 4, 2048, 128]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S16x4x2048x128 : S_.BroadcastsInDim S16x4x2048x128 (![] : Fin 0 → Fin S16x4x2048x128.rank)

variable [Facts]

def fn {F : FTy → Type} [FloatOps F] (main_arg0 : FVec F S32768x2048 .f32) (main_arg1 : FVec F S32768x4096 .bf16) (main_arg2 : FVec F S32768x1024 .bf16) (main_arg3 : FVec F S16x4x2048x128 .f32) (main_arg4 : FVec F S16x4x2048x128 .f32) (main_arg5 : FVec F S16x4x2048x128 .f32) (main_arg6 : FVec F S16x4x2048x128 .f32) (main_arg7 : FVec F S16x4x2048x128 .f32) (main_arg8 : FVec F S16x4x2048x128 .f32) (main_arg9 : FVec F S1024x2048 .f32) (main_arg10 : FVec F S512x2048 .f32) (main_arg11 : FVec F S2048x2048 .f32) (main_arg12 : FVec F S2048 .f32) : IVec S16x4x2048x128 1 :=
  let main_v0 : FVec F S16x4x2048x128 .f32 := maximumf main_arg6 main_arg7
  let main_v1 : FVec F S16x4x2048x128 .f32 := maximumf main_v0 main_arg8
  let main_v2 : FVec F S16x4x2048x128 .f32 := Host.absf main_v1
  let main_cst : FVec F S_ .f32 := constant S_ .f32 0x7F800000#32
  let main_v3 : FVec F S16x4x2048x128 .f32 := broadcastInDim S16x4x2048x128 ![] bcast_S_S16x4x2048x128 main_cst
  let main_v4 : IVec S16x4x2048x128 1 := cmpf .olt main_v2 main_v3
  main_v4
-- ==== Pre_finite_qk.lean ====
abbrev S16x2048x1536 : Shape := ⟨3, ![16, 2048, 1536]⟩
abbrev S16x2048x1024 : Shape := ⟨3, ![16, 2048, 1024]⟩
abbrev S_ : Shape := ⟨0, ![]⟩

class Facts : Prop where
  slices_S16x2048x1536_S16x2048x1024_0_0_0 : S16x2048x1536.Slices ![0, 0, 0] S16x2048x1024
  bitsLt_bf16_f32 : FTy.bits .bf16 < FTy.bits .f32
  bcast_S_S16x2048x1024 : S_.BroadcastsInDim S16x2048x1024 (![] : Fin 0 → Fin S16x2048x1024.rank)

variable [Facts]

def fn {F : FTy → Type} [FloatOps F] (main_arg0 : FVec F S16x2048x1536 .bf16) : IVec S16x2048x1024 1 :=
  let main_v0 : FVec F S16x2048x1024 .bf16 := (extractStridedSlice S16x2048x1024 ![0, 0, 0] · slices_S16x2048x1536_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  main_v4
-- ==== Attn.lean ====
abbrev S16x2048x1536 : Shape := ⟨3, ![16, 2048, 1536]⟩
abbrev S32768x1536 : Shape := ⟨2, ![32768, 1536]⟩
abbrev S16x4x2048x128 : Shape := ⟨4, ![16, 4, 2048, 128]⟩
abbrev S1x256x512 : Shape := ⟨3, ![1, 256, 512]⟩
abbrev S1x64x512 : Shape := ⟨3, ![1, 64, 512]⟩
abbrev S1x4x256x128 : Shape := ⟨4, ![1, 4, 256, 128]⟩
abbrev S128x256 : Shape := ⟨2, ![128, 256]⟩
abbrev S256x128 : Shape := ⟨2, ![256, 128]⟩
abbrev S128x128 : Shape := ⟨2, ![128, 128]⟩
abbrev S1x64x128 : Shape := ⟨3, ![1, 64, 128]⟩
abbrev S64x128 : Shape := ⟨2, ![64, 128]⟩
abbrev S1x192x128 : Shape := ⟨3, ![1, 192, 128]⟩
abbrev S192x128 : Shape := ⟨2, ![192, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 5
  | .vmem => 18
  | .smem => 0
  | _ => 0

abbrev bufTy : (tb : Table) → Fin (tcTables nBuf tb) → BufTy
  | .hbm, ⟨0, _⟩ => ⟨S16x2048x1536, .bf16⟩
  | .hbm, ⟨1, _⟩ => ⟨S32768x1536, .bf16⟩
  | .hbm, ⟨2, _⟩ => ⟨S16x2048x1536, .bf16⟩
  | .hbm, ⟨3, _⟩ => ⟨S16x4x2048x128, .f32⟩
  | .hbm, ⟨4, _⟩ => ⟨S16x4x2048x128, .f32⟩
  | .local _ .vmem, ⟨0, _⟩ => ⟨S1x256x512, .bf16⟩
  | .local _ .vmem, ⟨1, _⟩ => ⟨S1x256x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x4x256x128, .f32⟩
  | .local _ .vmem, ⟨15, _⟩ => ⟨S1x4x256x128, .f32⟩
  | .local _ .vmem, ⟨16, _⟩ => ⟨S1x4x256x128, .f32⟩
  | .local _ .vmem, ⟨17, _⟩ => ⟨S1x4x256x128, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c0_i32 : BitVec 32 := 0#32
  let v1 : BitVec 32 := Scalar.addi v0 c0_i32
  let c0_i32_0 : BitVec 32 := 0#32
  ![arg0.toNat, arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg2
  let c1_i32_0 : BitVec 32 := 1#32
  let v4 : BitVec 32 := Scalar.addi v3 c1_i32_0
  let c0_i32_1 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c1_i32 : BitVec 32 := 1#32
  let v1 : BitVec 32 := Scalar.addi v0 c1_i32
  let c0_i32 : BitVec 32 := 0#32
  ![arg0.toNat, arg1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c3_i32 : BitVec 32 := 3#32
  let v3 : BitVec 32 := Scalar.muli c3_i32 arg2
  let c1_i32_0 : BitVec 32 := 1#32
  let v4 : BitVec 32 := Scalar.addi v3 c1_i32_0
  let c0_i32 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg2
  let c2_i32 : BitVec 32 := 2#32
  let v4 : BitVec 32 := Scalar.addi v3 c2_i32
  let c0_i32_0 : BitVec 32 := 0#32
  ![arg0.toNat, v2.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c2_i32 : BitVec 32 := 2#32
  let v1 : BitVec 32 := Scalar.addi v0 c2_i32
  let c0_i32 : BitVec 32 := 0#32
  ![arg0.toNat, arg1.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c3_i32 : BitVec 32 := 3#32
  let v3 : BitVec 32 := Scalar.muli c3_i32 arg2
  let c2_i32 : BitVec 32 := 2#32
  let v4 : BitVec 32 := Scalar.addi v3 c2_i32
  let c0_i32 : BitVec 32 := 0#32
  ![arg0.toNat, v2.toNat, v4.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AttnIdeal.lean ====
variable {F : FTy → Type} [FloatOps F] [Named F]
def κ : String → Option EReal := fun
  | "mask" => some ⊥
  | _ => none
-- ==== AttnRefIdeal.lean ====
abbrev S16x2048x1536 : Shape := ⟨3, ![16, 2048, 1536]⟩
abbrev S16x2048x3x8x64 : Shape := ⟨5, ![16, 2048, 3, 8, 64]⟩
abbrev S16x2048x1x8x64 : Shape := ⟨5, ![16, 2048, 1, 8, 64]⟩
abbrev S16x2048x8x64 : Shape := ⟨4, ![16, 2048, 8, 64]⟩
abbrev S_ : Shape := ⟨0, ![]⟩
abbrev S1 : Shape := ⟨1, ![1]⟩
abbrev S8 : Shape := ⟨1, ![8]⟩
abbrev S16x1x2048x8x64 : Shape := ⟨5, ![16, 1, 2048, 8, 64]⟩
abbrev S16x1x32x64x8x64 : Shape := ⟨6, ![16, 1, 32, 64, 8, 64]⟩
abbrev S16x1x2176x8x64 : Shape := ⟨5, ![16, 1, 2176, 8, 64]⟩
abbrev S16x1x32x192x8x64 : Shape := ⟨6, ![16, 1, 32, 192, 8, 64]⟩
abbrev S16x1x32x8x64x192 : Shape := ⟨6, ![16, 1, 32, 8, 64, 192]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S32 : Shape := ⟨1, ![32]⟩
abbrev S32x1 : Shape := ⟨2, ![32, 1]⟩
abbrev S32x192 : Shape := ⟨2, ![32, 192]⟩
abbrev S1x64x192 : Shape := ⟨3, ![1, 64, 192]⟩
abbrev S32x1x192 : Shape := ⟨3, ![32, 1, 192]⟩
abbrev S32x64x192 : Shape := ⟨3, ![32, 64, 192]⟩
abbrev S8x1x1 : Shape := ⟨3, ![8, 1, 1]⟩
abbrev S8x64x192 : Shape := ⟨3, ![8, 64, 192]⟩
abbrev S1x1x32x1x64x192 : Shape := ⟨6, ![1, 1, 32, 1, 64, 192]⟩
abbrev S1x1x1x8x64x192 : Shape := ⟨6, ![1, 1, 1, 8, 64, 192]⟩
abbrev S16x1x32x8x64 : Shape := ⟨5, ![16, 1, 32, 8, 64]⟩
abbrev S16x1x32x8x64x1 : Shape := ⟨6, ![16, 1, 32, 8, 64, 1]⟩
abbrev S16x1x32x8x64x64 : Shape := ⟨6, ![16, 1, 32, 8, 64, 64]⟩
abbrev S16x1x32x64x8 : Shape := ⟨5, ![16, 1, 32, 64, 8]⟩
abbrev S16x1x2048x8 : Shape := ⟨4, ![16, 1, 2048, 8]⟩
abbrev S16x2048x1x8 : Shape := ⟨4, ![16, 2048, 1, 8]⟩
abbrev S16x2048x8 : Shape := ⟨3, ![16, 2048, 8]⟩
abbrev S16x2048x4x128 : Shape := ⟨4, ![16, 2048, 4, 128]⟩
abbrev S16x4x2048x128 : Shape := ⟨4, ![16, 4, 2048, 128]⟩
abbrev S16x2048x8x1 : Shape := ⟨4, ![16, 2048, 8, 1]⟩

abbrev nBuf : Space → Nat
  | .hbm => 145
  | .vmem => 0
  | .smem => 0
  | _ => 0

abbrev hbmTy0_0 (i : Nat) : BufTy := match i % 128 with
  | 0 => ⟨S16x2048x1536, .bf16⟩
  | 1 => ⟨S16x2048x1536, .f32⟩
  | 2 => ⟨S16x2048x3x8x64, .f32⟩
  | 3 => ⟨S16x2048x1x8x64, .f32⟩
  | 4 => ⟨S16x2048x8x64, .f32⟩
  | 5 => ⟨S16x2048x1x8x64, .f32⟩
  | 6 => ⟨S16x2048x8x64, .f32⟩
  | 7 => ⟨S16x2048x1x8x64, .f32⟩
  | 8 => ⟨S16x2048x8x64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S8, .f32⟩
  | 26 => ⟨S16x2048x1x8x64, .f32⟩
  | 27 => ⟨S16x1x2048x8x64, .f32⟩
  | 28 => ⟨S16x1x32x64x8x64, .f32⟩
  | 29 => ⟨S16x2048x1x8x64, .f32⟩
  | 30 => ⟨S16x1x2048x8x64, .f32⟩
  | 31 => ⟨S_, .i32⟩
  | 32 => ⟨S_, .f32⟩
  | 33 => ⟨S16x1x2176x8x64, .f32⟩
  | 34 => ⟨S16x1x2048x8x64, .f32⟩
  | 35 => ⟨S16x1x32x64x8x64, .f32⟩
  | 36 => ⟨S16x1x2048x8x64, .f32⟩
  | 37 => ⟨S16x1x32x64x8x64, .f32⟩
  | 38 => ⟨S16x1x2048x8x64, .f32⟩
  | 39 => ⟨S16x1x32x64x8x64, .f32⟩
  | 40 => ⟨S16x1x32x192x8x64, .f32⟩
  | 41 => ⟨S16x2048x1x8x64, .f32⟩
  | 42 => ⟨S16x1x2048x8x64, .f32⟩
  | 43 => ⟨S_, .i32⟩
  | 44 => ⟨S_, .f32⟩
  | 45 => ⟨S16x1x2176x8x64, .f32⟩
  | 46 => ⟨S16x1x2048x8x64, .f32⟩
  | 47 => ⟨S16x1x32x64x8x64, .f32⟩
  | 48 => ⟨S16x1x2048x8x64, .f32⟩
  | 49 => ⟨S16x1x32x64x8x64, .f32⟩
  | 50 => ⟨S16x1x2048x8x64, .f32⟩
  | 51 => ⟨S16x1x32x64x8x64, .f32⟩
  | 52 => ⟨S16x1x32x192x8x64, .f32⟩
  | 53 => ⟨S16x1x32x8x64x192, .f32⟩
  | 54 => ⟨S_, .f32⟩
  | 55 => ⟨S16x1x32x8x64x192, .f32⟩
  | 56 => ⟨S16x1x32x8x64x192, .f32⟩
  | 57 => ⟨S192, .i32⟩
  | 58 => ⟨S1x192, .i32⟩
  | 59 => ⟨S_, .i32⟩
  | 60 => ⟨S1x192, .i32⟩
  | 61 => ⟨S1x192, .i32⟩
  | 62 => ⟨S64, .i32⟩
  | 63 => ⟨S64x1, .i32⟩
  | 64 => ⟨S64x192, .i32⟩
  | 65 => ⟨S64x192, .i32⟩
  | 66 => ⟨S64x192, .i32⟩
  | 67 => ⟨S32, .i32⟩
  | 68 => ⟨S32x1, .i32⟩
  | 69 => ⟨S_, .i32⟩
  | 70 => ⟨S32x1, .i32⟩
  | 71 => ⟨S32x1, .i32⟩
  | 72 => ⟨S_, .i32⟩
  | 73 => ⟨S32x1, .i32⟩
  | 74 => ⟨S32x1, .i32⟩
  | 75 => ⟨S192, .i32⟩
  | 76 => ⟨S1x192, .i32⟩
  | 77 => ⟨S32x192, .i32⟩
  | 78 => ⟨S32x192, .i32⟩
  | 79 => ⟨S32x192, .i32⟩
  | 80 => ⟨S64x192, .i32⟩
  | 81 => ⟨S_, .i32⟩
  | 82 => ⟨S64x192, .i32⟩
  | 83 => ⟨S64x192, .i1⟩
  | 84 => ⟨S1x64x192, .i1⟩
  | 85 => ⟨S_, .i32⟩
  | 86 => ⟨S32x192, .i32⟩
  | 87 => ⟨S32x192, .i1⟩
  | 88 => ⟨S_, .i32⟩
  | 89 => ⟨S32x192, .i32⟩
  | 90 => ⟨S32x192, .i1⟩
  | 91 => ⟨S32x192, .i1⟩
  | 92 => ⟨S32x1x192, .i1⟩
  | 93 => ⟨S32x64x192, .i1⟩
  | 94 => ⟨S32x64x192, .i1⟩
  | 95 => ⟨S32x64x192, .i1⟩
  | 96 => ⟨S8x1x1, .f32⟩
  | 97 => ⟨S8x1x1, .f32⟩
  | 98 => ⟨S64x192, .i32⟩
  | 99 => ⟨S_, .i32⟩
  | 100 => ⟨S64x192, .i32⟩
  | 101 => ⟨S64x192, .i32⟩
  | 102 => ⟨S64x192, .f32⟩
  | 103 => ⟨S1x64x192, .f32⟩
  | 104 => ⟨S8x64x192, .f32⟩
  | 105 => ⟨S8x64x192, .f32⟩
  | 106 => ⟨S8x64x192, .f32⟩
  | 107 => ⟨S1x1x32x1x64x192, .i1⟩
  | 108 => ⟨S1x1x1x8x64x192, .f32⟩
  | 109 => ⟨S16x1x32x8x64x192, .f32⟩
  | 110 => ⟨S16x1x32x8x64x192, .f32⟩
  | 111 => ⟨S_, .f32⟩
  | 112 => ⟨S_, .f32⟩
  | 113 => ⟨S16x1x32x8x64x192, .i1⟩
  | 114 => ⟨S16x1x32x8x64x192, .f32⟩
  | 115 => ⟨S16x1x32x8x64x192, .f32⟩
  | 116 => ⟨S_, .f32⟩
  | 117 => ⟨S16x1x32x8x64, .f32⟩
  | 118 => ⟨S16x1x32x8x64x1, .f32⟩
  | 119 => ⟨S16x1x32x8x64x192, .f32⟩
  | 120 => ⟨S16x1x32x8x64x192, .f32⟩
  | 121 => ⟨S16x1x32x8x64x192, .f32⟩
  | 122 => ⟨S_, .f32⟩
  | 123 => ⟨S16x1x32x8x64, .f32⟩
  | 124 => ⟨S16x1x32x8x64, .f32⟩
  | 125 => ⟨S16x1x32x8x64, .f32⟩
  | 126 => ⟨S16x1x32x8x64x1, .f32⟩
  | 127 => ⟨S16x1x32x8x64x192, .f32⟩
  | _ => ⟨S16x2048x1536, .bf16⟩

abbrev hbmTy0_1 (i : Nat) : BufTy := match i % 128 with
  | 0 => ⟨S16x1x32x8x64x192, .f32⟩
  | 1 => ⟨S16x1x32x8x64x192, .f32⟩
  | 2 => ⟨S16x1x32x8x64x64, .f32⟩
  | 3 => ⟨S16x1x32x64x8x64, .f32⟩
  | 4 => ⟨S16x1x2048x8x64, .f32⟩
  | 5 => ⟨S16x2048x1x8x64, .f32⟩
  | 6 => ⟨S16x2048x8x64, .f32⟩
  | 7 => ⟨S16x1x32x64x8, .f32⟩
  | 8 => ⟨S16x1x2048x8, .f32⟩
  | 9 => ⟨S16x2048x1x8, .f32⟩
  | 10 => ⟨S16x2048x8, .f32⟩
  | 11 => ⟨S16x2048x4x128, .f32⟩
  | 12 => ⟨S16x4x2048x128, .f32⟩
  | 13 => ⟨S16x2048x8x1, .f32⟩
  | 14 => ⟨S16x2048x8x64, .f32⟩
  | 15 => ⟨S16x2048x4x128, .f32⟩
  | 16 => ⟨S16x4x2048x128, .f32⟩
  | _ => ⟨S16x2048x1536, .bf16⟩

abbrev hbmTy (i : Nat) : BufTy := match i / 128 with
  | 0 => hbmTy0_0 i
  | 1 => hbmTy0_1 i
  | _ => ⟨S16x2048x1536, .bf16⟩

abbrev bufTy : (tb : Table) → Fin (tcTables nBuf tb) → BufTy
  | .hbm, ⟨i, _⟩ => hbmTy i
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_cst_4 : Ref sig .tc := ⟨.hbm, 14, rfl⟩
abbrev main_cst_5 : Ref sig .tc := ⟨.hbm, 15, rfl⟩
abbrev main_cst_6 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_10 : Ref sig .tc := ⟨.hbm, 69, rfl⟩
abbrev main_v54 : Ref sig .tc := ⟨.hbm, 70, rfl⟩
abbrev main_v55 : Ref sig .tc := ⟨.hbm, 71, rfl⟩
abbrev main_c_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_v68 : Ref sig .tc := ⟨.hbm, 87, rfl⟩
abbrev main_c_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_16 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩

abbrev nD : Nat := 1
abbrev τ : Topo := Topo.v7x

variable {F : FTy → Type} [FloatOps F]
-- ==== HProj.lean ====
abbrev S32768x2048 : Shape := ⟨2, ![32768, 2048]⟩
abbrev S2048x11776 : Shape := ⟨2, ![2048, 11776]⟩
abbrev S32768x3072 : Shape := ⟨2, ![32768, 3072]⟩
abbrev S2048x2048 : Shape := ⟨2, ![2048, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S32768x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HProjRefIdeal.lean ====
abbrev S32768x2048 : Shape := ⟨2, ![32768, 2048]⟩
abbrev S2048x11776 : Shape := ⟨2, ![2048, 11776]⟩
abbrev S32768x11776 : Shape := ⟨2, ![32768, 11776]⟩
abbrev S32768x3072 : Shape := ⟨2, ![32768, 3072]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S32768x2048, .f32⟩
  | .hbm, ⟨3, _⟩ => ⟨S32768x11776, .f32⟩
  | .hbm, ⟨4, _⟩ => ⟨S32768x3072, .f32⟩
  | .hbm, ⟨5, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GLog.lean ====
abbrev S32768x2048 : Shape := ⟨2, ![32768, 2048]⟩
abbrev S2048x11776 : Shape := ⟨2, ![2048, 11776]⟩
abbrev S32768x4096 : Shape := ⟨2, ![32768, 4096]⟩
abbrev S2048x2048 : Shape := ⟨2, ![2048, 2048]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S32768x4096, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GLogRefIdeal.lean ====
abbrev S32768x2048 : Shape := ⟨2, ![32768, 2048]⟩
abbrev S2048x11776 : Shape := ⟨2, ![2048, 11776]⟩
abbrev S32768x11776 : Shape := ⟨2, ![32768, 11776]⟩
abbrev S32768x4096 : Shape := ⟨2, ![32768, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S32768x2048, .f32⟩
  | .hbm, ⟨3, _⟩ => ⟨S32768x11776, .f32⟩
  | .hbm, ⟨4, _⟩ => ⟨S32768x4096, .f32⟩
  | .hbm, ⟨5, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S32768x2048 : Shape := ⟨2, ![32768, 2048]⟩
abbrev S32768x4096 : Shape := ⟨2, ![32768, 4096]⟩
abbrev S32768x1024 : Shape := ⟨2, ![32768, 1024]⟩
abbrev S16x4x2048x128 : Shape := ⟨4, ![16, 4, 2048, 128]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x1024 : Shape := ⟨2, ![256, 1024]⟩
abbrev S1x4x256x128 : Shape := ⟨4, ![1, 4, 256, 128]⟩
abbrev S1x1x256x128 : Shape := ⟨4, ![1, 1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 20
  | .vmem => 30
  | .smem => 0
  | _ => 0

abbrev bufTy : (tb : Table) → Fin (tcTables nBuf tb) → BufTy
  | .hbm, ⟨0, _⟩ => ⟨S32768x2048, .f32⟩
  | .hbm, ⟨1, _⟩ => ⟨S32768x4096, .bf16⟩
  | .hbm, ⟨2, _⟩ => ⟨S32768x1024, .bf16⟩
  | .hbm, ⟨3, _⟩ => ⟨S16x4x2048x128, .f32⟩
  | .hbm, ⟨4, _⟩ => ⟨S16x4x2048x128, .f32⟩
  | .hbm, ⟨5, _⟩ => ⟨S16x4x2048x128, .f32⟩
  | .hbm, ⟨6, _⟩ => ⟨S16x4x2048x128, .f32⟩
  | .hbm, ⟨7, _⟩ => ⟨S16x4x2048x128, .f32⟩
  | .hbm, ⟨8, _⟩ => ⟨S16x4x2048x128, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S1024x2048, .bf16⟩
  | .hbm, ⟨14, _⟩ => ⟨S512x2048, .bf16⟩
  | .hbm, ⟨15, _⟩ => ⟨S2048x2048, .bf16⟩
  | .hbm, ⟨16, _⟩ => ⟨S1x2048, .f32⟩
  | .hbm, ⟨17, _⟩ => ⟨S32768x2048, .f32⟩
  | .hbm, ⟨18, _⟩ => ⟨S32768x2048, .bf16⟩
  | .hbm, ⟨19, _⟩ => ⟨S32768x2048, .fp8e4m3⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S1x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | .local _ .vmem, ⟨12, _⟩ => ⟨S1x4x256x128, .f32⟩
  | .local _ .vmem, ⟨13, _⟩ => ⟨S1x4x256x128, .f32⟩
  | .local _ .vmem, ⟨14, _⟩ => ⟨S1x4x256x128, .f32⟩
  | .local _ .vmem, ⟨15, _⟩ => ⟨S1x4x256x128, .f32⟩
  | .local _ .vmem, ⟨16, _⟩ => ⟨S1x4x256x128, .f32⟩
  | .local _ .vmem, ⟨17, _⟩ => ⟨S1x4x256x128, .f32⟩
  | .local _ .vmem, ⟨18, _⟩ => ⟨S1x4x256x128, .f32⟩
  | .local _ .vmem, ⟨19, _⟩ => ⟨S1x4x256x128, .f32⟩
  | .local _ .vmem, ⟨20, _⟩ => ⟨S1024x2048, .bf16⟩
  | .local _ .vmem, ⟨21, _⟩ => ⟨S512x2048, .bf16⟩
  | .local _ .vmem, ⟨22, _⟩ => ⟨S2048x2048, .bf16⟩
  | .local _ .vmem, ⟨23, _⟩ => ⟨S1x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .bf16⟩
  | .local _ .vmem, ⟨27, _⟩ => ⟨S256x2048, .bf16⟩
  | .local _ .vmem, ⟨28, _⟩ => ⟨S256x2048, .fp8e4m3⟩
  | .local _ .vmem, ⟨29, _⟩ => ⟨S256x2048, .fp8e4m3⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32768x2048 : Shape := ⟨2, ![32768, 2048]⟩
abbrev S32768x4096 : Shape := ⟨2, ![32768, 4096]⟩
abbrev S32768x1024 : Shape := ⟨2, ![32768, 1024]⟩
abbrev S16x4x2048x128 : Shape := ⟨4, ![16, 4, 2048, 128]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x16x4x2048x128 : Shape := ⟨5, ![1, 16, 4, 2048, 128]⟩
abbrev S3x16x4x2048x128 : Shape := ⟨5, ![3, 16, 4, 2048, 128]⟩
abbrev S_ : Shape := ⟨0, ![]⟩
abbrev S16x2048x4x128 : Shape := ⟨4, ![16, 2048, 4, 128]⟩
abbrev S32768x512 : Shape := ⟨2, ![32768, 512]⟩
abbrev S32768 : Shape := ⟨1, ![32768]⟩
abbrev S32768x1 : Shape := ⟨2, ![32768, 1]⟩
abbrev S1x2048 : Shape := ⟨2, ![1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x4096, .bf16⟩
  | .hbm, ⟨2, _⟩ => ⟨S32768x1024, .bf16⟩
  | .hbm, ⟨3, _⟩ => ⟨S16x4x2048x128, .f32⟩
  | .hbm, ⟨4, _⟩ => ⟨S16x4x2048x128, .f32⟩
  | .hbm, ⟨5, _⟩ => ⟨S16x4x2048x128, .f32⟩
  | .hbm, ⟨6, _⟩ => ⟨S16x4x2048x128, .f32⟩
  | .hbm, ⟨7, _⟩ => ⟨S16x4x2048x128, .f32⟩
  | .hbm, ⟨8, _⟩ => ⟨S16x4x2048x128, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S1x16x4x2048x128, .f32⟩
  | .hbm, ⟨14, _⟩ => ⟨S1x16x4x2048x128, .f32⟩
  | .hbm, ⟨15, _⟩ => ⟨S1x16x4x2048x128, .f32⟩
  | .hbm, ⟨16, _⟩ => ⟨S3x16x4x2048x128, .f32⟩
  | .hbm, ⟨17, _⟩ => ⟨S_, .f32⟩
  | .hbm, ⟨18, _⟩ => ⟨S16x4x2048x128, .f32⟩
  | .hbm, ⟨19, _⟩ => ⟨S_, .f32⟩
  | .hbm, ⟨20, _⟩ => ⟨S16x4x2048x128, .f32⟩
  | .hbm, ⟨21, _⟩ => ⟨S16x4x2048x128, .f32⟩
  | .hbm, ⟨22, _⟩ => ⟨S1x16x4x2048x128, .f32⟩
  | .hbm, ⟨23, _⟩ => ⟨S3x16x4x2048x128, .f32⟩
  | .hbm, ⟨24, _⟩ => ⟨S3x16x4x2048x128, .f32⟩
  | .hbm, ⟨25, _⟩ => ⟨S3x16x4x2048x128, .f32⟩
  | .hbm, ⟨26, _⟩ => ⟨S_, .f32⟩
  | .hbm, ⟨27, _⟩ => ⟨S16x4x2048x128, .f32⟩
  | .hbm, ⟨28, _⟩ => ⟨S1x16x4x2048x128, .f32⟩
  | .hbm, ⟨29, _⟩ => ⟨S3x16x4x2048x128, .f32⟩
  | .hbm, ⟨30, _⟩ => ⟨S3x16x4x2048x128, .f32⟩
  | .hbm, ⟨31, _⟩ => ⟨S1x16x4x2048x128, .f32⟩
  | .hbm, ⟨32, _⟩ => ⟨S1x16x4x2048x128, .f32⟩
  | .hbm, ⟨33, _⟩ => ⟨S1x16x4x2048x128, .f32⟩
  | .hbm, ⟨34, _⟩ => ⟨S3x16x4x2048x128, .f32⟩
  | .hbm, ⟨35, _⟩ => ⟨S3x16x4x2048x128, .f32⟩
  | .hbm, ⟨36, _⟩ => ⟨S_, .f32⟩
  | .hbm, ⟨37, _⟩ => ⟨S16x4x2048x128, .f32⟩
  | .hbm, ⟨38, _⟩ => ⟨S16x2048x4x128, .f32⟩
  | .hbm, ⟨39, _⟩ => ⟨S32768x512, .f32⟩
  | .hbm, ⟨40, _⟩ => ⟨S32768x4096, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S_, .f32⟩
  | .hbm, ⟨48, _⟩ => ⟨S32768x2048, .f32⟩
  | .hbm, ⟨49, _⟩ => ⟨S32768x2048, .f32⟩
  | .hbm, ⟨50, _⟩ => ⟨S32768x1024, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S32768x2048, .f32⟩
  | .hbm, ⟨56, _⟩ => ⟨S_, .f32⟩
  | .hbm, ⟨57, _⟩ => ⟨S32768x2048, .f32⟩
  | .hbm, ⟨58, _⟩ => ⟨S32768x2048, .f32⟩
  | .hbm, ⟨59, _⟩ => ⟨S_, .f32⟩
  | .hbm, ⟨60, _⟩ => ⟨S32768x2048, .f32⟩
  | .hbm, ⟨61, _⟩ => ⟨S32768x2048, .f32⟩
  | .hbm, ⟨62, _⟩ => ⟨S32768x2048, .f32⟩
  | .hbm, ⟨63, _⟩ => ⟨S32768x2048, .f32⟩
  | .hbm, ⟨64, _⟩ => ⟨S32768x2048, .f32⟩
  | .hbm, ⟨65, _⟩ => ⟨S32768x2048, .f32⟩
  | .hbm, ⟨66, _⟩ => ⟨S32768x2048, .f32⟩
  | .hbm, ⟨67, _⟩ => ⟨S32768x2048, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x2048, .f32⟩
  | .hbm, ⟨79, _⟩ => ⟨S32768x2048, .f32⟩
  | .hbm, ⟨80, _⟩ => ⟨S1x2048, .f32⟩
  | .hbm, ⟨81, _⟩ => ⟨S32768x2048, .f32⟩
  | .hbm, ⟨82, _⟩ => ⟨S32768x2048, .f32⟩
  | .hbm, ⟨83, _⟩ => ⟨S32768x2048, .bf16⟩
  | .hbm, ⟨84, _⟩ => ⟨S32768x2048, .fp8e4m3⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Qkv0.lean ====
abbrev S32768x2048 : Shape := ⟨2, ![32768, 2048]⟩
abbrev S2048x11776 : Shape := ⟨2, ![2048, 11776]⟩
abbrev S32768x1536 : Shape := ⟨2, ![32768, 1536]⟩
abbrev S2048x2048 : Shape := ⟨2, ![2048, 2048]⟩
abbrev S2048x512 : Shape := ⟨2, ![2048, 512]⟩
abbrev S2048x1536 : Shape := ⟨2, ![2048, 1536]⟩
abbrev S4x2048x128 : Shape := ⟨3, ![4, 2048, 128]⟩
abbrev S2048x128 : Shape := ⟨2, ![2048, 128]⟩
abbrev S1x2048x128 : Shape := ⟨3, ![1, 2048, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S32768x1536, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x1536, .bf16⟩
  | .local _ .vmem, ⟨5, _⟩ => ⟨S2048x1536, .bf16⟩
  | .local _ .vmem, ⟨6, _⟩ => ⟨S4x2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_13 : BitVec 32 := 0#32
  let v25 : BitVec 1 := Scalar.cmpi .ne v24 c0_i32_13
  v25

def k0_cond3 (i : grid0.Coords) : BitVec 1 :=
  let arg1 : BitVec 32 := BitVec.ofNat 32 (i 1).val
  let c2_i32 : BitVec 32 := 2#32
  let v26 : BitVec 1 := Scalar.cmpi .eq arg1 c2_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c6_i32 : BitVec 32 := 6#32
  let v1 : BitVec 32 := Scalar.addi c6_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Qkv0Ideal.lean ====
abbrev S32768x2048 : Shape := ⟨2, ![32768, 2048]⟩
abbrev S2048x11776 : Shape := ⟨2, ![2048, 11776]⟩
abbrev S32768x1536 : Shape := ⟨2, ![32768, 1536]⟩
abbrev S2048x2048 : Shape := ⟨2, ![2048, 2048]⟩
abbrev S2048x512 : Shape := ⟨2, ![2048, 512]⟩
abbrev S2048x1536 : Shape := ⟨2, ![2048, 1536]⟩
abbrev S4x2048x128 : Shape := ⟨3, ![4, 2048, 128]⟩
abbrev S2048x128 : Shape := ⟨2, ![2048, 128]⟩
abbrev S1x2048x128 : Shape := ⟨3, ![1, 2048, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S32768x1536, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x1536, .bf16⟩
  | .local _ .vmem, ⟨5, _⟩ => ⟨S2048x1536, .bf16⟩
  | .local _ .vmem, ⟨6, _⟩ => ⟨S4x2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_13 : BitVec 32 := 0#32
  let v25 : BitVec 1 := Scalar.cmpi .ne v24 c0_i32_13
  v25

def k0_cond3 (i : grid0.Coords) : BitVec 1 :=
  let arg1 : BitVec 32 := BitVec.ofNat 32 (i 1).val
  let c2_i32 : BitVec 32 := 2#32
  let v26 : BitVec 1 := Scalar.cmpi .eq arg1 c2_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c6_i32 : BitVec 32 := 6#32
  let v1 : BitVec 32 := Scalar.addi c6_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Qkv0RefIdeal.lean ====
abbrev S32768x2048 : Shape := ⟨2, ![32768, 2048]⟩
abbrev S2048x11776 : Shape := ⟨2, ![2048, 11776]⟩
abbrev S32768x11776 : Shape := ⟨2, ![32768, 11776]⟩
abbrev S32768x4608 : Shape := ⟨2, ![32768, 4608]⟩
abbrev S32768x3x3x512 : Shape := ⟨4, ![32768, 3, 3, 512]⟩
abbrev S32768x3x1x512 : Shape := ⟨4, ![32768, 3, 1, 512]⟩
abbrev S32768x3x512 : Shape := ⟨3, ![32768, 3, 512]⟩
abbrev S32768x1536 : Shape := ⟨2, ![32768, 1536]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S32768x2048, .f32⟩
  | .hbm, ⟨3, _⟩ => ⟨S32768x11776, .f32⟩
  | .hbm, ⟨4, _⟩ => ⟨S32768x4608, .f32⟩
  | .hbm, ⟨5, _⟩ => ⟨S32768x3x3x512, .f32⟩
  | .hbm, ⟨6, _⟩ => ⟨S32768x3x1x512, .f32⟩
  | .hbm, ⟨7, _⟩ => ⟨S32768x3x512, .f32⟩
  | .hbm, ⟨8, _⟩ => ⟨S32768x1536, .f32⟩
  | .hbm, ⟨9, _⟩ => ⟨S32768x1536, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Qkv1.lean ====
abbrev S32768x2048 : Shape := ⟨2, ![32768, 2048]⟩
abbrev S2048x11776 : Shape := ⟨2, ![2048, 11776]⟩
abbrev S8192x6144 : Shape := ⟨2, ![8192, 6144]⟩
abbrev S2048x2048 : Shape := ⟨2, ![2048, 2048]⟩
abbrev S2048x512 : Shape := ⟨2, ![2048, 512]⟩
abbrev S512x6144 : Shape := ⟨2, ![512, 6144]⟩
abbrev S4x2048x128 : Shape := ⟨3, ![4, 2048, 128]⟩
abbrev S2048x128 : Shape := ⟨2, ![2048, 128]⟩
abbrev S1x2048x128 : Shape := ⟨3, ![1, 2048, 128]⟩
abbrev S1x512x128 : Shape := ⟨3, ![1, 512, 128]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S512x6144, .bf16⟩
  | .local _ .vmem, ⟨5, _⟩ => ⟨S512x6144, .bf16⟩
  | .local _ .vmem, ⟨6, _⟩ => ⟨S4x2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_13 : BitVec 32 := 0#32
  let v25 : BitVec 1 := Scalar.cmpi .ne v24 c0_i32_13
  v25

def k0_cond3 (i : grid0.Coords) : BitVec 1 :=
  let arg1 : BitVec 32 := BitVec.ofNat 32 (i 1).val
  let c2_i32 : BitVec 32 := 2#32
  let v26 : BitVec 1 := Scalar.cmpi .eq arg1 c2_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c7_i32 : BitVec 32 := 7#32
  let v1 : BitVec 32 := Scalar.addi c7_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Qkv1Ideal.lean ====
abbrev S32768x2048 : Shape := ⟨2, ![32768, 2048]⟩
abbrev S2048x11776 : Shape := ⟨2, ![2048, 11776]⟩
abbrev S8192x6144 : Shape := ⟨2, ![8192, 6144]⟩
abbrev S2048x2048 : Shape := ⟨2, ![2048, 2048]⟩
abbrev S2048x512 : Shape := ⟨2, ![2048, 512]⟩
abbrev S512x6144 : Shape := ⟨2, ![512, 6144]⟩
abbrev S4x2048x128 : Shape := ⟨3, ![4, 2048, 128]⟩
abbrev S2048x128 : Shape := ⟨2, ![2048, 128]⟩
abbrev S1x2048x128 : Shape := ⟨3, ![1, 2048, 128]⟩
abbrev S1x512x128 : Shape := ⟨3, ![1, 512, 128]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S512x6144, .bf16⟩
  | .local _ .vmem, ⟨5, _⟩ => ⟨S512x6144, .bf16⟩
  | .local _ .vmem, ⟨6, _⟩ => ⟨S4x2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_13 : BitVec 32 := 0#32
  let v25 : BitVec 1 := Scalar.cmpi .ne v24 c0_i32_13
  v25

def k0_cond3 (i : grid0.Coords) : BitVec 1 :=
  let arg1 : BitVec 32 := BitVec.ofNat 32 (i 1).val
  let c2_i32 : BitVec 32 := 2#32
  let v26 : BitVec 1 := Scalar.cmpi .eq arg1 c2_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c7_i32 : BitVec 32 := 7#32
  let v1 : BitVec 32 := Scalar.addi c7_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Qkv1RefIdeal.lean ====
abbrev S32768x2048 : Shape := ⟨2, ![32768, 2048]⟩
abbrev S2048x11776 : Shape := ⟨2, ![2048, 11776]⟩
abbrev S32768x11776 : Shape := ⟨2, ![32768, 11776]⟩
abbrev S32768x4608 : Shape := ⟨2, ![32768, 4608]⟩
abbrev S32768x3x3x512 : Shape := ⟨4, ![32768, 3, 3, 512]⟩
abbrev S32768x3x1x512 : Shape := ⟨4, ![32768, 3, 1, 512]⟩
abbrev S32768x3x512 : Shape := ⟨3, ![32768, 3, 512]⟩
abbrev S8192x6144 : Shape := ⟨2, ![8192, 6144]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S32768x2048, .f32⟩
  | .hbm, ⟨3, _⟩ => ⟨S32768x11776, .f32⟩
  | .hbm, ⟨4, _⟩ => ⟨S32768x4608, .f32⟩
  | .hbm, ⟨5, _⟩ => ⟨S32768x3x3x512, .f32⟩
  | .hbm, ⟨6, _⟩ => ⟨S32768x3x1x512, .f32⟩
  | .hbm, ⟨7, _⟩ => ⟨S32768x3x512, .f32⟩
  | .hbm, ⟨8, _⟩ => ⟨S8192x6144, .f32⟩
  | .hbm, ⟨9, _⟩ => ⟨S8192x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Qkv2.lean ====
abbrev S32768x2048 : Shape := ⟨2, ![32768, 2048]⟩
abbrev S2048x11776 : Shape := ⟨2, ![2048, 11776]⟩
abbrev S2048x24576 : Shape := ⟨2, ![2048, 24576]⟩
abbrev S2048x2048 : Shape := ⟨2, ![2048, 2048]⟩
abbrev S2048x512 : Shape := ⟨2, ![2048, 512]⟩
abbrev S128x24576 : Shape := ⟨2, ![128, 24576]⟩
abbrev S4x2048x128 : Shape := ⟨3, ![4, 2048, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S2048x11776, .bf16⟩
  | .hbm, ⟨3, _⟩ => ⟨S2048x24576, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S128x24576, .bf16⟩
  | .local _ .vmem, ⟨5, _⟩ => ⟨S128x24576, .bf16⟩
  | .local _ .vmem, ⟨6, _⟩ => ⟨S4x2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_13 : BitVec 32 := 0#32
  let v25 : BitVec 1 := Scalar.cmpi .ne v24 c0_i32_13
  v25

def k0_cond3 (i : grid0.Coords) : BitVec 1 :=
  let arg1 : BitVec 32 := BitVec.ofNat 32 (i 1).val
  let c2_i32 : BitVec 32 := 2#32
  let v26 : BitVec 1 := Scalar.cmpi .eq arg1 c2_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c8_i32 : BitVec 32 := 8#32
  let v1 : BitVec 32 := Scalar.addi c8_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x24576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Qkv2RefIdeal.lean ====
abbrev S32768x2048 : Shape := ⟨2, ![32768, 2048]⟩
abbrev S2048x11776 : Shape := ⟨2, ![2048, 11776]⟩
abbrev S32768x11776 : Shape := ⟨2, ![32768, 11776]⟩
abbrev S32768x4608 : Shape := ⟨2, ![32768, 4608]⟩
abbrev S32768x3x3x512 : Shape := ⟨4, ![32768, 3, 3, 512]⟩
abbrev S32768x3x1x512 : Shape := ⟨4, ![32768, 3, 1, 512]⟩
abbrev S32768x3x512 : Shape := ⟨3, ![32768, 3, 512]⟩
abbrev S2048x24576 : Shape := ⟨2, ![2048, 24576]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11776, .f32⟩
  | .hbm, ⟨2, _⟩ => ⟨S32768x2048, .f32⟩
  | .hbm, ⟨3, _⟩ => ⟨S32768x11776, .f32⟩
  | .hbm, ⟨4, _⟩ => ⟨S32768x4608, .f32⟩
  | .hbm, ⟨5, _⟩ => ⟨S32768x3x3x512, .f32⟩
  | .hbm, ⟨6, _⟩ => ⟨S32768x3x1x512, .f32⟩
  | .hbm, ⟨7, _⟩ => ⟨S32768x3x512, .f32⟩
  | .hbm, ⟨8, _⟩ => ⟨S2048x24576, .f32⟩
  | .hbm, ⟨9, _⟩ => ⟨S2048x24576, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== AttnB.lean ====
abbrev S16x2048x1536 : Shape := ⟨3, ![16, 2048, 1536]⟩
abbrev S8192x6144 : Shape := ⟨2, ![8192, 6144]⟩
abbrev S16x512x6144 : Shape := ⟨3, ![16, 512, 6144]⟩
abbrev S16x4x2048x128 : Shape := ⟨4, ![16, 4, 2048, 128]⟩
abbrev S1x256x512 : Shape := ⟨3, ![1, 256, 512]⟩
abbrev S1x64x512 : Shape := ⟨3, ![1, 64, 512]⟩
abbrev S1x4x1024x128 : Shape := ⟨4, ![1, 4, 1024, 128]⟩
abbrev S128x256 : Shape := ⟨2, ![128, 256]⟩
abbrev S256x128 : Shape := ⟨2, ![256, 128]⟩
abbrev S128x128 : Shape := ⟨2, ![128, 128]⟩
abbrev S1x64x128 : Shape := ⟨3, ![1, 64, 128]⟩
abbrev S64x128 : Shape := ⟨2, ![64, 128]⟩
abbrev S1x192x128 : Shape := ⟨3, ![1, 192, 128]⟩
abbrev S192x128 : Shape := ⟨2, ![192, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 5
  | .vmem => 18
  | .smem => 0
  | _ => 0

abbrev bufTy : (tb : Table) → Fin (tcTables nBuf tb) → BufTy
  | .hbm, ⟨0, _⟩ => ⟨S16x2048x1536, .bf16⟩
  | .hbm, ⟨1, _⟩ => ⟨S8192x6144, .bf16⟩
  | .hbm, ⟨2, _⟩ => ⟨S16x512x6144, .bf16⟩
  | .hbm, ⟨3, _⟩ => ⟨S16x4x2048x128, .f32⟩
  | .hbm, ⟨4, _⟩ => ⟨S16x4x2048x128, .f32⟩
  | .local _ .vmem, ⟨0, _⟩ => ⟨S1x256x512, .bf16⟩
  | .local _ .vmem, ⟨1, _⟩ => ⟨S1x256x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x4x1024x128, .f32⟩
  | .local _ .vmem, ⟨15, _⟩ => ⟨S1x4x1024x128, .f32⟩
  | .local _ .vmem, ⟨16, _⟩ => ⟨S1x4x1024x128, .f32⟩
  | .local _ .vmem, ⟨17, _⟩ => ⟨S1x4x1024x128, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 4], ![false, false, false]⟩

def k0_off1 (i : grid0.Coords) (c0_i32_195 : BitVec 32) : Fin 4 → Nat :=
  let c0_197 : Index := 0#32
  let c0_198 : Index := 0#32
  let arg2 : BitVec 32 := BitVec.ofNat 32 (i 2).val
  let v295 : BitVec 32 := Scalar.addi c0_i32_195 arg2
  let v305 : Index := Scalar.indexCast v295
  let c0_199 : Index := 0#32
  ![0, 0, v305.toNat, 0]
def k0_off2 (i : grid0.Coords) (c0_i32_195 : BitVec 32) : Fin 4 → Nat :=
  let c0_204 : Index := 0#32
  let c1 : Index := 1#32
  let arg2 : BitVec 32 := BitVec.ofNat 32 (i 2).val
  let v295 : BitVec 32 := Scalar.addi c0_i32_195 arg2
  let v331 : Index := Scalar.indexCast v295
  let c0_205 : Index := 0#32
  ![0, 1, v331.toNat, 0]
def k0_off3 (i : grid0.Coords) (c0_i32_195 : BitVec 32) : Fin 4 → Nat :=
  let c0_210 : Index := 0#32
  let c2 : Index := 2#32
  let arg2 : BitVec 32 := BitVec.ofNat 32 (i 2).val
  let v295 : BitVec 32 := Scalar.addi c0_i32_195 arg2
  let v357 : Index := Scalar.indexCast v295
  let c0_211 : Index := 0#32
  ![0, 2, v357.toNat, 0]
def k0_off4 (i : grid0.Coords) (c0_i32_195 : BitVec 32) : Fin 4 → Nat :=
  let c0_216 : Index := 0#32
  let c3 : Index := 3#32
  let arg2 : BitVec 32 := BitVec.ofNat 32 (i 2).val
  let v295 : BitVec 32 := Scalar.addi c0_i32_195 arg2
  let v383 : Index := Scalar.indexCast v295
  let c0_217 : Index := 0#32
  ![0, 3, v383.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c0_i32 : BitVec 32 := 0#32
  let v1 : BitVec 32 := Scalar.addi v0 c0_i32
  let c0_i32_0 : BitVec 32 := 0#32
  ![arg0.toNat, arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg2
  let c1_i32_0 : BitVec 32 := 1#32
  let v4 : BitVec 32 := Scalar.addi v3 c1_i32_0
  let c0_i32_1 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c1_i32 : BitVec 32 := 1#32
  let v1 : BitVec 32 := Scalar.addi v0 c1_i32
  let c0_i32 : BitVec 32 := 0#32
  ![arg0.toNat, arg1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c7_i32 : BitVec 32 := 7#32
  let v2 : BitVec 32 := Scalar.minsi v1 c7_i32
  let c3_i32 : BitVec 32 := 3#32
  let v3 : BitVec 32 := Scalar.muli c3_i32 arg2
  let c1_i32_0 : BitVec 32 := 1#32
  let v4 : BitVec 32 := Scalar.addi v3 c1_i32_0
  let c0_i32 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg2
  let c2_i32 : BitVec 32 := 2#32
  let v4 : BitVec 32 := Scalar.addi v3 c2_i32
  let c0_i32_0 : BitVec 32 := 0#32
  ![arg0.toNat, v2.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c2_i32 : BitVec 32 := 2#32
  let v1 : BitVec 32 := Scalar.addi v0 c2_i32
  let c0_i32 : BitVec 32 := 0#32
  ![arg0.toNat, arg1.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c7_i32 : BitVec 32 := 7#32
  let v2 : BitVec 32 := Scalar.minsi v1 c7_i32
  let c3_i32 : BitVec 32 := 3#32
  let v3 : BitVec 32 := Scalar.muli c3_i32 arg2
  let c2_i32 : BitVec 32 := 2#32
  let v4 : BitVec 32 := Scalar.addi v3 c2_i32
  let c0_i32 : BitVec 32 := 0#32
  ![arg0.toNat, v2.toNat, v4.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AttnBIdeal.lean ====
variable {F : FTy → Type} [FloatOps F] [Named F]
def κ : String → Option EReal := fun
  | "mask" => some ⊥
  | _ => none
-- ==== AttnBRefIdeal.lean ====
abbrev S16x2048x1536 : Shape := ⟨3, ![16, 2048, 1536]⟩
abbrev S16x2048x3x8x64 : Shape := ⟨5, ![16, 2048, 3, 8, 64]⟩
abbrev S16x2048x1x8x64 : Shape := ⟨5, ![16, 2048, 1, 8, 64]⟩
abbrev S16x2048x8x64 : Shape := ⟨4, ![16, 2048, 8, 64]⟩
abbrev S_ : Shape := ⟨0, ![]⟩
abbrev S1 : Shape := ⟨1, ![1]⟩
abbrev S8 : Shape := ⟨1, ![8]⟩
abbrev S16x512x4x8x64 : Shape := ⟨5, ![16, 512, 4, 8, 64]⟩
abbrev S16x4x512x8x64 : Shape := ⟨5, ![16, 4, 512, 8, 64]⟩
abbrev S16x4x8x64x8x64 : Shape := ⟨6, ![16, 4, 8, 64, 8, 64]⟩
abbrev S16x4x640x8x64 : Shape := ⟨5, ![16, 4, 640, 8, 64]⟩
abbrev S16x4x8x192x8x64 : Shape := ⟨6, ![16, 4, 8, 192, 8, 64]⟩
abbrev S16x4x8x8x64x192 : Shape := ⟨6, ![16, 4, 8, 8, 64, 192]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S8x1 : Shape := ⟨2, ![8, 1]⟩
abbrev S8x192 : Shape := ⟨2, ![8, 192]⟩
abbrev S1x64x192 : Shape := ⟨3, ![1, 64, 192]⟩
abbrev S8x1x192 : Shape := ⟨3, ![8, 1, 192]⟩
abbrev S8x64x192 : Shape := ⟨3, ![8, 64, 192]⟩
abbrev S8x1x1 : Shape := ⟨3, ![8, 1, 1]⟩
abbrev S1x1x8x1x64x192 : Shape := ⟨6, ![1, 1, 8, 1, 64, 192]⟩
abbrev S1x1x1x8x64x192 : Shape := ⟨6, ![1, 1, 1, 8, 64, 192]⟩
abbrev S16x4x8x8x64 : Shape := ⟨5, ![16, 4, 8, 8, 64]⟩
abbrev S16x4x8x8x64x1 : Shape := ⟨6, ![16, 4, 8, 8, 64, 1]⟩
abbrev S16x4x8x8x64x64 : Shape := ⟨6, ![16, 4, 8, 8, 64, 64]⟩
abbrev S16x4x8x64x8 : Shape := ⟨5, ![16, 4, 8, 64, 8]⟩
abbrev S16x4x512x8 : Shape := ⟨4, ![16, 4, 512, 8]⟩
abbrev S16x512x4x8 : Shape := ⟨4, ![16, 512, 4, 8]⟩
abbrev S16x2048x8 : Shape := ⟨3, ![16, 2048, 8]⟩
abbrev S16x2048x4x128 : Shape := ⟨4, ![16, 2048, 4, 128]⟩
abbrev S16x4x2048x128 : Shape := ⟨4, ![16, 4, 2048, 128]⟩
abbrev S16x2048x8x1 : Shape := ⟨4, ![16, 2048, 8, 1]⟩

abbrev nBuf : Space → Nat
  | .hbm => 145
  | .vmem => 0
  | .smem => 0
  | _ => 0

abbrev hbmTy0_0 (i : Nat) : BufTy := match i % 128 with
  | 0 => ⟨S16x2048x1536, .bf16⟩
  | 1 => ⟨S16x2048x1536, .f32⟩
  | 2 => ⟨S16x2048x3x8x64, .f32⟩
  | 3 => ⟨S16x2048x1x8x64, .f32⟩
  | 4 => ⟨S16x2048x8x64, .f32⟩
  | 5 => ⟨S16x2048x1x8x64, .f32⟩
  | 6 => ⟨S16x2048x8x64, .f32⟩
  | 7 => ⟨S16x2048x1x8x64, .f32⟩
  | 8 => ⟨S16x2048x8x64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S8, .f32⟩
  | 26 => ⟨S16x512x4x8x64, .f32⟩
  | 27 => ⟨S16x4x512x8x64, .f32⟩
  | 28 => ⟨S16x4x8x64x8x64, .f32⟩
  | 29 => ⟨S16x512x4x8x64, .f32⟩
  | 30 => ⟨S16x4x512x8x64, .f32⟩
  | 31 => ⟨S_, .i32⟩
  | 32 => ⟨S_, .f32⟩
  | 33 => ⟨S16x4x640x8x64, .f32⟩
  | 34 => ⟨S16x4x512x8x64, .f32⟩
  | 35 => ⟨S16x4x8x64x8x64, .f32⟩
  | 36 => ⟨S16x4x512x8x64, .f32⟩
  | 37 => ⟨S16x4x8x64x8x64, .f32⟩
  | 38 => ⟨S16x4x512x8x64, .f32⟩
  | 39 => ⟨S16x4x8x64x8x64, .f32⟩
  | 40 => ⟨S16x4x8x192x8x64, .f32⟩
  | 41 => ⟨S16x512x4x8x64, .f32⟩
  | 42 => ⟨S16x4x512x8x64, .f32⟩
  | 43 => ⟨S_, .i32⟩
  | 44 => ⟨S_, .f32⟩
  | 45 => ⟨S16x4x640x8x64, .f32⟩
  | 46 => ⟨S16x4x512x8x64, .f32⟩
  | 47 => ⟨S16x4x8x64x8x64, .f32⟩
  | 48 => ⟨S16x4x512x8x64, .f32⟩
  | 49 => ⟨S16x4x8x64x8x64, .f32⟩
  | 50 => ⟨S16x4x512x8x64, .f32⟩
  | 51 => ⟨S16x4x8x64x8x64, .f32⟩
  | 52 => ⟨S16x4x8x192x8x64, .f32⟩
  | 53 => ⟨S16x4x8x8x64x192, .f32⟩
  | 54 => ⟨S_, .f32⟩
  | 55 => ⟨S16x4x8x8x64x192, .f32⟩
  | 56 => ⟨S16x4x8x8x64x192, .f32⟩
  | 57 => ⟨S192, .i32⟩
  | 58 => ⟨S1x192, .i32⟩
  | 59 => ⟨S_, .i32⟩
  | 60 => ⟨S1x192, .i32⟩
  | 61 => ⟨S1x192, .i32⟩
  | 62 => ⟨S64, .i32⟩
  | 63 => ⟨S64x1, .i32⟩
  | 64 => ⟨S64x192, .i32⟩
  | 65 => ⟨S64x192, .i32⟩
  | 66 => ⟨S64x192, .i32⟩
  | 67 => ⟨S8, .i32⟩
  | 68 => ⟨S8x1, .i32⟩
  | 69 => ⟨S_, .i32⟩
  | 70 => ⟨S8x1, .i32⟩
  | 71 => ⟨S8x1, .i32⟩
  | 72 => ⟨S_, .i32⟩
  | 73 => ⟨S8x1, .i32⟩
  | 74 => ⟨S8x1, .i32⟩
  | 75 => ⟨S192, .i32⟩
  | 76 => ⟨S1x192, .i32⟩
  | 77 => ⟨S8x192, .i32⟩
  | 78 => ⟨S8x192, .i32⟩
  | 79 => ⟨S8x192, .i32⟩
  | 80 => ⟨S64x192, .i32⟩
  | 81 => ⟨S_, .i32⟩
  | 82 => ⟨S64x192, .i32⟩
  | 83 => ⟨S64x192, .i1⟩
  | 84 => ⟨S1x64x192, .i1⟩
  | 85 => ⟨S_, .i32⟩
  | 86 => ⟨S8x192, .i32⟩
  | 87 => ⟨S8x192, .i1⟩
  | 88 => ⟨S_, .i32⟩
  | 89 => ⟨S8x192, .i32⟩
  | 90 => ⟨S8x192, .i1⟩
  | 91 => ⟨S8x192, .i1⟩
  | 92 => ⟨S8x1x192, .i1⟩
  | 93 => ⟨S8x64x192, .i1⟩
  | 94 => ⟨S8x64x192, .i1⟩
  | 95 => ⟨S8x64x192, .i1⟩
  | 96 => ⟨S8x1x1, .f32⟩
  | 97 => ⟨S8x1x1, .f32⟩
  | 98 => ⟨S64x192, .i32⟩
  | 99 => ⟨S_, .i32⟩
  | 100 => ⟨S64x192, .i32⟩
  | 101 => ⟨S64x192, .i32⟩
  | 102 => ⟨S64x192, .f32⟩
  | 103 => ⟨S1x64x192, .f32⟩
  | 104 => ⟨S8x64x192, .f32⟩
  | 105 => ⟨S8x64x192, .f32⟩
  | 106 => ⟨S8x64x192, .f32⟩
  | 107 => ⟨S1x1x8x1x64x192, .i1⟩
  | 108 => ⟨S1x1x1x8x64x192, .f32⟩
  | 109 => ⟨S16x4x8x8x64x192, .f32⟩
  | 110 => ⟨S16x4x8x8x64x192, .f32⟩
  | 111 => ⟨S_, .f32⟩
  | 112 => ⟨S_, .f32⟩
  | 113 => ⟨S16x4x8x8x64x192, .i1⟩
  | 114 => ⟨S16x4x8x8x64x192, .f32⟩
  | 115 => ⟨S16x4x8x8x64x192, .f32⟩
  | 116 => ⟨S_, .f32⟩
  | 117 => ⟨S16x4x8x8x64, .f32⟩
  | 118 => ⟨S16x4x8x8x64x1, .f32⟩
  | 119 => ⟨S16x4x8x8x64x192, .f32⟩
  | 120 => ⟨S16x4x8x8x64x192, .f32⟩
  | 121 => ⟨S16x4x8x8x64x192, .f32⟩
  | 122 => ⟨S_, .f32⟩
  | 123 => ⟨S16x4x8x8x64, .f32⟩
  | 124 => ⟨S16x4x8x8x64, .f32⟩
  | 125 => ⟨S16x4x8x8x64, .f32⟩
  | 126 => ⟨S16x4x8x8x64x1, .f32⟩
  | 127 => ⟨S16x4x8x8x64x192, .f32⟩
  | _ => ⟨S16x2048x1536, .bf16⟩

abbrev hbmTy0_1 (i : Nat) : BufTy := match i % 128 with
  | 0 => ⟨S16x4x8x8x64x192, .f32⟩
  | 1 => ⟨S16x4x8x8x64x192, .f32⟩
  | 2 => ⟨S16x4x8x8x64x64, .f32⟩
  | 3 => ⟨S16x4x8x64x8x64, .f32⟩
  | 4 => ⟨S16x4x512x8x64, .f32⟩
  | 5 => ⟨S16x512x4x8x64, .f32⟩
  | 6 => ⟨S16x2048x8x64, .f32⟩
  | 7 => ⟨S16x4x8x64x8, .f32⟩
  | 8 => ⟨S16x4x512x8, .f32⟩
  | 9 => ⟨S16x512x4x8, .f32⟩
  | 10 => ⟨S16x2048x8, .f32⟩
  | 11 => ⟨S16x2048x4x128, .f32⟩
  | 12 => ⟨S16x4x2048x128, .f32⟩
  | 13 => ⟨S16x2048x8x1, .f32⟩
  | 14 => ⟨S16x2048x8x64, .f32⟩
  | 15 => ⟨S16x2048x4x128, .f32⟩
  | 16 => ⟨S16x4x2048x128, .f32⟩
  | _ => ⟨S16x2048x1536, .bf16⟩

abbrev hbmTy (i : Nat) : BufTy := match i / 128 with
  | 0 => hbmTy0_0 i
  | 1 => hbmTy0_1 i
  | _ => ⟨S16x2048x1536, .bf16⟩

abbrev bufTy : (tb : Table) → Fin (tcTables nBuf tb) → BufTy
  | .hbm, ⟨i, _⟩ => hbmTy i
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_cst_4 : Ref sig .tc := ⟨.hbm, 14, rfl⟩
abbrev main_cst_5 : Ref sig .tc := ⟨.hbm, 15, rfl⟩
abbrev main_cst_6 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_10 : Ref sig .tc := ⟨.hbm, 69, rfl⟩
abbrev main_v54 : Ref sig .tc := ⟨.hbm, 70, rfl⟩
abbrev main_v55 : Ref sig .tc := ⟨.hbm, 71, rfl⟩
abbrev main_c_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_v68 : Ref sig .tc := ⟨.hbm, 87, rfl⟩
abbrev main_c_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_16 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩

abbrev nD : Nat := 1
abbrev τ : Topo := Topo.v7x

variable {F : FTy → Type} [FloatOps F]
-- ==== AttnC.lean ====
abbrev S16x2048x1536 : Shape := ⟨3, ![16, 2048, 1536]⟩
abbrev S2048x24576 : Shape := ⟨2, ![2048, 24576]⟩
abbrev S16x128x24576 : Shape := ⟨3, ![16, 128, 24576]⟩
abbrev S16x4x2048x128 : Shape := ⟨4, ![16, 4, 2048, 128]⟩
abbrev S1x128x512 : Shape := ⟨3, ![1, 128, 512]⟩
abbrev S1x64x512 : Shape := ⟨3, ![1, 64, 512]⟩
abbrev S1x4x2048x128 : Shape := ⟨4, ![1, 4, 2048, 128]⟩
abbrev S128x256 : Shape := ⟨2, ![128, 256]⟩
abbrev S256x128 : Shape := ⟨2, ![256, 128]⟩
abbrev S128x128 : Shape := ⟨2, ![128, 128]⟩
abbrev S1x64x128 : Shape := ⟨3, ![1, 64, 128]⟩
abbrev S64x128 : Shape := ⟨2, ![64, 128]⟩
abbrev S1x128x128 : Shape := ⟨3, ![1, 128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 5
  | .vmem => 18
  | .smem => 0
  | _ => 0

abbrev bufTy : (tb : Table) → Fin (tcTables nBuf tb) → BufTy
  | .hbm, ⟨0, _⟩ => ⟨S16x2048x1536, .bf16⟩
  | .hbm, ⟨1, _⟩ => ⟨S2048x24576, .bf16⟩
  | .hbm, ⟨2, _⟩ => ⟨S16x128x24576, .bf16⟩
  | .hbm, ⟨3, _⟩ => ⟨S16x4x2048x128, .f32⟩
  | .hbm, ⟨4, _⟩ => ⟨S16x4x2048x128, .f32⟩
  | .local _ .vmem, ⟨0, _⟩ => ⟨S1x128x512, .bf16⟩
  | .local _ .vmem, ⟨1, _⟩ => ⟨S1x128x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x4x2048x128, .f32⟩
  | .local _ .vmem, ⟨15, _⟩ => ⟨S1x4x2048x128, .f32⟩
  | .local _ .vmem, ⟨16, _⟩ => ⟨S1x4x2048x128, .f32⟩
  | .local _ .vmem, ⟨17, _⟩ => ⟨S1x4x2048x128, .f32⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 1, 16], ![false, false, false]⟩

def k0_off1 (i : grid0.Coords) : Fin 4 → Nat :=
  let c0_246 : Index := 0#32
  let c0_247 : Index := 0#32
  let c0_i32_244 : BitVec 32 := 0#32
  let arg2 : BitVec 32 := BitVec.ofNat 32 (i 2).val
  let v327 : BitVec 32 := Scalar.addi c0_i32_244 arg2
  let v337 : Index := Scalar.indexCast v327
  let c0_248 : Index := 0#32
  ![0, 0, v337.toNat, 0]
def k0_off2 (i : grid0.Coords) : Fin 4 → Nat :=
  let c0_253 : Index := 0#32
  let c1 : Index := 1#32
  let c0_i32_244 : BitVec 32 := 0#32
  let arg2 : BitVec 32 := BitVec.ofNat 32 (i 2).val
  let v327 : BitVec 32 := Scalar.addi c0_i32_244 arg2
  let v363 : Index := Scalar.indexCast v327
  let c0_254 : Index := 0#32
  ![0, 1, v363.toNat, 0]
def k0_off3 (i : grid0.Coords) : Fin 4 → Nat :=
  let c0_259 : Index := 0#32
  let c2 : Index := 2#32
  let c0_i32_244 : BitVec 32 := 0#32
  let arg2 : BitVec 32 := BitVec.ofNat 32 (i 2).val
  let v327 : BitVec 32 := Scalar.addi c0_i32_244 arg2
  let v389 : Index := Scalar.indexCast v327
  let c0_260 : Index := 0#32
  ![0, 2, v389.toNat, 0]
def k0_off4 (i : grid0.Coords) : Fin 4 → Nat :=
  let c0_265 : Index := 0#32
  let c3 : Index := 3#32
  let c0_i32_244 : BitVec 32 := 0#32
  let arg2 : BitVec 32 := BitVec.ofNat 32 (i 2).val
  let v327 : BitVec 32 := Scalar.addi c0_i32_244 arg2
  let v415 : Index := Scalar.indexCast v327
  let c0_266 : Index := 0#32
  ![0, 3, v415.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c0_i32 : BitVec 32 := 0#32
  let v1 : BitVec 32 := Scalar.addi v0 c0_i32
  let c0_i32_0 : BitVec 32 := 0#32
  ![arg0.toNat, arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg2
  let c1_i32_0 : BitVec 32 := 1#32
  let v4 : BitVec 32 := Scalar.addi v3 c1_i32_0
  let c0_i32_1 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c1_i32 : BitVec 32 := 1#32
  let v1 : BitVec 32 := Scalar.addi v0 c1_i32
  let c0_i32 : BitVec 32 := 0#32
  ![arg0.toNat, arg1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.minsi v1 c1_i32_0
  let c3_i32 : BitVec 32 := 3#32
  let v3 : BitVec 32 := Scalar.muli c3_i32 arg2
  let c1_i32_1 : BitVec 32 := 1#32
  let v4 : BitVec 32 := Scalar.addi v3 c1_i32_1
  let c0_i32 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg2
  let c2_i32_0 : BitVec 32 := 2#32
  let v4 : BitVec 32 := Scalar.addi v3 c2_i32_0
  let c0_i32_1 : BitVec 32 := 0#32
  ![arg0.toNat, v2.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c2_i32 : BitVec 32 := 2#32
  let v1 : BitVec 32 := Scalar.addi v0 c2_i32
  let c0_i32 : BitVec 32 := 0#32
  ![arg0.toNat, arg1.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.minsi v1 c1_i32_0
  let c3_i32 : BitVec 32 := 3#32
  let v3 : BitVec 32 := Scalar.muli c3_i32 arg2
  let c2_i32_1 : BitVec 32 := 2#32
  let v4 : BitVec 32 := Scalar.addi v3 c2_i32_1
  let c0_i32 : BitVec 32 := 0#32
  ![arg0.toNat, v2.toNat, v4.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AttnCIdeal.lean ====
variable {F : FTy → Type} [FloatOps F] [Named F]
def κ : String → Option EReal := fun
  | "mask" => some ⊥
  | _ => none
-- ==== AttnCRefIdeal.lean ====
abbrev S16x2048x1536 : Shape := ⟨3, ![16, 2048, 1536]⟩
abbrev S16x2048x3x8x64 : Shape := ⟨5, ![16, 2048, 3, 8, 64]⟩
abbrev S16x2048x1x8x64 : Shape := ⟨5, ![16, 2048, 1, 8, 64]⟩
abbrev S16x2048x8x64 : Shape := ⟨4, ![16, 2048, 8, 64]⟩
abbrev S_ : Shape := ⟨0, ![]⟩
abbrev S1 : Shape := ⟨1, ![1]⟩
abbrev S8 : Shape := ⟨1, ![8]⟩
abbrev S16x128x16x8x64 : Shape := ⟨5, ![16, 128, 16, 8, 64]⟩
abbrev S16x16x128x8x64 : Shape := ⟨5, ![16, 16, 128, 8, 64]⟩
abbrev S16x16x2x64x8x64 : Shape := ⟨6, ![16, 16, 2, 64, 8, 64]⟩
abbrev S16x16x256x8x64 : Shape := ⟨5, ![16, 16, 256, 8, 64]⟩
abbrev S16x16x2x192x8x64 : Shape := ⟨6, ![16, 16, 2, 192, 8, 64]⟩
abbrev S16x16x2x8x64x192 : Shape := ⟨6, ![16, 16, 2, 8, 64, 192]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S2 : Shape := ⟨1, ![2]⟩
abbrev S2x1 : Shape := ⟨2, ![2, 1]⟩
abbrev S2x192 : Shape := ⟨2, ![2, 192]⟩
abbrev S1x64x192 : Shape := ⟨3, ![1, 64, 192]⟩
abbrev S2x1x192 : Shape := ⟨3, ![2, 1, 192]⟩
abbrev S2x64x192 : Shape := ⟨3, ![2, 64, 192]⟩
abbrev S8x1x1 : Shape := ⟨3, ![8, 1, 1]⟩
abbrev S8x64x192 : Shape := ⟨3, ![8, 64, 192]⟩
abbrev S1x1x2x1x64x192 : Shape := ⟨6, ![1, 1, 2, 1, 64, 192]⟩
abbrev S1x1x1x8x64x192 : Shape := ⟨6, ![1, 1, 1, 8, 64, 192]⟩
abbrev S16x16x2x8x64 : Shape := ⟨5, ![16, 16, 2, 8, 64]⟩
abbrev S16x16x2x8x64x1 : Shape := ⟨6, ![16, 16, 2, 8, 64, 1]⟩
abbrev S16x16x2x8x64x64 : Shape := ⟨6, ![16, 16, 2, 8, 64, 64]⟩
abbrev S16x16x2x64x8 : Shape := ⟨5, ![16, 16, 2, 64, 8]⟩
abbrev S16x16x128x8 : Shape := ⟨4, ![16, 16, 128, 8]⟩
abbrev S16x128x16x8 : Shape := ⟨4, ![16, 128, 16, 8]⟩
abbrev S16x2048x8 : Shape := ⟨3, ![16, 2048, 8]⟩
abbrev S16x2048x4x128 : Shape := ⟨4, ![16, 2048, 4, 128]⟩
abbrev S16x4x2048x128 : Shape := ⟨4, ![16, 4, 2048, 128]⟩
abbrev S16x2048x8x1 : Shape := ⟨4, ![16, 2048, 8, 1]⟩

abbrev nBuf : Space → Nat
  | .hbm => 145
  | .vmem => 0
  | .smem => 0
  | _ => 0

abbrev hbmTy0_0 (i : Nat) : BufTy := match i % 128 with
  | 0 => ⟨S16x2048x1536, .bf16⟩
  | 1 => ⟨S16x2048x1536, .f32⟩
  | 2 => ⟨S16x2048x3x8x64, .f32⟩
  | 3 => ⟨S16x2048x1x8x64, .f32⟩
  | 4 => ⟨S16x2048x8x64, .f32⟩
  | 5 => ⟨S16x2048x1x8x64, .f32⟩
  | 6 => ⟨S16x2048x8x64, .f32⟩
  | 7 => ⟨S16x2048x1x8x64, .f32⟩
  | 8 => ⟨S16x2048x8x64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S8, .f32⟩
  | 26 => ⟨S16x128x16x8x64, .f32⟩
  | 27 => ⟨S16x16x128x8x64, .f32⟩
  | 28 => ⟨S16x16x2x64x8x64, .f32⟩
  | 29 => ⟨S16x128x16x8x64, .f32⟩
  | 30 => ⟨S16x16x128x8x64, .f32⟩
  | 31 => ⟨S_, .i32⟩
  | 32 => ⟨S_, .f32⟩
  | 33 => ⟨S16x16x256x8x64, .f32⟩
  | 34 => ⟨S16x16x128x8x64, .f32⟩
  | 35 => ⟨S16x16x2x64x8x64, .f32⟩
  | 36 => ⟨S16x16x128x8x64, .f32⟩
  | 37 => ⟨S16x16x2x64x8x64, .f32⟩
  | 38 => ⟨S16x16x128x8x64, .f32⟩
  | 39 => ⟨S16x16x2x64x8x64, .f32⟩
  | 40 => ⟨S16x16x2x192x8x64, .f32⟩
  | 41 => ⟨S16x128x16x8x64, .f32⟩
  | 42 => ⟨S16x16x128x8x64, .f32⟩
  | 43 => ⟨S_, .i32⟩
  | 44 => ⟨S_, .f32⟩
  | 45 => ⟨S16x16x256x8x64, .f32⟩
  | 46 => ⟨S16x16x128x8x64, .f32⟩
  | 47 => ⟨S16x16x2x64x8x64, .f32⟩
  | 48 => ⟨S16x16x128x8x64, .f32⟩
  | 49 => ⟨S16x16x2x64x8x64, .f32⟩
  | 50 => ⟨S16x16x128x8x64, .f32⟩
  | 51 => ⟨S16x16x2x64x8x64, .f32⟩
  | 52 => ⟨S16x16x2x192x8x64, .f32⟩
  | 53 => ⟨S16x16x2x8x64x192, .f32⟩
  | 54 => ⟨S_, .f32⟩
  | 55 => ⟨S16x16x2x8x64x192, .f32⟩
  | 56 => ⟨S16x16x2x8x64x192, .f32⟩
  | 57 => ⟨S192, .i32⟩
  | 58 => ⟨S1x192, .i32⟩
  | 59 => ⟨S_, .i32⟩
  | 60 => ⟨S1x192, .i32⟩
  | 61 => ⟨S1x192, .i32⟩
  | 62 => ⟨S64, .i32⟩
  | 63 => ⟨S64x1, .i32⟩
  | 64 => ⟨S64x192, .i32⟩
  | 65 => ⟨S64x192, .i32⟩
  | 66 => ⟨S64x192, .i32⟩
  | 67 => ⟨S2, .i32⟩
  | 68 => ⟨S2x1, .i32⟩
  | 69 => ⟨S_, .i32⟩
  | 70 => ⟨S2x1, .i32⟩
  | 71 => ⟨S2x1, .i32⟩
  | 72 => ⟨S_, .i32⟩
  | 73 => ⟨S2x1, .i32⟩
  | 74 => ⟨S2x1, .i32⟩
  | 75 => ⟨S192, .i32⟩
  | 76 => ⟨S1x192, .i32⟩
  | 77 => ⟨S2x192, .i32⟩
  | 78 => ⟨S2x192, .i32⟩
  | 79 => ⟨S2x192, .i32⟩
  | 80 => ⟨S64x192, .i32⟩
  | 81 => ⟨S_, .i32⟩
  | 82 => ⟨S64x192, .i32⟩
  | 83 => ⟨S64x192, .i1⟩
  | 84 => ⟨S1x64x192, .i1⟩
  | 85 => ⟨S_, .i32⟩
  | 86 => ⟨S2x192, .i32⟩
  | 87 => ⟨S2x192, .i1⟩
  | 88 => ⟨S_, .i32⟩
  | 89 => ⟨S2x192, .i32⟩
  | 90 => ⟨S2x192, .i1⟩
  | 91 => ⟨S2x192, .i1⟩
  | 92 => ⟨S2x1x192, .i1⟩
  | 93 => ⟨S2x64x192, .i1⟩
  | 94 => ⟨S2x64x192, .i1⟩
  | 95 => ⟨S2x64x192, .i1⟩
  | 96 => ⟨S8x1x1, .f32⟩
  | 97 => ⟨S8x1x1, .f32⟩
  | 98 => ⟨S64x192, .i32⟩
  | 99 => ⟨S_, .i32⟩
  | 100 => ⟨S64x192, .i32⟩
  | 101 => ⟨S64x192, .i32⟩
  | 102 => ⟨S64x192, .f32⟩
  | 103 => ⟨S1x64x192, .f32⟩
  | 104 => ⟨S8x64x192, .f32⟩
  | 105 => ⟨S8x64x192, .f32⟩
  | 106 => ⟨S8x64x192, .f32⟩
  | 107 => ⟨S1x1x2x1x64x192, .i1⟩
  | 108 => ⟨S1x1x1x8x64x192, .f32⟩
  | 109 => ⟨S16x16x2x8x64x192, .f32⟩
  | 110 => ⟨S16x16x2x8x64x192, .f32⟩
  | 111 => ⟨S_, .f32⟩
  | 112 => ⟨S_, .f32⟩
  | 113 => ⟨S16x16x2x8x64x192, .i1⟩
  | 114 => ⟨S16x16x2x8x64x192, .f32⟩
  | 115 => ⟨S16x16x2x8x64x192, .f32⟩
  | 116 => ⟨S_, .f32⟩
  | 117 => ⟨S16x16x2x8x64, .f32⟩
  | 118 => ⟨S16x16x2x8x64x1, .f32⟩
  | 119 => ⟨S16x16x2x8x64x192, .f32⟩
  | 120 => ⟨S16x16x2x8x64x192, .f32⟩
  | 121 => ⟨S16x16x2x8x64x192, .f32⟩
  | 122 => ⟨S_, .f32⟩
  | 123 => ⟨S16x16x2x8x64, .f32⟩
  | 124 => ⟨S16x16x2x8x64, .f32⟩
  | 125 => ⟨S16x16x2x8x64, .f32⟩
  | 126 => ⟨S16x16x2x8x64x1, .f32⟩
  | 127 => ⟨S16x16x2x8x64x192, .f32⟩
  | _ => ⟨S16x2048x1536, .bf16⟩

abbrev hbmTy0_1 (i : Nat) : BufTy := match i % 128 with
  | 0 => ⟨S16x16x2x8x64x192, .f32⟩
  | 1 => ⟨S16x16x2x8x64x192, .f32⟩
  | 2 => ⟨S16x16x2x8x64x64, .f32⟩
  | 3 => ⟨S16x16x2x64x8x64, .f32⟩
  | 4 => ⟨S16x16x128x8x64, .f32⟩
  | 5 => ⟨S16x128x16x8x64, .f32⟩
  | 6 => ⟨S16x2048x8x64, .f32⟩
  | 7 => ⟨S16x16x2x64x8, .f32⟩
  | 8 => ⟨S16x16x128x8, .f32⟩
  | 9 => ⟨S16x128x16x8, .f32⟩
  | 10 => ⟨S16x2048x8, .f32⟩
  | 11 => ⟨S16x2048x4x128, .f32⟩
  | 12 => ⟨S16x4x2048x128, .f32⟩
  | 13 => ⟨S16x2048x8x1, .f32⟩
  | 14 => ⟨S16x2048x8x64, .f32⟩
  | 15 => ⟨S16x2048x4x128, .f32⟩
  | 16 => ⟨S16x4x2048x128, .f32⟩
  | _ => ⟨S16x2048x1536, .bf16⟩

abbrev hbmTy (i : Nat) : BufTy := match i / 128 with
  | 0 => hbmTy0_0 i
  | 1 => hbmTy0_1 i
  | _ => ⟨S16x2048x1536, .bf16⟩

abbrev bufTy : (tb : Table) → Fin (tcTables nBuf tb) → BufTy
  | .hbm, ⟨i, _⟩ => hbmTy i
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_cst_4 : Ref sig .tc := ⟨.hbm, 14, rfl⟩
abbrev main_cst_5 : Ref sig .tc := ⟨.hbm, 15, rfl⟩
abbrev main_cst_6 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_10 : Ref sig .tc := ⟨.hbm, 69, rfl⟩
abbrev main_v54 : Ref sig .tc := ⟨.hbm, 70, rfl⟩
abbrev main_v55 : Ref sig .tc := ⟨.hbm, 71, rfl⟩
abbrev main_c_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_13 : Ref sig .tc := ⟨.hbm, 85, rfl⟩
abbrev main_v67 : Ref sig .tc := ⟨.hbm, 86, rfl⟩
abbrev main_v68 : Ref sig .tc := ⟨.hbm, 87, rfl⟩
abbrev main_c_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_16 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩

abbrev nD : Nat := 1
abbrev τ : Topo := Topo.v7x

variable {F : FTy → Type} [FloatOps F]
-- ==== Norm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Short.lean ====
abbrev S16x2048x3072 : Shape := ⟨3, ![16, 2048, 3072]⟩
abbrev S3x3072 : Shape := ⟨2, ![3, 3072]⟩
abbrev S3072 : Shape := ⟨1, ![3072]⟩
abbrev S1x3072 : Shape := ⟨2, ![1, 3072]⟩
abbrev S16x2048x1024 : Shape := ⟨3, ![16, 2048, 1024]⟩
abbrev S1x2048x512 : Shape := ⟨3, ![1, 2048, 512]⟩
abbrev S3x512 : Shape := ⟨2, ![3, 512]⟩
abbrev S1x512 : Shape := ⟨2, ![1, 512]⟩
abbrev S2048x512 : Shape := ⟨2, ![2048, 512]⟩

abbrev nBuf : Space → Nat
  | .hbm => 6
  | .vmem => 22
  | .smem => 0
  | _ => 0

abbrev bufTy : (tb : Table) → Fin (tcTables nBuf tb) → BufTy
  | .hbm, ⟨0, _⟩ => ⟨S16x2048x3072, .bf16⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16x2048x1024, .bf16⟩
  | .hbm, ⟨5, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x2048x512, .bf16⟩
  | .local _ .vmem, ⟨19, _⟩ => ⟨S1x2048x512, .bf16⟩
  | .local _ .vmem, ⟨20, _⟩ => ⟨S1x2048x512, .bf16⟩
  | .local _ .vmem, ⟨21, _⟩ => ⟨S1x2048x512, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ShortRefIdeal.lean ====
abbrev S16x2048x3072 : Shape := ⟨3, ![16, 2048, 3072]⟩
abbrev S3x3072 : Shape := ⟨2, ![3, 3072]⟩
abbrev S3072 : Shape := ⟨1, ![3072]⟩
abbrev S_ : Shape := ⟨0, ![]⟩
abbrev S16x2050x3072 : Shape := ⟨3, ![16, 2050, 3072]⟩
abbrev S1x3072 : Shape := ⟨2, ![1, 3072]⟩
abbrev S1x1x3072 : Shape := ⟨3, ![1, 1, 3072]⟩
abbrev S16x2048x1024 : Shape := ⟨3, ![16, 2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S3x3072, .f32⟩
  | .hbm, ⟨2, _⟩ => ⟨S3072, .f32⟩
  | .hbm, ⟨3, _⟩ => ⟨S16x2048x3072, .f32⟩
  | .hbm, ⟨4, _⟩ => ⟨S_, .i32⟩
  | .hbm, ⟨5, _⟩ => ⟨S_, .f32⟩
  | .hbm, ⟨6, _⟩ => ⟨S16x2050x3072, .f32⟩
  | .hbm, ⟨7, _⟩ => ⟨S16x2048x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S16x2048x3072, .f32⟩
  | .hbm, ⟨12, _⟩ => ⟨S16x2048x3072, .f32⟩
  | .hbm, ⟨13, _⟩ => ⟨S1x1x3072, .f32⟩
  | .hbm, ⟨14, _⟩ => ⟨S16x2048x3072, .f32⟩
  | .hbm, ⟨15, _⟩ => ⟨S16x2048x3072, .f32⟩
  | .hbm, ⟨16, _⟩ => ⟨S16x2048x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S16x2048x3072, .f32⟩
  | .hbm, ⟨21, _⟩ => ⟨S16x2048x3072, .f32⟩
  | .hbm, ⟨22, _⟩ => ⟨S16x2048x3072, .f32⟩
  | .hbm, ⟨23, _⟩ => ⟨S16x2048x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S16x2048x3072, .f32⟩
  | .hbm, ⟨28, _⟩ => ⟨S16x2048x3072, .f32⟩
  | .hbm, ⟨29, _⟩ => ⟨S16x2048x3072, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .bf16⟩
  | .hbm, ⟨34, _⟩ => ⟨S16x2048x1024, .f32⟩
  | .hbm, ⟨35, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Proof.Window.lean ====
/-
  Extended-real arithmetic of a windowed softmax, with no program in it.

  A row of attention scores is a function on all key positions that is `⊥` off a band. A program looks at the row
  through a window: `W` consecutive positions starting at some integer `a`, of which some may lie outside the row.
  `sum_window` and `sup_window` say that a sum (a maximum) over the window is the sum (the maximum) over the row, if
  the window holds every position of the band and adds nothing at the others. `exists_real_max_sum` and `normalise`
  are the softmax itself: where every score is below `⊤` and one is above `⊥`, the maximum and the sum of the
  exponentials are real numbers, and dividing by the sum after weighting the values is weighting by
  `exp (s - (max + log sum))`.
-/
module

public import Idealize.ShloMosaic.PureOps.Ideal
public import Idealize.ShloMosaic.Lib.ValueIdx

@[expose] public section

noncomputable section

namespace Cert.Proof.Window

open Idealize.ShloMosaic
open scoped BigOperators

/-- A sum over a window of `W` positions starting at `a` is the sum over the row of `n` positions, where the two
    agree at a common position and are zero elsewhere. -/
theorem sum_window {n W : ℕ} (a : ℤ) (F : Fin n → EReal) (G : Fin W → EReal)
    (hin : ∀ (j : Fin W) (κ : Fin n), (κ.val : ℤ) = a + j.val → G j = F κ)
    (hG : ∀ j : Fin W, (∀ κ : Fin n, (κ.val : ℤ) ≠ a + j.val) → G j = 0)
    (hF : ∀ κ : Fin n, (∀ j : Fin W, (κ.val : ℤ) ≠ a + j.val) → F κ = 0) :
    ∑ j, G j = ∑ κ, F κ := by
  have h1 : ∀ j : Fin W, G j = ∑ κ : Fin n, if (κ.val : ℤ) = a + j.val then F κ else 0 := by
    intro j
    by_cases h : ∃ κ : Fin n, (κ.val : ℤ) = a + j.val
    · obtain ⟨κ, hκ⟩ := h
      rw [Finset.sum_eq_single κ, if_pos hκ, hin j κ hκ]
      · intro κ' _ hne
        rw [if_neg]
        intro h'
        exact hne (Fin.ext (by omega))
      · intro h'; exact absurd (Finset.mem_univ _) h'
    · have h' : ∀ κ : Fin n, (κ.val : ℤ) ≠ a + j.val := fun κ hκ => h ⟨κ, hκ⟩
      rw [hG j h', Finset.sum_eq_zero]
      intro κ _; rw [if_neg (h' κ)]
  have h2 : ∀ κ : Fin n, F κ = ∑ j : Fin W, if (κ.val : ℤ) = a + j.val then F κ else 0 := by
    intro κ
    by_cases h : ∃ j : Fin W, (κ.val : ℤ) = a + j.val
    · obtain ⟨j, hj⟩ := h
      rw [Finset.sum_eq_single j, if_pos hj]
      · intro j' _ hne
        rw [if_neg]
        intro h'
        exact hne (Fin.ext (by omega))
      · intro h'; exact absurd (Finset.mem_univ _) h'
    · have h' : ∀ j : Fin W, (κ.val : ℤ) ≠ a + j.val := fun j hj => h ⟨j, hj⟩
      rw [Finset.sum_eq_zero, hF κ h']
      intro j _; rw [if_neg (h' j)]
  rw [Finset.sum_congr rfl fun j _ => h1 j, Finset.sum_comm, ← Finset.sum_congr rfl fun κ _ => h2 κ]

/-- The same of a maximum: a position missing on either side carries `⊥`. -/
theorem sup_window {n W : ℕ} (a : ℤ) (F : Fin n → EReal) (G : Fin W → EReal)
    (hin : ∀ (j : Fin W) (κ : Fin n), (κ.val : ℤ) = a + j.val → G j = F κ)
    (hG : ∀ j : Fin W, (∀ κ : Fin n, (κ.val : ℤ) ≠ a + j.val) → G j = ⊥)
    (hF : ∀ κ : Fin n, (∀ j : Fin W, (κ.val : ℤ) ≠ a + j.val) → F κ = ⊥) :
    Finset.univ.sup G = Finset.univ.sup F := by
  apply le_antisymm
  · refine Finset.sup_le fun j _ => ?_
    by_cases h : ∃ κ : Fin n, (κ.val : ℤ) = a + j.val
    · obtain ⟨κ, hκ⟩ := h
      rw [hin j κ hκ]; exact Finset.le_sup (Finset.mem_univ κ)
    · rw [hG j fun κ hκ => h ⟨κ, hκ⟩]; exact bot_le
  · refine Finset.sup_le fun κ _ => ?_
    by_cases h : ∃ j : Fin W, (κ.val : ℤ) = a + j.val
    · obtain ⟨j, hj⟩ := h
      rw [← hin j κ hj]; exact Finset.le_sup (Finset.mem_univ j)
    · rw [hF κ fun j hj => h ⟨j, hj⟩]; exact bot_le

/-- The exponential of a masked score is zero, whatever is subtracted from it. -/
theorem exp_bot_sub (y : EReal) : Ideal.exp (⊥ - y) = 0 := by
  rw [sub_eq_add_neg, EReal.bot_add]; rfl

/-- The exponential is never negative. -/
theorem exp_nonneg (x : EReal) : 0 ≤ Ideal.exp x := by
  induction x using EReal.rec with
  | bot => exact le_refl _
  | top => exact le_top
  | coe r => exact EReal.coe_nonneg.2 (Real.exp_pos r).le

/-- A finite sum of real numbers, as extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a real number is a real number. -/
theorem exists_coe_sum {ι : Type*} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self _ _)
    exact ⟨q + r, by rw [Finset.sum_insert ha, hr, hq, EReal.coe_add]⟩

/-- Multiplying a sum by a nonnegative real number multiplies each term. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, EReal.right_distrib_of_nonneg_of_ne_top (EReal.coe_nonneg.2 hc) (EReal.coe_ne_top c)]

/-- Where every score is below `⊤` and one is above `⊥`, the largest score is a real number and the sum of the
    exponentials of the differences from it is a positive real number. -/
theorem exists_real_max_sum {n : ℕ} (s : Fin n → EReal) (htop : ∀ κ, s κ ≠ ⊤) (hbot : ∃ κ, s κ ≠ ⊥) :
    ∃ M z : ℝ, 0 < z ∧ Finset.univ.sup s = (M : EReal) ∧ ∑ κ, Ideal.exp (s κ - (M : EReal)) = (z : EReal) := by
  obtain ⟨κ₀, h₀⟩ := hbot
  have hne : (Finset.univ : Finset (Fin n)).Nonempty := ⟨κ₀, Finset.mem_univ _⟩
  obtain ⟨κ₁, _, h₁⟩ := Finset.exists_mem_eq_sup _ hne s
  have hM₁ : Finset.univ.sup s ≠ ⊤ := by rw [h₁]; exact htop κ₁
  have hM₂ : Finset.univ.sup s ≠ ⊥ := by
    intro h
    exact h₀ (le_bot_iff.1 (h ▸ Finset.le_sup (f := s) (Finset.mem_univ κ₀)))
  obtain ⟨M, hM⟩ : ∃ M : ℝ, Finset.univ.sup s = (M : EReal) := ⟨_, (EReal.coe_toReal hM₁ hM₂).symm⟩
  have hterm : ∀ κ, ∃ r : ℝ, 0 ≤ r ∧ Ideal.exp (s κ - (M : EReal)) = r := by
    intro κ
    have h := htop κ
    generalize s κ = x at h
    induction x using EReal.rec with
    | bot => exact ⟨0, le_refl _, by rw [exp_bot_sub]; rfl⟩
    | coe r => exact ⟨Real.exp (r - M), (Real.exp_pos _).le, by rw [← EReal.coe_sub]; rfl⟩
    | top => exact absurd rfl h
  choose e he0 he using hterm
  have hs : s κ₁ = (M : EReal) := h₁ ▸ hM
  have h1 : e κ₁ = 1 := by
    have := he κ₁
    rw [hs, ← EReal.coe_sub, sub_self] at this
    have h2 : Ideal.exp ((0 : ℝ) : EReal) = ((Real.exp 0 : ℝ) : EReal) := rfl
    rw [h2, Real.exp_zero] at this
    exact_mod_cast this.symm
  refine ⟨M, ∑ κ, e κ, ?_, hM, ?_⟩
  · have : e κ₁ ≤ ∑ κ, e κ := Finset.single_le_sum (fun κ _ => he0 κ) (Finset.mem_univ κ₁)
    linarith
  · rw [coe_sum]; exact Finset.sum_congr rfl fun κ _ => he κ

/-- Subtracting the logarithm of a positive number before the exponential divides by the number after it. -/
theorem exp_sub_add_log (x : EReal) (hx : x ≠ ⊤) (M z : ℝ) (hz : 0 < z) :
    Ideal.exp (x - ((M : EReal) + Ideal.log (z : EReal))) = Ideal.exp (x - (M : EReal)) * ((1 / z : ℝ) : EReal) := by
  have hl : Ideal.log (z : EReal) = ((Real.log z : ℝ) : EReal) := by
    show (if z ≤ 0 then (⊥ : EReal) else ((Real.log z : ℝ) : EReal)) = _
    rw [if_neg (not_le.2 hz)]
  rw [hl, ← EReal.coe_add]
  induction x using EReal.rec with
  | bot => rw [exp_bot_sub, exp_bot_sub, zero_mul]
  | top => exact absurd rfl hx
  | coe r =>
    rw [← EReal.coe_sub, ← EReal.coe_sub]
    show ((Real.exp (r - (M + Real.log z)) : ℝ) : EReal) = ((Real.exp (r - M) : ℝ) : EReal) * _
    rw [← EReal.coe_mul]
    congr 1
    rw [show r - (M + Real.log z) = (r - M) - Real.log z by ring, Real.exp_sub, Real.exp_log hz]
    ring

/-- Weighting values by the exponentials and dividing the total by their sum is weighting them by the exponentials of
    the scores less (maximum plus logarithm of the sum). The values are arbitrary extended reals. -/
theorem normalise {n : ℕ} (s v : Fin n → EReal) (htop : ∀ κ, s κ ≠ ⊤) (hbot : ∃ κ, s κ ≠ ⊥) :
    (∑ κ, Ideal.exp (s κ - Finset.univ.sup s) * v κ) * Ideal.div 1 (∑ κ, Ideal.exp (s κ - Finset.univ.sup s))
      = ∑ κ, Ideal.exp (s κ - (Finset.univ.sup s + Ideal.log (∑ κ, Ideal.exp (s κ - Finset.univ.sup s)))) * v κ := by
  obtain ⟨M, z, hz, hM, hZ⟩ := exists_real_max_sum s htop hbot
  rw [hM, hZ, Ideal.div_coe hz.ne', one_mul, sum_mul_coe _ _ _ (by positivity)]
  refine Finset.sum_congr rfl fun κ _ => ?_
  rw [exp_sub_add_log (s κ) (htop κ) M z hz, mul_right_comm]

end Cert.Proof.Window

end
-- ==== Proof.AttnSpec.lean ====
/-
  Dilated window attention of one sequence, as plain mathematics over all 2048 keys, and the two ways a program
  meets it: as sums over a window of keys, and over lanes shared by two heads.
-/
module

public import Idealize.ShloMosaic.PureOps.Ideal
public import proofs.«01_k».proof.Proof.Window

@[expose] public section

noncomputable section

namespace Cert.Proof.AttnSpec

open Idealize.ShloMosaic Cert.Proof.Window
open scoped BigOperators

/-- The queries, the keys or the values of one sequence: `N` tokens, 8 heads of 64 dimensions. -/
abbrev Seq (N : ℕ) := Fin N → Fin 8 → Fin 64 → EReal

/-- The slopes of the heads of the group of dilation 1, as f32 constants. -/
def slope : Fin 8 → BitVec 32 :=
  ![0x3F4B2FF5#32, 0x3F214518#32, 0x3F000000#32, 0x3ECB2FF5#32, 0x3EA14518#32, 0x3E800000#32, 0x3E4B2FF5#32, 0x3E214518#32]

/-- The slopes of the heads of the group of dilation 4. -/
def slope4 : Fin 8 → BitVec 32 :=
  ![0x3E000000#32, 0x3DCB2FF5#32, 0x3DA14518#32, 0x3D800000#32, 0x3D4B2FF5#32, 0x3D214518#32, 0x3D000000#32, 0x3CCB2FF5#32]

/-- The slopes of the heads of the group of dilation 16. -/
def slope16 : Fin 8 → BitVec 32 :=
  ![0x3CA14518#32, 0x3C800000#32, 0x3C4B2FF5#32, 0x3C214518#32, 0x3C000000#32, 0x3BCB2FF5#32, 0x3BA14518#32, 0x3B800000#32]

/-- The slopes of dilation 1 are real numbers: no pattern has the exponent of the infinities. -/
theorem slope_exponent (h : Fin 8) : ¬ ((slope h).extractLsb' 23 8).toNat = 2 ^ 8 - 1 := by revert h; decide

/-- The slopes of dilation 4 are real numbers. -/
theorem slope4_exponent (h : Fin 8) : ¬ ((slope4 h).extractLsb' 23 8).toNat = 2 ^ 8 - 1 := by revert h; decide

/-- The slopes of dilation 16 are real numbers. -/
theorem slope16_exponent (h : Fin 8) : ¬ ((slope16 h).extractLsb' 23 8).toNat = 2 ^ 8 - 1 := by revert h; decide

section Attention

variable {N : ℕ} (D : ℕ) (sl : Fin 8 → BitVec 32)

/-- The score of a key: the scaled product less slope times distance, or `⊥` outside the window of 64 on each side. Tokens
    next to each other in the sequence lie `D` apart in the text, so the distance is `D` times that of their places; `sl` is
    the heads' slopes. -/
def score (Q K : Seq N) (h : Fin 8) (t κ : Fin N) : EReal :=
  if |(κ.val : ℤ) - t.val| ≤ 64 then
    (∑ d, Q t h d * K κ h d) * Ideal.ofBits .f32 0x3E000000#32 - Ideal.ofBits .f32 (sl h) * ((((D : ℤ) * |(κ.val : ℤ) - t.val| : ℤ) : ℝ) : EReal)
  else ⊥

/-- The largest score. -/
def top (Q K : Seq N) (h : Fin 8) (t : Fin N) : EReal := Finset.univ.sup (score D sl Q K h t)

/-- The sum of the exponentials less the largest score. -/
def mass (Q K : Seq N) (h : Fin 8) (t : Fin N) : EReal := ∑ κ, Ideal.exp (score D sl Q K h t κ - top D sl Q K h t)

/-- The log-sum-exp of the scores. -/
def lse (Q K : Seq N) (h : Fin 8) (t : Fin N) : EReal := top D sl Q K h t + Ideal.log (mass D sl Q K h t)

/-- The attention: the softmax of the scores times the values. -/
def att (Q K V : Seq N) (h : Fin 8) (t : Fin N) (d : Fin 64) : EReal :=
  ∑ κ, Ideal.exp (score D sl Q K h t κ - lse D sl Q K h t) * V κ h d

/-- A float constant that is a real number. -/
theorem ofBits_real (w : BitVec 32) (h : ¬ (w.extractLsb' 23 8).toNat = 2 ^ 8 - 1) : ∃ r : ℝ, Ideal.ofBits .f32 w = r := by
  change ∃ r : ℝ, Ideal.ieee 8 23 w = r
  unfold Ideal.ieee
  simp only []
  rw [if_neg h]
  by_cases h0 : (w.extractLsb' 23 8).toNat = 0
  · rw [if_pos h0]; exact ⟨_, rfl⟩
  · rw [if_neg h0]; exact ⟨_, rfl⟩

/-- The scores of finite queries and keys are below `⊤`. -/
theorem score_ne_top {Q K : Seq N} (hsl : ∀ h, ¬ ((sl h).extractLsb' 23 8).toNat = 2 ^ 8 - 1) (hQ : ∀ t h d, ∃ r : ℝ, Q t h d = r) (hK : ∀ t h d, ∃ r : ℝ, K t h d = r) (h : Fin 8) (t κ : Fin N) :
    score D sl Q K h t κ ≠ ⊤ ∧ (κ = t → score D sl Q K h t κ ≠ ⊥) := by
  have hs : ∃ r : ℝ, ∑ d, Q t h d * K κ h d = r := exists_coe_sum _ _ fun d _ => by
    obtain ⟨a, ha⟩ := hQ t h d
    obtain ⟨b, hb⟩ := hK κ h d
    exact ⟨a * b, by rw [ha, hb, EReal.coe_mul]⟩
  obtain ⟨r, hr⟩ := hs
  obtain ⟨c, hc⟩ := ofBits_real 0x3E000000#32 (by decide)
  obtain ⟨g, hg⟩ := ofBits_real (sl h) (hsl h)
  rw [score, hr, hc, hg]
  split
  · rw [← EReal.coe_mul, ← EReal.coe_mul, ← EReal.coe_sub]
    exact ⟨EReal.coe_ne_top _, fun _ => EReal.coe_ne_bot _⟩
  · rename_i hn
    exact ⟨bot_ne_top, fun e => absurd (by rw [e]; simp) hn⟩

/-- The attention, normalised after the sum instead of before. -/
theorem att_eq {Q K V : Seq N} (hsl : ∀ h, ¬ ((sl h).extractLsb' 23 8).toNat = 2 ^ 8 - 1) (hQ : ∀ t h d, ∃ r : ℝ, Q t h d = r) (hK : ∀ t h d, ∃ r : ℝ, K t h d = r) (h : Fin 8) (t : Fin N) (d : Fin 64) :
    (∑ κ, Ideal.exp (score D sl Q K h t κ - top D sl Q K h t) * V κ h d) * Ideal.div 1 (mass D sl Q K h t) = att D sl Q K V h t d :=
  normalise (score D sl Q K h t) (fun κ => V κ h d) (fun κ => (score_ne_top D sl hsl hQ hK h t κ).1) ⟨t, (score_ne_top D sl hsl hQ hK h t t).2 rfl⟩

section Row

variable {W : ℕ} {Q K : Seq N} {h : Fin 8} {t : Fin N} {D} {sl} (a : ℤ) (G : Fin W → EReal)

/-- A window of scores that starts at `a` and holds everything within 64 of the query. -/
structure IsRow (D : ℕ) (sl : Fin 8 → BitVec 32) (Q K : Seq N) (h : Fin 8) (t : Fin N) (a : ℤ) (G : Fin W → EReal) : Prop where
  covers : a ≤ t.val - 64 ∧ (t.val : ℤ) + 64 < a + W
  inside : ∀ (j : Fin W) (κ : Fin N), (κ.val : ℤ) = a + j.val → G j = score D sl Q K h t κ
  outside : ∀ j : Fin W, (∀ κ : Fin N, (κ.val : ℤ) ≠ a + j.val) → G j = ⊥

variable {a G}

/-- A key outside the window scores `⊥`. -/
theorem score_outside (hG : IsRow D sl Q K h t a G) (κ : Fin N) (hκ : ∀ j : Fin W, (κ.val : ℤ) ≠ a + j.val) : score D sl Q K h t κ = ⊥ := by
  rw [score, if_neg]
  intro hle
  have h1 := (abs_le.1 hle).1
  have h2 := (abs_le.1 hle).2
  have h3 := hG.covers
  exact hκ ⟨(κ.val - a).toNat, by omega⟩ (by show (κ.val : ℤ) = a + ((κ.val - a).toNat : ℕ); omega)

/-- The window's maximum is that of all keys. -/
theorem row_top (hG : IsRow D sl Q K h t a G) : Finset.univ.fold max ⊥ G = top D sl Q K h t :=
  sup_window a (score D sl Q K h t) G hG.inside hG.outside (score_outside hG)

/-- The window's sum of exponentials is that of all keys. -/
theorem row_sum (hG : IsRow D sl Q K h t a G) (M : EReal) : ∑ j, Ideal.exp (G j - M) = ∑ κ, Ideal.exp (score D sl Q K h t κ - M) :=
  sum_window a (fun κ => Ideal.exp (score D sl Q K h t κ - M)) (fun j => Ideal.exp (G j - M))
    (fun j κ e => by rw [hG.inside j κ e])
    (fun j hj => by rw [hG.outside j hj]; exact exp_bot_sub M)
    (fun κ hκ => by beta_reduce; rw [score_outside hG κ hκ]; exact exp_bot_sub M)

/-- The window's sum of exponentials times values is that of all keys. -/
theorem row_weighted (hG : IsRow D sl Q K h t a G) (M : EReal) (v : Fin N → EReal) (w : Fin W → EReal)
    (hw : ∀ (j : Fin W) (κ : Fin N), (κ.val : ℤ) = a + j.val → w j = v κ) :
    ∑ j, Ideal.exp (G j - M) * w j = ∑ κ, Ideal.exp (score D sl Q K h t κ - M) * v κ :=
  sum_window a (fun κ => Ideal.exp (score D sl Q K h t κ - M) * v κ) (fun j => Ideal.exp (G j - M) * w j)
    (fun j κ e => by beta_reduce; rw [hG.inside j κ e, hw j κ e])
    (fun j hj => by beta_reduce; rw [hG.outside j hj, exp_bot_sub M, zero_mul])
    (fun κ hκ => by beta_reduce; rw [score_outside hG κ hκ, exp_bot_sub M, zero_mul])

end Row

end Attention

/-- A sum over 128 lanes, kept on the first half only. -/
theorem sum_low (f : Fin 128 → EReal) : (∑ x : Fin 128, if x.val < 64 then f x else 0) = ∑ d : Fin 64, f ⟨d.val, by omega⟩ := by
  rw [show (∑ x : Fin 128, if x.val < 64 then f x else 0) = ∑ x : Fin (64 + 64), if x.val < 64 then f x else 0 from rfl, Fin.sum_univ_add]
  simp
  rfl

/-- A sum over 128 lanes, kept on the second half only. -/
theorem sum_high (f : Fin 128 → EReal) : (∑ x : Fin 128, if x.val < 64 then 0 else f x) = ∑ d : Fin 64, f ⟨64 + d.val, by omega⟩ := by
  rw [show (∑ x : Fin 128, if x.val < 64 then 0 else f x) = ∑ x : Fin (64 + 64), if x.val < 64 then 0 else f x from rfl, Fin.sum_univ_add]
  simp
  exact Finset.sum_congr rfl fun d _ => congrArg f (Fin.ext (Nat.add_comm _ _))

end Cert.Proof.AttnSpec

end
-- ==== Proof.Words.lean ====
/-
  The index words of a distance and of a mask, read as integers.
-/
module

public import Idealize.ShloMosaic.PureOps.Ideal

@[expose] public section

noncomputable section

namespace Cert.Proof.Words

open Idealize.ShloMosaic

/-- A small integer survives the wrap to 32 bits. -/
theorem bmod_small (x : ℤ) (h1 : -2147483648 ≤ x) (h2 : x < 2147483648) : x.bmod (2 ^ 32) = x := by
  apply Int.bmod_eq_of_le <;> norm_num <;> omega

/-- The integer of a small index word. -/
theorem toInt_nat (n : ℕ) (h : n < 2147483648) : (BitVec.ofNat 32 n).toInt = n := by
  rw [BitVec.toInt_ofNat', bmod_small _ (by omega) (by omega)]

/-- The integer of a difference of words. -/
theorem toInt_sub {x y : BitVec 32} {a b : ℤ} (hx : x.toInt = a) (hy : y.toInt = b) (h1 : -2147483648 ≤ a - b) (h2 : a - b < 2147483648) :
    (IntOp.subi x y).toInt = a - b := by
  rw [IntOp.subi, BitVec.toInt_sub, hx, hy, bmod_small _ h1 h2]

/-- The integer of a sum of words. -/
theorem toInt_add {x y : BitVec 32} {a b : ℤ} (hx : x.toInt = a) (hy : y.toInt = b) (h1 : -2147483648 ≤ a + b) (h2 : a + b < 2147483648) :
    (IntOp.addi x y).toInt = a + b := by
  rw [IntOp.addi, BitVec.toInt_add, hx, hy, bmod_small _ h1 h2]

/-- The integer of a product of words. -/
theorem toInt_mul {x y : BitVec 32} {a b : ℤ} (hx : x.toInt = a) (hy : y.toInt = b) (h1 : -2147483648 ≤ a * b) (h2 : a * b < 2147483648) :
    (IntOp.muli x y).toInt = a * b := by
  rw [IntOp.muli, BitVec.toInt_mul, hx, hy, bmod_small _ h1 h2]

/-- The integer of an absolute value. -/
theorem toInt_abs {x : BitVec 32} {a : ℤ} (hx : x.toInt = a) (h : -2147483648 < a) : (IntOp.absi x).toInt = |a| := by
  have hlt := BitVec.toInt_lt (x := x)
  rw [IntOp.absi, BitVec.msb_eq_toInt, hx]
  rw [hx] at hlt
  norm_num at hlt
  split
  · rename_i h0
    have h0 : a < 0 := by simpa using h0
    rw [BitVec.toInt_neg, hx, bmod_small _ (by omega) (by omega), abs_of_neg h0]
  · rename_i h0
    have h0 : 0 ≤ a := by simpa using h0
    rw [hx, abs_of_nonneg h0]

/-- A bit is 1 just when its truth value holds. -/
theorem bool_eq_one (p : Bool) : (BitVec.ofBool p = 1#1) ↔ p = true := by cases p <;> decide

/-- A signed comparison of words is that of their integers. -/
theorem sle_iff {x y : BitVec 32} {a b : ℤ} (hx : x.toInt = a) (hy : y.toInt = b) : IntOp.cmpi .sle x y = 1#1 ↔ a ≤ b := by
  rw [← hx, ← hy, ← BitVec.sle_iff_toInt_le]; exact bool_eq_one _

/-- The same of the strict comparison. -/
theorem slt_iff {x y : BitVec 32} {a b : ℤ} (hx : x.toInt = a) (hy : y.toInt = b) : IntOp.cmpi .slt x y = 1#1 ↔ a < b := by
  rw [← hx, ← hy, ← BitVec.slt_iff_toInt_lt]; exact bool_eq_one _

/-- The same of the comparison the other way round. -/
theorem sge_iff {x y : BitVec 32} {a b : ℤ} (hx : x.toInt = a) (hy : y.toInt = b) : IntOp.cmpi .sge x y = 1#1 ↔ b ≤ a := by
  rw [← hx, ← hy, ← BitVec.sle_iff_toInt_le]; exact bool_eq_one _

/-- A conjunction of bits. -/
theorem and_iff (x y : BitVec 1) : IntOp.andi x y = 1#1 ↔ x = 1#1 ∧ y = 1#1 := by revert x y; decide

/-- The float of a word is its integer. -/
theorem sitofp_eq {x : BitVec 32} {a : ℤ} (hx : x.toInt = a) : FloatOps.sitofp (F := Ideal) .f32 x = ((a : ℝ) : EReal) := by
  rw [← hx]; rfl

/-- A select by a bit is a case distinction. -/
theorem select_iff {α : Type} {c : BitVec 1} {p : Prop} [Decidable p] (h : c = 1#1 ↔ p) (x y : α) :
    Scalar.select c x y = if p then x else y := by
  change (if c = 1#1 then x else y) = _
  by_cases hp : p
  · rw [if_pos hp, if_pos (h.2 hp)]
  · rw [if_neg hp, if_neg (fun hc => hp (h.1 hc))]

end Cert.Proof.Words

end
-- ==== Proof.AttnBlock.lean ====
/-
  One block of the attention kernel: 256 queries of one batch row, four pairs of heads.

  The kernel writes the block in eight pieces for each of its two results, one per half of the queries and pair of
  heads. All sixteen are the same three functions below (`score`, `out`, `lse`) of the piece's queries, keys and values.
-/
module

public import proofs.«01_k».proof.Proof.Gen.AttnIdeal.Value
public import Idealize.ShloMosaic.Lib.Pointwise
public import proofs.«01_k».proof.Proof.AttnSpec
public import proofs.«01_k».proof.Proof.Words

@[expose] public section

set_option maxRecDepth 16384

noncomputable section

namespace Cert.Proof.AttnBlock

open Idealize.ShloMosaic Cert.AttnIdeal Cert.AttnIdeal.Gen Cert.AttnIdeal.Facts Cert.Proof.Words
open AttnSpec (Seq slope)
open scoped BigOperators

/-- The lanes of a pair's first head (`e = 0`) or of its second, in a window of 256 keys. -/
def lanes (e : Fin 2) : IVec S256x128 1 :=
  if e = 0 then k0_pay7 else xori k0_pay7 (constantI S256x128 1 1#1)

/-- A window of keys or values with the other head's lanes set to zero. -/
def headOnly (e : Fin 2) (x : FVec Ideal S256x128 .bf16) : FVec Ideal S256x128 .bf16 :=
  select (lanes e) x (broadcast S256x128 (Scalar.ofBits .bf16 0x0000#16))

/-- The distances in the text of the keys of a window from the queries, which lie 64 rows into it: `D` per row. -/
def distances (D : BitVec 32) : FVec Ideal S128x256 .f32 := sitofp .f32 (muli (broadcast S128x256 D) k0_pay4)

/-- One head's scores: products of queries and keys, scaled, less the slope times the distance, masked. -/
def score (D : BitVec 32) (e : Fin 2) (slope : BitVec 32) (mask : IVec S128x256 1) (k : FVec Ideal S256x128 .bf16) (q : FVec Ideal S1x128x128 .bf16) :
    FVec Ideal S128x256 .f32 :=
  select mask
    (subf (mulf (matmul dot_S128x128_S256x128_S128x256_1_1_0_0_n_n none (shapeCast S128x128 q shapeCasts_S1x128x128_S128x128) (headOnly e k)
        (constant S128x256 .f32 0x00000000#32)) (broadcast S128x256 (Scalar.ofBits .f32 0x3E000000#32)))
      (mulf (broadcast S128x256 (Scalar.ofBits .f32 slope)) (distances D)))
    (broadcast S128x256 (Named.named κ "mask" 0xF149F2CA#32))

/-- Each row's largest score. -/
def rowMax (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials of the scores less their row's largest. -/
def probs (s : FVec Ideal S128x256 .f32) : FVec Ideal S128x256 .f32 :=
  exp (subf s (broadcastTo S128x256 (rowMax s) broadcasts_S128x1_S128x256))

/-- Each row's sum of exponentials. -/
def rowSum (s : FVec Ideal S128x256 .f32) : FVec Ideal S128x1 .f32 :=
  shapeCast S128x1 (multiReduction .add [1] S128 (probs s) 0x00000000#32 reduces_S128x256_S128 (.inl rfl) rfl) shapeCasts_S128_S128x1

/-- The exponentials times the values. -/
def weighted (s : FVec Ideal S128x256 .f32) (v : FVec Ideal S256x128 .bf16) : FVec Ideal S128x128 .f32 :=
  matmul dot_S128x256_S256x128_S128x128_1_0_0_1_n_n none (truncf .bf16 (probs s) bitsLt_bf16_f32) v (constant S128x128 .f32 0x00000000#32)

/-- A column of one head beside a column of the other, each over its head's lanes. -/
def byLane (x y : FVec Ideal S128x1 .f32) : FVec Ideal S128x128 .f32 :=
  select k0_pay8 (broadcastTo S128x128 (shapeCast S128x1 x shapeCasts_S128x1_S128x1) broadcasts_S128x1_S128x128)
    (broadcastTo S128x128 (shapeCast S128x1 y shapeCasts_S128x1_S128x1) broadcasts_S128x1_S128x128)

/-- The attention result of a pair of heads. -/
def out (s0 s1 : FVec Ideal S128x256 .f32) (v : FVec Ideal S256x128 .bf16) : FVec Ideal S1x1x128x128 .f32 :=
  shapeCast S1x1x128x128
    (mulf (addf (weighted s0 (headOnly 0 v)) (weighted s1 (headOnly 1 v)))
      (divf (broadcast S128x128 (Scalar.ofBits .f32 0x3F800000#32)) (byLane (rowSum s0) (rowSum s1))))
    shapeCasts_S128x128_S1x1x128x128

/-- The log-sum-exp of a pair of heads, repeated over the lanes of each. -/
def lse (s0 s1 : FVec Ideal S128x256 .f32) : FVec Ideal S1x1x128x128 .f32 :=
  shapeCast S1x1x128x128 (byLane (addf (rowMax s0) (log (rowSum s0))) (addf (rowMax s1) (log (rowSum s1)))) shapeCasts_S128x128_S1x1x128x128

/-- The keys (values) of the first half of the queries: 64 rows of the block before, 192 of the block itself. -/
def keysA (p : FVec Ideal S1x64x128 .bf16) (c : FVec Ideal S1x192x128 .bf16) : FVec Ideal S256x128 .bf16 :=
  concatenate S256x128 0 [⟨S64x128, shapeCast S64x128 p shapeCasts_S1x64x128_S64x128⟩,
    ⟨S192x128, shapeCast S192x128 c shapeCasts_S1x192x128_S192x128⟩] concatenates_S64x128_S192x128_S256x128_d0

/-- The keys (values) of the second half of the queries: 192 rows of the block itself, 64 of the block after. -/
def keysB (c : FVec Ideal S1x192x128 .bf16) (n : FVec Ideal S1x64x128 .bf16) : FVec Ideal S256x128 .bf16 :=
  concatenate S256x128 0 [⟨S192x128, shapeCast S192x128 c shapeCasts_S1x192x128_S192x128⟩,
    ⟨S64x128, shapeCast S64x128 n shapeCasts_S1x64x128_S64x128⟩] concatenates_S192x128_S64x128_S256x128_d0

/-- The mask of the second half of the queries (`k0_pay9 i` is that of the first). -/
def maskB (i : grid0.Coords) : IVec S128x256 1 := k0_pay79 (Scalar.muli (BitVec.ofNat 32 (i 1).val) 256#32) k0_pay3 k0_pay5

variable (i : grid0.Coords) (x0 : Vec Ideal S1x256x512 .bf16) (x1 : Vec Ideal S1x64x512 .bf16) (x2 : Vec Ideal S1x256x512 .bf16)
  (x3 : Vec Ideal S1x64x512 .bf16) (x4 : Vec Ideal S1x64x512 .bf16) (x5 : Vec Ideal S1x256x512 .bf16) (x6 : Vec Ideal S1x64x512 .bf16)

/-- The attention block's pieces, each an `out`. -/
theorem out0_7_eq : Gen.out0_7 (F := Ideal) i x0 x1 x2 x3 x4 x5 x6 = View.canon [
    ⟨r0_27, out (score 1#32 0 (slope 6) (maskB i) (keysB (View.ld x2 r0_22) (View.ld x3 r0_9)) (View.ld x0 r0_23))
      (score 1#32 1 (slope 7) (maskB i) (keysB (View.ld x2 r0_22) (View.ld x3 r0_9)) (View.ld x0 r0_23)) (keysB (View.ld x5 r0_22) (View.ld x6 r0_9))⟩,
    ⟨r0_26, out (score 1#32 0 (slope 4) (maskB i) (keysB (View.ld x2 r0_20) (View.ld x3 r0_6)) (View.ld x0 r0_21))
      (score 1#32 1 (slope 5) (maskB i) (keysB (View.ld x2 r0_20) (View.ld x3 r0_6)) (View.ld x0 r0_21)) (keysB (View.ld x5 r0_20) (View.ld x6 r0_6))⟩,
    ⟨r0_25, out (score 1#32 0 (slope 2) (maskB i) (keysB (View.ld x2 r0_18) (View.ld x3 r0_3)) (View.ld x0 r0_19))
      (score 1#32 1 (slope 3) (maskB i) (keysB (View.ld x2 r0_18) (View.ld x3 r0_3)) (View.ld x0 r0_19)) (keysB (View.ld x5 r0_18) (View.ld x6 r0_3))⟩,
    ⟨r0_24, out (score 1#32 0 (slope 0) (maskB i) (keysB (View.ld x2 r0_16) (View.ld x3 r0_0)) (View.ld x0 r0_17))
      (score 1#32 1 (slope 1) (maskB i) (keysB (View.ld x2 r0_16) (View.ld x3 r0_0)) (View.ld x0 r0_17)) (keysB (View.ld x5 r0_16) (View.ld x6 r0_0))⟩,
    ⟨r0_15, out (score 1#32 0 (slope 6) (k0_pay9 i) (keysA (View.ld x1 r0_9) (View.ld x2 r0_10)) (View.ld x0 r0_11))
      (score 1#32 1 (slope 7) (k0_pay9 i) (keysA (View.ld x1 r0_9) (View.ld x2 r0_10)) (View.ld x0 r0_11)) (keysA (View.ld x4 r0_9) (View.ld x5 r0_10))⟩,
    ⟨r0_14, out (score 1#32 0 (slope 4) (k0_pay9 i) (keysA (View.ld x1 r0_6) (View.ld x2 r0_7)) (View.ld x0 r0_8))
      (score 1#32 1 (slope 5) (k0_pay9 i) (keysA (View.ld x1 r0_6) (View.ld x2 r0_7)) (View.ld x0 r0_8)) (keysA (View.ld x4 r0_6) (View.ld x5 r0_7))⟩,
    ⟨r0_13, out (score 1#32 0 (slope 2) (k0_pay9 i) (keysA (View.ld x1 r0_3) (View.ld x2 r0_4)) (View.ld x0 r0_5))
      (score 1#32 1 (slope 3) (k0_pay9 i) (keysA (View.ld x1 r0_3) (View.ld x2 r0_4)) (View.ld x0 r0_5)) (keysA (View.ld x4 r0_3) (View.ld x5 r0_4))⟩,
    ⟨r0_12, out (score 1#32 0 (slope 0) (k0_pay9 i) (keysA (View.ld x1 r0_0) (View.ld x2 r0_1)) (View.ld x0 r0_2))
      (score 1#32 1 (slope 1) (k0_pay9 i) (keysA (View.ld x1 r0_0) (View.ld x2 r0_1)) (View.ld x0 r0_2)) (keysA (View.ld x4 r0_0) (View.ld x5 r0_1))⟩] := rfl

/-- The log-sum-exp block's pieces, each an `lse`. -/
theorem out0_8_eq : Gen.out0_8 (F := Ideal) i x0 x1 x2 x3 x4 x5 x6 = View.canon [
    ⟨r0_27, lse (score 1#32 0 (slope 6) (maskB i) (keysB (View.ld x2 r0_22) (View.ld x3 r0_9)) (View.ld x0 r0_23))
      (score 1#32 1 (slope 7) (maskB i) (keysB (View.ld x2 r0_22) (View.ld x3 r0_9)) (View.ld x0 r0_23))⟩,
    ⟨r0_26, lse (score 1#32 0 (slope 4) (maskB i) (keysB (View.ld x2 r0_20) (View.ld x3 r0_6)) (View.ld x0 r0_21))
      (score 1#32 1 (slope 5) (maskB i) (keysB (View.ld x2 r0_20) (View.ld x3 r0_6)) (View.ld x0 r0_21))⟩,
    ⟨r0_25, lse (score 1#32 0 (slope 2) (maskB i) (keysB (View.ld x2 r0_18) (View.ld x3 r0_3)) (View.ld x0 r0_19))
      (score 1#32 1 (slope 3) (maskB i) (keysB (View.ld x2 r0_18) (View.ld x3 r0_3)) (View.ld x0 r0_19))⟩,
    ⟨r0_24, lse (score 1#32 0 (slope 0) (maskB i) (keysB (View.ld x2 r0_16) (View.ld x3 r0_0)) (View.ld x0 r0_17))
      (score 1#32 1 (slope 1) (maskB i) (keysB (View.ld x2 r0_16) (View.ld x3 r0_0)) (View.ld x0 r0_17))⟩,
    ⟨r0_15, lse (score 1#32 0 (slope 6) (k0_pay9 i) (keysA (View.ld x1 r0_9) (View.ld x2 r0_10)) (View.ld x0 r0_11))
      (score 1#32 1 (slope 7) (k0_pay9 i) (keysA (View.ld x1 r0_9) (View.ld x2 r0_10)) (View.ld x0 r0_11))⟩,
    ⟨r0_14, lse (score 1#32 0 (slope 4) (k0_pay9 i) (keysA (View.ld x1 r0_6) (View.ld x2 r0_7)) (View.ld x0 r0_8))
      (score 1#32 1 (slope 5) (k0_pay9 i) (keysA (View.ld x1 r0_6) (View.ld x2 r0_7)) (View.ld x0 r0_8))⟩,
    ⟨r0_13, lse (score 1#32 0 (slope 2) (k0_pay9 i) (keysA (View.ld x1 r0_3) (View.ld x2 r0_4)) (View.ld x0 r0_5))
      (score 1#32 1 (slope 3) (k0_pay9 i) (keysA (View.ld x1 r0_3) (View.ld x2 r0_4)) (View.ld x0 r0_5))⟩,
    ⟨r0_12, lse (score 1#32 0 (slope 0) (k0_pay9 i) (keysA (View.ld x1 r0_0) (View.ld x2 r0_1)) (View.ld x0 r0_2))
      (score 1#32 1 (slope 1) (k0_pay9 i) (keysA (View.ld x1 r0_0) (View.ld x2 r0_1)) (View.ld x0 r0_2))⟩] := rfl

/-! ## The functions at an index -/

/-- The head of a lane of a pair. -/
def headOf (p : Fin 4) (l : Fin 128) : Fin 8 := ⟨2 * p.val + l.val / 64, by omega⟩

/-- The dimension of a lane of a pair. -/
def dimOf (l : Fin 128) : Fin 64 := ⟨l.val % 64, by omega⟩

/-- The lane mask is set on the first head's lanes. -/
theorem lane_iff (x : Fin 128) : IntOp.cmpi CmpIPredicate.slt (BitVec.ofNat 32 x.val) 64#32 = 1#1 ↔ x.val < 64 := by
  rw [slt_iff (toInt_nat x.val (by omega)) (show (64#32 : BitVec 32).toInt = 64 by decide)]
  omega

/-- The complement of the lane mask is set on the second head's lanes. -/
theorem lane_not_iff (x : Fin 128) : IntOp.xori (IntOp.cmpi CmpIPredicate.slt (BitVec.ofNat 32 x.val) 64#32) 1#1 = 1#1 ↔ ¬ x.val < 64 := by
  rw [← lane_iff x]
  generalize IntOp.cmpi CmpIPredicate.slt (BitVec.ofNat 32 x.val) 64#32 = w
  revert w; decide

/-- How far a key's row lies after a query's, from the kernel's word arithmetic. -/
theorem toInt_offset (a : Fin 128) (b : Fin 256) :
    (IntOp.subi (IntOp.subi (BitVec.ofNat 32 b.val) 64#32) (BitVec.ofNat 32 a.val)).toInt = (b.val : ℤ) - 64 - a.val :=
  toInt_sub (toInt_sub (toInt_nat b.val (by omega)) (show (64#32 : BitVec 32).toInt = 64 by decide) (by omega) (by omega))
    (toInt_nat a.val (by omega)) (by omega) (by omega)

/-- The distance of a key from a query as the kernel's word arithmetic has it. -/
theorem distance (D : ℕ) (hD : D ≤ 16) (a : Fin 128) (b : Fin 256) :
    FloatOps.sitofp (F := Ideal) FTy.f32 (IntOp.muli (BitVec.ofNat 32 D) (IntOp.absi (IntOp.subi (IntOp.subi (BitVec.ofNat 32 b.val) 64#32) (BitVec.ofNat 32 a.val))))
      = ((((D : ℤ) * |(b.val : ℤ) - 64 - a.val| : ℤ) : ℝ) : EReal) := by
  have h := toInt_abs (toInt_offset a b) (by omega)
  have hb : |(b.val : ℤ) - 64 - a.val| ≤ 1000 := abs_le.2 ⟨by omega, by omega⟩
  have h0 := abs_nonneg ((b.val : ℤ) - 64 - a.val)
  have hl : (D : ℤ) * |(b.val : ℤ) - 64 - a.val| ≤ 16 * 1000 := mul_le_mul (by omega) hb h0 (by omega)
  have hg : 0 ≤ (D : ℤ) * |(b.val : ℤ) - 64 - a.val| := mul_nonneg (by omega) h0
  rw [sitofp_eq (toInt_mul (toInt_nat D (by omega)) h (by omega) (by omega))]

/-- The first head's scores at a query and a key. -/
theorem score_first (D : ℕ) (hD : D ≤ 16) (c : BitVec 32) (mask : IVec S128x256 1) (k : FVec Ideal S256x128 .bf16) (q : FVec Ideal S1x128x128 .bf16)
    (a : Fin 128) (b : Fin 256) :
    score (BitVec.ofNat 32 D) 0 c mask k q (ix2 a b) = Scalar.select (mask (ix2 a b))
      ((∑ d : Fin 64, q (ix3 0 a ⟨d.val, by omega⟩) * k (ix2 b ⟨d.val, by omega⟩)) * Ideal.ofBits .f32 0x3E000000#32
        - Ideal.ofBits .f32 c * ((((D : ℤ) * |(b.val : ℤ) - 64 - a.val| : ℤ) : ℝ) : EReal)) ⊥ := by
  have hl : lanes 0 = k0_pay7 := rfl
  pointwise [score, headOnly, hl, distances, k0_pay4, k0_pay3, k0_pay7]
  simp only [select_iff (lane_iff _)]
  rw [AttnSpec.sum_low (fun x => q (ix3 0 a x) * k (ix2 b x)), distance D hD]
  rfl

/-- The second head's scores at a query and a key. -/
theorem score_second (D : ℕ) (hD : D ≤ 16) (c : BitVec 32) (mask : IVec S128x256 1) (k : FVec Ideal S256x128 .bf16) (q : FVec Ideal S1x128x128 .bf16)
    (a : Fin 128) (b : Fin 256) :
    score (BitVec.ofNat 32 D) 1 c mask k q (ix2 a b) = Scalar.select (mask (ix2 a b))
      ((∑ d : Fin 64, q (ix3 0 a ⟨64 + d.val, by omega⟩) * k (ix2 b ⟨64 + d.val, by omega⟩)) * Ideal.ofBits .f32 0x3E000000#32
        - Ideal.ofBits .f32 c * ((((D : ℤ) * |(b.val : ℤ) - 64 - a.val| : ℤ) : ℝ) : EReal)) ⊥ := by
  have hl : lanes 1 = xori k0_pay7 (constantI S256x128 1 1#1) := rfl
  pointwise [score, headOnly, hl, distances, k0_pay4, k0_pay3, k0_pay7]
  simp only [select_iff (lane_not_iff _), ite_not]
  rw [AttnSpec.sum_high (fun x => q (ix3 0 a x) * k (ix2 b x)), distance D hD]
  rfl

/-- A row's largest score. -/
def top (s : FVec Ideal S128x256 .f32) (a : Fin 128) : EReal := Finset.univ.fold max ⊥ fun b : Fin 256 => s (ix2 a b)

/-- A row's sum of exponentials. -/
def mass (s : FVec Ideal S128x256 .f32) (a : Fin 128) : EReal := ∑ b : Fin 256, Ideal.exp (s (ix2 a b) - top s a)

/-- The pattern of `−∞` denotes `⊥`. -/
theorem ofBits_bot : Ideal.ofBits .f32 4286578688#32 = (⊥ : EReal) := by
  show Ideal.ieee 8 23 4286578688#32 = (⊥ : EReal)
  unfold Ideal.ieee
  simp only []
  rw [if_pos (by decide), if_pos (by decide), if_pos (by decide)]

/-- The attention of a pair of heads at a query and a lane. -/
theorem out_apply (s0 s1 : FVec Ideal S128x256 .f32) (v : FVec Ideal S256x128 .bf16) (a l : Fin 128) :
    out s0 s1 v (ix4 0 0 a l) =
      if l.val < 64 then (∑ b : Fin 256, Ideal.exp (s0 (ix2 a b) - top s0 a) * v (ix2 b l)) * Ideal.div 1 (mass s0 a)
      else (∑ b : Fin 256, Ideal.exp (s1 (ix2 a b) - top s1 a) * v (ix2 b l)) * Ideal.div 1 (mass s1 a) := by
  have h0 : lanes 0 = k0_pay7 := rfl
  have h1 : lanes 1 = xori k0_pay7 (constantI S256x128 1 1#1) := rfl
  pointwise [out, weighted, byLane, rowSum, probs, rowMax, k0_pay8, headOnly, h0, h1, k0_pay7]
  simp only [select_iff (lane_not_iff _), select_iff (lane_iff _), ite_not, ofBits_bot]
  by_cases h : l.val < 64
  · simp only [if_pos h, Finset.sum_const_zero, add_zero]; rfl
  · simp only [if_neg h, Finset.sum_const_zero, zero_add]; rfl

/-- The log-sum-exp of a pair of heads at a query and a lane. -/
theorem lse_apply (s0 s1 : FVec Ideal S128x256 .f32) (a l : Fin 128) :
    lse s0 s1 (ix4 0 0 a l) = if l.val < 64 then top s0 a + Ideal.log (mass s0 a) else top s1 a + Ideal.log (mass s1 a) := by
  pointwise [lse, byLane, rowSum, probs, rowMax, k0_pay8]
  simp only [select_iff (lane_iff _), ofBits_bot]
  rfl

/-- The keys of the first half at a row and a lane. -/
theorem keysA_apply (p : FVec Ideal S1x64x128 .bf16) (c : FVec Ideal S1x192x128 .bf16) (b : Fin 256) (l : Fin 128) :
    keysA p c (ix2 b l) = if h : b.val < 64 then p (ix3 0 ⟨b.val, h⟩ l) else c (ix3 0 ⟨b.val - 64, by omega⟩ l) := by
  pointwise [keysA]

/-- The keys of the second half at a row and a lane. -/
theorem keysB_apply (c : FVec Ideal S1x192x128 .bf16) (n : FVec Ideal S1x64x128 .bf16) (b : Fin 256) (l : Fin 128) :
    keysB c n (ix2 b l) = if h : b.val < 192 then c (ix3 0 ⟨b.val, h⟩ l) else n (ix3 0 ⟨b.val - 192, by omega⟩ l) := by
  pointwise [keysB]

/-- The mask of the first half: within 64 of the query, and a token of the sequence. -/
theorem maskA_apply (hi : (i 1).val < 8) (a : Fin 128) (b : Fin 256) :
    k0_pay9 i (ix2 a b) = 1#1 ↔ |(b.val : ℤ) - 64 - a.val| ≤ 64 ∧ 0 ≤ 256 * ((i 1).val : ℤ) + b.val - 64 ∧ 256 * ((i 1).val : ℤ) + b.val - 64 < 2048 := by
  pointwise [k0_pay9, k0_pay5, k0_pay4, k0_pay3]
  have hp : (IntOp.addi (Scalar.addi (Scalar.muli (BitVec.ofNat 32 (i 1).val) 256#32) 0#32) (IntOp.subi (BitVec.ofNat 32 b.val) 64#32)).toInt
      = ((i 1).val : ℤ) * 256 + 0 + (b.val - 64) :=
    toInt_add (toInt_add (toInt_mul (toInt_nat _ (by omega)) (show (256#32 : BitVec 32).toInt = 256 by decide) (by omega) (by omega))
      (show (0#32 : BitVec 32).toInt = 0 by decide) (by omega) (by omega))
      (toInt_sub (toInt_nat b.val (by omega)) (show (64#32 : BitVec 32).toInt = 64 by decide) (by omega) (by omega)) (by omega) (by omega)
  rw [and_iff, and_iff, sle_iff (toInt_abs (toInt_offset a b) (by omega)) (show (64#32 : BitVec 32).toInt = 64 by decide),
    sge_iff hp (show (0#32 : BitVec 32).toInt = 0 by decide), slt_iff hp (show (2048#32 : BitVec 32).toInt = 2048 by decide), and_assoc]
  exact and_congr_right fun _ => by omega

/-- The mask of the second half: within 64 of the query, and a token of the sequence. -/
theorem maskB_apply (hi : (i 1).val < 8) (a : Fin 128) (b : Fin 256) :
    maskB i (ix2 a b) = 1#1 ↔ |(b.val : ℤ) - 64 - a.val| ≤ 64 ∧ 0 ≤ 256 * ((i 1).val : ℤ) + 128 + b.val - 64
      ∧ 256 * ((i 1).val : ℤ) + 128 + b.val - 64 < 2048 := by
  pointwise [maskB, k0_pay79, k0_pay5, k0_pay4, k0_pay3]
  have hp : (IntOp.addi (Scalar.addi (Scalar.muli (BitVec.ofNat 32 (i 1).val) 256#32) 128#32) (IntOp.subi (BitVec.ofNat 32 b.val) 64#32)).toInt
      = ((i 1).val : ℤ) * 256 + 128 + (b.val - 64) :=
    toInt_add (toInt_add (toInt_mul (toInt_nat _ (by omega)) (show (256#32 : BitVec 32).toInt = 256 by decide) (by omega) (by omega))
      (show (128#32 : BitVec 32).toInt = 128 by decide) (by omega) (by omega))
      (toInt_sub (toInt_nat b.val (by omega)) (show (64#32 : BitVec 32).toInt = 64 by decide) (by omega) (by omega)) (by omega) (by omega)
  rw [and_iff, and_iff, sle_iff (toInt_abs (toInt_offset a b) (by omega)) (show (64#32 : BitVec 32).toInt = 64 by decide),
    sge_iff hp (show (0#32 : BitVec 32).toInt = 0 by decide), slt_iff hp (show (2048#32 : BitVec 32).toInt = 2048 by decide), and_assoc]
  exact and_congr_right fun _ => by omega

/-! ## One piece -/

/-- The operands of a piece: queries `t0 … t0 + 127` of a pair of heads, and the 256 keys and values from `t0 − 64`. -/
structure IsPiece {N : ℕ} (Q K V : Seq N) (p : Fin 4) (t0 : ℕ) (mask : IVec S128x256 1) (k v : FVec Ideal S256x128 .bf16)
    (q : FVec Ideal S1x128x128 .bf16) : Prop where
  bound : t0 + 128 ≤ N
  mask : ∀ (a : Fin 128) (b : Fin 256), mask (ix2 a b) = 1#1 ↔
    |(b.val : ℤ) - 64 - a.val| ≤ 64 ∧ 0 ≤ (t0 : ℤ) + b.val - 64 ∧ (t0 : ℤ) + b.val - 64 < N
  keys : ∀ (b : Fin 256) (l : Fin 128) (κ : Fin N), (κ.val : ℤ) = t0 - 64 + b.val → k (ix2 b l) = K κ (headOf p l) (dimOf l)
  values : ∀ (b : Fin 256) (l : Fin 128) (κ : Fin N), (κ.val : ℤ) = t0 - 64 + b.val → v (ix2 b l) = V κ (headOf p l) (dimOf l)
  queries : ∀ (a l : Fin 128) (t : Fin N), t.val = t0 + a.val → q (ix3 0 a l) = Q t (headOf p l) (dimOf l)

section Piece

variable {N D : ℕ} {sl : Fin 8 → BitVec 32} {Q K V : Seq N} {p : Fin 4} {t0 : ℕ} {mask : IVec S128x256 1} {k v : FVec Ideal S256x128 .bf16} {q : FVec Ideal S1x128x128 .bf16}

/-- The first head's row of scores is a window of the sequence's scores. -/
theorem isRow_first (hD : D ≤ 16) (hp : IsPiece Q K V p t0 mask k v q) (h : Fin 8) (hh : h.val = 2 * p.val) (a : Fin 128) (t : Fin N) (ht : t.val = t0 + a.val) :
    AttnSpec.IsRow D sl Q K h t (t0 - 64) fun b : Fin 256 => score (BitVec.ofNat 32 D) 0 (sl h) mask k q (ix2 a b) where
  covers := by omega
  inside b κ e := by
    beta_reduce
    rw [score_first D hD, select_iff (hp.mask a b), AttnSpec.score, show (κ.val : ℤ) - t.val = b.val - 64 - a.val by omega]
    refine if_congr (and_iff_left ⟨by omega, by omega⟩) ?_ rfl
    congr 2
    refine Finset.sum_congr rfl fun d _ => ?_
    rw [hp.queries a _ t ht, hp.keys b _ κ e]
    have h1 : headOf p ⟨d.val, by omega⟩ = h := Fin.ext (by simp only [headOf]; omega)
    have h2 : dimOf ⟨d.val, by omega⟩ = d := Fin.ext (by simp only [dimOf]; omega)
    rw [h1, h2]
  outside b hb := by
    beta_reduce
    rw [score_first D hD, select_iff (hp.mask a b), if_neg]
    intro hm
    exact hb ⟨((t0 : ℤ) + b.val - 64).toNat, by omega⟩ (by show (((t0 : ℤ) + b.val - 64).toNat : ℤ) = _; omega)

/-- The second head's row of scores is a window of the sequence's scores. -/
theorem isRow_second (hD : D ≤ 16) (hp : IsPiece Q K V p t0 mask k v q) (h : Fin 8) (hh : h.val = 2 * p.val + 1) (a : Fin 128) (t : Fin N)
    (ht : t.val = t0 + a.val) :
    AttnSpec.IsRow D sl Q K h t (t0 - 64) fun b : Fin 256 => score (BitVec.ofNat 32 D) 1 (sl h) mask k q (ix2 a b) where
  covers := by omega
  inside b κ e := by
    beta_reduce
    rw [score_second D hD, select_iff (hp.mask a b), AttnSpec.score, show (κ.val : ℤ) - t.val = b.val - 64 - a.val by omega]
    refine if_congr (and_iff_left ⟨by omega, by omega⟩) ?_ rfl
    congr 2
    refine Finset.sum_congr rfl fun d _ => ?_
    rw [hp.queries a _ t ht, hp.keys b _ κ e]
    have h1 : headOf p ⟨64 + d.val, by omega⟩ = h := Fin.ext (by simp only [headOf]; omega)
    have h2 : dimOf ⟨64 + d.val, by omega⟩ = d := Fin.ext (by simp only [dimOf]; omega)
    rw [h1, h2]
  outside b hb := by
    beta_reduce
    rw [score_second D hD, select_iff (hp.mask a b), if_neg]
    intro hm
    exact hb ⟨((t0 : ℤ) + b.val - 64).toNat, by omega⟩ (by show (((t0 : ℤ) + b.val - 64).toNat : ℤ) = _; omega)

/-- A piece's attention is the sequence's. -/
theorem out_piece (hD : D ≤ 16) (hsl : ∀ h, ¬ ((sl h).extractLsb' 23 8).toNat = 2 ^ 8 - 1) (hQ : ∀ t h d, ∃ r : ℝ, Q t h d = r) (hK : ∀ t h d, ∃ r : ℝ, K t h d = r) (hp : IsPiece Q K V p t0 mask k v q)
    (h0 h1 : Fin 8) (e0 : h0.val = 2 * p.val) (e1 : h1.val = 2 * p.val + 1) (a l : Fin 128) (t : Fin N) (ht : t.val = t0 + a.val) :
    out (score (BitVec.ofNat 32 D) 0 (sl h0) mask k q) (score (BitVec.ofNat 32 D) 1 (sl h1) mask k q) v (ix4 0 0 a l) = AttnSpec.att D sl Q K V (headOf p l) t (dimOf l) := by
  rw [out_apply, ← AttnSpec.att_eq D sl hsl hQ hK]
  split
  · have hh : headOf p l = h0 := Fin.ext (by simp only [headOf]; omega)
    have hr := isRow_first (sl := sl) hD hp h0 e0 a t ht
    have ht' : top (score (BitVec.ofNat 32 D) 0 (sl h0) mask k q) a = AttnSpec.top D sl Q K h0 t := AttnSpec.row_top hr
    rw [mass, ht', hh, AttnSpec.row_sum hr, AttnSpec.row_weighted hr _ (fun κ => V κ h0 (dimOf l)) (fun b => v (ix2 b l))
      (fun b κ e => by rw [hp.values b l κ e, hh])]
    rfl
  · have hh : headOf p l = h1 := Fin.ext (by simp only [headOf]; omega)
    have hr := isRow_second (sl := sl) hD hp h1 e1 a t ht
    have ht' : top (score (BitVec.ofNat 32 D) 1 (sl h1) mask k q) a = AttnSpec.top D sl Q K h1 t := AttnSpec.row_top hr
    rw [mass, ht', hh, AttnSpec.row_sum hr, AttnSpec.row_weighted hr _ (fun κ => V κ h1 (dimOf l)) (fun b => v (ix2 b l))
      (fun b κ e => by rw [hp.values b l κ e, hh])]
    rfl

/-- A piece's log-sum-exp is the sequence's. -/
theorem lse_piece (hD : D ≤ 16) (hp : IsPiece Q K V p t0 mask k v q)
    (h0 h1 : Fin 8) (e0 : h0.val = 2 * p.val) (e1 : h1.val = 2 * p.val + 1) (a l : Fin 128) (t : Fin N) (ht : t.val = t0 + a.val) :
    lse (score (BitVec.ofNat 32 D) 0 (sl h0) mask k q) (score (BitVec.ofNat 32 D) 1 (sl h1) mask k q) (ix4 0 0 a l) = AttnSpec.lse D sl Q K (headOf p l) t := by
  rw [lse_apply]
  split
  · have hh : headOf p l = h0 := Fin.ext (by simp only [headOf]; omega)
    have hr := isRow_first (sl := sl) hD hp h0 e0 a t ht
    have ht' : top (score (BitVec.ofNat 32 D) 0 (sl h0) mask k q) a = AttnSpec.top D sl Q K h0 t := AttnSpec.row_top hr
    rw [mass, ht', hh, AttnSpec.row_sum hr]
    rfl
  · have hh : headOf p l = h1 := Fin.ext (by simp only [headOf]; omega)
    have hr := isRow_second (sl := sl) hD hp h1 e1 a t ht
    have ht' : top (score (BitVec.ofNat 32 D) 1 (sl h1) mask k q) a = AttnSpec.top D sl Q K h1 t := AttnSpec.row_top hr
    rw [mass, ht', hh, AttnSpec.row_sum hr]
    rfl

end Piece

end Cert.Proof.AttnBlock

end
-- ==== Proof.AttnArray.lean ====
/-
  The attention kernel's two result arrays: each block is the attention (log-sum-exp) of its 256 queries.
-/
module

public import proofs.«01_k».proof.Proof.AttnBlock
public import Idealize.ShloMosaic.Lib.Pipeline.ValueKit
public import Idealize.ShloMosaic.Lib.Claim

@[expose] public section

set_option maxRecDepth 16384

noncomputable section

namespace Cert.Proof.AttnArray

open Idealize.ShloMosaic Idealize.ShloMosaic.TcCoe Idealize.SL.Sem Cert.AttnIdeal Cert.AttnIdeal.Gen Cert.AttnIdeal.Facts
open AttnSpec (Seq slope)
open AttnBlock

/-- The head of a lane among 512. -/
def head (c : Fin 512) : Fin 8 := ⟨c.val / 64, by omega⟩

/-- The dimension of a lane among 512. -/
def dim (c : Fin 512) : Fin 64 := ⟨c.val % 64, by omega⟩

/-- The operand blocks of the 256 queries from `256 j`: their rows, and the keys and values 64 rows around them, of one
    sequence; the rows of the block before (after) are meant only where the sequence has them. -/
structure IsBlock {N : ℕ} (Q K V : Seq N) (j : ℕ) (x0 : Vec Ideal S1x256x512 .bf16) (x1 : Vec Ideal S1x64x512 .bf16) (x2 : Vec Ideal S1x256x512 .bf16)
    (x3 : Vec Ideal S1x64x512 .bf16) (x4 : Vec Ideal S1x64x512 .bf16) (x5 : Vec Ideal S1x256x512 .bf16) (x6 : Vec Ideal S1x64x512 .bf16) : Prop where
  queries : ∀ (r : Fin 256) (c : Fin 512) (t : Fin N), t.val = 256 * j + r.val → x0 (ix3 0 r c) = Q t (head c) (dim c)
  keysBefore : ∀ (r : Fin 64) (c : Fin 512) (t : Fin N), (t.val : ℤ) = 256 * j - 64 + r.val → x1 (ix3 0 r c) = K t (head c) (dim c)
  keysHere : ∀ (r : Fin 256) (c : Fin 512) (t : Fin N), t.val = 256 * j + r.val → x2 (ix3 0 r c) = K t (head c) (dim c)
  keysAfter : ∀ (r : Fin 64) (c : Fin 512) (t : Fin N), t.val = 256 * j + 256 + r.val → x3 (ix3 0 r c) = K t (head c) (dim c)
  valuesBefore : ∀ (r : Fin 64) (c : Fin 512) (t : Fin N), (t.val : ℤ) = 256 * j - 64 + r.val → x4 (ix3 0 r c) = V t (head c) (dim c)
  valuesHere : ∀ (r : Fin 256) (c : Fin 512) (t : Fin N), t.val = 256 * j + r.val → x5 (ix3 0 r c) = V t (head c) (dim c)
  valuesAfter : ∀ (r : Fin 64) (c : Fin 512) (t : Fin N), t.val = 256 * j + 256 + r.val → x6 (ix3 0 r c) = V t (head c) (dim c)

/-- What the mask of the queries from `t0` lets through: keys within 64 of the query that are tokens of the sequence. -/
def MaskAt (N t0 : ℕ) (mask : IVec S128x256 1) : Prop := ∀ (a : Fin 128) (b : Fin 256), mask (ix2 a b) = 1#1 ↔
  |(b.val : ℤ) - 64 - a.val| ≤ 64 ∧ 0 ≤ (t0 : ℤ) + b.val - 64 ∧ (t0 : ℤ) + b.val - 64 < N

section Block

variable {N j : ℕ} {Q K V : Seq N} {mask : IVec S128x256 1} {x0 : Vec Ideal S1x256x512 .bf16} {x1 : Vec Ideal S1x64x512 .bf16} {x2 : Vec Ideal S1x256x512 .bf16}
  {x3 : Vec Ideal S1x64x512 .bf16} {x4 : Vec Ideal S1x64x512 .bf16} {x5 : Vec Ideal S1x256x512 .bf16} {x6 : Vec Ideal S1x64x512 .bf16}

/-- A lane of pair `p` among 512. -/
def lane (p : Fin 4) (l : Fin 128) : Fin 512 := ⟨128 * p.val + l.val, by omega⟩

/-- A lane's head. -/
theorem head_lane (p : Fin 4) (l : Fin 128) : head (lane p l) = headOf p l := Fin.ext (by simp only [head, lane, headOf]; omega)

/-- A lane's dimension. -/
theorem dim_lane (p : Fin 4) (l : Fin 128) : dim (lane p l) = dimOf l := Fin.ext (by simp only [dim, lane, dimOf]; omega)

/-- The operands of a piece in the first half of a block. -/
theorem isPieceA (hb : IsBlock Q K V j x0 x1 x2 x3 x4 x5 x6) (hj : 256 * j + 256 ≤ N) (hm : MaskAt N (256 * j) mask) (p : Fin 4)
    {q : FVec Ideal S1x128x128 .bf16} {kp vp : FVec Ideal S1x64x128 .bf16} {kc vc : FVec Ideal S1x192x128 .bf16}
    (hq : ∀ a l, q (ix3 0 a l) = x0 (ix3 0 ⟨a.val, by omega⟩ (lane p l)))
    (hkp : ∀ a l, kp (ix3 0 a l) = x1 (ix3 0 a (lane p l))) (hkc : ∀ a l, kc (ix3 0 a l) = x2 (ix3 0 ⟨a.val, by omega⟩ (lane p l)))
    (hvp : ∀ a l, vp (ix3 0 a l) = x4 (ix3 0 a (lane p l))) (hvc : ∀ a l, vc (ix3 0 a l) = x5 (ix3 0 ⟨a.val, by omega⟩ (lane p l))) :
    IsPiece Q K V p (256 * j) mask (keysA kp kc) (keysA vp vc) q where
  bound := by omega
  mask := hm
  keys b l κ e := by
    rw [keysA_apply]
    split
    · rw [hkp, hb.keysBefore _ _ κ (by simp only []; omega), head_lane, dim_lane]
    · rw [hkc, hb.keysHere _ _ κ (by simp only []; omega), head_lane, dim_lane]
  values b l κ e := by
    rw [keysA_apply]
    split
    · rw [hvp, hb.valuesBefore _ _ κ (by simp only []; omega), head_lane, dim_lane]
    · rw [hvc, hb.valuesHere _ _ κ (by simp only []; omega), head_lane, dim_lane]
  queries a l t e := by rw [hq, hb.queries _ _ t (by simp only []; omega), head_lane, dim_lane]

/-- The operands of a piece in the second half of a block. -/
theorem isPieceB (hb : IsBlock Q K V j x0 x1 x2 x3 x4 x5 x6) (hj : 256 * j + 256 ≤ N) (hm : MaskAt N (256 * j + 128) mask) (p : Fin 4)
    {q : FVec Ideal S1x128x128 .bf16} {kn vn : FVec Ideal S1x64x128 .bf16} {kc vc : FVec Ideal S1x192x128 .bf16}
    (hq : ∀ a l, q (ix3 0 a l) = x0 (ix3 0 ⟨128 + a.val, by omega⟩ (lane p l)))
    (hkc : ∀ a l, kc (ix3 0 a l) = x2 (ix3 0 ⟨64 + a.val, by omega⟩ (lane p l))) (hkn : ∀ a l, kn (ix3 0 a l) = x3 (ix3 0 a (lane p l)))
    (hvc : ∀ a l, vc (ix3 0 a l) = x5 (ix3 0 ⟨64 + a.val, by omega⟩ (lane p l))) (hvn : ∀ a l, vn (ix3 0 a l) = x6 (ix3 0 a (lane p l))) :
    IsPiece Q K V p (256 * j + 128) mask (keysB kc kn) (keysB vc vn) q where
  bound := by omega
  mask := hm
  keys b l κ e := by
    rw [keysB_apply]
    split
    · rw [hkc, hb.keysHere _ _ κ (by simp only []; omega), head_lane, dim_lane]
    · rw [hkn, hb.keysAfter _ _ κ (by simp only []; omega), head_lane, dim_lane]
  values b l κ e := by
    rw [keysB_apply]
    split
    · rw [hvc, hb.valuesHere _ _ κ (by simp only []; omega), head_lane, dim_lane]
    · rw [hvn, hb.valuesAfter _ _ κ (by simp only []; omega), head_lane, dim_lane]
  queries a l t e := by rw [hq, hb.queries _ _ t (by simp only []; omega), head_lane, dim_lane]

/-- An index of a piece by its two coordinates that vary. -/
theorem exists_unit (x : S1x1x128x128.Idx) : ∃ a l : Fin 128, x = ix4 0 0 a l := by
  idx_vars x
  exact ⟨x2, x3, by rw [Subsingleton.elim x0 0, Subsingleton.elim x1 0]⟩

/-- The token of a row of a block. -/
def tokenOf (j : Fin 8) (s : Fin 256) : Fin 2048 := ⟨256 * j.val + s.val, by omega⟩

/-- A block of the attention result. -/
def blockOut (Q K V : Seq 2048) (j : Fin 8) : Vec Ideal S1x4x256x128 .f32 := fun y => AttnSpec.att 1 slope Q K V (headOf (y 1) (y 3)) (tokenOf j (y 2)) (dimOf (y 3))

/-- A block of the log-sum-exp result. -/
def blockLse (Q K : Seq 2048) (j : Fin 8) : Vec Ideal S1x4x256x128 .f32 := fun y => AttnSpec.lse 1 slope Q K (headOf (y 1) (y 3)) (tokenOf j (y 2))

/-- Pair 0's piece in the first half. -/
theorem pieceA0 (hb : IsBlock Q K V j x0 x1 x2 x3 x4 x5 x6) (hj : 256 * j + 256 ≤ N) (hm : MaskAt N (256 * j) mask) : IsPiece Q K V 0 (256 * j) mask
    (keysA (View.ld x1 r0_0) (View.ld x2 r0_1)) (keysA (View.ld x4 r0_0) (View.ld x5 r0_1)) (View.ld x0 r0_2) := by
  refine isPieceA hb hj hm 0 ?_ ?_ ?_ ?_ ?_ <;> intro a l <;> pointwise [lane]

/-- Pair 0's piece in the second half. -/
theorem pieceB0 (hb : IsBlock Q K V j x0 x1 x2 x3 x4 x5 x6) (hj : 256 * j + 256 ≤ N) (hm : MaskAt N (256 * j + 128) mask) : IsPiece Q K V 0 (256 * j + 128) mask
    (keysB (View.ld x2 r0_16) (View.ld x3 r0_0)) (keysB (View.ld x5 r0_16) (View.ld x6 r0_0)) (View.ld x0 r0_17) := by
  refine isPieceB hb hj hm 0 ?_ ?_ ?_ ?_ ?_ <;> intro a l <;> pointwise [lane]

/-- Where pair 0's piece in the first half lies in the block. -/
theorem embA0 (a l : Fin 128) : r0_12.emb (ix4 0 0 a l) = (ix4 0 0 ⟨a.val, by omega⟩ l : S1x4x256x128.Idx) := by
  blk_ext

/-- Where pair 0's piece in the second half lies in the block. -/
theorem embB0 (a l : Fin 128) : r0_24.emb (ix4 0 0 a l) = (ix4 0 0 ⟨128 + a.val, by omega⟩ l : S1x4x256x128.Idx) := by
  blk_ext

/-- Pair 1's piece in the first half. -/
theorem pieceA1 (hb : IsBlock Q K V j x0 x1 x2 x3 x4 x5 x6) (hj : 256 * j + 256 ≤ N) (hm : MaskAt N (256 * j) mask) : IsPiece Q K V 1 (256 * j) mask
    (keysA (View.ld x1 r0_3) (View.ld x2 r0_4)) (keysA (View.ld x4 r0_3) (View.ld x5 r0_4)) (View.ld x0 r0_5) := by
  refine isPieceA hb hj hm 1 ?_ ?_ ?_ ?_ ?_ <;> intro a l <;> pointwise [lane]

/-- Pair 1's piece in the second half. -/
theorem pieceB1 (hb : IsBlock Q K V j x0 x1 x2 x3 x4 x5 x6) (hj : 256 * j + 256 ≤ N) (hm : MaskAt N (256 * j + 128) mask) : IsPiece Q K V 1 (256 * j + 128) mask
    (keysB (View.ld x2 r0_18) (View.ld x3 r0_3)) (keysB (View.ld x5 r0_18) (View.ld x6 r0_3)) (View.ld x0 r0_19) := by
  refine isPieceB hb hj hm 1 ?_ ?_ ?_ ?_ ?_ <;> intro a l <;> pointwise [lane]

/-- Where pair 1's piece in the first half lies in the block. -/
theorem embA1 (a l : Fin 128) : r0_13.emb (ix4 0 0 a l) = (ix4 0 1 ⟨a.val, by omega⟩ l : S1x4x256x128.Idx) := by
  blk_ext

/-- Where pair 1's piece in the second half lies in the block. -/
theorem embB1 (a l : Fin 128) : r0_25.emb (ix4 0 0 a l) = (ix4 0 1 ⟨128 + a.val, by omega⟩ l : S1x4x256x128.Idx) := by
  blk_ext

/-- Pair 2's piece in the first half. -/
theorem pieceA2 (hb : IsBlock Q K V j x0 x1 x2 x3 x4 x5 x6) (hj : 256 * j + 256 ≤ N) (hm : MaskAt N (256 * j) mask) : IsPiece Q K V 2 (256 * j) mask
    (keysA (View.ld x1 r0_6) (View.ld x2 r0_7)) (keysA (View.ld x4 r0_6) (View.ld x5 r0_7)) (View.ld x0 r0_8) := by
  refine isPieceA hb hj hm 2 ?_ ?_ ?_ ?_ ?_ <;> intro a l <;> pointwise [lane]

/-- Pair 2's piece in the second half. -/
theorem pieceB2 (hb : IsBlock Q K V j x0 x1 x2 x3 x4 x5 x6) (hj : 256 * j + 256 ≤ N) (hm : MaskAt N (256 * j + 128) mask) : IsPiece Q K V 2 (256 * j + 128) mask
    (keysB (View.ld x2 r0_20) (View.ld x3 r0_6)) (keysB (View.ld x5 r0_20) (View.ld x6 r0_6)) (View.ld x0 r0_21) := by
  refine isPieceB hb hj hm 2 ?_ ?_ ?_ ?_ ?_ <;> intro a l <;> pointwise [lane]

/-- Where pair 2's piece in the first half lies in the block. -/
theorem embA2 (a l : Fin 128) : r0_14.emb (ix4 0 0 a l) = (ix4 0 2 ⟨a.val, by omega⟩ l : S1x4x256x128.Idx) := by
  blk_ext

/-- Where pair 2's piece in the second half lies in the block. -/
theorem embB2 (a l : Fin 128) : r0_26.emb (ix4 0 0 a l) = (ix4 0 2 ⟨128 + a.val, by omega⟩ l : S1x4x256x128.Idx) := by
  blk_ext

/-- Pair 3's piece in the first half. -/
theorem pieceA3 (hb : IsBlock Q K V j x0 x1 x2 x3 x4 x5 x6) (hj : 256 * j + 256 ≤ N) (hm : MaskAt N (256 * j) mask) : IsPiece Q K V 3 (256 * j) mask
    (keysA (View.ld x1 r0_9) (View.ld x2 r0_10)) (keysA (View.ld x4 r0_9) (View.ld x5 r0_10)) (View.ld x0 r0_11) := by
  refine isPieceA hb hj hm 3 ?_ ?_ ?_ ?_ ?_ <;> intro a l <;> pointwise [lane]

/-- Pair 3's piece in the second half. -/
theorem pieceB3 (hb : IsBlock Q K V j x0 x1 x2 x3 x4 x5 x6) (hj : 256 * j + 256 ≤ N) (hm : MaskAt N (256 * j + 128) mask) : IsPiece Q K V 3 (256 * j + 128) mask
    (keysB (View.ld x2 r0_22) (View.ld x3 r0_9)) (keysB (View.ld x5 r0_22) (View.ld x6 r0_9)) (View.ld x0 r0_23) := by
  refine isPieceB hb hj hm 3 ?_ ?_ ?_ ?_ ?_ <;> intro a l <;> pointwise [lane]

/-- Where pair 3's piece in the first half lies in the block. -/
theorem embA3 (a l : Fin 128) : r0_15.emb (ix4 0 0 a l) = (ix4 0 3 ⟨a.val, by omega⟩ l : S1x4x256x128.Idx) := by
  blk_ext

/-- Where pair 3's piece in the second half lies in the block. -/
theorem embB3 (a l : Fin 128) : r0_27.emb (ix4 0 0 a l) = (ix4 0 3 ⟨128 + a.val, by omega⟩ l : S1x4x256x128.Idx) := by
  blk_ext

/-- The mask of the first half. -/
theorem maskA (i : grid0.Coords) (hi : (i 1).val < 8) : MaskAt 2048 (256 * (i 1).val) (k0_pay9 i) := fun a b => by
  rw [maskA_apply i hi a b]; push_cast; rfl

/-- The mask of the second half. -/
theorem maskB_at (i : grid0.Coords) (hi : (i 1).val < 8) : MaskAt 2048 (256 * (i 1).val + 128) (maskB i) := fun a b => by
  rw [maskB_apply i hi a b]; push_cast; rfl

/-- The attention block the body leaves. -/
theorem out_block {Q K V : Seq 2048} {i : grid0.Coords} (hQ : ∀ t h d, ∃ r : ℝ, Q t h d = r) (hK : ∀ t h d, ∃ r : ℝ, K t h d = r)
    (hb : IsBlock Q K V (i 1).val x0 x1 x2 x3 x4 x5 x6) (j : Fin 8) (hi : (i 1).val = j.val) (y : S1x4x256x128.Idx) :
    Gen.out0_7 (F := Ideal) i x0 x1 x2 x3 x4 x5 x6 y = blockOut Q K V j y := by
  rw [out0_7_eq]
  refine View.canon_apply_of_pieces (blockOut Q K V j) _ ?_ y (Gen.cover0_7 _ _ _ _ _ _ _ _ y)
  simp only [List.forall_mem_cons]
  refine ⟨?_, ?_, ?_, ?_, ?_, ?_, ?_, ?_, by simp⟩ <;> intro x <;> obtain ⟨a, l, rfl⟩ := exists_unit x
  · refine (out_piece (D := 1) (sl := slope) (by decide) AttnSpec.slope_exponent hQ hK (pieceB3 hb (by omega) (maskB_at i (by omega))) 6 7 rfl rfl a l (tokenOf j ⟨128 + a.val, by omega⟩) (by simp only [tokenOf]; omega)).trans ?_
    exact (congrArg (blockOut Q K V j) (embB3 a l)).symm
  · refine (out_piece (D := 1) (sl := slope) (by decide) AttnSpec.slope_exponent hQ hK (pieceB2 hb (by omega) (maskB_at i (by omega))) 4 5 rfl rfl a l (tokenOf j ⟨128 + a.val, by omega⟩) (by simp only [tokenOf]; omega)).trans ?_
    exact (congrArg (blockOut Q K V j) (embB2 a l)).symm
  · refine (out_piece (D := 1) (sl := slope) (by decide) AttnSpec.slope_exponent hQ hK (pieceB1 hb (by omega) (maskB_at i (by omega))) 2 3 rfl rfl a l (tokenOf j ⟨128 + a.val, by omega⟩) (by simp only [tokenOf]; omega)).trans ?_
    exact (congrArg (blockOut Q K V j) (embB1 a l)).symm
  · refine (out_piece (D := 1) (sl := slope) (by decide) AttnSpec.slope_exponent hQ hK (pieceB0 hb (by omega) (maskB_at i (by omega))) 0 1 rfl rfl a l (tokenOf j ⟨128 + a.val, by omega⟩) (by simp only [tokenOf]; omega)).trans ?_
    exact (congrArg (blockOut Q K V j) (embB0 a l)).symm
  · refine (out_piece (D := 1) (sl := slope) (by decide) AttnSpec.slope_exponent hQ hK (pieceA3 hb (by omega) (maskA i (by omega))) 6 7 rfl rfl a l (tokenOf j ⟨a.val, by omega⟩) (by simp only [tokenOf]; omega)).trans ?_
    exact (congrArg (blockOut Q K V j) (embA3 a l)).symm
  · refine (out_piece (D := 1) (sl := slope) (by decide) AttnSpec.slope_exponent hQ hK (pieceA2 hb (by omega) (maskA i (by omega))) 4 5 rfl rfl a l (tokenOf j ⟨a.val, by omega⟩) (by simp only [tokenOf]; omega)).trans ?_
    exact (congrArg (blockOut Q K V j) (embA2 a l)).symm
  · refine (out_piece (D := 1) (sl := slope) (by decide) AttnSpec.slope_exponent hQ hK (pieceA1 hb (by omega) (maskA i (by omega))) 2 3 rfl rfl a l (tokenOf j ⟨a.val, by omega⟩) (by simp only [tokenOf]; omega)).trans ?_
    exact (congrArg (blockOut Q K V j) (embA1 a l)).symm
  · refine (out_piece (D := 1) (sl := slope) (by decide) AttnSpec.slope_exponent hQ hK (pieceA0 hb (by omega) (maskA i (by omega))) 0 1 rfl rfl a l (tokenOf j ⟨a.val, by omega⟩) (by simp only [tokenOf]; omega)).trans ?_
    exact (congrArg (blockOut Q K V j) (embA0 a l)).symm

/-- The log-sum-exp block the body leaves. -/
theorem lse_block {Q K V : Seq 2048} {i : grid0.Coords} (hb : IsBlock Q K V (i 1).val x0 x1 x2 x3 x4 x5 x6) (j : Fin 8) (hi : (i 1).val = j.val) (y : S1x4x256x128.Idx) :
    Gen.out0_8 (F := Ideal) i x0 x1 x2 x3 x4 x5 x6 y = blockLse Q K j y := by
  rw [out0_8_eq]
  refine View.canon_apply_of_pieces (blockLse Q K j) _ ?_ y (Gen.cover0_8 _ _ _ _ _ _ _ _ y)
  simp only [List.forall_mem_cons]
  refine ⟨?_, ?_, ?_, ?_, ?_, ?_, ?_, ?_, by simp⟩ <;> intro x <;> obtain ⟨a, l, rfl⟩ := exists_unit x
  · refine (lse_piece (D := 1) (sl := slope) (by decide) (pieceB3 hb (by omega) (maskB_at i (by omega))) 6 7 rfl rfl a l (tokenOf j ⟨128 + a.val, by omega⟩) (by simp only [tokenOf]; omega)).trans ?_
    exact (congrArg (blockLse Q K j) (embB3 a l)).symm
  · refine (lse_piece (D := 1) (sl := slope) (by decide) (pieceB2 hb (by omega) (maskB_at i (by omega))) 4 5 rfl rfl a l (tokenOf j ⟨128 + a.val, by omega⟩) (by simp only [tokenOf]; omega)).trans ?_
    exact (congrArg (blockLse Q K j) (embB2 a l)).symm
  · refine (lse_piece (D := 1) (sl := slope) (by decide) (pieceB1 hb (by omega) (maskB_at i (by omega))) 2 3 rfl rfl a l (tokenOf j ⟨128 + a.val, by omega⟩) (by simp only [tokenOf]; omega)).trans ?_
    exact (congrArg (blockLse Q K j) (embB1 a l)).symm
  · refine (lse_piece (D := 1) (sl := slope) (by decide) (pieceB0 hb (by omega) (maskB_at i (by omega))) 0 1 rfl rfl a l (tokenOf j ⟨128 + a.val, by omega⟩) (by simp only [tokenOf]; omega)).trans ?_
    exact (congrArg (blockLse Q K j) (embB0 a l)).symm
  · refine (lse_piece (D := 1) (sl := slope) (by decide) (pieceA3 hb (by omega) (maskA i (by omega))) 6 7 rfl rfl a l (tokenOf j ⟨a.val, by omega⟩) (by simp only [tokenOf]; omega)).trans ?_
    exact (congrArg (blockLse Q K j) (embA3 a l)).symm
  · refine (lse_piece (D := 1) (sl := slope) (by decide) (pieceA2 hb (by omega) (maskA i (by omega))) 4 5 rfl rfl a l (tokenOf j ⟨a.val, by omega⟩) (by simp only [tokenOf]; omega)).trans ?_
    exact (congrArg (blockLse Q K j) (embA2 a l)).symm
  · refine (lse_piece (D := 1) (sl := slope) (by decide) (pieceA1 hb (by omega) (maskA i (by omega))) 2 3 rfl rfl a l (tokenOf j ⟨a.val, by omega⟩) (by simp only [tokenOf]; omega)).trans ?_
    exact (congrArg (blockLse Q K j) (embA1 a l)).symm
  · refine (lse_piece (D := 1) (sl := slope) (by decide) (pieceA0 hb (by omega) (maskA i (by omega))) 0 1 rfl rfl a l (tokenOf j ⟨a.val, by omega⟩) (by simp only [tokenOf]; omega)).trans ?_
    exact (congrArg (blockLse Q K j) (embA0 a l)).symm

end Block

/-- A sequence's queries (`w = 0`), keys (`w = 1`) or values (`w = 2`) in the array of all three. -/
def seqs (X : Vec Ideal S16x2048x1536 .bf16) (w : Fin 3) (b : Fin 16) : Seq 2048 := fun t h d =>
  X (ix3 b t ⟨512 * w.val + 64 * h.val + d.val, by omega⟩)

/-- The attention of every sequence, in the layout of the result: pairs of heads over 128 lanes. -/
def attention (X : Vec Ideal S16x2048x1536 .bf16) : Vec Ideal S16x4x2048x128 .f32 := fun y =>
  AttnSpec.att 1 slope (seqs X 0 (y 0)) (seqs X 1 (y 0)) (seqs X 2 (y 0)) (headOf (y 1) (y 3)) (y 2) (dimOf (y 3))

/-- The log-sum-exp of every sequence, in the same layout. -/
def logSumExp (X : Vec Ideal S16x2048x1536 .bf16) : Vec Ideal S16x4x2048x128 .f32 := fun y =>
  AttnSpec.lse 1 slope (seqs X 0 (y 0)) (seqs X 1 (y 0)) (headOf (y 1) (y 3)) (y 2)

/-- Which block each window stages at a point. -/
theorem index_facts : ∀ t : Fin cfg0.N, win0_0.index t 0 = (grid0.coords t 0).val ∧ win0_0.index t 1 = (grid0.coords t 1).val ∧ win0_0.index t 2 = 0
    ∧ win0_1.index t 0 = (grid0.coords t 0).val ∧ win0_1.index t 1 = 4 * (grid0.coords t 1).val - 1 ∧ win0_1.index t 2 = 1
    ∧ win0_2.index t 0 = (grid0.coords t 0).val ∧ win0_2.index t 1 = (grid0.coords t 1).val ∧ win0_2.index t 2 = 1
    ∧ win0_3.index t 0 = (grid0.coords t 0).val ∧ win0_3.index t 1 = min (4 * (grid0.coords t 1).val + 4) 31 ∧ win0_3.index t 2 = 1
    ∧ win0_4.index t 0 = (grid0.coords t 0).val ∧ win0_4.index t 1 = 4 * (grid0.coords t 1).val - 1 ∧ win0_4.index t 2 = 2
    ∧ win0_5.index t 0 = (grid0.coords t 0).val ∧ win0_5.index t 1 = (grid0.coords t 1).val ∧ win0_5.index t 2 = 2
    ∧ win0_6.index t 0 = (grid0.coords t 0).val ∧ win0_6.index t 1 = min (4 * (grid0.coords t 1).val + 4) 31 ∧ win0_6.index t 2 = 2
    ∧ win0_7.index t 0 = (grid0.coords t 0).val ∧ win0_7.index t 1 = 0 ∧ win0_7.index t 2 = (grid0.coords t 1).val ∧ win0_7.index t 3 = 0
    ∧ win0_8.index t 0 = (grid0.coords t 0).val ∧ win0_8.index t 1 = 0 ∧ win0_8.index t 2 = (grid0.coords t 1).val ∧ win0_8.index t 3 = 0 := by
  decide +kernel

section Arrays

variable (m : (ℓ : Loc nD τ sig) → Buf (Elt Ideal) ℓ)

/-- The array the region reads is the argument. -/
theorem entry_eq (c : Dev nD) : V m c main_v1 = m (c, Proc.tc.devRef main_arg0) := by
  funext x
  unfold V
  entry_read
  exact congrFun (shapeCast_shapeCast (m (c, Proc.tc.devRef main_arg0)) shapeCasts_S16x2048x1536_S32768x1536 shapeCasts_S32768x1536_S16x2048x1536) x

/-- The blocks a point reads are those of its queries. -/
theorem isBlock (c : Dev nD) (t : Fin cfg0.N) (b : Fin 16) (hb : (grid0.coords t 0).val = b.val) (hj : (grid0.coords t 1).val < 8) :
    IsBlock (seqs (m (c, Proc.tc.devRef main_arg0)) 0 b) (seqs (m (c, Proc.tc.devRef main_arg0)) 1 b) (seqs (m (c, Proc.tc.devRef main_arg0)) 2 b)
      (grid0.coords t 1).val (iblk m c 0 t) (iblk m c 1 t) (iblk m c 2 t) (iblk m c 3 t) (iblk m c 4 t) (iblk m c 5 t) (iblk m c 6 t) := by
  have hx := index_facts t
  refine ⟨?_, ?_, ?_, ?_, ?_, ?_, ?_⟩ <;> intro r e κ hκ <;> blk_simp [iblk] <;> rw [entry_eq, seqs] <;>
    refine congrArg (m (c, Proc.tc.devRef main_arg0)) ?_ <;> blk_ext <;> simp only [head, dim] <;> omega

/-- The grid's bounds. -/
theorem coords_lt (t : Fin cfg0.N) : (grid0.coords t 0).val < 16 ∧ (grid0.coords t 1).val < 8 :=
  (by decide +kernel : ∀ t : Fin cfg0.N, (grid0.coords t 0).val < 16 ∧ (grid0.coords t 1).val < 8) t

/-- Finite entries make finite sequences. -/
theorem seqs_real {X : Vec Ideal S16x2048x1536 .bf16} (hX : ∀ (b : Fin 16) (t : Fin 2048) (c : Fin 1536), c.val < 1024 → ∃ r : ℝ, X (ix3 b t c) = (r : EReal))
    (w : Fin 3) (hw : w.val < 2) (b : Fin 16) (t : Fin 2048) (h : Fin 8) (d : Fin 64) : ∃ r : ℝ, seqs X w b t h d = r :=
  hX b t _ (by simp only []; omega)

/-- The kernel's first result is the attention of its argument, whose queries and keys are finite. -/
theorem arr7 (c : Dev nD) (hX : ∀ (b : Fin 16) (t : Fin 2048) (e : Fin 1536), e.val < 1024 →
      ∃ r : ℝ, (m (c, Proc.tc.devRef main_arg0) : Vec Ideal S16x2048x1536 .bf16) (ix3 b t e) = (r : EReal)) :
    (dats m 0 c).arrAt 7 cfg0.N = attention (m (c, Proc.tc.devRef main_arg0)) := by
  refine (dats m 0 c).arrAt_eq_of_covers 7 _ (by decide +kernel) fun t hf y => ?_
  have hx := index_facts t
  blk_simp
  rw [after0_7, out_block (seqs_real hX 0 (by decide) _) (seqs_real hX 1 (by decide) _) (isBlock m c t ⟨(grid0.coords t 0).val, (coords_lt t).1⟩ rfl (coords_lt t).2)
    ⟨(grid0.coords t 1).val, (coords_lt t).2⟩ rfl]
  have e : (win0_7.blk t).view.emb y
      = ix4 ⟨(grid0.coords t 0).val, (coords_lt t).1⟩ (y 1) (tokenOf ⟨(grid0.coords t 1).val, (coords_lt t).2⟩ (y 2)) (y 3) := by
    blk_ext <;> simp only [tokenOf] <;> omega
  unfold blockOut attention
  rw [e]
  rfl

/-- The kernel's second result is the log-sum-exp of its argument. -/
theorem arr8 (c : Dev nD) : (dats m 0 c).arrAt 8 cfg0.N = logSumExp (m (c, Proc.tc.devRef main_arg0)) := by
  refine (dats m 0 c).arrAt_eq_of_covers 8 _ (by decide +kernel) fun t hf y => ?_
  have hx := index_facts t
  blk_simp
  rw [after0_8, lse_block (isBlock m c t ⟨(grid0.coords t 0).val, (coords_lt t).1⟩ rfl (coords_lt t).2)
    ⟨(grid0.coords t 1).val, (coords_lt t).2⟩ rfl]
  have e : (win0_8.blk t).view.emb y
      = ix4 ⟨(grid0.coords t 0).val, (coords_lt t).1⟩ (y 1) (tokenOf ⟨(grid0.coords t 1).val, (coords_lt t).2⟩ (y 2)) (y 3) := by
    blk_ext <;> simp only [tokenOf] <;> omega
  unfold blockLse logSumExp
  rw [e]
  rfl

end Arrays

end Cert.Proof.AttnArray

end
-- ==== Proof.AttnReference.lean ====
/-
  The reference's two results are the attention and the log-sum-exp of its argument.
-/
module

public import proofs.«01_k».proof.Proof.Gen.AttnRefIdeal.Read
public import proofs.«01_k».proof.Proof.AttnArray

@[expose] public section

set_option maxRecDepth 16384

noncomputable section

namespace Cert.Proof.AttnReference

open Idealize.ShloMosaic Cert.AttnRefIdeal Cert.AttnRefIdeal.Gen Cert.AttnRefIdeal.Facts Cert.AttnRefIdeal.Read Cert.Proof.Words
open AttnArray (seqs)
open scoped BigOperators

variable (x : (⟨S16x2048x1536, .bf16⟩ : BufTy).Contents (Elt Ideal))

/-- The token of a row of a block of 64. -/
def tokenOf (n : Fin 32) (u : Fin 64) : Fin 2048 := ⟨64 * n.val + u.val, by omega⟩

/-- The queries, by class and block of 64. -/
theorem queries_apply (b : Fin 16) (n : Fin 32) (u : Fin 64) (h : Fin 8) (d : Fin 64) :
    val_main_v19 x (ix6 b 0 n u h d) = seqs x 0 b (tokenOf n u) h d := by
  pointwise [val_main_v19, val_main_v18, val_main_v17, val_main_v3, val_main_v2, val_main_v1, val_main_v0]
  unfold seqs tokenOf
  congr 2 <;> apply Fin.ext <;> simp <;> omega

/-- The keys of a block: those of the class from 64 before the block. -/
theorem keys_apply (b : Fin 16) (n : Fin 32) (w : Fin 192) (h : Fin 8) (d : Fin 64) (κ : Fin 2048) (e : (κ.val : ℤ) = 64 * n.val - 64 + w.val) :
    val_main_v29 x (ix6 b 0 n w h d) = seqs x 1 b κ h d := by
  pointwise [val_main_v29, val_main_v28, val_main_v27, val_main_v26, val_main_v25, val_main_v24, val_main_v23, val_main_v22, val_main_v21,
    val_main_v20, val_main_v5, val_main_v4, val_main_v1, val_main_v0, val_main_call0_v0, val_main_c]
  unfold seqs
  split_ifs <;> first
    | (exfalso; omega)
    | (congr 2 <;> apply Fin.ext <;> simp <;> omega)

/-- The values of a block: those of the class from 64 before the block. -/
theorem values_apply (b : Fin 16) (n : Fin 32) (w : Fin 192) (h : Fin 8) (d : Fin 64) (κ : Fin 2048) (e : (κ.val : ℤ) = 64 * n.val - 64 + w.val) :
    val_main_v39 x (ix6 b 0 n w h d) = seqs x 2 b κ h d := by
  pointwise [val_main_v39, val_main_v38, val_main_v37, val_main_v36, val_main_v35, val_main_v34, val_main_v33, val_main_v32, val_main_v31,
    val_main_v30, val_main_v7, val_main_v6, val_main_v1, val_main_v0, val_main_call1_v0, val_main_c_7]
  unfold seqs
  split_ifs <;> first
    | (exfalso; omega)
    | (congr 2 <;> apply Fin.ext <;> simp <;> omega)

/-- The slopes. -/
theorem slopes_apply (h : Fin 8) : val_main_v16 (F := Ideal) (ix1 h) = Ideal.ofBits .f32 (AttnSpec.slope h) := by
  pointwise [val_main_v16]
  fin_cases h <;> rfl

/-- A key's place in the window less the query's. -/
theorem toInt_offset (u : Fin 64) (w : Fin 192) :
    (IntOp.subi (IntOp.subi (BitVec.ofNat 32 w.val) 64#32) (BitVec.ofNat 32 u.val)).toInt = (w.val : ℤ) - 64 - u.val :=
  toInt_sub (toInt_sub (toInt_nat w.val (by omega)) (show (64#32 : BitVec 32).toInt = 64 by decide) (by omega) (by omega))
    (toInt_nat u.val (by omega)) (by omega) (by omega)

/-- What the mask lets through. -/
theorem mask_apply (n : Fin 32) (u : Fin 64) (w : Fin 192) : val_main_v75 (F := Ideal) (ix3 n u w) = 1#1 ↔
    |(w.val : ℤ) - 64 - u.val| ≤ 64 ∧ 0 ≤ 64 * (n.val : ℤ) - 64 + w.val ∧ 64 * (n.val : ℤ) - 64 + w.val < 2048 := by
  pointwise [val_main_v75, val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45, val_main_v44,
    val_main_v43, val_main_c_9, val_main_c_10, val_main_c_11, val_main_c_12, val_main_c_13, val_main_c_14]
  have hp : (IntOp.addi (IntOp.muli (IntOp.subi (BitVec.ofNat 32 n.val) 1#32) 64#32) (BitVec.ofNat 32 w.val)).toInt
      = ((n.val : ℤ) - 1) * 64 + w.val :=
    toInt_add (toInt_mul (toInt_sub (toInt_nat _ (by omega)) (show (1#32 : BitVec 32).toInt = 1 by decide) (by omega) (by omega))
      (show (64#32 : BitVec 32).toInt = 64 by decide) (by omega) (by omega)) (toInt_nat _ (by omega)) (by omega) (by omega)
  rw [and_iff, and_iff, sle_iff (toInt_abs (toInt_offset u w) (by omega)) (show (64#32 : BitVec 32).toInt = 64 by decide),
    sge_iff hp (show (0#32 : BitVec 32).toInt = 0 by decide), slt_iff hp (show (2048#32 : BitVec 32).toInt = 2048 by decide)]
  exact and_congr_right fun _ => by omega

/-- The bias: the slope times the distance in the text, negated. -/
theorem bias_apply (h : Fin 8) (u : Fin 64) (w : Fin 192) : val_main_v85 (F := Ideal) (ix3 h u w)
    = -Ideal.ofBits .f32 (AttnSpec.slope h) * ((((1 : ℕ) * |(w.val : ℤ) - 64 - u.val| : ℤ) : ℝ) : EReal) := by
  pointwise [val_main_v85, val_main_v84, val_main_v83, val_main_v82, val_main_v81, val_main_v80, val_main_v79, val_main_v78, val_main_v77, val_main_v76,
    val_main_v51, val_main_v50, val_main_v49, val_main_v48, val_main_v47, val_main_v46, val_main_v45, val_main_v44, val_main_v43, val_main_c_9, val_main_c_15]
  have h1 := toInt_abs (toInt_offset u w) (by omega)
  have hb : |(w.val : ℤ) - 64 - u.val| ≤ 1000 := abs_le.2 ⟨by omega, by omega⟩
  have h0 := abs_nonneg ((w.val : ℤ) - 64 - u.val)
  rw [slopes_apply, sitofp_eq (toInt_mul (show (1#32 : BitVec 32).toInt = 1 by decide) h1 (by omega) (by omega)), Nat.cast_one]

/-- The scores of a block. -/
theorem score_apply (b : Fin 16) (n : Fin 32) (h : Fin 8) (u : Fin 64) (w : Fin 192) : val_main_v90 x (ix6 b 0 n h u w) =
    if |(w.val : ℤ) - 64 - u.val| ≤ 64 ∧ 0 ≤ 64 * (n.val : ℤ) - 64 + w.val ∧ 64 * (n.val : ℤ) - 64 + w.val < 2048 then
      (∑ d, val_main_v19 x (ix6 b 0 n u h d) * val_main_v29 x (ix6 b 0 n w h d)) * Ideal.ofBits .f32 0x3E000000#32
        - Ideal.ofBits .f32 (AttnSpec.slope h) * ((((1 : ℕ) * |(w.val : ℤ) - 64 - u.val| : ℤ) : ℝ) : EReal)
    else ⊥ := by
  rw [← select_iff (mask_apply n u w), sub_eq_add_neg, ← EReal.neg_mul, ← bias_apply]
  pointwise [val_main_v90, val_main_call2_v2, val_main_call2_v1, val_main_call2_v0, val_main_cst_16, val_main_v89, val_main_v88, val_main_v87, val_main_v86,
    val_main_v42, val_main_v40, val_main_v41, val_main_cst_8]
  exact congrArg _ (show Ideal.ofBits .f32 4286578688#32 = (⊥ : EReal) from AttnBlock.ofBits_bot)

/-- A block's row of scores is a window of the sequence's scores. -/
theorem isRow (b : Fin 16) (n : Fin 32) (h : Fin 8) (u : Fin 64) :
    AttnSpec.IsRow 1 AttnSpec.slope (seqs x 0 b) (seqs x 1 b) h (tokenOf n u) (64 * (n.val : ℤ) - 64) fun w : Fin 192 => val_main_v90 x (ix6 b 0 n h u w) where
  covers := by simp only [tokenOf]; omega
  inside w κ e := by
    beta_reduce
    have ht : (κ.val : ℤ) - (tokenOf n u).val = w.val - 64 - u.val := by simp only [tokenOf]; omega
    rw [score_apply, AttnSpec.score, ht]
    refine if_congr (and_iff_left ⟨by omega, by omega⟩) ?_ rfl
    congr 2
    refine Finset.sum_congr rfl fun d _ => ?_
    rw [queries_apply, keys_apply x b n w h d κ e]
  outside w hw := by
    beta_reduce
    rw [score_apply, if_neg]
    intro hm
    exact hw ⟨(64 * (n.val : ℤ) - 64 + w.val).toNat, by omega⟩ (by show ((64 * (n.val : ℤ) - 64 + w.val).toNat : ℤ) = _; omega)

/-- The scores are reduced over their last axis. -/
theorem reduces : S16x1x32x8x64x192.Reduces [5] S16x1x32x8x64 := by decide

/-- An index of the scores from one of the reduced array. -/
theorem lift_apply (b : Fin 16) (n : Fin 32) (h : Fin 8) (u : Fin 64) (w : Fin 192) :
    reduces.lift (ix5 b 0 n h u) w = (ix6 b 0 n h u w : S16x1x32x8x64x192.Idx) := by
  funext a
  fin_cases a <;> rfl

/-- The same index, as the sum names it. -/
theorem index_apply (b : Fin 16) (n : Fin 32) (h : Fin 8) (u : Fin 64) (w : Fin 192) :
    idx_main_v96 (ix5 b 0 n h u) w = (ix6 b 0 n h u w : S16x1x32x8x64x192.Idx) := by
  funext a
  fin_cases a <;> rfl

/-- The largest score. -/
theorem top_apply (b : Fin 16) (n : Fin 32) (h : Fin 8) (u : Fin 64) :
    val_main_v91 x (ix5 b 0 n h u) = AttnSpec.top 1 AttnSpec.slope (seqs x 0 b) (seqs x 1 b) h (tokenOf n u) := by
  rw [← AttnSpec.row_top (isRow x b n h u)]
  unfold val_main_v91
  generalize val_main_v90 x = s
  rw [Host.reduce_eq_fold_single FloatOps.maximumf _ _ reducesTo_S16x1x32x8x64x192_S16x1x32x8x64_d5 reduces h_S_]
  have hs : s ∘ reduces.lift (ix5 b 0 n h u) = fun w : Fin 192 => s (ix6 b 0 n h u w) := funext fun w => congrArg s (lift_apply b n h u w)
  have hi : val_main_cst_17 (F := Ideal) (Shape.Idx.first h_S_) = (⊥ : EReal) := AttnBlock.ofBits_bot
  rw [hs, hi]
  rfl

/-- The exponentials. -/
theorem shifted_apply (b : Fin 16) (n : Fin 32) (h : Fin 8) (u : Fin 64) (w : Fin 192) :
    val_main_v95 x (ix6 b 0 n h u w) = Ideal.exp (val_main_v90 x (ix6 b 0 n h u w) - val_main_v91 x (ix5 b 0 n h u)) := by
  pointwise [val_main_v95, val_main_v94, val_main_v93, val_main_v92]

/-- The sum of the exponentials. -/
theorem mass_apply (b : Fin 16) (n : Fin 32) (h : Fin 8) (u : Fin 64) :
    val_main_v96 x (ix5 b 0 n h u) = AttnSpec.mass 1 AttnSpec.slope (seqs x 0 b) (seqs x 1 b) h (tokenOf n u) := by
  rw [val_main_v96_apply, AttnSpec.mass, ← AttnSpec.row_sum (isRow x b n h u), ← top_apply]
  have hi : val_main_cst_18 (F := Ideal) (Shape.Idx.first h_S_) = (0 : EReal) := Ideal.ofBits_zero_f32
  rw [hi, zero_add]
  refine Finset.sum_congr rfl fun w _ => ?_
  rw [index_apply, shifted_apply]

/-- The log-sum-exp of a block. -/
theorem lse_apply (b : Fin 16) (n : Fin 32) (h : Fin 8) (u : Fin 64) :
    val_main_v98 x (ix5 b 0 n h u) = AttnSpec.lse 1 AttnSpec.slope (seqs x 0 b) (seqs x 1 b) h (tokenOf n u) := by
  rw [val_main_v98_apply, val_main_v97_apply, top_apply, mass_apply]
  rfl

/-- The attention of a block. -/
theorem att_apply (b : Fin 16) (n : Fin 32) (h : Fin 8) (d u : Fin 64) :
    val_main_v103 x (ix6 b 0 n h d u) = AttnSpec.att 1 AttnSpec.slope (seqs x 0 b) (seqs x 1 b) (seqs x 2 b) h (tokenOf n u) d := by
  pointwise [val_main_v103, val_main_v102, val_main_v101, val_main_v100, val_main_v99]
  rw [lse_apply]
  simp only [mul_comm (val_main_v39 x _)]
  exact AttnSpec.row_weighted (isRow x b n h u) _ (fun κ => seqs x 2 b κ h d) (fun w => val_main_v39 x (ix6 b 0 n w h d))
    (fun w κ e => values_apply x b n w h d κ e)

/-- The layout by pairs of heads. -/
theorem pairs_apply (s : (⟨S16x2048x8x64, .f32⟩ : BufTy).Contents (Elt Ideal)) (b : Fin 16) (p : Fin 4) (t : Fin 2048) (l : Fin 128) :
    transpose S16x4x2048x128 [0, 2, 1, 3] (shapeCast S16x2048x4x128 s shapeCasts_S16x2048x8x64_S16x2048x4x128)
      transposes_S16x2048x4x128_S16x4x2048x128_0_2_1_3 (ix4 b p t l)
    = s (ix4 b t ⟨p.val * 2 + l.val / 64, by omega⟩ ⟨l.val % 64, by omega⟩) := by
  pointwise

/-- The blocks of 64 put together. -/
theorem blocks_apply (s : (⟨S16x1x32x8x64x64, .f32⟩ : BufTy).Contents (Elt Ideal)) (b : Fin 16) (t : Fin 2048) (h : Fin 8) (d : Fin 64) :
    shapeCast S16x1x2048x8x64 (transpose S16x1x32x64x8x64 [0, 1, 2, 5, 3, 4] s transposes_S16x1x32x8x64x64_S16x1x32x64x8x64_0_1_2_5_3_4)
      shapeCasts_S16x1x32x64x8x64_S16x1x2048x8x64 (ix5 b 0 t h d)
    = s (ix6 b 0 ⟨t.val / 64, by omega⟩ h d ⟨t.val % 64, by omega⟩) := by
  pointwise

/-- The axis of one class dropped. -/
theorem unit_apply (s : (⟨S16x1x2048x8x64, .f32⟩ : BufTy).Contents (Elt Ideal)) (b : Fin 16) (t : Fin 2048) (h : Fin 8) (d : Fin 64) :
    shapeCast S16x2048x8x64 (transpose S16x2048x1x8x64 [0, 2, 1, 3, 4] s transposes_S16x1x2048x8x64_S16x2048x1x8x64_0_2_1_3_4)
      shapeCasts_S16x2048x1x8x64_S16x2048x8x64 (ix4 b t h d)
    = s (ix5 b 0 t h d) := by
  pointwise

/-- The blocks of 64 put together, for the log-sum-exp. -/
theorem rows_apply (s : (⟨S16x1x32x8x64, .f32⟩ : BufTy).Contents (Elt Ideal)) (b : Fin 16) (t : Fin 2048) (h : Fin 8) :
    shapeCast S16x1x2048x8 (transpose S16x1x32x64x8 [0, 1, 2, 4, 3] s transposes_S16x1x32x8x64_S16x1x32x64x8_0_1_2_4_3)
      shapeCasts_S16x1x32x64x8_S16x1x2048x8 (ix4 b 0 t h)
    = s (ix5 b 0 ⟨t.val / 64, by omega⟩ h ⟨t.val % 64, by omega⟩) := by
  pointwise

/-- The log-sum-exp over the lanes of its head. -/
theorem lanes_apply (s : (⟨S16x1x2048x8, .f32⟩ : BufTy).Contents (Elt Ideal)) (b : Fin 16) (t : Fin 2048) (h : Fin 8) (d : Fin 64) :
    broadcastInDim S16x2048x8x64 ![0, 1, 2, 3] bcast_S16x2048x8x1_S16x2048x8x64_0_1_2_3 (broadcastInDim S16x2048x8x1 ![0, 1, 2] bcast_S16x2048x8_S16x2048x8x1_0_1_2
      (shapeCast S16x2048x8 (transpose S16x2048x1x8 [0, 2, 1, 3] s transposes_S16x1x2048x8_S16x2048x1x8_0_2_1_3) shapeCasts_S16x2048x1x8_S16x2048x8)) (ix4 b t h d)
    = s (ix4 b 0 t h) := by
  pointwise

/-- The first result from the blocks. -/
theorem result_apply (b : Fin 16) (p : Fin 4) (t : Fin 2048) (l : Fin 128) : val_main_v113 x (ix4 b p t l)
    = val_main_v103 x (ix6 b 0 ⟨t.val / 64, by omega⟩ ⟨p.val * 2 + l.val / 64, by omega⟩ ⟨l.val % 64, by omega⟩ ⟨t.val % 64, by omega⟩) := by
  unfold val_main_v113 val_main_v112 val_main_v107 val_main_v106 val_main_v105 val_main_v104
  generalize val_main_v103 x = s
  exact (pairs_apply _ b p t l).trans ((unit_apply _ b t _ _).trans (blocks_apply s b t _ _))

/-- The second result from the blocks. -/
theorem result_lse_apply (b : Fin 16) (p : Fin 4) (t : Fin 2048) (l : Fin 128) : val_main_v117 x (ix4 b p t l)
    = val_main_v98 x (ix5 b 0 ⟨t.val / 64, by omega⟩ ⟨p.val * 2 + l.val / 64, by omega⟩ ⟨t.val % 64, by omega⟩) := by
  unfold val_main_v117 val_main_v116 val_main_v115 val_main_v114 val_main_v111 val_main_v110 val_main_v109 val_main_v108
  generalize val_main_v98 x = s
  exact (pairs_apply _ b p t l).trans ((lanes_apply _ b t _ _).trans (rows_apply s b t _))

/-- A lane's head. -/
theorem head_eq (p : Fin 4) (l : Fin 128) : (⟨p.val * 2 + l.val / 64, by omega⟩ : Fin 8) = AttnBlock.headOf p l :=
  Fin.ext (by show p.val * 2 + l.val / 64 = 2 * p.val + l.val / 64; omega)

/-- A token from its block and row. -/
theorem token_eq (t : Fin 2048) : tokenOf ⟨t.val / 64, by omega⟩ ⟨t.val % 64, by omega⟩ = t :=
  Fin.ext (by show 64 * (t.val / 64) + t.val % 64 = t.val; omega)

/-- The specification at an index. -/
theorem attention_apply (b : Fin 16) (p : Fin 4) (t : Fin 2048) (l : Fin 128) : AttnArray.attention x (ix4 b p t l)
    = AttnSpec.att 1 AttnSpec.slope (seqs x 0 b) (seqs x 1 b) (seqs x 2 b) (AttnBlock.headOf p l) t (AttnBlock.dimOf l) := rfl

/-- The specification at an index. -/
theorem logSumExp_apply (b : Fin 16) (p : Fin 4) (t : Fin 2048) (l : Fin 128) : AttnArray.logSumExp x (ix4 b p t l)
    = AttnSpec.lse 1 AttnSpec.slope (seqs x 0 b) (seqs x 1 b) (AttnBlock.headOf p l) t := rfl

/-- The reference's first result. -/
theorem attention_eq : val_main_v113 x = AttnArray.attention x := by
  funext y
  idx_vars y
  have hd : (⟨y3.val % 64, by omega⟩ : Fin 64) = AttnBlock.dimOf y3 := rfl
  rw [result_apply, att_apply, attention_apply, token_eq, head_eq, hd]

/-- The reference's second result. -/
theorem logSumExp_eq : val_main_v117 x = AttnArray.logSumExp x := by
  funext y
  idx_vars y
  rw [result_lse_apply, lse_apply, logSumExp_apply, token_eq, head_eq]

end Cert.Proof.AttnReference

end
-- ==== Proof.AttnClaim.lean ====
/- The claims about the attention programs, put together: the frames, the named constant, and the equality of the
   kernel's two results with the reference's for finite queries and keys. -/
module

public import proofs.«01_k».proof.Defs
public import proofs.«01_k».proof.Proof.AttnArray
public import proofs.«01_k».proof.Proof.AttnReference
public import proofs.«01_k».proof.Proof.Gen.Attn.Frame
public import proofs.«01_k».proof.Proof.Gen.AttnIdeal.Value
public import proofs.«01_k».proof.Proof.Gen.AttnRefIdeal.Run
public import proofs.«01_k».proof.Proof.Gen.AttnRefIdeal.Read
public import Idealize.ShloMosaic.Lib.Quiescent
public import Idealize.ShloMosaic.Lib.Pointwise

@[expose] public section

noncomputable section

namespace Cert.Proof.AttnClaim

open Idealize.ShloMosaic Idealize.SL.Sem

/-- The side conditions of the precondition's operations. -/
theorem preFacts : Cert.Pre_finite_qk.Facts where
  slices_S16x2048x1536_S16x2048x1024_0_0_0 := by decide
  bitsLt_bf16_f32 := by decide
  bcast_S_S16x2048x1024 := by decide

/-- The pattern of `+∞` denotes `⊤`. -/
theorem ofBits_top : (FloatOps.ofBits (F := Ideal) .f32 0x7F800000#32) = (⊤ : EReal) := by
  show Ideal.ieee 8 23 0x7F800000#32 = (⊤ : EReal)
  unfold Ideal.ieee
  simp only []
  rw [if_pos (by decide), if_pos (by decide), if_neg (by decide)]

/-- An extended real whose absolute value lies below `⊤` is a real number. -/
theorem real_of_abs_lt {x : EReal} (h : max x (-x) < ⊤) : ∃ r : ℝ, x = (r : EReal) := by
  induction x using EReal.rec with
  | bot => simp at h
  | coe r => exact ⟨r, rfl⟩
  | top => simp at h

/-- Where the precondition holds every query and key entry is a real number. -/
theorem finite_entries (x : Vec Ideal Cert.Pre_finite_qk.S16x2048x1536 .bf16)
    (h : (have := preFacts; Cert.Pre_finite_qk.fn (F := Ideal) x) = fun _ => 1#1)
    (b : Fin 16) (t : Fin 2048) (e : Fin 1536) (he : e.val < 1024) : ∃ r : ℝ, x (ix3 b t e) = (r : EReal) := by
  have h' := congrFun h (ix3 b t (⟨e.val, he⟩ : Fin 1024))
  apply real_of_abs_lt
  have := preFacts
  pointwise [Cert.Pre_finite_qk.fn] at h'
  have et := ofBits_top
  change Ideal.ofBits FTy.f32 2139095040#32 = (⊤ : EReal) at et
  rw [et] at h'
  by_contra hn
  exact absurd (congrArg BitVec.toNat (h'.symm.trans (congrArg BitVec.ofBool (decide_eq_false hn)))) (by decide)

/-- The kernel's frame, bit-exact. -/
theorem frame_p : Cert.quiescent_Attn (hAttn := Cert.Attn.Gen.facts) := fun m ρ _ => Cert.Attn.Gen.frame m ρ

/-- The kernel's frame over the extended reals. -/
theorem frame_pi : Cert.quiescent_AttnIdeal (hAttnIdeal := Cert.AttnIdeal.Gen.facts) := fun m ρ _ => Cert.AttnIdeal.Gen.frame m ρ

/-- The reference's frame. -/
theorem frame_ri : Cert.quiescent_AttnRefIdeal (hAttnRefIdeal := Cert.AttnRefIdeal.Gen.facts) := fun m ρ _ =>
  (θ_run Cert.AttnRefIdeal.defs _ _).mono (fun r h => ⟨fun c => (h c).2.2, sem_eq_zero_of_no_sems (by decide) r.2⟩)
    (Cert.AttnRefIdeal.Value.run (F := Ideal) m ρ)

/-- The mask constant is the table's `⊥`. -/
theorem preserves : Cert.preserves_Attn_AttnIdeal :=
  IdealRules.named_const.statement Cert.AttnIdeal.κ "mask" .f32 0xF149F2CA#32 ⊥ rfl

/-- The kernel's two results are the reference's, for finite queries and keys. -/
theorem algebraic : Cert.algebraic_AttnIdeal_AttnRefIdeal_pre_finite_qk (hAttnIdeal := Cert.AttnIdeal.Gen.facts)
    (hAttnRefIdeal := Cert.AttnRefIdeal.Gen.facts) (hPre_finite_qk := preFacts) := fun m ρ m' ρ' hp hm => by
  refine ⟨fun c => AttnArray.attention (m ((c.tc : Thread Cert.AttnIdeal.nD Cert.AttnIdeal.τ).loc Cert.AttnIdeal.main_arg0)),
    fun c => AttnArray.logSumExp (m ((c.tc : Thread Cert.AttnIdeal.nD Cert.AttnIdeal.τ).loc Cert.AttnIdeal.main_arg0)), ?_, ?_⟩
  · refine (θ_run Cert.AttnIdeal.defs _ _).mono (fun r h c => ⟨(h c).1.trans ?_, (h c).2.1.trans ?_, (h c).2.2⟩)
      (Cert.AttnIdeal.Value.run_blocks (F := Ideal) m ρ)
    · exact AttnArray.arr7 m c fun b t e he => finite_entries _ (hp c) b t e he
    · exact AttnArray.arr8 m c
  · refine (θ_run Cert.AttnRefIdeal.defs _ _).mono (fun r h c => ⟨(h c).1.trans ?_, (h c).2.1.trans ?_, (h c).2.2⟩)
      (Cert.AttnRefIdeal.Value.run (F := Ideal) m' ρ')
    · rw [Cert.AttnRefIdeal.Read.val_main_v113_eq, AttnReference.attention_eq, hm c]
    · rw [Cert.AttnRefIdeal.Read.val_main_v117_eq, AttnReference.logSumExp_eq, hm c]

end Cert.Proof.AttnClaim

end
-- ==== Proof.Project.lean ====
/- The projections: columns of the product of tokens and weights. -/
module

public import Idealize.ShloMosaic.Init
public import Idealize.ShloMosaic.Lib.Pointwise

@[expose] public section

noncomputable section

namespace Cert.Proof.Project

open Idealize.ShloMosaic

/-- The columns from `o` of the product of the tokens and the input weights, `n` of them. -/
def columns (o n : ℕ) (h : o + n ≤ 11776) (X : Vec Ideal ⟨2, ![32768, 2048]⟩ .bf16) (W : FVec Ideal ⟨2, ![2048, 11776]⟩ .f32) :
    FVec Ideal ⟨2, ![32768, n]⟩ .bf16 := fun y =>
  ∑ k : Fin 2048, X (ix2 (y 0) k) * W (ix2 k (⟨o + (y 1).val, lt_of_lt_of_le (Nat.add_lt_add_left (y 1).isLt o) h⟩ : Fin 11776))

/-- Group `g`'s queries, keys and values, `D` tokens to a row: column `j` of row `i` belongs to token `D i + j / 1536`, and
    holds, at position `j % 512`, its query, key or value as `j % 1536 / 512` is zero, one or two. -/
def grouped (g : ℕ) (hg : g < 3) (D R W' : ℕ) (hD : D * R = 32768) (hW : W' = D * 1536)
    (X : Vec Ideal ⟨2, ![32768, 2048]⟩ .bf16) (W : FVec Ideal ⟨2, ![2048, 11776]⟩ .f32) : FVec Ideal ⟨2, ![R, W']⟩ .bf16 := fun y =>
  ∑ k : Fin 2048, X (ix2 (⟨D * (y 0).val + (y 1).val / 1536, by
      have h0 : (y 0).val < R := (y 0).isLt
      have h1 : (y 1).val < W' := (y 1).isLt
      have : (y 1).val / 1536 < D := by rw [Nat.div_lt_iff_lt_mul (by omega)]; omega
      have : D * ((y 0).val + 1) ≤ D * R := Nat.mul_le_mul_left D h0
      rw [Nat.mul_add] at this; omega⟩ : Fin 32768) k)
    * W (ix2 k (⟨3072 + (y 1).val % 1536 / 512 * 1536 + g * 512 + (y 1).val % 512, by omega⟩ : Fin 11776))

end Cert.Proof.Project

end
-- ==== Proof.HProjValue.lean ====
/- The Hyena inputs: the kernel's array and the reference's are both the product of tokens and weights, at its first 3072
   columns. -/
module

public import proofs.«01_k».proof.Proof.Project
public import proofs.«01_k».proof.Proof.Gen.HProjIdeal.Value
public import proofs.«01_k».proof.Proof.Gen.HProjRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.HProj

open Idealize.ShloMosaic Idealize.ShloMosaic.TcCoe Idealize.SL.Sem Cert.HProjIdeal Cert.HProjIdeal.Gen Cert.HProjIdeal.Facts
open Project (columns)

/-- A block's product, at an index. -/
theorem product_apply (a : Vec Ideal S2048x2048 .bf16) (b : Vec Ideal S2048x512 .bf16) (r : Fin 2048) (c : Fin 512) :
    k0_pay1 (F := Ideal) a b (ix2 r c) = ∑ k : Fin 2048, a (ix2 r k) * b (ix2 k c) := by
  pointwise [k0_pay1]

/-- One block: the product of its tokens' rows and its columns. -/
theorem block (a : Vec Ideal S2048x2048 .bf16) (b : Vec Ideal S2048x512 .bf16) (r : Fin 2048) (c : Fin 512) :
    out0_2 (F := Ideal) a b (ix2 r c) = ∑ k : Fin 2048, a (ix2 r k) * b (ix2 k c) := by
  unfold out0_2 r0_0 r0_1
  rw [View.canon_cons_unit_lit _ _ _ (by decide), View.ld_unit_lit _ _ (by decide), View.ld_unit_lit _ _ (by decide), product_apply]

/-- Where the windows' blocks lie. -/
theorem index_facts : ∀ t : Fin cfg0.N, win0_0.index t 0 = (grid0.coords t 0).val ∧ win0_0.index t 1 = 0
    ∧ win0_1.index t 0 = 0 ∧ win0_1.index t 1 = (grid0.coords t 1).val
    ∧ win0_2.index t 0 = (grid0.coords t 0).val ∧ win0_2.index t 1 = (grid0.coords t 1).val := by
  decide +kernel

variable (m : (ℓ : Loc nD τ sig) → Buf (Elt Ideal) ℓ)

/-- The weights that the region reads are the argument's. -/
theorem entry_eq (c : Dev nD) : V m c main_v0 = m (c, Proc.tc.devRef main_arg1) := by
  funext x
  unfold V
  entry_read
  rfl

/-- The tokens that the region reads are the argument's. -/
theorem entry_tokens (c : Dev nD) : V m c main_arg0 = m (c, Proc.tc.devRef main_arg0) := V_main_arg0 m c

/-- The kernel's result. -/
theorem arr (c : Dev nD) : (dats m 0 c).arrAt 2 cfg0.N
    = columns 0 3072 (by decide) (m (c, Proc.tc.devRef main_arg0)) (m (c, Proc.tc.devRef main_arg1)) := by
  refine (dats m 0 c).arrAt_eq_of_covers 2 _ (by decide +kernel) fun t hf y => ?_
  have hx := index_facts t
  blk_simp
  rw [after0_2]
  idx_vars y
  rw [block]
  refine Finset.sum_congr (M := EReal) (s₁ := Finset.univ) (s₂ := Finset.univ) rfl fun k _ => congrArg₂ (fun a b : EReal => a * b) ?_ ?_
  · blk_simp [iblk]
    rw [entry_tokens]
    refine congrArg (m (c, Proc.tc.devRef main_arg0)) ?_
    blk_ext
  · blk_simp [iblk]
    rw [entry_eq]
    refine congrArg (m (c, Proc.tc.devRef main_arg1)) ?_
    blk_ext

/-- The reference's result. -/
theorem reference_eq (X : Vec Ideal S32768x2048 .bf16) (W : FVec Ideal S2048x11776 .f32) :
    Cert.HProjRefIdeal.Read.val_main_v3 X W = columns 0 3072 (by decide) X W := by
  funext y
  idx_vars y
  pointwise [Cert.HProjRefIdeal.Read.val_main_v3, Cert.HProjRefIdeal.Read.val_main_v2, Cert.HProjRefIdeal.Read.val_main_v1, Cert.HProjRefIdeal.Read.val_main_v0]
  refine Finset.sum_congr rfl fun k _ => ?_
  exact congrArg₂ (fun a b : EReal => a * b) rfl (congrArg W (congrArg (ix2 k) (Fin.ext (by simp))))

end Cert.Proof.HProj

end
-- ==== Proof.HProjClaim.lean ====
/- The claims about the Hyena input programs, put together. -/
module

public import proofs.«01_k».proof.Defs
public import proofs.«01_k».proof.Proof.HProjValue
public import proofs.«01_k».proof.Proof.Gen.HProj.Frame
public import proofs.«01_k».proof.Proof.Gen.HProjIdeal.Value
public import proofs.«01_k».proof.Proof.Gen.HProjRefIdeal.Run
public import proofs.«01_k».proof.Proof.Gen.HProjRefIdeal.Read
public import Idealize.ShloMosaic.Lib.Quiescent

@[expose] public section

noncomputable section

namespace Cert.Proof.HProjClaim

open Idealize.ShloMosaic Idealize.SL.Sem

/-- The kernel's frame, bit-exact. -/
theorem frame_p : Cert.quiescent_HProj (hHProj := Cert.HProj.Gen.facts) := fun m ρ _ => Cert.HProj.Gen.frame m ρ

/-- The kernel's frame over the extended reals. -/
theorem frame_pi : Cert.quiescent_HProjIdeal (hHProjIdeal := Cert.HProjIdeal.Gen.facts) := fun m ρ _ => Cert.HProjIdeal.Gen.frame m ρ

/-- The reference's frame. -/
theorem frame_ri : Cert.quiescent_HProjRefIdeal (hHProjRefIdeal := Cert.HProjRefIdeal.Gen.facts) := fun m ρ _ =>
  (θ_run Cert.HProjRefIdeal.defs _ _).mono (fun r h => ⟨fun c => (h c).2, sem_eq_zero_of_no_sems (by decide) r.2⟩)
    (Cert.HProjRefIdeal.Value.run (F := Ideal) m ρ)

/-- No operation is replaced. -/
theorem preserves : Cert.preserves_HProj_HProjIdeal := trivial

/-- The kernel's result is the reference's. -/
theorem algebraic : Cert.algebraic_HProjIdeal_HProjRefIdeal (hHProjIdeal := Cert.HProjIdeal.Gen.facts)
    (hHProjRefIdeal := Cert.HProjRefIdeal.Gen.facts) := fun m ρ m' ρ' _ hm => by
  refine ⟨fun c => (Cert.HProjIdeal.Gen.dats m 0 c).arrAt 2 Cert.HProjIdeal.cfg0.N, ?_, ?_⟩
  · exact Cert.HProjIdeal.Value.run_blocks (F := Ideal) m ρ
  · refine (θ_run Cert.HProjRefIdeal.defs _ _).mono (fun r h c => ⟨(h c).1.trans ?_, (h c).2⟩) (Cert.HProjRefIdeal.Value.run (F := Ideal) m' ρ')
    beta_reduce
    rw [HProj.arr, ← HProj.reference_eq, ← (hm c).1, ← (hm c).2]
    exact Cert.HProjRefIdeal.Read.val_main_v3_eq _ _

end Cert.Proof.HProjClaim

end
-- ==== Proof.GLogValue.lean ====
/- The gate logits: the kernel's array and the reference's are both the product of tokens and weights, at its
   columns from 7680. -/
module

public import proofs.«01_k».proof.Proof.HProjValue
public import proofs.«01_k».proof.Proof.Gen.GLogIdeal.Value
public import proofs.«01_k».proof.Proof.Gen.GLogRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.GLog

open Idealize.ShloMosaic Idealize.ShloMosaic.TcCoe Idealize.SL.Sem Cert.GLogIdeal Cert.GLogIdeal.Gen Cert.GLogIdeal.Facts
open Project (columns)

/-- One block: the product of its tokens' rows and its columns. -/
theorem block (a : Vec Ideal S2048x2048 .bf16) (b : Vec Ideal S2048x512 .bf16) (r : Fin 2048) (c : Fin 512) :
    out0_2 (F := Ideal) a b (ix2 r c) = ∑ k : Fin 2048, a (ix2 r k) * b (ix2 k c) := by
  exact HProj.block a b r c

/-- Where the windows' blocks lie. -/
theorem index_facts : ∀ t : Fin cfg0.N, win0_0.index t 0 = (grid0.coords t 0).val ∧ win0_0.index t 1 = 0
    ∧ win0_1.index t 0 = 0 ∧ win0_1.index t 1 = 15 + (grid0.coords t 1).val
    ∧ win0_2.index t 0 = (grid0.coords t 0).val ∧ win0_2.index t 1 = (grid0.coords t 1).val := by
  decide +kernel

variable (m : (ℓ : Loc nD τ sig) → Buf (Elt Ideal) ℓ)

/-- The weights that the region reads are the argument's. -/
theorem entry_eq (c : Dev nD) : V m c main_v0 = m (c, Proc.tc.devRef main_arg1) := by
  funext x
  unfold V
  entry_read
  rfl

/-- The tokens that the region reads are the argument's. -/
theorem entry_tokens (c : Dev nD) : V m c main_arg0 = m (c, Proc.tc.devRef main_arg0) := V_main_arg0 m c

/-- The kernel's result. -/
theorem arr (c : Dev nD) : (dats m 0 c).arrAt 2 cfg0.N
    = columns 7680 4096 (by decide) (m (c, Proc.tc.devRef main_arg0)) (m (c, Proc.tc.devRef main_arg1)) := by
  refine (dats m 0 c).arrAt_eq_of_covers 2 _ (by decide +kernel) fun t hf y => ?_
  have hx := index_facts t
  blk_simp
  rw [after0_2]
  idx_vars y
  rw [block]
  refine Finset.sum_congr (M := EReal) (s₁ := Finset.univ) (s₂ := Finset.univ) rfl fun k _ => congrArg₂ (fun a b : EReal => a * b) ?_ ?_
  · blk_simp [iblk]
    rw [entry_tokens]
    refine congrArg (m (c, Proc.tc.devRef main_arg0)) ?_
    blk_ext
  · blk_simp [iblk]
    rw [entry_eq]
    refine congrArg (m (c, Proc.tc.devRef main_arg1)) ?_
    blk_ext

/-- The reference's result. -/
theorem reference_eq (X : Vec Ideal S32768x2048 .bf16) (W : FVec Ideal S2048x11776 .f32) :
    Cert.GLogRefIdeal.Read.val_main_v3 X W = columns 7680 4096 (by decide) X W := by
  funext y
  idx_vars y
  pointwise [Cert.GLogRefIdeal.Read.val_main_v3, Cert.GLogRefIdeal.Read.val_main_v2, Cert.GLogRefIdeal.Read.val_main_v1, Cert.GLogRefIdeal.Read.val_main_v0]
  refine Finset.sum_congr rfl fun k _ => ?_
  exact congrArg₂ (fun a b : EReal => a * b) rfl (congrArg W (congrArg (ix2 k) (Fin.ext (by simp [Nat.add_comm]))))

end Cert.Proof.GLog

end
-- ==== Proof.GLogClaim.lean ====
/- The claims about the gate logit programs, put together. -/
module

public import proofs.«01_k».proof.Defs
public import proofs.«01_k».proof.Proof.GLogValue
public import proofs.«01_k».proof.Proof.Gen.GLog.Frame
public import proofs.«01_k».proof.Proof.Gen.GLogIdeal.Value
public import proofs.«01_k».proof.Proof.Gen.GLogRefIdeal.Run
public import proofs.«01_k».proof.Proof.Gen.GLogRefIdeal.Read
public import Idealize.ShloMosaic.Lib.Quiescent

@[expose] public section

noncomputable section

namespace Cert.Proof.GLogClaim

open Idealize.ShloMosaic Idealize.SL.Sem

/-- The kernel's frame, bit-exact. -/
theorem frame_p : Cert.quiescent_GLog (hGLog := Cert.GLog.Gen.facts) := fun m ρ _ => Cert.GLog.Gen.frame m ρ

/-- The kernel's frame over the extended reals. -/
theorem frame_pi : Cert.quiescent_GLogIdeal (hGLogIdeal := Cert.GLogIdeal.Gen.facts) := fun m ρ _ => Cert.GLogIdeal.Gen.frame m ρ

/-- The reference's frame. -/
theorem frame_ri : Cert.quiescent_GLogRefIdeal (hGLogRefIdeal := Cert.GLogRefIdeal.Gen.facts) := fun m ρ _ =>
  (θ_run Cert.GLogRefIdeal.defs _ _).mono (fun r h => ⟨fun c => (h c).2, sem_eq_zero_of_no_sems (by decide) r.2⟩)
    (Cert.GLogRefIdeal.Value.run (F := Ideal) m ρ)

/-- No operation is replaced. -/
theorem preserves : Cert.preserves_GLog_GLogIdeal := trivial

/-- The kernel's result is the reference's. -/
theorem algebraic : Cert.algebraic_GLogIdeal_GLogRefIdeal (hGLogIdeal := Cert.GLogIdeal.Gen.facts)
    (hGLogRefIdeal := Cert.GLogRefIdeal.Gen.facts) := fun m ρ m' ρ' _ hm => by
  refine ⟨fun c => (Cert.GLogIdeal.Gen.dats m 0 c).arrAt 2 Cert.GLogIdeal.cfg0.N, ?_, ?_⟩
  · exact Cert.GLogIdeal.Value.run_blocks (F := Ideal) m ρ
  · refine (θ_run Cert.GLogRefIdeal.defs _ _).mono (fun r h c => ⟨(h c).1.trans ?_, (h c).2⟩) (Cert.GLogRefIdeal.Value.run (F := Ideal) m' ρ')
    beta_reduce
    rw [GLog.arr, ← GLog.reference_eq, ← (hm c).1, ← (hm c).2]
    exact Cert.GLogRefIdeal.Read.val_main_v3_eq _ _

end Cert.Proof.GLogClaim

end
-- ==== Proof.Merging.lean ====
/- The merge of the branches, as mathematics: the attention groups weighed by their softmax denominators, the gated sum of the
   branches, the output projection on top of the residual, and the norm. -/
module

public import Idealize.ShloMosaic.Init
public import Idealize.ShloMosaic.Lib.Pointwise

@[expose] public section

noncomputable section

namespace Cert.Proof.Merging

open Idealize.ShloMosaic

/-- The largest of three log-sum-exps. -/
def top (l0 l1 l2 : EReal) : EReal := max (max l0 l1) l2

/-- The sum of the three weights, each relative to the largest. -/
def total (l0 l1 l2 : EReal) : EReal :=
  Ideal.exp (l0 - top l0 l1 l2) + Ideal.exp (l1 - top l0 l1 l2) + Ideal.exp (l2 - top l0 l1 l2)

/-- The mean of three values weighed by the exponentials of their log-sum-exps. -/
def mix (l0 l1 l2 o0 o1 o2 : EReal) : EReal :=
  Ideal.div (Ideal.exp (l0 - top l0 l1 l2) * o0 + Ideal.exp (l1 - top l0 l1 l2) * o1 + Ideal.exp (l2 - top l0 l1 l2) * o2)
    (total l0 l1 l2)

/-- The exponential of an extended real at most zero is a real number between zero and one. -/
theorem exp_real {x : EReal} (h : x ≤ 0) : ∃ r : ℝ, Ideal.exp x = (r : EReal) ∧ 0 ≤ r := by
  induction x using EReal.rec with
  | bot => exact ⟨0, rfl, le_refl _⟩
  | coe r => exact ⟨Real.exp r, rfl, (Real.exp_pos r).le⟩
  | top => exact absurd h (by simp)

/-- Relative to a real upper bound an extended real is at most zero. -/
theorem sub_nonpos_of_le {x : EReal} {m : ℝ} (h : x ≤ (m : EReal)) : x - (m : EReal) ≤ 0 :=
  EReal.sub_nonpos.mpr h

/-- The weights of three log-sum-exps whose maximum is real: three real numbers, not negative, of positive sum. -/
theorem weights_real {l0 l1 l2 : EReal} {m : ℝ} (h : top l0 l1 l2 = (m : EReal)) :
    ∃ a b c : ℝ, Ideal.exp (l0 - top l0 l1 l2) = (a : EReal) ∧ Ideal.exp (l1 - top l0 l1 l2) = (b : EReal)
      ∧ Ideal.exp (l2 - top l0 l1 l2) = (c : EReal) ∧ 0 < a + b + c ∧ 0 ≤ a ∧ 0 ≤ b ∧ 0 ≤ c := by
  have h0 : l0 ≤ (m : EReal) := h ▸ le_trans (le_max_left _ _) (le_max_left _ _)
  have h1 : l1 ≤ (m : EReal) := h ▸ le_trans (le_max_right _ _) (le_max_left _ _)
  have h2 : l2 ≤ (m : EReal) := h ▸ le_max_right _ _
  rw [h]
  obtain ⟨a, ha, pa⟩ := exp_real (sub_nonpos_of_le h0)
  obtain ⟨b, hb, pb⟩ := exp_real (sub_nonpos_of_le h1)
  obtain ⟨c, hc, pc⟩ := exp_real (sub_nonpos_of_le h2)
  refine ⟨a, b, c, ha, hb, hc, ?_, pa, pb, pc⟩
  have one : ∀ {l : EReal} {r : ℝ}, l = (m : EReal) → Ideal.exp (l - (m : EReal)) = (r : EReal) → r = 1 := by
    intro l r hl hr
    rw [hl, ← EReal.coe_sub, sub_self] at hr
    have : ((Real.exp 0 : ℝ) : EReal) = (r : EReal) := hr
    rw [Real.exp_zero] at this
    exact (EReal.coe_eq_coe_iff.mp this).symm
  unfold top at h
  rcases max_choice (max l0 l1) l2 with e | e
  · rcases max_choice l0 l1 with e' | e'
    · have := one (by rw [← h, e, e']) ha
      linarith
    · have := one (by rw [← h, e, e']) hb
      linarith
  · have := one (by rw [← h, e]) hc
    linarith

/-- Dividing each weight first gives the same mean, where the largest log-sum-exp is real. -/
theorem mix_eq {l0 l1 l2 : EReal} (o0 o1 o2 : EReal) {m : ℝ} (h : top l0 l1 l2 = (m : EReal)) :
    Ideal.div (Ideal.exp (l0 - top l0 l1 l2)) (total l0 l1 l2) * o0 + Ideal.div (Ideal.exp (l1 - top l0 l1 l2)) (total l0 l1 l2) * o1
      + Ideal.div (Ideal.exp (l2 - top l0 l1 l2)) (total l0 l1 l2) * o2 = mix l0 l1 l2 o0 o1 o2 := by
  obtain ⟨a, b, c, ha, hb, hc, hs, pa, pb, pc⟩ := weights_real h
  unfold mix total
  rw [ha, hb, hc, ← EReal.coe_add, ← EReal.coe_add]
  have hne : ((a + b + c : ℝ) : EReal) ≠ 0 := by
    intro e
    exact hs.ne' (EReal.coe_eq_coe_iff.mp (e.trans EReal.coe_zero.symm))
  unfold Ideal.div
  rw [if_neg hne, if_neg hne, if_neg hne, if_neg hne, ← EReal.coe_inv]
  have hp : (0 : EReal) ≤ (((a + b + c)⁻¹ : ℝ) : EReal) := EReal.coe_nonneg.mpr (inv_nonneg.mpr hs.le)
  rw [mul_comm (_ + _ + _) (((a + b + c)⁻¹ : ℝ) : EReal), EReal.left_distrib_of_nonneg_of_ne_top hp (EReal.coe_ne_top _),
    EReal.left_distrib_of_nonneg_of_ne_top hp (EReal.coe_ne_top _)]
  simp only [mul_comm, mul_left_comm, mul_assoc]

/-- A row of the gated sum of the two branches. -/
def gated (ga gb : Fin 2048 → EReal) (ya : Fin 1024 → EReal) (yb : Fin 512 → EReal) (wa : Fin 1024 → Fin 2048 → EReal)
    (wb : Fin 512 → Fin 2048 → EReal) (j : Fin 2048) : EReal :=
  Ideal.logistic (ga j) * (∑ k : Fin 1024, ya k * wa k j) + Ideal.logistic (gb j) * (∑ k : Fin 512, yb k * wb k j)

/-- A row with its residual: the row, and its gated sum's output projection. -/
def residual (x ga gb : Fin 2048 → EReal) (ya : Fin 1024 → EReal) (yb : Fin 512 → EReal) (wa : Fin 1024 → Fin 2048 → EReal)
    (wb : Fin 512 → Fin 2048 → EReal) (wo : Fin 2048 → Fin 2048 → EReal) (n : Fin 2048) : EReal :=
  x n + ∑ j : Fin 2048, gated ga gb ya yb wa wb j * wo j n

/-- A row divided by its root mean square, times the gains. -/
def normed (x g : Fin 2048 → EReal) (n : Fin 2048) : EReal :=
  x n * Ideal.rsqrt (Ideal.div (∑ k : Fin 2048, x k * x k) (Ideal.ofBits .f32 0x45000000#32) + Ideal.ofBits .f32 0x358637BD#32) * g n

section Arrays

variable (X : Vec Ideal ⟨2, ![32768, 2048]⟩ .f32) (G : Vec Ideal ⟨2, ![32768, 4096]⟩ .bf16) (Y : Vec Ideal ⟨2, ![32768, 1024]⟩ .bf16)
  (O0 O1 O2 L0 L1 L2 : Vec Ideal ⟨4, ![16, 4, 2048, 128]⟩ .f32) (Wa : FVec Ideal ⟨2, ![1024, 2048]⟩ .f32)
  (Wb : FVec Ideal ⟨2, ![512, 2048]⟩ .f32) (Wo : FVec Ideal ⟨2, ![2048, 2048]⟩ .f32) (g : FVec Ideal ⟨1, ![2048]⟩ .f32)

/-- A token's row of the attention groups' mean: lane `k` is lane `k % 128` of the pair of heads `k / 128`, token `t` is token
    `t % 2048` of sequence `t / 2048`. -/
def mixRow (t : Fin 32768) (k : Fin 512) : EReal :=
  let at_ (A : Vec Ideal ⟨4, ![16, 4, 2048, 128]⟩ .f32) : EReal :=
    A (ix4 ⟨t.val / 2048, by omega⟩ ⟨k.val / 128, by omega⟩ ⟨t.val % 2048, by omega⟩ ⟨k.val % 128, by omega⟩)
  mix (at_ L0) (at_ L1) (at_ L2) (at_ O0) (at_ O1) (at_ O2)

/-- A token's row after the merge. -/
def tokenRow (t : Fin 32768) (n : Fin 2048) : EReal :=
  residual (fun k => X (ix2 t k)) (fun k => G (ix2 t ⟨k.val, by omega⟩)) (fun k => G (ix2 t ⟨2048 + k.val, by omega⟩)) (fun k => Y (ix2 t k))
    (mixRow O0 O1 O2 L0 L1 L2 t) (fun k j => Wa (ix2 k j)) (fun k j => Wb (ix2 k j)) (fun j k => Wo (ix2 j k)) n

/-- The rows of all tokens: the first result. -/
def rows : Vec Ideal ⟨2, ![32768, 2048]⟩ .f32 := fun y => tokenRow X G Y O0 O1 O2 L0 L1 L2 Wa Wb Wo (y 0) (y 1)

/-- Their norms, in two formats: the second and the third result. -/
def norms (f : FTy) : FVec Ideal ⟨2, ![32768, 2048]⟩ f :=
  fun y => normed (tokenRow X G Y O0 O1 O2 L0 L1 L2 Wa Wb Wo (y 0)) (fun k => g (ix1 k)) (y 1)

end Arrays

end Cert.Proof.Merging

end
-- ==== Proof.MergeValue.lean ====
/- What one grid point of the merge computes: the rows of `Merging` of its 256 tokens. -/
module

public import proofs.«01_k».proof.Proof.Merging
public import proofs.«01_k».proof.Proof.Gen.MergeIdeal.Value
public import Idealize.ShloMosaic.Lib.Pipeline.ValueKit
public import Idealize.ShloMosaic.Lib.Claim

@[expose] public section

set_option maxRecDepth 16384

noncomputable section

namespace Cert.Proof.MergeValue

open Idealize.ShloMosaic Idealize.ShloMosaic.TcCoe Idealize.SL.Sem Cert.MergeIdeal Cert.MergeIdeal.Gen Cert.MergeIdeal.Facts
open Merging

/-- The first pair of heads. -/
theorem pair0 (l0 l1 l2 o0 o1 o2 : Vec Ideal S1x1x256x128 .f32) (r : Fin 256) (l : Fin 128) :
    k0_pay5 l0 l1 l2 o0 o1 o2 (ix2 r l)
      = mix (l0 (ix4 0 0 r l)) (l1 (ix4 0 0 r l)) (l2 (ix4 0 0 r l)) (o0 (ix4 0 0 r l)) (o1 (ix4 0 0 r l)) (o2 (ix4 0 0 r l)) := by
  pointwise [k0_pay5]
  rfl

/-- The second pair of heads. -/
theorem pair1 (l0 l1 l2 o0 o1 o2 : Vec Ideal S1x1x256x128 .f32) (r : Fin 256) (l : Fin 128) :
    k0_pay7 (k0_pay6 l0) l1 l2 o0 o1 o2 (ix2 r l)
      = mix (l0 (ix4 0 0 r l)) (l1 (ix4 0 0 r l)) (l2 (ix4 0 0 r l)) (o0 (ix4 0 0 r l)) (o1 (ix4 0 0 r l)) (o2 (ix4 0 0 r l)) :=
  pair0 l0 l1 l2 o0 o1 o2 r l

/-- The third pair of heads. -/
theorem pair2 (l0 l1 l2 o0 o1 o2 : Vec Ideal S1x1x256x128 .f32) (r : Fin 256) (l : Fin 128) :
    k0_pay10 (k0_pay8 l0) (k0_pay9 l1) l2 o0 o1 o2 (ix2 r l)
      = mix (l0 (ix4 0 0 r l)) (l1 (ix4 0 0 r l)) (l2 (ix4 0 0 r l)) (o0 (ix4 0 0 r l)) (o1 (ix4 0 0 r l)) (o2 (ix4 0 0 r l)) :=
  pair0 l0 l1 l2 o0 o1 o2 r l

/-- Four pieces of 128 lanes side by side, at a lane. -/
def side (p0 p1 p2 p3 : Fin 128 → EReal) (k : Fin 512) : EReal :=
  if h : k.val < 128 then p0 ⟨k.val, h⟩ else if h : k.val - 128 < 128 then p1 ⟨k.val - 128, h⟩
  else if h : k.val - 128 - 128 < 128 then p2 ⟨k.val - 128 - 128, h⟩ else p3 ⟨k.val - 128 - 128 - 128, by omega⟩

/-- The branch's product of the four pairs side by side: the fourth pair is mixed here. -/
theorem branchB (p0 p1 p2 : FVec Ideal S256x128 .bf16) (l0 l1 l2 o0 o1 o2 : Vec Ideal S1x1x256x128 .f32) (w : Vec Ideal S512x2048 .bf16)
    (r : Fin 256) (j : Fin 2048) :
    k0_pay15 p0 p1 p2 (k0_pay11 l0) (k0_pay12 l1) (k0_pay13 l2) (k0_pay14 l0 l1 l2) o0 o1 o2 w (ix2 r j)
      = ∑ k : Fin 512, side (fun l => p0 (ix2 r l)) (fun l => p1 (ix2 r l)) (fun l => p2 (ix2 r l))
          (fun l => mix (l0 (ix4 0 0 r l)) (l1 (ix4 0 0 r l)) (l2 (ix4 0 0 r l)) (o0 (ix4 0 0 r l)) (o1 (ix4 0 0 r l)) (o2 (ix4 0 0 r l)))
          k * w (ix2 k j) := by
  pointwise [k0_pay15, k0_pay14, k0_pay13, k0_pay12, k0_pay11]
  refine Finset.sum_congr rfl fun k _ => ?_
  unfold side mix total top
  rfl

/-- The other branch's gated product. -/
theorem branchA (ya : Vec Ideal S256x1024 .bf16) (w : Vec Ideal S1024x2048 .bf16) (g : Vec Ideal S256x2048 .bf16) (r : Fin 256) (j : Fin 2048) :
    k0_pay16 ya w g (ix2 r j) = Ideal.logistic (g (ix2 r j)) * ∑ k : Fin 1024, ya (ix2 r k) * w (ix2 k j) := by
  pointwise [k0_pay16]

/-- The gate of the second branch. -/
theorem gateB (g : Vec Ideal S256x2048 .bf16) (r : Fin 256) (j : Fin 2048) :
    k0_pay17 g (ix2 r j) = Ideal.logistic (g (ix2 r j)) := by
  pointwise [k0_pay17]

/-- The output projection on top of the residual. -/
theorem output (b a g x : FVec Ideal S256x2048 .f32) (w : Vec Ideal S2048x2048 .bf16) (r : Fin 256) (n : Fin 2048) :
    k0_pay1 b a g x w (ix2 r n)
      = x (ix2 r n) + ∑ j : Fin 2048, (a (ix2 r j) + g (ix2 r j) * b (ix2 r j)) * w (ix2 j n) := by
  pointwise [k0_pay1]

/-- The norm. -/
theorem norm (b a g x : FVec Ideal S256x2048 .f32) (w : Vec Ideal S2048x2048 .bf16) (gain : Vec Ideal S1x2048 .f32) (r : Fin 256) (n : Fin 2048) :
    k0_pay2 b a g x w gain (ix2 r n)
      = normed (fun k => k0_pay1 b a g x w (ix2 r k)) (fun k => gain (ix2 0 k)) n := by
  pointwise [k0_pay2]
  rfl

section Block

variable (x0 : Vec Ideal S256x2048 .f32) (x1 x2 : Vec Ideal S256x2048 .bf16) (x3 : Vec Ideal S256x1024 .bf16)
  (x4 x5 x6 x7 x8 x9 : Vec Ideal S1x4x256x128 .f32) (x10 : Vec Ideal S1024x2048 .bf16) (x11 : Vec Ideal S512x2048 .bf16)
  (x12 : Vec Ideal S2048x2048 .bf16) (x13 : Vec Ideal S1x2048 .f32)

/-- The mean of the three groups at a pair of heads, a row and a lane of a block. -/
def mixed (p : Fin 4) (r : Fin 256) (l : Fin 128) : EReal :=
  mix (x7 (ix4 0 p r l)) (x8 (ix4 0 p r l)) (x9 (ix4 0 p r l)) (x4 (ix4 0 p r l)) (x5 (ix4 0 p r l)) (x6 (ix4 0 p r l))

/-- A lane among 512 is a pair of heads and a lane of the pair. -/
theorem side_eq (f : Fin 4 → Fin 128 → EReal) (k : Fin 512) :
    side (f 0) (f 1) (f 2) (f 3) k = f ⟨k.val / 128, by omega⟩ ⟨k.val % 128, by omega⟩ := by
  unfold side
  split
  · exact congrArg₂ f (Fin.ext (by simp only [Fin.val_zero]; omega)) (Fin.ext (by simp only []; omega))
  · split
    · exact congrArg₂ f (Fin.ext (by simp only [Fin.val_one]; omega)) (Fin.ext (by simp only []; omega))
    · split
      · exact congrArg₂ f (Fin.ext (by simp only [Fin.val_two]; omega)) (Fin.ext (by simp only []; omega))
      · exact congrArg₂ f (Fin.ext (by simp only [Fin.coe_ofNat_eq_mod]; omega)) (Fin.ext (by simp only []; omega))

/-- The branch of the attention, at an index of a block. -/
theorem branchB_apply (r : Fin 256) (j : Fin 2048) :
    k0_pay18 x0 x1 x2 x3 x4 x5 x6 x7 x8 x9 x10 x11 x12 x13 (ix2 r j)
      = ∑ k : Fin 512, mixed x4 x5 x6 x7 x8 x9 ⟨k.val / 128, by omega⟩ r ⟨k.val % 128, by omega⟩ * x11 (ix2 k j) := by
  unfold k0_pay18
  rw [branchB]
  refine Finset.sum_congr rfl fun k _ => ?_
  rw [← side_eq (fun p l => mixed x4 x5 x6 x7 x8 x9 p r l)]
  refine congrArg₂ (fun a b : EReal => a * b) ?_ ?_
  · congr 1 <;> funext l
    · rw [pair0]
      pointwise [mixed]
    · rw [pair1]
      pointwise [mixed]
    · rw [pair2]
      pointwise [mixed]
    · pointwise [mixed]
  · pointwise []

/-- The other branch, gated, at an index of a block. -/
theorem branchA_apply (r : Fin 256) (j : Fin 2048) :
    k0_pay19 x0 x1 x2 x3 x4 x5 x6 x7 x8 x9 x10 x11 x12 x13 (ix2 r j)
      = Ideal.logistic (x1 (ix2 r j)) * ∑ k : Fin 1024, x3 (ix2 r k) * x10 (ix2 k j) := by
  unfold k0_pay19 r0_4 r0_5 r0_7
  rw [branchA, View.ld_unit_lit _ _ (by decide), View.ld_unit_lit _ _ (by decide), View.ld_unit_lit _ _ (by decide)]

/-- The second gate, at an index of a block. -/
theorem gateB_apply (r : Fin 256) (j : Fin 2048) :
    k0_pay20 x0 x1 x2 x3 x4 x5 x6 x7 x8 x9 x10 x11 x12 x13 (ix2 r j) = Ideal.logistic (x2 (ix2 r j)) := by
  unfold k0_pay20 r0_7
  rw [gateB, View.ld_unit_lit _ _ (by decide)]

/-- The row of the mean of the groups that a row of a block multiplies. -/
def mixedRow (r : Fin 256) (k : Fin 512) : EReal := mixed x4 x5 x6 x7 x8 x9 ⟨k.val / 128, by omega⟩ r ⟨k.val % 128, by omega⟩

/-- A block's row with its residual. -/
def blockResidual (r : Fin 256) (n : Fin 2048) : EReal :=
  residual (fun k => x0 (ix2 r k)) (fun k => x1 (ix2 r k)) (fun k => x2 (ix2 r k)) (fun k => x3 (ix2 r k)) (mixedRow x4 x5 x6 x7 x8 x9 r)
    (fun k j => x10 (ix2 k j)) (fun k j => x11 (ix2 k j)) (fun j n => x12 (ix2 j n)) n

/-- The sum of residual and output projection, at an index of a block. -/
theorem residual_apply (r : Fin 256) (n : Fin 2048) :
    k0_pay1 (k0_pay18 x0 x1 x2 x3 x4 x5 x6 x7 x8 x9 x10 x11 x12 x13) (k0_pay19 x0 x1 x2 x3 x4 x5 x6 x7 x8 x9 x10 x11 x12 x13)
        (k0_pay20 x0 x1 x2 x3 x4 x5 x6 x7 x8 x9 x10 x11 x12 x13) (View.ld x0 r0_7) (View.ld x12 r0_8) (ix2 r n)
      = blockResidual x0 x1 x2 x3 x4 x5 x6 x7 x8 x9 x10 x11 x12 r n := by
  unfold r0_7 r0_8
  rw [output, View.ld_unit_lit _ _ (by decide), View.ld_unit_lit _ _ (by decide)]
  refine congrArg₂ (fun a b : EReal => a + b) rfl (Finset.sum_congr rfl fun j _ => ?_)
  rw [branchA_apply, branchB_apply, gateB_apply]
  rfl

/-- A block of the first result. -/
theorem block14 (r : Fin 256) (n : Fin 2048) :
    out0_14 x0 x1 x2 x3 x4 x5 x6 x7 x8 x9 x10 x11 x12 x13 (ix2 r n) = blockResidual x0 x1 x2 x3 x4 x5 x6 x7 x8 x9 x10 x11 x12 r n := by
  rw [← residual_apply x0 x1 x2 x3 x4 x5 x6 x7 x8 x9 x10 x11 x12 x13]
  exact congrFun (View.canon_cons_unit_lit _ _ _ (by decide)) (ix2 r n)

/-- A block of the second result. -/
theorem block15 (r : Fin 256) (n : Fin 2048) :
    out0_15 x0 x1 x2 x3 x4 x5 x6 x7 x8 x9 x10 x11 x12 x13 (ix2 r n)
      = normed (blockResidual x0 x1 x2 x3 x4 x5 x6 x7 x8 x9 x10 x11 x12 r) (fun k => x13 (ix2 0 k)) n := by
  refine (congrFun (View.canon_cons_unit_lit _ _ _ (by decide)) (ix2 r n)).trans ?_
  refine (norm _ _ _ _ _ _ r n).trans ?_
  refine congrArg₂ (fun a b => normed a b n) (funext fun k => residual_apply x0 x1 x2 x3 x4 x5 x6 x7 x8 x9 x10 x11 x12 x13 r k) (funext fun k => ?_)
  unfold r0_9
  rw [View.ld_unit_lit _ _ (by decide)]

/-- A block of the third result: the same numbers. -/
theorem block16 (r : Fin 256) (n : Fin 2048) :
    out0_16 x0 x1 x2 x3 x4 x5 x6 x7 x8 x9 x10 x11 x12 x13 (ix2 r n)
      = normed (blockResidual x0 x1 x2 x3 x4 x5 x6 x7 x8 x9 x10 x11 x12 r) (fun k => x13 (ix2 0 k)) n := by
  refine (congrFun (View.canon_cons_unit_lit _ _ _ (by decide)) (ix2 r n)).trans ?_
  refine (norm _ _ _ _ _ _ r n).trans ?_
  refine congrArg₂ (fun a b => normed a b n) (funext fun k => residual_apply x0 x1 x2 x3 x4 x5 x6 x7 x8 x9 x10 x11 x12 x13 r k) (funext fun k => ?_)
  unfold r0_9
  rw [View.ld_unit_lit _ _ (by decide)]

end Block

end Cert.Proof.MergeValue

end
-- ==== Proof.MergeArray.lean ====
/- The merge's three result arrays: each block is the rows of its 256 tokens. -/
module

public import proofs.«01_k».proof.Proof.MergeValue

@[expose] public section

set_option maxRecDepth 16384

noncomputable section

namespace Cert.Proof.MergeArray

open Idealize.ShloMosaic Idealize.ShloMosaic.TcCoe Idealize.SL.Sem Cert.MergeIdeal Cert.MergeIdeal.Gen Cert.MergeIdeal.Facts
open Merging MergeValue

/-- Where the windows' blocks of rows lie. -/
theorem index_rows : ∀ t : Fin cfg0.N, (grid0.coords t 0).val < 128
    ∧ win0_0.index t 0 = (grid0.coords t 0).val ∧ win0_0.index t 1 = 0
    ∧ win0_1.index t 0 = (grid0.coords t 0).val ∧ win0_1.index t 1 = 0
    ∧ win0_2.index t 0 = (grid0.coords t 0).val ∧ win0_2.index t 1 = 1
    ∧ win0_3.index t 0 = (grid0.coords t 0).val ∧ win0_3.index t 1 = 0
    ∧ win0_14.index t 0 = (grid0.coords t 0).val ∧ win0_14.index t 1 = 0
    ∧ win0_15.index t 0 = (grid0.coords t 0).val ∧ win0_15.index t 1 = 0
    ∧ win0_16.index t 0 = (grid0.coords t 0).val ∧ win0_16.index t 1 = 0 := by
  decide +kernel

/-- Where the attention's blocks lie. -/
theorem index_groups : ∀ t : Fin cfg0.N,
    (win0_4.index t 0 = (grid0.coords t 0).val / 8 ∧ win0_4.index t 1 = 0 ∧ win0_4.index t 2 = (grid0.coords t 0).val % 8 ∧ win0_4.index t 3 = 0)
    ∧ (win0_5.index t 0 = (grid0.coords t 0).val / 8 ∧ win0_5.index t 1 = 0 ∧ win0_5.index t 2 = (grid0.coords t 0).val % 8 ∧ win0_5.index t 3 = 0)
    ∧ (win0_6.index t 0 = (grid0.coords t 0).val / 8 ∧ win0_6.index t 1 = 0 ∧ win0_6.index t 2 = (grid0.coords t 0).val % 8 ∧ win0_6.index t 3 = 0)
    ∧ (win0_7.index t 0 = (grid0.coords t 0).val / 8 ∧ win0_7.index t 1 = 0 ∧ win0_7.index t 2 = (grid0.coords t 0).val % 8 ∧ win0_7.index t 3 = 0)
    ∧ (win0_8.index t 0 = (grid0.coords t 0).val / 8 ∧ win0_8.index t 1 = 0 ∧ win0_8.index t 2 = (grid0.coords t 0).val % 8 ∧ win0_8.index t 3 = 0)
    ∧ (win0_9.index t 0 = (grid0.coords t 0).val / 8 ∧ win0_9.index t 1 = 0 ∧ win0_9.index t 2 = (grid0.coords t 0).val % 8 ∧ win0_9.index t 3 = 0) := by
  decide +kernel

/-- Where the weights' blocks lie. -/
theorem index_weights : ∀ t : Fin cfg0.N, win0_10.index t 0 = 0 ∧ win0_10.index t 1 = 0 ∧ win0_11.index t 0 = 0 ∧ win0_11.index t 1 = 0
    ∧ win0_12.index t 0 = 0 ∧ win0_12.index t 1 = 0 ∧ win0_13.index t 0 = 0 ∧ win0_13.index t 1 = 0 := by
  decide +kernel

/-- The token of a row of point `t`'s block. -/
def token (t : Fin cfg0.N) (r : Fin 256) : Fin 32768 := ⟨256 * (grid0.coords t 0).val + r.val, by have := (index_rows t).1; omega⟩

variable (m : (ℓ : Loc nD τ sig) → Buf (Elt Ideal) ℓ)

/-- Weights that the region reads are the argument's. -/
theorem entry_0 (c : Dev nD) : V m c main_v0 = m (c, Proc.tc.devRef main_arg9) := by
  funext x
  unfold V
  entry_read
  rfl

/-- Weights that the region reads are the argument's. -/
theorem entry_1 (c : Dev nD) : V m c main_v1 = m (c, Proc.tc.devRef main_arg10) := by
  funext x
  unfold V
  entry_read
  rfl

/-- Weights that the region reads are the argument's. -/
theorem entry_2 (c : Dev nD) : V m c main_v2 = m (c, Proc.tc.devRef main_arg11) := by
  funext x
  unfold V
  entry_read
  rfl

/-- The gains that the region reads are the argument's, as one row. -/
theorem entry_3 (c : Dev nD) (k : Fin 2048) : V m c main_v3 (ix2 0 k : S1x2048.Idx) = m (c, Proc.tc.devRef main_arg12) (ix1 k : S2048.Idx) := by
  unfold V
  entry_read
  pointwise []

/-- A block of operand 0, at an index. -/
theorem block_0 (c : Dev nD) (t : Fin cfg0.N) (r : Fin 256) (k : Fin 2048) :
    iblk m c 0 t (ix2 r k : S256x2048.Idx) = m (c, Proc.tc.devRef main_arg0) (ix2 (token t r) k : S32768x2048.Idx) := by
  have hx := index_rows t
  blk_simp [iblk]
  rw [V_main_arg0]
  refine congrArg (m (c, Proc.tc.devRef main_arg0)) ?_
  blk_ext [token]

/-- A block of operand 1, at an index. -/
theorem block_1 (c : Dev nD) (t : Fin cfg0.N) (r : Fin 256) (k : Fin 2048) :
    iblk m c 1 t (ix2 r k : S256x2048.Idx) = m (c, Proc.tc.devRef main_arg1) (ix2 (token t r) ⟨k.val, by omega⟩ : S32768x4096.Idx) := by
  have hx := index_rows t
  blk_simp [iblk]
  rw [V_main_arg1]
  refine congrArg (m (c, Proc.tc.devRef main_arg1)) ?_
  blk_ext [token]

/-- A block of operand 2, at an index. -/
theorem block_2 (c : Dev nD) (t : Fin cfg0.N) (r : Fin 256) (k : Fin 2048) :
    iblk m c 2 t (ix2 r k : S256x2048.Idx) = m (c, Proc.tc.devRef main_arg1) (ix2 (token t r) ⟨2048 + k.val, by omega⟩ : S32768x4096.Idx) := by
  have hx := index_rows t
  blk_simp [iblk]
  rw [V_main_arg1]
  refine congrArg (m (c, Proc.tc.devRef main_arg1)) ?_
  blk_ext [token]

/-- A block of operand 3, at an index. -/
theorem block_3 (c : Dev nD) (t : Fin cfg0.N) (r : Fin 256) (k : Fin 1024) :
    iblk m c 3 t (ix2 r k : S256x1024.Idx) = m (c, Proc.tc.devRef main_arg2) (ix2 (token t r) k : S32768x1024.Idx) := by
  have hx := index_rows t
  blk_simp [iblk]
  rw [V_main_arg2]
  refine congrArg (m (c, Proc.tc.devRef main_arg2)) ?_
  blk_ext [token]

/-- A block of operand 4, at an index. -/
theorem block_4 (c : Dev nD) (t : Fin cfg0.N) (p : Fin 4) (r : Fin 256) (l : Fin 128) :
    iblk m c 4 t (ix4 0 p r l : S1x4x256x128.Idx) = m (c, Proc.tc.devRef main_arg3) (ix4 ⟨(token t r).val / 2048, by omega⟩ p ⟨(token t r).val % 2048, by omega⟩ l : S16x4x2048x128.Idx) := by
  have hx := index_groups t
  blk_simp [iblk]
  rw [V_main_arg3]
  refine congrArg (m (c, Proc.tc.devRef main_arg3)) ?_
  blk_ext [token]

/-- A block of operand 5, at an index. -/
theorem block_5 (c : Dev nD) (t : Fin cfg0.N) (p : Fin 4) (r : Fin 256) (l : Fin 128) :
    iblk m c 5 t (ix4 0 p r l : S1x4x256x128.Idx) = m (c, Proc.tc.devRef main_arg4) (ix4 ⟨(token t r).val / 2048, by omega⟩ p ⟨(token t r).val % 2048, by omega⟩ l : S16x4x2048x128.Idx) := by
  have hx := index_groups t
  blk_simp [iblk]
  rw [V_main_arg4]
  refine congrArg (m (c, Proc.tc.devRef main_arg4)) ?_
  blk_ext [token]

/-- A block of operand 6, at an index. -/
theorem block_6 (c : Dev nD) (t : Fin cfg0.N) (p : Fin 4) (r : Fin 256) (l : Fin 128) :
    iblk m c 6 t (ix4 0 p r l : S1x4x256x128.Idx) = m (c, Proc.tc.devRef main_arg5) (ix4 ⟨(token t r).val / 2048, by omega⟩ p ⟨(token t r).val % 2048, by omega⟩ l : S16x4x2048x128.Idx) := by
  have hx := index_groups t
  blk_simp [iblk]
  rw [V_main_arg5]
  refine congrArg (m (c, Proc.tc.devRef main_arg5)) ?_
  blk_ext [token]

/-- A block of operand 7, at an index. -/
theorem block_7 (c : Dev nD) (t : Fin cfg0.N) (p : Fin 4) (r : Fin 256) (l : Fin 128) :
    iblk m c 7 t (ix4 0 p r l : S1x4x256x128.Idx) = m (c, Proc.tc.devRef main_arg6) (ix4 ⟨(token t r).val / 2048, by omega⟩ p ⟨(token t r).val % 2048, by omega⟩ l : S16x4x2048x128.Idx) := by
  have hx := index_groups t
  blk_simp [iblk]
  rw [V_main_arg6]
  refine congrArg (m (c, Proc.tc.devRef main_arg6)) ?_
  blk_ext [token]

/-- A block of operand 8, at an index. -/
theorem block_8 (c : Dev nD) (t : Fin cfg0.N) (p : Fin 4) (r : Fin 256) (l : Fin 128) :
    iblk m c 8 t (ix4 0 p r l : S1x4x256x128.Idx) = m (c, Proc.tc.devRef main_arg7) (ix4 ⟨(token t r).val / 2048, by omega⟩ p ⟨(token t r).val % 2048, by omega⟩ l : S16x4x2048x128.Idx) := by
  have hx := index_groups t
  blk_simp [iblk]
  rw [V_main_arg7]
  refine congrArg (m (c, Proc.tc.devRef main_arg7)) ?_
  blk_ext [token]

/-- A block of operand 9, at an index. -/
theorem block_9 (c : Dev nD) (t : Fin cfg0.N) (p : Fin 4) (r : Fin 256) (l : Fin 128) :
    iblk m c 9 t (ix4 0 p r l : S1x4x256x128.Idx) = m (c, Proc.tc.devRef main_arg8) (ix4 ⟨(token t r).val / 2048, by omega⟩ p ⟨(token t r).val % 2048, by omega⟩ l : S16x4x2048x128.Idx) := by
  have hx := index_groups t
  blk_simp [iblk]
  rw [V_main_arg8]
  refine congrArg (m (c, Proc.tc.devRef main_arg8)) ?_
  blk_ext [token]

/-- A block of operand 10, at an index. -/
theorem block_10 (c : Dev nD) (t : Fin cfg0.N) (k : Fin 1024) (j : Fin 2048) :
    iblk m c 10 t (ix2 k j : S1024x2048.Idx) = m (c, Proc.tc.devRef main_arg9) (ix2 k j : S1024x2048.Idx) := by
  have hx := index_weights t
  blk_simp [iblk]
  rw [entry_0]
  refine congrArg (m (c, Proc.tc.devRef main_arg9)) ?_
  blk_ext [token]

/-- A block of operand 11, at an index. -/
theorem block_11 (c : Dev nD) (t : Fin cfg0.N) (k : Fin 512) (j : Fin 2048) :
    iblk m c 11 t (ix2 k j : S512x2048.Idx) = m (c, Proc.tc.devRef main_arg10) (ix2 k j : S512x2048.Idx) := by
  have hx := index_weights t
  blk_simp [iblk]
  rw [entry_1]
  refine congrArg (m (c, Proc.tc.devRef main_arg10)) ?_
  blk_ext [token]

/-- A block of operand 12, at an index. -/
theorem block_12 (c : Dev nD) (t : Fin cfg0.N) (k : Fin 2048) (j : Fin 2048) :
    iblk m c 12 t (ix2 k j : S2048x2048.Idx) = m (c, Proc.tc.devRef main_arg11) (ix2 k j : S2048x2048.Idx) := by
  have hx := index_weights t
  blk_simp [iblk]
  rw [entry_2]
  refine congrArg (m (c, Proc.tc.devRef main_arg11)) ?_
  blk_ext [token]

/-- The block of gains, at an index. -/
theorem block_13 (c : Dev nD) (t : Fin cfg0.N) (k : Fin 2048) :
    iblk m c 13 t (ix2 0 k : S1x2048.Idx) = m (c, Proc.tc.devRef main_arg12) (ix1 k : S2048.Idx) := by
  have hx := index_weights t
  blk_simp [iblk]
  rw [← entry_3 m c k]
  refine congrArg (V m c main_v3) ?_
  blk_ext

/-- The row of the groups' mean of a block is its token's. -/
theorem mixedRow_eq (c : Dev nD) (t : Fin cfg0.N) (r : Fin 256) :
    mixedRow (iblk m c 4 t) (iblk m c 5 t) (iblk m c 6 t) (iblk m c 7 t) (iblk m c 8 t) (iblk m c 9 t) r
      = mixRow (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (token t r) := by
  funext k
  unfold mixedRow mixed mixRow
  rw [block_4, block_5, block_6, block_7, block_8, block_9]

/-- A block's row with its residual is its token's row. -/
theorem blockResidual_eq (c : Dev nD) (t : Fin cfg0.N) (r : Fin 256) :
    blockResidual (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
      = tokenRow (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (token t r) := by
  funext n
  unfold blockResidual tokenRow
  rw [mixedRow_eq]
  simp only [block_0, block_1, block_2, block_3, block_10, block_11, block_12]

/-- The first result: the rows. -/
theorem arr14 (c : Dev nD) : (dats m 0 c).arrAt 14 cfg0.N
    = rows (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) := by
  refine (dats m 0 c).arrAt_eq_of_covers 14 _ (by decide +kernel) fun t hf y => ?_
  have hx := index_rows t
  blk_simp
  rw [after0_14]
  idx_vars y
  rw [block14, blockResidual_eq]
  have e : ((View.whole main_v4_0).slice (win0_14.rect t)).emb (ix2 y0 y1) = (ix2 (token t y0) y1 : S32768x2048.Idx) := by
    blk_ext [token]
  exact (congrArg (rows (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11))) e).symm

/-- The second result: the norms. -/
theorem arr15 (c : Dev nD) : (dats m 0 c).arrAt 15 cfg0.N
    = norms (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) .bf16 := by
  refine (dats m 0 c).arrAt_eq_of_covers 15 _ (by decide +kernel) fun t hf y => ?_
  have hx := index_rows t
  blk_simp
  rw [after0_15]
  idx_vars y
  rw [block15, blockResidual_eq]
  simp only [block_13]
  have e : ((View.whole main_v4_1).slice (win0_15.rect t)).emb (ix2 y0 y1) = (ix2 (token t y0) y1 : S32768x2048.Idx) := by
    blk_ext [token]
  exact (congrArg (norms (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) .bf16) e).symm

/-- The third result: the norms. -/
theorem arr16 (c : Dev nD) : (dats m 0 c).arrAt 16 cfg0.N
    = norms (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) .fp8e4m3 := by
  refine (dats m 0 c).arrAt_eq_of_covers 16 _ (by decide +kernel) fun t hf y => ?_
  have hx := index_rows t
  blk_simp
  rw [after0_16]
  idx_vars y
  rw [block16, blockResidual_eq]
  simp only [block_13]
  have e : ((View.whole main_v4_2).slice (win0_16.rect t)).emb (ix2 y0 y1) = (ix2 (token t y0) y1 : S32768x2048.Idx) := by
    blk_ext [token]
  exact (congrArg (norms (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) .fp8e4m3) e).symm

end Cert.Proof.MergeArray

end
-- ==== Proof.MergeReference.lean ====
/- What the merge's reference computes: the rows of `Merging`, where no largest log-sum-exp is infinite. -/
module

public import proofs.«01_k».proof.Proof.Merging
public import proofs.«01_k».proof.Proof.AttnBlock
public import proofs.«01_k».proof.Proof.Gen.MergeRefIdeal.Read
public import Idealize.ShloMosaic.Lib.Pipeline.ValueKit
public import Idealize.ShloMosaic.Lib.Claim

@[expose] public section

set_option maxRecDepth 16384

noncomputable section

namespace Cert.Proof.MergeReference

open Idealize.ShloMosaic Idealize.SL.Sem Cert.MergeRefIdeal Cert.MergeRefIdeal.Gen Cert.MergeRefIdeal.Facts Cert.MergeRefIdeal.Read
open Merging

variable (X : Vec Ideal S32768x2048 .f32) (G : Vec Ideal S32768x4096 .bf16) (Y : Vec Ideal S32768x1024 .bf16)
  (O0 O1 O2 L0 L1 L2 : Vec Ideal S16x4x2048x128 .f32) (Wa : FVec Ideal S1024x2048 .f32)
  (Wb : FVec Ideal S512x2048 .f32) (Wo : FVec Ideal S2048x2048 .f32) (g : FVec Ideal S2048 .f32)

/-- One of three values. -/
def pick (a b c : EReal) (w : Fin 3) : EReal := if w.val < 1 then a else if w.val - 1 < 1 then b else c

/-- The first. -/
theorem pick_zero (a b c : EReal) : pick a b c 0 = a := if_pos (by decide)
/-- The second. -/
theorem pick_one (a b c : EReal) : pick a b c 1 = b := (if_neg (by decide)).trans (if_pos (by decide))
/-- The third. -/
theorem pick_two (a b c : EReal) : pick a b c 2 = c := (if_neg (by decide)).trans (if_neg (by decide))

/-- The largest of three values. -/
theorem fold_pick (a b c : EReal) : Finset.univ.fold max ⊥ (fun w : Fin 3 => pick a b c w) = top a b c := by
  refine le_antisymm ((Finset.fold_max_le _).mpr ⟨bot_le, fun w _ => ?_⟩) ?_
  · unfold top
    fin_cases w
    · exact le_trans (le_max_left _ _) (le_max_left _ _)
    · exact le_trans (le_max_right _ _) (le_max_left _ _)
    · exact le_max_right _ _
  · have hw : ∀ w, pick a b c w ≤ Finset.univ.fold max ⊥ (fun w : Fin 3 => pick a b c w) := fun w =>
      (Finset.le_fold_max _).mpr (Or.inr ⟨w, Finset.mem_univ w, le_refl _⟩)
    exact max_le (max_le (hw 0) (hw 1)) (hw 2)

/-- The stack of the groups' log-sum-exps. -/
theorem stack_apply (w : Fin 3) (b : Fin 16) (p : Fin 4) (t : Fin 2048) (l : Fin 128) :
    val_main_v3 L0 L1 L2 (ix5 w b p t l) = pick (L0 (ix4 b p t l)) (L1 (ix4 b p t l)) (L2 (ix4 b p t l)) w := by
  pointwise [val_main_v3, val_main_v2, val_main_v1, val_main_v0]
  rfl

/-- The stack of the groups' results. -/
theorem outs_apply (w : Fin 3) (b : Fin 16) (p : Fin 4) (t : Fin 2048) (l : Fin 128) :
    val_main_v18 O0 O1 O2 (ix5 w b p t l) = pick (O0 (ix4 b p t l)) (O1 (ix4 b p t l)) (O2 (ix4 b p t l)) w := by
  pointwise [val_main_v18, val_main_v17, val_main_v16, val_main_v15]
  rfl

/-- The maximum over the groups drops the first dimension. -/
theorem reduces : S3x16x4x2048x128.Reduces [0] S16x4x2048x128 := by decide

/-- The indices that the maximum ranges over. -/
theorem lift_apply (w : Fin 3) (b : Fin 16) (p : Fin 4) (t : Fin 2048) (l : Fin 128) :
    reduces.lift (ix4 b p t l) w = (ix5 w b p t l : S3x16x4x2048x128.Idx) := by
  funext a
  fin_cases a <;> rfl

/-- The indices that the sum of the weights ranges over. -/
theorem index_apply (w : Fin 3) (b : Fin 16) (p : Fin 4) (t : Fin 2048) (l : Fin 128) :
    idx_main_v11 (ix4 b p t l) w = (ix5 w b p t l : S3x16x4x2048x128.Idx) := by
  funext a
  fin_cases a <;> rfl

/-- The indices that the weighed sum ranges over. -/
theorem index_apply' (w : Fin 3) (b : Fin 16) (p : Fin 4) (t : Fin 2048) (l : Fin 128) :
    idx_main_v20 (ix4 b p t l) w = (ix5 w b p t l : S3x16x4x2048x128.Idx) := by
  funext a
  fin_cases a <;> rfl

/-- The largest log-sum-exp. -/
theorem top_apply (b : Fin 16) (p : Fin 4) (t : Fin 2048) (l : Fin 128) :
    val_main_v4 L0 L1 L2 (ix4 b p t l) = top (L0 (ix4 b p t l)) (L1 (ix4 b p t l)) (L2 (ix4 b p t l)) := by
  have hs := fun w => stack_apply L0 L1 L2 w b p t l
  unfold val_main_v4
  generalize val_main_v3 L0 L1 L2 = s at hs
  rw [Host.reduce_eq_fold_single FloatOps.maximumf _ _ reducesTo_S3x16x4x2048x128_S16x4x2048x128_d0 reduces h_S_]
  have hl : s ∘ reduces.lift (ix4 b p t l) = fun w : Fin 3 => pick (L0 (ix4 b p t l)) (L1 (ix4 b p t l)) (L2 (ix4 b p t l)) w :=
    funext fun w => (congrArg s (lift_apply w b p t l)).trans (hs w)
  have hi : val_main_cst (F := Ideal) (Shape.Idx.first h_S_) = (⊥ : EReal) := AttnBlock.ofBits_bot
  rw [hl, hi]
  exact fold_pick _ _ _

/-- The bound that is subtracted: the largest log-sum-exp. -/
theorem bound_apply (b : Fin 16) (p : Fin 4) (t : Fin 2048) (l : Fin 128) :
    val_main_v6 L0 L1 L2 (ix4 b p t l) = top (L0 (ix4 b p t l)) (L1 (ix4 b p t l)) (L2 (ix4 b p t l)) := by
  rw [val_main_v6_apply, top_apply]
  have h5 : val_main_v5 (F := Ideal) (ix4 b p t l) = (⊥ : EReal) := AttnBlock.ofBits_bot
  rw [h5]
  exact max_eq_right bot_le

/-- A group's weight before the division. -/
theorem shifted_apply (w : Fin 3) (b : Fin 16) (p : Fin 4) (t : Fin 2048) (l : Fin 128) :
    val_main_v10 L0 L1 L2 (ix5 w b p t l) = Ideal.exp (pick (L0 (ix4 b p t l)) (L1 (ix4 b p t l)) (L2 (ix4 b p t l)) w
      - top (L0 (ix4 b p t l)) (L1 (ix4 b p t l)) (L2 (ix4 b p t l))) := by
  have h6 := bound_apply L0 L1 L2 b p t l
  rw [← stack_apply]
  unfold val_main_v10 val_main_v9 val_main_v8 val_main_v7
  generalize val_main_v6 L0 L1 L2 = s at h6
  generalize val_main_v3 L0 L1 L2 = u
  pointwise []
  rw [h6]

/-- The sum of the weights. -/
theorem total_apply (b : Fin 16) (p : Fin 4) (t : Fin 2048) (l : Fin 128) :
    val_main_v11 L0 L1 L2 (ix4 b p t l) = total (L0 (ix4 b p t l)) (L1 (ix4 b p t l)) (L2 (ix4 b p t l)) := by
  rw [val_main_v11_apply, Fin.sum_univ_three, index_apply, index_apply, index_apply, shifted_apply, shifted_apply, shifted_apply,
    pick_zero, pick_one, pick_two]
  have hi : val_main_cst_1 (F := Ideal) (Shape.Idx.first h_S_) = (0 : EReal) := Ideal.ofBits_zero_f32
  rw [hi, zero_add]
  rfl

/-- The weighed mean of the groups, where the largest log-sum-exp is real. -/
theorem mean_apply (b : Fin 16) (p : Fin 4) (t : Fin 2048) (l : Fin 128)
    (h : ∃ r : ℝ, top (L0 (ix4 b p t l)) (L1 (ix4 b p t l)) (L2 (ix4 b p t l)) = (r : EReal)) :
    val_main_v20 O0 O1 O2 L0 L1 L2 (ix4 b p t l)
      = mix (L0 (ix4 b p t l)) (L1 (ix4 b p t l)) (L2 (ix4 b p t l)) (O0 (ix4 b p t l)) (O1 (ix4 b p t l)) (O2 (ix4 b p t l)) := by
  have hw : ∀ w, val_main_v19 O0 O1 O2 L0 L1 L2 (ix5 w b p t l)
      = Ideal.div (val_main_v10 L0 L1 L2 (ix5 w b p t l)) (val_main_v11 L0 L1 L2 (ix4 b p t l)) * val_main_v18 O0 O1 O2 (ix5 w b p t l) := by
    intro w
    unfold val_main_v19 val_main_v14 val_main_v13 val_main_v12
    generalize val_main_v10 L0 L1 L2 = s
    generalize val_main_v11 L0 L1 L2 = u
    generalize val_main_v18 O0 O1 O2 = v
    pointwise []
  obtain ⟨r, hr⟩ := h
  rw [val_main_v20_apply, Fin.sum_univ_three, index_apply', index_apply', index_apply', hw, hw, hw, total_apply, shifted_apply, shifted_apply, shifted_apply,
    outs_apply, outs_apply, outs_apply, ← mix_eq _ _ _ hr]
  simp only [pick_zero, pick_one, pick_two]
  have hi : val_main_cst_2 (F := Ideal) (Shape.Idx.first h_S_) = (0 : EReal) := Ideal.ofBits_zero_f32
  rw [hi, zero_add]

/-- The means as one row per token. -/
theorem row_layout (s : FVec Ideal S16x4x2048x128 .f32) (t : Fin 32768) (k : Fin 512) :
    shapeCast S32768x512 (transpose S16x2048x4x128 [0, 2, 1, 3] s transposes_S16x4x2048x128_S16x2048x4x128_0_2_1_3)
        shapeCasts_S16x2048x4x128_S32768x512 (ix2 t k)
      = s (ix4 ⟨t.val / 2048, by omega⟩ ⟨k.val / 128, by omega⟩ ⟨t.val % 2048, by omega⟩ ⟨k.val % 128, by omega⟩) := by
  pointwise []

/-- What the reference's results need: no largest log-sum-exp is infinite. -/
def Finite : Prop := ∀ b p t l, ∃ r : ℝ, top (L0 (ix4 b p t l)) (L1 (ix4 b p t l)) (L2 (ix4 b p t l)) = (r : EReal)

variable {L0 L1 L2}

/-- A token's row of means. -/
theorem meanRow_apply (h : Finite L0 L1 L2) (t : Fin 32768) (k : Fin 512) :
    val_main_v22 O0 O1 O2 L0 L1 L2 (ix2 t k) = mixRow O0 O1 O2 L0 L1 L2 t k := by
  unfold val_main_v22 val_main_v21
  rw [row_layout, mean_apply _ _ _ _ _ _ _ _ _ _ (h _ _ _ _)]
  rfl

/-- The first gate. -/
theorem gateA_apply (t : Fin 32768) (j : Fin 2048) : val_main_v30 G (ix2 t j) = Ideal.logistic (G (ix2 t ⟨j.val, by omega⟩)) := by
  pointwise [val_main_v30, val_main_v29, val_main_v28, val_main_v27, val_main_v26, val_main_v25, val_main_v24, val_main_v23, val_main_cst_3, val_main_cst_4]
  rfl

/-- The second gate. -/
theorem gateB_apply (t : Fin 32768) (j : Fin 2048) : val_main_v40 G (ix2 t j) = Ideal.logistic (G (ix2 t ⟨2048 + j.val, by omega⟩)) := by
  pointwise [val_main_v40, val_main_v39, val_main_v38, val_main_v37, val_main_v36, val_main_v35, val_main_v34, val_main_v23, val_main_cst_5, val_main_cst_6]
  rfl

/-- The gated sum. -/
theorem gated_apply (h : Finite L0 L1 L2) (t : Fin 32768) (j : Fin 2048) :
    val_main_v43 G Y O0 O1 O2 L0 L1 L2 Wa Wb (ix2 t j)
      = gated (fun k => G (ix2 t ⟨k.val, by omega⟩)) (fun k => G (ix2 t ⟨2048 + k.val, by omega⟩)) (fun k => Y (ix2 t k))
          (mixRow O0 O1 O2 L0 L1 L2 t) (fun k j => Wa (ix2 k j)) (fun k j => Wb (ix2 k j)) j := by
  have hr := fun k => meanRow_apply O0 O1 O2 h t k
  have ha := gateA_apply G t j
  have hb := gateB_apply G t j
  unfold val_main_v43 val_main_v42 val_main_v41 val_main_v33 val_main_v32 val_main_v31
  generalize val_main_v22 O0 O1 O2 L0 L1 L2 = s at hr
  generalize val_main_v30 G = u at ha
  generalize val_main_v40 G = v at hb
  pointwise []
  simp only [hr, ha, hb]
  rfl

/-- The first result. -/
theorem rows_eq (h : Finite L0 L1 L2) :
    val_main_v45 X G Y O0 O1 O2 L0 L1 L2 Wa Wb Wo = rows X G Y O0 O1 O2 L0 L1 L2 Wa Wb Wo := by
  funext y
  idx_vars y
  have hg := fun j => gated_apply G Y O0 O1 O2 Wa Wb h y0 j
  unfold val_main_v45 val_main_v44
  generalize val_main_v43 G Y O0 O1 O2 L0 L1 L2 Wa Wb = s at hg
  pointwise []
  simp only [hg]
  rfl

/-- The norm, before the change of format. -/
theorem norm_apply (h : Finite L0 L1 L2) (t : Fin 32768) (n : Fin 2048) :
    val_main_v58 X G Y O0 O1 O2 L0 L1 L2 Wa Wb Wo g (ix2 t n)
      = normed (tokenRow X G Y O0 O1 O2 L0 L1 L2 Wa Wb Wo t) (fun k => g (ix1 k)) n := by
  have hx := fun k => congrFun (rows_eq X G Y O0 O1 O2 Wa Wb Wo h) (ix2 t k : S32768x2048.Idx)
  have hs : val_main_v47 X G Y O0 O1 O2 L0 L1 L2 Wa Wb Wo (ix1 t)
      = ∑ k : Fin 2048, tokenRow X G Y O0 O1 O2 L0 L1 L2 Wa Wb Wo t k * tokenRow X G Y O0 O1 O2 L0 L1 L2 Wa Wb Wo t k := by
    rw [val_main_v47_apply]
    have hi : val_main_cst_7 (F := Ideal) (Shape.Idx.first h_S_) = (0 : EReal) := Ideal.ofBits_zero_f32
    rw [hi, zero_add]
    refine Finset.sum_congr rfl fun k _ => ?_
    have e : idx_main_v47 (ix1 t) k = (ix2 t k : S32768x2048.Idx) := by
      funext a
      fin_cases a <;> rfl
    rw [e]
    unfold val_main_v46
    exact congrArg₂ (fun a b : EReal => a * b) (hx k) (hx k)
  unfold val_main_v58 val_main_v57 val_main_v56 val_main_v55 val_main_v54 val_main_v53 val_main_v52 val_main_v51 val_main_v50 val_main_v49 val_main_v48 val_main_cst_8 val_main_cst_9
  generalize val_main_v47 X G Y O0 O1 O2 L0 L1 L2 Wa Wb Wo = s at hs
  generalize val_main_v45 X G Y O0 O1 O2 L0 L1 L2 Wa Wb Wo = u at hx
  pointwise []
  rw [hx, hs]
  rfl

/-- The second result. -/
theorem norms_eq (h : Finite L0 L1 L2) :
    val_main_v59 X G Y O0 O1 O2 L0 L1 L2 Wa Wb Wo g = norms X G Y O0 O1 O2 L0 L1 L2 Wa Wb Wo g .bf16 := by
  funext y
  idx_vars y
  exact norm_apply X G Y O0 O1 O2 Wa Wb Wo g h y0 y1

/-- The third result. -/
theorem norms_eq' (h : Finite L0 L1 L2) :
    val_main_v60 X G Y O0 O1 O2 L0 L1 L2 Wa Wb Wo g = norms X G Y O0 O1 O2 L0 L1 L2 Wa Wb Wo g .fp8e4m3 := by
  funext y
  idx_vars y
  exact norm_apply X G Y O0 O1 O2 Wa Wb Wo g h y0 y1

end Cert.Proof.MergeReference

end
-- ==== Proof.MergeClaim.lean ====
/- The claims about the merge programs, put together. -/
module

public import proofs.«01_k».proof.Defs
public import proofs.«01_k».proof.Proof.AttnClaim
public import proofs.«01_k».proof.Proof.MergeArray
public import proofs.«01_k».proof.Proof.MergeReference
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Quiescent
public import Idealize.ShloMosaic.Lib.Pointwise

@[expose] public section

noncomputable section

namespace Cert.Proof.MergeClaim

open Idealize.ShloMosaic Idealize.SL.Sem

/-- The side conditions of the precondition's operations. -/
theorem preFacts : Cert.Pre_finite_lse.Facts where
  bcast_S_S16x4x2048x128 := by decide

/-- Where the precondition holds every largest log-sum-exp is a real number. -/
theorem finite_tops {X : Vec Ideal Cert.Pre_finite_lse.S32768x2048 .f32} {G : Vec Ideal Cert.Pre_finite_lse.S32768x4096 .bf16}
    {Y : Vec Ideal Cert.Pre_finite_lse.S32768x1024 .bf16} {O0 O1 O2 L0 L1 L2 : Vec Ideal Cert.Pre_finite_lse.S16x4x2048x128 .f32}
    {Wa : Vec Ideal Cert.Pre_finite_lse.S1024x2048 .f32} {Wb : Vec Ideal Cert.Pre_finite_lse.S512x2048 .f32}
    {Wo : Vec Ideal Cert.Pre_finite_lse.S2048x2048 .f32} {g : Vec Ideal Cert.Pre_finite_lse.S2048 .f32}
    (h : (have := preFacts; Cert.Pre_finite_lse.fn (F := Ideal) X G Y O0 O1 O2 L0 L1 L2 Wa Wb Wo g) = fun _ => 1#1) :
    MergeReference.Finite L0 L1 L2 := by
  intro b p t l
  have h' := congrFun h (ix4 b p t l)
  apply AttnClaim.real_of_abs_lt
  unfold Merging.top
  have := preFacts
  pointwise [Cert.Pre_finite_lse.fn] at h'
  have et := AttnClaim.ofBits_top
  change Ideal.ofBits FTy.f32 2139095040#32 = (⊤ : EReal) at et
  rw [et] at h'
  by_contra hn
  exact absurd (congrArg BitVec.toNat (h'.symm.trans (congrArg BitVec.ofBool (decide_eq_false hn)))) (by decide)

/-- The kernel's frame, bit-exact. -/
theorem frame_p : Cert.quiescent_Merge (hMerge := Cert.Merge.Gen.facts) := fun m ρ _ => Cert.Merge.Gen.frame m ρ

/-- The kernel's frame over the extended reals. -/
theorem frame_pi : Cert.quiescent_MergeIdeal (hMergeIdeal := Cert.MergeIdeal.Gen.facts) := fun m ρ _ => Cert.MergeIdeal.Gen.frame m ρ

/-- The reference's frame. -/
theorem frame_ri : Cert.quiescent_MergeRefIdeal (hMergeRefIdeal := Cert.MergeRefIdeal.Gen.facts) := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- No operation is replaced. -/
theorem preserves : Cert.preserves_Merge_MergeIdeal := trivial

section Values

variable (m : (ℓ : Loc Cert.MergeIdeal.nD Cert.MergeIdeal.τ Cert.MergeIdeal.sig) → Buf (Elt Ideal) ℓ) (c : Dev Cert.MergeIdeal.nD)

/-- The first result of the arguments. -/
def first : Vec Ideal Cert.MergeIdeal.S32768x2048 .f32 := Merging.rows (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))

/-- The second result of the arguments. -/
def second : Vec Ideal Cert.MergeIdeal.S32768x2048 .bf16 := Merging.norms (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) .bf16

/-- The third result of the arguments. -/
def third : Vec Ideal Cert.MergeIdeal.S32768x2048 .fp8e4m3 := Merging.norms (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) .fp8e4m3

end Values

/-- The kernel's three results are the reference's, where no largest log-sum-exp is infinite. -/
theorem algebraic : Cert.algebraic_MergeIdeal_MergeRefIdeal_pre_finite_lse (hMergeIdeal := Cert.MergeIdeal.Gen.facts)
    (hMergeRefIdeal := Cert.MergeRefIdeal.Gen.facts) (hPre_finite_lse := preFacts) := fun m ρ m' ρ' hp hm => by
  refine ⟨first m, second m, third m, ?_, ?_⟩
  · exact (θ_run Cert.MergeIdeal.defs _ _).mono
      (fun r h c => ⟨(h c).1.trans (MergeArray.arr14 m c), (h c).2.1.trans (MergeArray.arr15 m c), (h c).2.2.1.trans (MergeArray.arr16 m c), (h c).2.2.2⟩)
      (Cert.MergeIdeal.Value.run_blocks (F := Ideal) m ρ)
  · refine (θ_run Cert.MergeRefIdeal.defs _ _).mono
      (fun r h c => ⟨(h c).1.trans ?_, (h c).2.1.trans ?_, (h c).2.2.1.trans ?_, (h c).2.2.2⟩) (Cert.MergeRefIdeal.Value.run (F := Ideal) m' ρ')
    all_goals
      obtain ⟨h0, h1, h2, h3, h4, h5, h6, h7, h8, h9, h10, h11, h12⟩ := hm c
      have hf : MergeReference.Finite (m' ((c.tc : Thread Cert.MergeRefIdeal.nD Cert.MergeRefIdeal.τ).loc Cert.MergeRefIdeal.main_arg6))
          (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) := by
        rw [h6, h7, h8]
        exact finite_tops (hp c)
    · have e : Merging.rows (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) = first m c := by
        rw [h0, h1, h2, h3, h4, h5, h6, h7, h8, h9, h10, h11]
        rfl
      exact (Cert.MergeRefIdeal.Read.val_main_v45_eq m' c).trans ((MergeReference.rows_eq _ _ _ _ _ _ _ _ _ hf).trans e)
    · have e : Merging.norms (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) .bf16 = second m c := by
        rw [h0, h1, h2, h3, h4, h5, h6, h7, h8, h9, h10, h11, h12]
        rfl
      exact (Cert.MergeRefIdeal.Read.val_main_v59_eq m' c).trans ((MergeReference.norms_eq _ _ _ _ _ _ _ _ _ _ hf).trans e)
    · have e : Merging.norms (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) .fp8e4m3 = third m c := by
        rw [h0, h1, h2, h3, h4, h5, h6, h7, h8, h9, h10, h11, h12]
        rfl
      exact (Cert.MergeRefIdeal.Read.val_main_v60_eq m' c).trans ((MergeReference.norms_eq' _ _ _ _ _ _ _ _ _ _ hf).trans e)

end Cert.Proof.MergeClaim

end
-- ==== Proof.Slabs.lean ====
/-
  A product kept as four slabs of 128 lanes, and rows of the slabs gathered into a result's columns.

  The kernel that projects one group's queries, keys or values keeps its block's product, 2048 tokens by 512 columns,
  as four slabs. From each slab it takes every `D`-th token, beginning at each `r < D`, and writes what it takes
  in 128 columns of the result. So a row of the result holds `D` tokens, each with its queries, keys and values.
-/
module

public import Idealize.ShloMosaic.Init
public import Idealize.ShloMosaic.Lib.Pointwise
public import Idealize.ShloMosaic.Lib.Pipeline.Value
public import Idealize.ShloMosaic.Lib.ValueLayout

@[expose] public section

set_option maxRecDepth 16384

noncomputable section

namespace Cert.Proof.Slabs

open Idealize.ShloMosaic

/-- The four slabs. -/
abbrev Slab : Shape := ⟨3, ![4, 2048, 128]⟩

/-- The product, as a function of token and column. -/
abbrev Product : Type := Fin 2048 → Fin 512 → EReal

/-- The four slabs hold the product: slab `k` its columns from `128 k`. -/
theorem slabs_hold (P : Product)
    {i0 : ∀ a, (![0, 0, 0] : Fin 3 → ℕ) a + (![1, 2048, 128] : Fin 3 → ℕ) a ≤ Slab.size a}
    {i1 : ∀ a, (![1, 0, 0] : Fin 3 → ℕ) a + (![1, 2048, 128] : Fin 3 → ℕ) a ≤ Slab.size a}
    {i2 : ∀ a, (![2, 0, 0] : Fin 3 → ℕ) a + (![1, 2048, 128] : Fin 3 → ℕ) a ≤ Slab.size a}
    {i3 : ∀ a, (![3, 0, 0] : Fin 3 → ℕ) a + (![1, 2048, 128] : Fin 3 → ℕ) a ≤ Slab.size a}
    (w0 w1 w2 w3 : (⟨3, ![1, 2048, 128]⟩ : Shape).Idx → Elt Ideal .f32)
    (h0 : ∀ (n : Fin 2048) (l : Fin 128), w0 (ix3 0 n l) = P n ⟨0 + l.val, by omega⟩)
    (h1 : ∀ (n : Fin 2048) (l : Fin 128), w1 (ix3 0 n l) = P n ⟨128 + l.val, by omega⟩)
    (h2 : ∀ (n : Fin 2048) (l : Fin 128), w2 (ix3 0 n l) = P n ⟨256 + l.val, by omega⟩)
    (h3 : ∀ (n : Fin 2048) (l : Fin 128), w3 (ix3 0 n l) = P n ⟨384 + l.val, by omega⟩)
    (k : Fin 4) (n : Fin 2048) (l : Fin 128) :
    View.canon (Val := Elt Ideal) (s := Slab) (e := .f32)
      [⟨Rect.unit ![3, 0, 0] ![1, 2048, 128] i3, w3⟩, ⟨Rect.unit ![2, 0, 0] ![1, 2048, 128] i2, w2⟩,
        ⟨Rect.unit ![1, 0, 0] ![1, 2048, 128] i1, w1⟩, ⟨Rect.unit ![0, 0, 0] ![1, 2048, 128] i0, w0⟩] (ix3 k n l)
      = P n ⟨128 * k.val + l.val, by omega⟩ := by
  have hval : ∀ (j : ℕ) (hj : j < 4) (i : ∀ a, (![j, 0, 0] : Fin 3 → ℕ) a + (![1, 2048, 128] : Fin 3 → ℕ) a ≤ Slab.size a)
      (w : (⟨3, ![1, 2048, 128]⟩ : Shape).Idx → Elt Ideal .f32)
      (h : ∀ (n : Fin 2048) (l : Fin 128), w (ix3 0 n l) = P n ⟨128 * j + l.val, by omega⟩)
      (x : (⟨3, ![1, 2048, 128]⟩ : Shape).Idx),
      w x = (fun y : Slab.Idx => P (y 1) ⟨128 * (y 0).val + (y 2).val, by
        have := (y 0).isLt; have := (y 2).isLt; change (y 0).val < 4 at *; change (y 2).val < 128 at *; omega⟩)
          ((Rect.unit (s := Slab) ![j, 0, 0] ![1, 2048, 128] i).emb x) := by
    intro j hj i w h x
    have hx0 : (x 0).val < 1 := (x 0).isLt
    have e : x = ix3 0 (x 1) (x 2) := by
      funext a
      match a with
      | ⟨0, _⟩ => exact Fin.ext (by show (x 0).val = 0; omega)
      | ⟨1, _⟩ => rfl
      | ⟨2, _⟩ => rfl
    refine ((congrArg w e).trans (h (x 1) (x 2))).trans ?_
    refine congrArg₂ P (Fin.ext ?_) (Fin.ext ?_)
    · show (x 1).val = 0 + 1 * (x 1).val; omega
    · show 128 * j + (x 2).val = 128 * (j + 1 * (x 0).val) + (0 + 1 * (x 2).val); omega
  have hmem : ∀ (j : ℕ) (i : ∀ a, (![j, 0, 0] : Fin 3 → ℕ) a + (![1, 2048, 128] : Fin 3 → ℕ) a ≤ Slab.size a), k.val = j →
      (ix3 k n l : Slab.Idx) ∈ (Rect.unit (s := Slab) ![j, 0, 0] ![1, 2048, 128] i).set := by
    intro j i hj
    rw [Rect.mem_set_unit]
    intro a
    match a with
    | ⟨0, _⟩ => exact ⟨show j ≤ k.val by omega, show k.val < j + 1 by omega⟩
    | ⟨1, _⟩ => exact ⟨show 0 ≤ n.val by omega, show n.val < 0 + 2048 by omega⟩
    | ⟨2, _⟩ => exact ⟨show 0 ≤ l.val by omega, show l.val < 0 + 128 by omega⟩
  refine View.canon_apply_of_pieces (Val := Elt Ideal) (S := Slab) (e := .f32) (fun y : Slab.Idx => P (y 1) ⟨128 * (y 0).val + (y 2).val, by
        have := (y 0).isLt; have := (y 2).isLt; change (y 0).val < 4 at *; change (y 2).val < 128 at *; omega⟩)
    [⟨Rect.unit ![3, 0, 0] ![1, 2048, 128] i3, w3⟩, ⟨Rect.unit ![2, 0, 0] ![1, 2048, 128] i2, w2⟩,
        ⟨Rect.unit ![1, 0, 0] ![1, 2048, 128] i1, w1⟩, ⟨Rect.unit ![0, 0, 0] ![1, 2048, 128] i0, w0⟩]
    (List.forall_mem_cons.mpr ⟨hval 3 (by omega) i3 w3 h3, List.forall_mem_cons.mpr ⟨hval 2 (by omega) i2 w2 h2,
      List.forall_mem_cons.mpr ⟨hval 1 (by omega) i1 w1 h1, List.forall_mem_cons.mpr ⟨hval 0 (by omega) i0 w0 h0,
        fun p hp => absurd hp List.not_mem_nil⟩⟩⟩⟩) _ ?_
  have hk := k.isLt
  have : k.val = 3 ∨ k.val = 2 ∨ k.val = 1 ∨ k.val = 0 := by omega
  rcases this with e | e | e | e
  · exact ⟨_, .head _, hmem 3 i3 e⟩
  · exact ⟨_, .tail _ (.head _), hmem 2 i2 e⟩
  · exact ⟨_, .tail _ (.tail _ (.head _)), hmem 1 i1 e⟩
  · exact ⟨_, .tail _ (.tail _ (.tail _ (.head _))), hmem 0 i0 e⟩

variable (D N W : ℕ) (hD : D * N = 2048) (hW : W = D * 1536)

/-- The result's block where it is written: row `n`, column `j` holds token `D n + j / 1536`, column `j % 512`
    of the product. -/
def gathered (P : Product) (y : (⟨2, ![N, W]⟩ : Shape).Idx) : EReal :=
  P ⟨D * (y 0).val + (y 1).val / 1536, by
      have h0 : (y 0).val < N := (y 0).isLt
      have h1 : (y 1).val < W := (y 1).isLt
      have : (y 1).val / 1536 < D := by rw [Nat.div_lt_iff_lt_mul (by omega)]; omega
      have : D * ((y 0).val + 1) ≤ D * N := Nat.mul_le_mul_left D h0
      rw [Nat.mul_add] at this; omega⟩
    ⟨(y 1).val % 512, Nat.mod_lt _ (by omega)⟩

/-- A piece of the result's block is 128 columns wide, of all rows, and holds what `gathered` says. -/
def Good (P : Product) (p : View.Piece (Elt Ideal) ⟨2, ![N, W]⟩ .bf16) : Prop :=
  (∀ y : (⟨2, ![N, W]⟩ : Shape).Idx, y ∈ p.1.set ↔ p.1.off 1 ≤ (y 1).val ∧ (y 1).val < p.1.off 1 + 128)
    ∧ ∀ x : p.1.shape.Idx, p.2 x = gathered D N W hD hW P (p.1.emb x)

/-- A piece that holds slab `k`'s tokens from `r`, every `D`-th, in the columns for slab `k` of the `q`-th third of
    token `r`. -/
theorem good {sig : RefSig} {κ : Kind} {sp : Space} {v : View sig κ sp Slab .f32} {Ls : List (View.Piece (Elt Ideal) Slab .f32)}
    {P : Product} (hLs : ∀ (k : Fin 4) (n : Fin 2048) (l : Fin 128), View.canon Ls (ix3 k n l) = P n ⟨128 * k.val + l.val, by omega⟩)
    (q : ℕ) (hq : q < 3) {k r o : ℕ} {st : Fin 3 → ℕ}
    {inb : ∀ a : Fin 3, (![1, N, 128] : Fin 3 → ℕ) a = 0 ∨ (![k, r, 0] : Fin 3 → ℕ) a + st a * ((![1, N, 128] : Fin 3 → ℕ) a - 1) < Slab.size a}
    {io : ∀ a : Fin 2, (![0, o] : Fin 2 → ℕ) a + (![N, 128] : Fin 2 → ℕ) a ≤ (⟨2, ![N, W]⟩ : Shape).size a}
    {w : (⟨2, ![N, 128]⟩ : Shape).Idx → Elt Ideal .bf16}
    {hs : (⟨3, ![1, N, 128]⟩ : Shape).ShapeCasts ⟨2, ![N, 128]⟩} {hb : FTy.bits .bf16 < FTy.bits .f32}
    (hw : w = truncf (F := Ideal) .bf16 (shapeCast ⟨2, ![N, 128]⟩
      (v.readCov Ls (⟨![k, r, 0], ![1, N, 128], st, inb⟩ : LoadRect Slab) : Vec Ideal ⟨3, ![1, N, 128]⟩ .f32) hs) hb)
    (hst : st 1 = D) (hst2 : st 2 = 1) (hk : k < 4) (hr : r < D) (ho : o = (3 * r + q) * 512 + k * 128) :
    Good D N W hD hW P ⟨Rect.unit ![0, o] ![N, 128] io, w⟩ := by
  refine ⟨fun y => ?_, fun x => ?_⟩
  · rw [Rect.mem_set_unit]
    refine ⟨fun h => h 1, fun h a => ?_⟩
    match a with
    | ⟨0, _⟩ => exact ⟨Nat.zero_le _, by show (y 0).val < 0 + N; rw [Nat.zero_add]; exact (y 0).isLt⟩
    | ⟨1, _⟩ => exact h
  · subst hw
    obtain ⟨x0, x1, rfl⟩ : ∃ (x0 : Fin N) (x1 : Fin 128), x = ix2 x0 x1 :=
      ⟨x 0, x 1, by funext a; match a with | ⟨0, _⟩ => rfl | ⟨1, _⟩ => rfl⟩
    have hx0 := x0.isLt
    have hx1 := x1.isLt
    have hrn : r + D * x0.val < 2048 := by
      have : D * (x0.val + 1) ≤ D * N := Nat.mul_le_mul_left D hx0
      rw [Nat.mul_add] at this; omega
    have e : (truncf (F := Ideal) .bf16 (shapeCast ⟨2, ![N, 128]⟩
      (v.readCov Ls (⟨![k, r, 0], ![1, N, 128], st, inb⟩ : LoadRect Slab) : Vec Ideal ⟨3, ![1, N, 128]⟩ .f32) hs) hb) (ix2 x0 x1)
        = View.canon Ls (ix3 (⟨k, hk⟩ : Fin 4) (⟨r + D * x0.val, hrn⟩ : Fin 2048) x1) := by
      rw [View.readCov_eq_canon']
      refine (congrArg (fun z => View.canon Ls ((⟨![k, r, 0], ![1, N, 128], st, inb⟩ : LoadRect Slab).idx z))
        (ValueIdx.reshapeEquiv_ix2_1ab hs x0 x1)).trans ?_
      refine congrArg (View.canon Ls) ?_
      funext a
      match a with
      | ⟨0, _⟩ => exact Fin.ext (by show k + st 0 * 0 = k; rw [Nat.mul_zero, Nat.add_zero])
      | ⟨1, _⟩ => exact Fin.ext (by show r + st 1 * x0.val = r + D * x0.val; rw [hst])
      | ⟨2, _⟩ => exact Fin.ext (by show 0 + st 2 * x1.val = x1.val; rw [hst2]; omega)
    refine e.trans ((hLs _ _ _).trans ?_)
    unfold gathered
    refine congrArg₂ P (Fin.ext ?_) (Fin.ext ?_)
    · show r + D * x0.val = D * (0 + 1 * x0.val) + (o + 1 * x1.val) / 1536
      have : (o + 1 * x1.val) / 1536 = r := by omega
      rw [this, Nat.zero_add, Nat.one_mul]; omega
    · show 128 * k + x1.val = (o + 1 * x1.val) % 512
      omega

/-- Where the pieces of the `q`-th third begin, last first. -/
def starts (q : ℕ) : List ℕ :=
  ((List.range D).flatMap fun r => (List.range 4).map fun k => (3 * r + q) * 512 + k * 128).reverse

/-- Good pieces that begin at `starts q` overwrite the `q`-th third of every token's columns by what `gathered` says and
    leave the rest as it was. -/
theorem overwritten {sig : RefSig} {κ : Kind} {sp : Space} (v : View sig κ sp ⟨2, ![N, W]⟩ .bf16) (f : v.ty.Contents (Elt Ideal))
    {P : Product} {L : List (View.Piece (Elt Ideal) ⟨2, ![N, W]⟩ .bf16)} {q : ℕ} (hq : q < 3)
    (hgood : ∀ p ∈ L, Good D N W hD hW P p) (hL : L.map (fun p => p.1.off 1) = starts D q) (y : (⟨2, ![N, W]⟩ : Shape).Idx) :
    v.read (Elt Ideal) (v.writes (Elt Ideal) f L) y
      = if (y 1).val / 512 % 3 = q then gathered D N W hD hW P y else v.read (Elt Ideal) f y := by
  have h1 : (y 1).val < W := (y 1).isLt
  have hstarts : ∀ o, o ∈ starts D q ↔ ∃ r < D, ∃ k < 4, (3 * r + q) * 512 + k * 128 = o := by
    intro o
    unfold starts
    simp only [List.mem_reverse, List.mem_flatMap, List.mem_range, List.mem_map]
  by_cases h : (y 1).val / 512 % 3 = q
  · rw [if_pos h]
    refine View.read_writes_apply_of_pieces (v := v) (f := f) (gathered D N W hD hW P) L (fun p hp => (hgood p hp).2) y ?_
    have : (y 1).val / 128 * 128 ∈ L.map (fun p => p.1.off 1) := by
      rw [hL, hstarts]
      refine ⟨(y 1).val / 1536, ?_, (y 1).val % 512 / 128, by omega, by omega⟩
      rw [Nat.div_lt_iff_lt_mul (by omega)]; omega
    obtain ⟨p, hp, e⟩ := List.mem_map.mp this
    refine ⟨p, hp, ((hgood p hp).1 y).mpr ?_⟩
    dsimp only at e
    omega
  · rw [if_neg h]
    refine View.read_writes_apply_of_forall_not_mem (v := v) (f := f) y L fun p hp hy => h ?_
    have hb := ((hgood p hp).1 y).mp hy
    have : p.1.off 1 ∈ L.map (fun p => p.1.off 1) := List.mem_map.mpr ⟨p, hp, rfl⟩
    rw [hL, hstarts] at this
    obtain ⟨r, hr, k, hk, e⟩ := this
    omega

end Cert.Proof.Slabs

end
-- ==== Proof.Qkv0IdealRun.lean ====
/-
  Every run of the program of group 0's queries, keys and values, as printed for the extended reals, ends, and leaves its arguments as they were.

  A row of the grid has three points: they store the query, key and value columns of the same block of the result, and
  the last of them writes the block back. A point finds in the block's buffer what the point before left there, so what
  is left is stated as a relation between what a point finds and what it leaves.
-/
module

public import proofs.«01_k».proof.Proof.Gen.Qkv0Ideal.Launch
public import proofs.«01_k».proof.Proof.Gen.Qkv0Ideal.Skeleton
public import proofs.«01_k».proof.Proof.Gen.Qkv0Ideal.Points
public import proofs.«01_k».proof.Proof.Gen.Qkv0Ideal.Frame
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Qkv0Ideal.Hand

open Cert.Qkv0Ideal Cert.Qkv0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The propositions over the machine's state in which the steps of the kernel are reasoned about. -/
abbrev M (F : FTy → Type) [FloatOps F] : Type := sProp (MT nD τ sig Unit (Elt F) ℕ (UR sig nD τ) ℕ)

variable (m : (ℓ : Loc nD τ sig) → Buf (Elt F) ℓ) (ρ : Dev nD → PrngReg)

/-! ## Which third of a row a grid point stores -/

/-- The query columns are stored: the point's position in its triple is zero. -/
abbrev isQ (i : grid0.Coords) : Prop := k0_cond1 i = 1#1
/-- The key columns are stored: the point's position in its triple is one. -/
abbrev isK (i : grid0.Coords) : Prop := k0_cond2 i = 1#1
/-- The value columns are stored: the point's position in its triple is two. -/
abbrev isV (i : grid0.Coords) : Prop := k0_cond3 i = 1#1

/-- The branch `isQ` is taken exactly at the points that leave remainder 0 by three. -/
theorem isQ_iff : ∀ t : Fin cfg0.N, isQ (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isQ, k0_cond1, e0, e1]
    word_cmp
   : ∀ t : Fin grid0.N, isQ (grid0.coords t) ↔ t.val % 3 = 0)

/-- The branch `isK` is taken exactly at the points that leave remainder 1 by three. -/
theorem isK_iff : ∀ t : Fin cfg0.N, isK (grid0.coords t) ↔ t.val % 3 = 1 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isK, k0_cond2, e0, e1]
    word_cmp
   : ∀ t : Fin grid0.N, isK (grid0.coords t) ↔ t.val % 3 = 1)

/-- The branch `isV` is taken exactly at the points that leave remainder 2 by three. -/
theorem isV_iff : ∀ t : Fin cfg0.N, isV (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isV, k0_cond3, e0, e1]
    word_cmp
   : ∀ t : Fin grid0.N, isV (grid0.coords t) ↔ t.val % 3 = 2)

/-! ## The body on any staging buffers -/

/-- The staging buffers the body is given at a point, each a whole buffer. -/
abbrev stX (t : Fin cfg0.N) : Memref sig .tc .vmem S2048x2048 .bf16 := win0_0.stage (cfg0.slots t 0)
/-- The token buffer is a whole buffer. -/
abbrev stX_whole (t : Fin cfg0.N) : (stX t).IsWhole := hstage0_0 ((cfg0.slots t 0).cast nbuf0_0)
/-- The weight buffer of a point. -/
abbrev stW (t : Fin cfg0.N) : Memref sig .tc .vmem S2048x512 .bf16 := win0_1.stage (cfg0.slots t 1)
/-- The weight buffer is a whole buffer. -/
abbrev stW_whole (t : Fin cfg0.N) : (stW t).IsWhole := hstage0_1 ((cfg0.slots t 1).cast nbuf0_1)
/-- The result buffer of a point. -/
abbrev stO (t : Fin cfg0.N) : Memref sig .tc .vmem S2048x1536 .bf16 := win0_2.stage (cfg0.slots t 2)
/-- The result buffer is a whole buffer. -/
abbrev stO_whole (t : Fin cfg0.N) : (stO t).IsWhole := hstage0_2 ((cfg0.slots t 2).cast nbuf0_2)
/-- The buffer in which the product is kept as four slabs of lanes. -/
abbrev slab : Memref sig .tc .vmem S4x2048x128 .f32 := Memref.whole cc0_scratch0

set_option maxHeartbeats 4000000 in
/-- The body at a point that stores the query columns: from the inputs' contents `x0`, `x1`, any contents `xo` of the
    result buffer and any contents of the slabs, it runs to the end, leaves the inputs as they were, and leaves the
    result buffer at `xo` overwritten by the pieces this names. -/
def runQ (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S2048x1536 .bf16) (harg4 : arg4.IsWhole) (arg5 : Memref sig .tc .vmem S4x2048x128 .f32) (harg5 : arg5.IsWhole) (hq : isQ i) (hk : ¬isK i) (hv : ¬isV i)
    (x0 : Vec F S2048x2048 .bf16) (x1 : Vec F S2048x512 .bf16) (xo : Vec F S2048x1536 .bf16) :
    { L : List (View.Piece (Elt F) S2048x1536 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

set_option maxHeartbeats 4000000 in
/-- The body at a point that stores the key columns: from the inputs' contents `x0`, `x1`, any contents `xo` of the
    result buffer and any contents of the slabs, it runs to the end, leaves the inputs as they were, and leaves the
    result buffer at `xo` overwritten by the pieces this names. -/
def runK (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S2048x1536 .bf16) (harg4 : arg4.IsWhole) (arg5 : Memref sig .tc .vmem S4x2048x128 .f32) (harg5 : arg5.IsWhole) (hq : ¬isQ i) (hk : isK i) (hv : ¬isV i)
    (x0 : Vec F S2048x2048 .bf16) (x1 : Vec F S2048x512 .bf16) (xo : Vec F S2048x1536 .bf16) :
    { L : List (View.Piece (Elt F) S2048x1536 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

set_option maxHeartbeats 4000000 in
/-- The body at a point that stores the value columns: from the inputs' contents `x0`, `x1`, any contents `xo` of the
    result buffer and any contents of the slabs, it runs to the end, leaves the inputs as they were, and leaves the
    result buffer at `xo` overwritten by the pieces this names. -/
def runV (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S2048x1536 .bf16) (harg4 : arg4.IsWhole) (arg5 : Memref sig .tc .vmem S4x2048x128 .f32) (harg5 : arg5.IsWhole) (hq : ¬isQ i) (hk : ¬isK i) (hv : isV i)
    (x0 : Vec F S2048x2048 .bf16) (x1 : Vec F S2048x512 .bf16) (xo : Vec F S2048x1536 .bf16) :
    { L : List (View.Piece (Elt F) S2048x1536 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

/-- What the point `t` leaves in the result buffer, given the blocks it reads and what it found there. -/
def left (c : Dev nD) (t : Fin cfg0.N) (x0 : Vec F S2048x2048 .bf16) (x1 : Vec F S2048x512 .bf16)
    (xo : Vec F S2048x1536 .bf16) : Vec F S2048x1536 .bf16 :=
  (stO t).view.read (Elt F) ((stO t).view.writes (Elt F) ((stO_whole t).unread xo)
    (if h0 : t.val % 3 = 0 then (runQ c (grid0.coords t) (stX t) (stX_whole t) (stW t) (stW_whole t) (stO t) (stO_whole t) slab (Memref.isWhole_whole _) ((isQ_iff t).mpr h0) (fun h => by have := (isK_iff t).mp h; omega) (fun h => by have := (isV_iff t).mp h; omega) x0 x1 xo).1
     else if h1 : t.val % 3 = 1 then (runK c (grid0.coords t) (stX t) (stX_whole t) (stW t) (stW_whole t) (stO t) (stO_whole t) slab (Memref.isWhole_whole _) (fun h => h0 ((isQ_iff t).mp h)) ((isK_iff t).mpr h1) (fun h => by have := (isV_iff t).mp h; omega) x0 x1 xo).1
     else (runV c (grid0.coords t) (stX t) (stX_whole t) (stW t) (stW_whole t) (stO t) (stO_whole t) slab (Memref.isWhole_whole _) (fun h => h0 ((isQ_iff t).mp h)) (fun h => h1 ((isK_iff t).mp h)) ((isV_iff t).mpr (by omega)) x0 x1 xo).1))

/-! ## The data of the proof -/

/-- The inputs are left as found, and the result buffer as `left` says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = left c t (iblk m c 0 t) (iblk m c 1 t) Y
  Φ _ := Pipeline.ΦA spec0 c
  q _ := fullShare
  owed _ := 0

/-- The arrays are as the grid finds them. -/
theorem rdat_A (c : Dev nD) (w : Fin cfg0.W) : (rdat m c).A w = V m c (Pipeline.arrRef spec0 w) := by
  dsimp only [rdat]

/-- The token window holds its block at every point. -/
theorem finds_x (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by dsimp only [rdat] at h; exact h) t Y h
  unfold RDat.fetched RDat.blockOf iblk; rw [rdat_A]; rfl

/-- The weight window holds its block at every point. -/
theorem finds_w (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by dsimp only [rdat] at h; exact h) t Y h
  unfold RDat.fetched RDat.blockOf iblk; rw [rdat_A]; rfl

/-- The slabs are the one buffer of the kernel's own. -/
theorem own_eq (c : Dev nD) :
    (Pipeline.ΦA spec0 c : M F)
      = iprop(iprop((∃ d, owns (c : Thread nD τ) slab fullShare d)) ∗ (∃ r, prngReg c r)) := by
  unfold Pipeline.ΦA; rw [scopedRest0_eq]; simp only [slab, owns_whole]; try rfl

set_option maxHeartbeats 1200000 in
/-- The body at a point, from the blocks it reads and any contents of the result buffer. -/
theorem sound_body (c : Dev nD) (t : Fin cfg0.N) (xo : Vec F S2048x1536 .bf16) :
    (iprop(Pipeline.ΦA spec0 c ∗ (rdat m c).owesAt () t.castSucc
      ∗ owns (c : Thread nD τ) (stX t) fullShare (iblk m c 0 t)
      ∗ owns (c : Thread nD τ) (stW t) fullShare (iblk m c 1 t)
      ∗ owns (c : Thread nD τ) (stO t) fullShare xo) : M F)
      ⊢ wp frame (wpE (defs₀ (F := F)) Variants.none c none) Set.univ (bodyAt0 t) (fun _ =>
        iprop(Pipeline.ΦA spec0 c ∗ (rdat m c).owesAt () t.castSucc
          ∗ owns (c : Thread nD τ) (stX t) fullShare (iblk m c 0 t)
          ∗ owns (c : Thread nD τ) (stW t) fullShare (iblk m c 1 t)
          ∗ owns (c : Thread nD τ) (stO t) fullShare (left c t (iblk m c 0 t) (iblk m c 1 t) xo))) := by
  unfold bodyAt0
  rw [own_eq]
  by_cases h0 : t.val % 3 = 0
  · iintro ⟨⟨HS0, Hg⟩, Ho, H0, H1, H2⟩
    iapply ((runQ c (grid0.coords t) (stX t) (stX_whole t) (stW t) (stW_whole t) (stO t) (stO_whole t) slab (Memref.isWhole_whole _) ((isQ_iff t).mpr h0) (fun h => by have := (isK_iff t).mp h; omega) (fun h => by have := (isV_iff t).mp h; omega) (iblk m c 0 t) (iblk m c 1 t) xo).2 Set.univ _)
    isplitl [H0]; · iexact H0
    isplitl [H1]; · iexact H1
    isplitl [H2]; · iexact H2
    isplitl [HS0]; · iexact HS0
    iintro ⟨H0, H1, H2, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    unfold owns; iexists _; isplitr
    swap; · iexact H2
    ipureintro; unfold left; rw [dif_pos h0]
  · by_cases h1 : t.val % 3 = 1
    · iintro ⟨⟨HS0, Hg⟩, Ho, H0, H1, H2⟩
      iapply ((runK c (grid0.coords t) (stX t) (stX_whole t) (stW t) (stW_whole t) (stO t) (stO_whole t) slab (Memref.isWhole_whole _) (fun h => h0 ((isQ_iff t).mp h)) ((isK_iff t).mpr h1) (fun h => by have := (isV_iff t).mp h; omega) (iblk m c 0 t) (iblk m c 1 t) xo).2 Set.univ _)
      isplitl [H0]; · iexact H0
      isplitl [H1]; · iexact H1
      isplitl [H2]; · iexact H2
      isplitl [HS0]; · iexact HS0
      iintro ⟨H0, H1, H2, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      unfold owns; iexists _; isplitr
      swap; · iexact H2
      ipureintro; unfold left; rw [dif_neg h0, dif_pos h1]
    · iintro ⟨⟨HS0, Hg⟩, Ho, H0, H1, H2⟩
      iapply ((runV c (grid0.coords t) (stX t) (stX_whole t) (stW t) (stW_whole t) (stO t) (stO_whole t) slab (Memref.isWhole_whole _) (fun h => h0 ((isQ_iff t).mp h)) (fun h => h1 ((isK_iff t).mp h)) ((isV_iff t).mpr (by omega)) (iblk m c 0 t) (iblk m c 1 t) xo).2 Set.univ _)
      isplitl [H0]; · iexact H0
      isplitl [H1]; · iexact H1
      isplitl [H2]; · iexact H2
      isplitl [HS0]; · iexact HS0
      iintro ⟨H0, H1, H2, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      unfold owns; iexists _; isplitr
      swap; · iexact H2
      ipureintro; unfold left; rw [dif_neg h0, dif_neg h1]

/-- The body the grid runs at a point is the one above. -/
theorem body_row (t : Fin cfg0.N) :
    defs₀ (F := F) .tc cfg0.body (cfg0.bodyArgs t (cfg0.slots t)) = bodyAt0 t := by
  unfold defs₀; rw [Defs.onTc_tc]

/-- At every point the body leaves what the data say. -/
theorem body_obligation (c : Dev nD) : (rdat (F := F) m c).BodyObligation (defs₀ (F := F)) Variants.none () Set.univ := fun t Y hY => by
  rw [bigSep_W0, bigSep_W0, body_row]
  have e0 := finds_x m c t (Y 0) (hY 0)
  have e1 := finds_w m c t (Y 1) (hY 1)
  rw [e0, e1, show (rdat m c).Φ t.succ = Pipeline.ΦA spec0 c from rfl,
    show (rdat m c).owesAt () t.succ = (rdat m c).owesAt () t.castSucc from rfl]
  refine triple_restated (sound_body m c t (Y 2)) rfl .rfl fun _ => ?_
  iintro ⟨HΦ, Ho, H0, H1, H2⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  iexists _; isplitr
  swap; · iexact H2
  ipureintro; rfl

/-! ## The run and the frame -/

set_option backward.isDefEq.respectTransparency.types false in
/-- From any memory with zero counters every execution ends, the arrays are as the data say, every other buffer
    is as the grid found it, and the counters are at zero. -/
theorem run_main : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hΦ := fun _ _ => rfl)
    (Q' := fun r => RDat.FramePost cfg0 (rdat m) (V m) r ∧ r.2.sem = fun _ => 0) (hQ' := fun _ h => h)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(RDat.FramePost.arr_in h.1 c 0 rfl).trans ((rdat_A m c 0).trans (V_main_arg0 m c)),
      ((h.1 c).2 main_arg1 (Pipeline.mem_restRefs_of main_arg1 (by decide) (by decide))).trans (V_main_arg1 m c)⟩, h.2⟩) (run_main m ρ)

end Cert.Qkv0Ideal.Hand

end
-- ==== Proof.Qkv0Value.lean ====
/- Group 0's queries, keys and values: the kernel's array and the reference's are both the product of tokens and weights at
   the group's columns, 1 token to a row. -/
module

public import proofs.«01_k».proof.Proof.Project
public import proofs.«01_k».proof.Proof.Slabs
public import proofs.«01_k».proof.Proof.Qkv0IdealRun
public import proofs.«01_k».proof.Proof.Gen.Qkv0RefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Qkv0

open Idealize.ShloMosaic Idealize.ShloMosaic.TcCoe Idealize.SL.Sem Cert.Qkv0Ideal Cert.Qkv0Ideal.Gen Cert.Qkv0Ideal.Hand
open Idealize.ShloMosaic.Pipeline (RDat)
open Project (grouped)
open Slabs (Product Good good starts overwritten gathered slabs_hold)

/-- A block's product: of its tokens' rows and its columns. -/
def product (x0 : Vec Ideal S2048x2048 .bf16) (x1 : Vec Ideal S2048x512 .bf16) : Product :=
  fun n j => ∑ k : Fin 2048, x0 (ix2 n k) * x1 (ix2 k j)

/-- Slab 0 of a block's product: columns 0 to 127. -/
theorem slab0 (a : Vec Ideal S2048x2048 .bf16) (b : Vec Ideal S2048x512 .bf16) (n : Fin 2048) (l : Fin 128) :
    k0_pay6 (F := Ideal) a b (ix3 0 n l) = product a b n ⟨0 + l.val, by omega⟩ := by
  unfold product
  pointwise [k0_pay6, k0_pay5]

/-- Slab 1 of a block's product: columns 128 to 255. -/
theorem slab1 (a : Vec Ideal S2048x2048 .bf16) (b : Vec Ideal S2048x512 .bf16) (n : Fin 2048) (l : Fin 128) :
    k0_pay7 (F := Ideal) a b (ix3 0 n l) = product a b n ⟨128 + l.val, by omega⟩ := by
  unfold product
  pointwise [k0_pay7, k0_pay5]

/-- Slab 2 of a block's product: columns 256 to 383. -/
theorem slab2 (a : Vec Ideal S2048x2048 .bf16) (b : Vec Ideal S2048x512 .bf16) (n : Fin 2048) (l : Fin 128) :
    k0_pay8 (F := Ideal) a b (ix3 0 n l) = product a b n ⟨256 + l.val, by omega⟩ := by
  unfold product
  pointwise [k0_pay8, k0_pay5]

/-- Slab 3 of a block's product: columns 384 to 511. -/
theorem slab3 (a : Vec Ideal S2048x2048 .bf16) (b : Vec Ideal S2048x512 .bf16) (n : Fin 2048) (l : Fin 128) :
    k0_pay9 (F := Ideal) a b (ix3 0 n l) = product a b n ⟨384 + l.val, by omega⟩ := by
  unfold product
  pointwise [k0_pay9, k0_pay5]

/-- After the product's four slabs are stored, at a point that stores the query columns, the buffer holds the product. -/
theorem slabsQ (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runQ.sl.HS0_4 c arg2 harg2 arg3 harg3 x0 x1) (ix3 k n l) = product x0 x1 n ⟨128 * k.val + l.val, by omega⟩ := by
  unfold runQ.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the query columns holds what it should. -/
theorem goodQ (c : Dev nD) (arg2 : Memref sig .tc .vmem S2048x2048 .bf16) (harg2 : arg2.IsWhole) (arg3 : Memref sig .tc .vmem S2048x512 .bf16) (harg3 : arg3.IsWhole) (arg4 : Memref sig .tc .vmem S2048x1536 .bf16) (harg4 : arg4.IsWhole) (arg5 : Memref sig .tc .vmem S4x2048x128 .f32) (harg5 : arg5.IsWhole)
    (i : grid0.Coords) (hq : isQ i) (hk : ¬isK i) (hv : ¬isV i) (x0 : Vec Ideal S2048x2048 .bf16) (x1 : Vec Ideal S2048x512 .bf16) (xo : Vec Ideal S2048x1536 .bf16) :
    (∀ p ∈ (runQ c i arg2 harg2 arg3 harg3 arg4 harg4 arg5 harg5 hq hk hv x0 x1 xo).1, Good 1 2048 1536 rfl rfl (product x0 x1) p)
      ∧ (runQ c i arg2 harg2 arg3 harg3 arg4 harg4 arg5 harg5 hq hk hv x0 x1 xo).1.map (fun p => p.1.off 1) = starts 1 0 := by
  have hs := slabsQ c arg2 harg2 arg3 harg3 x0 x1
  unfold runQ
  dsimp only
  refine ⟨?_, rfl⟩
  repeat' (refine List.forall_mem_cons.mpr ⟨good 1 2048 1536 rfl rfl hs 0 (by decide) (hs := shapeCasts_S1x2048x128_S2048x128) (hb := bitsLt_bf16_f32) rfl rfl rfl (by decide) (by decide) (by decide), ?_⟩)
  exact fun p hp => absurd hp List.not_mem_nil

/-- After the product's four slabs are stored, at a point that stores the key columns, the buffer holds the product. -/
theorem slabsK (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runK.sl.HS0_4 c arg2 harg2 arg3 harg3 x0 x1) (ix3 k n l) = product x0 x1 n ⟨128 * k.val + l.val, by omega⟩ := by
  unfold runK.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the key columns holds what it should. -/
theorem goodK (c : Dev nD) (arg2 : Memref sig .tc .vmem S2048x2048 .bf16) (harg2 : arg2.IsWhole) (arg3 : Memref sig .tc .vmem S2048x512 .bf16) (harg3 : arg3.IsWhole) (arg4 : Memref sig .tc .vmem S2048x1536 .bf16) (harg4 : arg4.IsWhole) (arg5 : Memref sig .tc .vmem S4x2048x128 .f32) (harg5 : arg5.IsWhole)
    (i : grid0.Coords) (hq : ¬isQ i) (hk : isK i) (hv : ¬isV i) (x0 : Vec Ideal S2048x2048 .bf16) (x1 : Vec Ideal S2048x512 .bf16) (xo : Vec Ideal S2048x1536 .bf16) :
    (∀ p ∈ (runK c i arg2 harg2 arg3 harg3 arg4 harg4 arg5 harg5 hq hk hv x0 x1 xo).1, Good 1 2048 1536 rfl rfl (product x0 x1) p)
      ∧ (runK c i arg2 harg2 arg3 harg3 arg4 harg4 arg5 harg5 hq hk hv x0 x1 xo).1.map (fun p => p.1.off 1) = starts 1 1 := by
  have hs := slabsK c arg2 harg2 arg3 harg3 x0 x1
  unfold runK
  dsimp only
  refine ⟨?_, rfl⟩
  repeat' (refine List.forall_mem_cons.mpr ⟨good 1 2048 1536 rfl rfl hs 1 (by decide) (hs := shapeCasts_S1x2048x128_S2048x128) (hb := bitsLt_bf16_f32) rfl rfl rfl (by decide) (by decide) (by decide), ?_⟩)
  exact fun p hp => absurd hp List.not_mem_nil

/-- After the product's four slabs are stored, at a point that stores the value columns, the buffer holds the product. -/
theorem slabsV (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runV.sl.HS0_4 c arg2 harg2 arg3 harg3 x0 x1) (ix3 k n l) = product x0 x1 n ⟨128 * k.val + l.val, by omega⟩ := by
  unfold runV.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the value columns holds what it should. -/
theorem goodV (c : Dev nD) (arg2 : Memref sig .tc .vmem S2048x2048 .bf16) (harg2 : arg2.IsWhole) (arg3 : Memref sig .tc .vmem S2048x512 .bf16) (harg3 : arg3.IsWhole) (arg4 : Memref sig .tc .vmem S2048x1536 .bf16) (harg4 : arg4.IsWhole) (arg5 : Memref sig .tc .vmem S4x2048x128 .f32) (harg5 : arg5.IsWhole)
    (i : grid0.Coords) (hq : ¬isQ i) (hk : ¬isK i) (hv : isV i) (x0 : Vec Ideal S2048x2048 .bf16) (x1 : Vec Ideal S2048x512 .bf16) (xo : Vec Ideal S2048x1536 .bf16) :
    (∀ p ∈ (runV c i arg2 harg2 arg3 harg3 arg4 harg4 arg5 harg5 hq hk hv x0 x1 xo).1, Good 1 2048 1536 rfl rfl (product x0 x1) p)
      ∧ (runV c i arg2 harg2 arg3 harg3 arg4 harg4 arg5 harg5 hq hk hv x0 x1 xo).1.map (fun p => p.1.off 1) = starts 1 2 := by
  have hs := slabsV c arg2 harg2 arg3 harg3 x0 x1
  unfold runV
  dsimp only
  refine ⟨?_, rfl⟩
  repeat' (refine List.forall_mem_cons.mpr ⟨good 1 2048 1536 rfl rfl hs 2 (by decide) (hs := shapeCasts_S1x2048x128_S2048x128) (hb := bitsLt_bf16_f32) rfl rfl rfl (by decide) (by decide) (by decide), ?_⟩)
  exact fun p hp => absurd hp List.not_mem_nil

/-- What a point leaves: its third of every token's columns from its product, the rest as found. -/
theorem left_apply (c : Dev nD) (t : Fin cfg0.N) (x0 : Vec Ideal S2048x2048 .bf16) (x1 : Vec Ideal S2048x512 .bf16)
    (xo : Vec Ideal S2048x1536 .bf16) (y : S2048x1536.Idx) :
    left c t x0 x1 xo y = if (y 1).val / 512 % 3 = t.val % 3 then gathered 1 2048 1536 rfl rfl (product x0 x1) y else xo y := by
  unfold left
  by_cases h0 : t.val % 3 = 0
  · have g := goodQ c (stX t) (stX_whole t) (stW t) (stW_whole t) (stO t) (stO_whole t) slab (Memref.isWhole_whole _) (grid0.coords t)
      ((isQ_iff t).mpr h0) (fun h => by have := (isK_iff t).mp h; omega) (fun h => by have := (isV_iff t).mp h; omega) x0 x1 xo
    rw [dif_pos h0, h0]
    refine (overwritten 1 2048 1536 rfl rfl _ _ (by decide) g.1 g.2 y).trans ?_
    rw [(stO_whole t).read_unread]
  · by_cases h1 : t.val % 3 = 1
    · have g := goodK c (stX t) (stX_whole t) (stW t) (stW_whole t) (stO t) (stO_whole t) slab (Memref.isWhole_whole _) (grid0.coords t)
        (fun h => h0 ((isQ_iff t).mp h)) ((isK_iff t).mpr h1) (fun h => by have := (isV_iff t).mp h; omega) x0 x1 xo
      rw [dif_neg h0, dif_pos h1, h1]
      refine (overwritten 1 2048 1536 rfl rfl _ _ (by decide) g.1 g.2 y).trans ?_
      rw [(stO_whole t).read_unread]
    · have h2 : t.val % 3 = 2 := by omega
      have g := goodV c (stX t) (stX_whole t) (stW t) (stW_whole t) (stO t) (stO_whole t) slab (Memref.isWhole_whole _) (grid0.coords t)
        (fun h => h0 ((isQ_iff t).mp h)) (fun h => h1 ((isK_iff t).mp h)) ((isV_iff t).mpr h2) x0 x1 xo
      rw [dif_neg h0, dif_neg h1, h2]
      refine (overwritten 1 2048 1536 rfl rfl _ _ (by decide) g.1 g.2 y).trans ?_
      rw [(stO_whole t).read_unread]

/-- Where the windows' blocks lie. -/
theorem index_facts : ∀ t : Fin cfg0.N, win0_0.index t 0 = t.val / 3 ∧ win0_0.index t 1 = 0
    ∧ win0_1.index t 0 = 0 ∧ win0_1.index t 1 = 6 + 3 * (t.val % 3) + 0
    ∧ win0_2.index t 0 = t.val / 3 ∧ win0_2.index t 1 = 0 := by
  decide +kernel

variable (m : (ℓ : Loc nD τ sig) → Buf (Elt Ideal) ℓ)

/-- The weights that the region reads are the argument's. -/
theorem entry_eq (c : Dev nD) : V m c main_v0 = m (c, Proc.tc.devRef main_arg1) := by
  funext x
  unfold V
  entry_read
  rfl

/-- The tokens that the region reads are the argument's. -/
theorem entry_tokens (c : Dev nD) : V m c main_arg0 = m (c, Proc.tc.devRef main_arg0) := V_main_arg0 m c

/-- A point's block of tokens. -/
theorem tokens (c : Dev nD) (t : Fin cfg0.N) (n k : Fin 2048) (n' : Fin 32768) (h : n'.val = 2048 * (t.val / 3) + n.val) :
    iblk m c 0 t (ix2 n k) = m (c, Proc.tc.devRef main_arg0) (ix2 n' k) := by
  have hx := index_facts t
  blk_simp [iblk]
  rw [entry_tokens]
  refine congrArg (m (c, Proc.tc.devRef main_arg0)) ?_
  blk_ext

/-- A point's block of weights. -/
theorem weights (c : Dev nD) (t : Fin cfg0.N) (k : Fin 2048) (j : Fin 512) (j' : Fin 11776)
    (h : j'.val = 3072 + t.val % 3 * 1536 + 0 * 512 + j.val) :
    iblk m c 1 t (ix2 k j) = m (c, Proc.tc.devRef main_arg1) (ix2 k j') := by
  have hx := index_facts t
  blk_simp [iblk]
  rw [entry_eq]
  refine congrArg (m (c, Proc.tc.devRef main_arg1)) ?_
  blk_ext

/-- The specification at an index of a block, from the product of the point that stores it. -/
theorem gathered_eq (c : Dev nD) (t : Fin cfg0.N) (y : S2048x1536.Idx) (h : (y 1).val / 512 % 3 = t.val % 3) (z : S32768x1536.Idx)
    (h0 : (z 0).val = 2048 * (t.val / 3) + (y 0).val) (h1 : (z 1).val = (y 1).val) :
    gathered 1 2048 1536 rfl rfl (product (iblk m c 0 t) (iblk m c 1 t)) y
      = grouped 0 (by decide) 1 32768 1536 rfl rfl (m (c, Proc.tc.devRef main_arg0)) (m (c, Proc.tc.devRef main_arg1)) z := by
  unfold gathered product grouped
  refine Finset.sum_congr (M := EReal) (s₁ := Finset.univ) (s₂ := Finset.univ) rfl fun k _ => congrArg₂ (fun a b : EReal => a * b) ?_ ?_
  · refine tokens m c t _ k _ ?_
    dsimp only
    rw [h0, h1]; omega
  · refine weights m c t k _ _ ?_
    dsimp only
    rw [h1]; omega

/-- What a point that writes its block back left there. -/
theorem leaves_apply (c : Dev nD) (t : Fin cfg0.N) (ht : t.val % 3 = 2) (X : S2048x1536.Idx → Elt Ideal .bf16)
    (hX : (rdat m c).Leaves 2 t X) (y : S2048x1536.Idx) (z : S32768x1536.Idx)
    (h0 : (z 0).val = 2048 * (t.val / 3) + (y 0).val) (h1 : (z 1).val = (y 1).val) :
    X y = grouped 0 (by decide) 1 32768 1536 rfl rfl (m (c, Proc.tc.devRef main_arg0)) (m (c, Proc.tc.devRef main_arg1)) z := by
  have step : ∀ (u : Fin cfg0.N) (X : S2048x1536.Idx → Elt Ideal .bf16), u.val / 3 = t.val / 3 → (rdat m c).Leaves 2 u X →
      ∃ Y, (rdat m c).Finds 2 u Y ∧ X y = if (y 1).val / 512 % 3 = u.val % 3 then
        grouped 0 (by decide) 1 32768 1536 rfl rfl (m (c, Proc.tc.devRef main_arg0)) (m (c, Proc.tc.devRef main_arg1)) z else Y y := by
    intro u X hu hX
    obtain ⟨Y, hY, e⟩ := hX
    refine ⟨Y, hY, ?_⟩
    have e' : X = left c u (iblk m c 0 u) (iblk m c 1 u) Y := e
    rw [e', left_apply]
    split
    · next h => exact gathered_eq m c u y h z (by rw [hu]; exact h0) h1
    · rfl
  have back : ∀ (u : Fin cfg0.N) (Y : S2048x1536.Idx → Elt Ideal .bf16), u.val % 3 ≠ 0 → (rdat m c).Finds 2 u Y →
      (rdat m c).Leaves 2 ⟨u.val - 1, Nat.lt_of_le_of_lt (Nat.sub_le _ _) u.isLt⟩ Y := by
    intro u Y hu hY
    refine (((rdat m c).finds_of_pos ((cfg0.win 2).fetch_out rfl u) (by omega) Y).mp hY).resolve_left fun hf => ?_
    have := (flush0_2 _).mp hf
    dsimp only at this
    omega
  obtain ⟨Y2, f2, e2⟩ := step t X rfl hX
  obtain ⟨Y1, f1, e1⟩ := step _ Y2 (by dsimp only; omega) (back t Y2 (by omega) f2)
  obtain ⟨Y0, f0, e0⟩ := step _ Y1 (by dsimp only; omega) (back _ Y1 (by dsimp only; omega) f1)
  rw [e2]
  split
  · rfl
  rw [e1]
  split
  · rfl
  rw [e0]
  split
  · rfl
  · next h2 h1 h0 => exfalso; dsimp only at h0 h1; omega

/-- The kernel's result, from what the points that write their blocks back left. -/
theorem arr (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 2 cfg0.N
      = grouped 0 (by decide) 1 32768 1536 rfl rfl (m (c, Proc.tc.devRef main_arg0)) (m (c, Proc.tc.devRef main_arg1)) := by
  refine ((rdat m c).withAfter after).arrAt_eq_of_covers 2 _ (by decide +kernel) fun t hf y => ?_
  have hx := index_facts t
  have ht := (flush0_2 t).mp hf
  have hl := hL 2 t hf
  blk_simp
  rw [RDat.withAfter_after]
  refine leaves_apply m c t ht _ hl _ _ ?_ ?_
  · blk_simp
    rw [hx.2.2.2.2.1]; omega
  · blk_simp
    rw [hx.2.2.2.2.2]; omega

/-- Every run ends with the result the specification names and the arguments unchanged. -/
theorem result (ρ : Dev nD → PrngReg) : θ_run defs (onTc (τ := τ) (main (F := Ideal))) ⟨m, fun _ => 0, ρ⟩ fun r => ∀ c : Dev nD,
      r.2.mem ((c.tc : Thread nD τ).loc main_v1)
        = grouped 0 (by decide) 1 32768 1536 rfl rfl (m (c, Proc.tc.devRef main_arg0)) (m (c, Proc.tc.devRef main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨after, hL, hA⟩ := RDat.FramePost.exists_exact h.1 c
    exact ⟨(hA 2).trans (arr m c after hL),
      (RDat.FramePost.arr_in h.1 c 0 rfl).trans ((rdat_A m c 0).trans (V_main_arg0 m c)),
      ((h.1 c).2 main_arg1 (Pipeline.mem_restRefs_of main_arg1 (by decide) (by decide))).trans (V_main_arg1 m c)⟩) (run_main m ρ)

/-- The reference's result. -/
theorem reference_eq (X : Vec Ideal S32768x2048 .bf16) (W : FVec Ideal S2048x11776 .f32) :
    Cert.Qkv0RefIdeal.Read.val_main_v7 X W = grouped 0 (by decide) 1 32768 1536 rfl rfl X W := by
  funext y
  obtain ⟨i, j, rfl⟩ : ∃ (i : Fin 32768) (j : Fin 1536), y = ix2 i j :=
    ⟨y 0, y 1, by funext a; match a with | ⟨0, _⟩ => rfl | ⟨1, _⟩ => rfl⟩
  rw [Cert.Qkv0RefIdeal.Read.val_main_v7_apply]
  refine (congrArg _ (by rw [Cert.Qkv0RefIdeal.Read.val_main_v6_apply, Cert.Qkv0RefIdeal.Read.val_main_v5_apply, Cert.Qkv0RefIdeal.Read.val_main_v4_apply,
    Cert.Qkv0RefIdeal.Read.val_main_v3_apply, Cert.Qkv0RefIdeal.Read.val_main_v2_apply, Cert.Qkv0RefIdeal.Read.val_main_v1_apply])).trans ?_
  unfold grouped
  have hi := i.isLt
  have hj := j.isLt
  refine Finset.sum_congr (M := EReal) (s₁ := Finset.univ) (s₂ := Finset.univ) rfl fun k _ => congrArg₂ (fun a b : EReal => a * b) ?_ ?_
  · refine congrArg X (funext fun a => ?_)
    match a with
    | ⟨0, _⟩ =>
      refine Fin.ext ?_
      dsimp only [ix2]
      omega
    | ⟨1, _⟩ => rfl
  · refine congrArg W (funext fun a => ?_)
    match a with
    | ⟨0, _⟩ => rfl
    | ⟨1, _⟩ =>
      refine Fin.ext ?_
      dsimp only [ix2]
      omega

end Cert.Proof.Qkv0

end
-- ==== Proof.Qkv0Claim.lean ====
/- The claims about the programs of group 0's queries, keys and values, put together. -/
module

public import proofs.«01_k».proof.Defs
public import proofs.«01_k».proof.Proof.Qkv0Value
public import proofs.«01_k».proof.Proof.Qkv0Run
public import proofs.«01_k».proof.Proof.Gen.Qkv0RefIdeal.Run
public import proofs.«01_k».proof.Proof.Gen.Qkv0RefIdeal.Read
public import Idealize.ShloMosaic.Lib.Quiescent

@[expose] public section

noncomputable section

namespace Cert.Proof.Qkv0Claim

open Idealize.ShloMosaic Idealize.SL.Sem

/-- The kernel's frame, bit-exact. -/
theorem frame_p : Cert.quiescent_Qkv0 (hQkv0 := Cert.Qkv0.Gen.facts) := fun m ρ _ => Cert.Qkv0.Hand.frame m ρ

/-- The kernel's frame over the extended reals. -/
theorem frame_pi : Cert.quiescent_Qkv0Ideal (hQkv0Ideal := Cert.Qkv0Ideal.Gen.facts) := fun m ρ _ => Cert.Qkv0Ideal.Hand.frame m ρ

/-- The reference's frame. -/
theorem frame_ri : Cert.quiescent_Qkv0RefIdeal (hQkv0RefIdeal := Cert.Qkv0RefIdeal.Gen.facts) := fun m ρ _ =>
  (θ_run Cert.Qkv0RefIdeal.defs _ _).mono (fun r h => ⟨fun c => (h c).2, sem_eq_zero_of_no_sems (by decide) r.2⟩)
    (Cert.Qkv0RefIdeal.Value.run (F := Ideal) m ρ)

/-- No operation is replaced. -/
theorem preserves : Cert.preserves_Qkv0_Qkv0Ideal := trivial

/-- The kernel's result is the reference's. -/
theorem algebraic : Cert.algebraic_Qkv0Ideal_Qkv0RefIdeal (hQkv0Ideal := Cert.Qkv0Ideal.Gen.facts)
    (hQkv0RefIdeal := Cert.Qkv0RefIdeal.Gen.facts) := fun m ρ m' ρ' _ hm => by
  refine ⟨fun c => Project.grouped 0 (by decide) 1 32768 1536 rfl rfl (m (c, Proc.tc.devRef Cert.Qkv0Ideal.main_arg0)) (m (c, Proc.tc.devRef Cert.Qkv0Ideal.main_arg1)), ?_, ?_⟩
  · exact Qkv0.result m ρ
  · refine (θ_run Cert.Qkv0RefIdeal.defs _ _).mono (fun r h c => ⟨(h c).1.trans ?_, (h c).2⟩) (Cert.Qkv0RefIdeal.Value.run (F := Ideal) m' ρ')
    beta_reduce
    rw [← Qkv0.reference_eq, ← (hm c).1, ← (hm c).2]
    exact Cert.Qkv0RefIdeal.Read.val_main_v7_eq _ _

end Cert.Proof.Qkv0Claim

end
-- ==== Proof.Qkv1IdealRun.lean ====
/-
  Every run of the program of group 1's queries, keys and values, as printed for the extended reals, ends, and leaves its arguments as they were.

  A row of the grid has three points: they store the query, key and value columns of the same block of the result, and
  the last of them writes the block back. A point finds in the block's buffer what the point before left there, so what
  is left is stated as a relation between what a point finds and what it leaves.
-/
module

public import proofs.«01_k».proof.Proof.Gen.Qkv1Ideal.Launch
public import proofs.«01_k».proof.Proof.Gen.Qkv1Ideal.Skeleton
public import proofs.«01_k».proof.Proof.Gen.Qkv1Ideal.Points
public import proofs.«01_k».proof.Proof.Gen.Qkv1Ideal.Frame
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Qkv1Ideal.Hand

open Cert.Qkv1Ideal Cert.Qkv1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The propositions over the machine's state in which the steps of the kernel are reasoned about. -/
abbrev M (F : FTy → Type) [FloatOps F] : Type := sProp (MT nD τ sig Unit (Elt F) ℕ (UR sig nD τ) ℕ)

variable (m : (ℓ : Loc nD τ sig) → Buf (Elt F) ℓ) (ρ : Dev nD → PrngReg)

/-! ## Which third of a row a grid point stores -/

/-- The query columns are stored: the point's position in its triple is zero. -/
abbrev isQ (i : grid0.Coords) : Prop := k0_cond1 i = 1#1
/-- The key columns are stored: the point's position in its triple is one. -/
abbrev isK (i : grid0.Coords) : Prop := k0_cond2 i = 1#1
/-- The value columns are stored: the point's position in its triple is two. -/
abbrev isV (i : grid0.Coords) : Prop := k0_cond3 i = 1#1

/-- The branch `isQ` is taken exactly at the points that leave remainder 0 by three. -/
theorem isQ_iff : ∀ t : Fin cfg0.N, isQ (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isQ, k0_cond1, e0, e1]
    word_cmp
   : ∀ t : Fin grid0.N, isQ (grid0.coords t) ↔ t.val % 3 = 0)

/-- The branch `isK` is taken exactly at the points that leave remainder 1 by three. -/
theorem isK_iff : ∀ t : Fin cfg0.N, isK (grid0.coords t) ↔ t.val % 3 = 1 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isK, k0_cond2, e0, e1]
    word_cmp
   : ∀ t : Fin grid0.N, isK (grid0.coords t) ↔ t.val % 3 = 1)

/-- The branch `isV` is taken exactly at the points that leave remainder 2 by three. -/
theorem isV_iff : ∀ t : Fin cfg0.N, isV (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isV, k0_cond3, e0, e1]
    word_cmp
   : ∀ t : Fin grid0.N, isV (grid0.coords t) ↔ t.val % 3 = 2)

/-! ## The body on any staging buffers -/

/-- The staging buffers the body is given at a point, each a whole buffer. -/
abbrev stX (t : Fin cfg0.N) : Memref sig .tc .vmem S2048x2048 .bf16 := win0_0.stage (cfg0.slots t 0)
/-- The token buffer is a whole buffer. -/
abbrev stX_whole (t : Fin cfg0.N) : (stX t).IsWhole := hstage0_0 ((cfg0.slots t 0).cast nbuf0_0)
/-- The weight buffer of a point. -/
abbrev stW (t : Fin cfg0.N) : Memref sig .tc .vmem S2048x512 .bf16 := win0_1.stage (cfg0.slots t 1)
/-- The weight buffer is a whole buffer. -/
abbrev stW_whole (t : Fin cfg0.N) : (stW t).IsWhole := hstage0_1 ((cfg0.slots t 1).cast nbuf0_1)
/-- The result buffer of a point. -/
abbrev stO (t : Fin cfg0.N) : Memref sig .tc .vmem S512x6144 .bf16 := win0_2.stage (cfg0.slots t 2)
/-- The result buffer is a whole buffer. -/
abbrev stO_whole (t : Fin cfg0.N) : (stO t).IsWhole := hstage0_2 ((cfg0.slots t 2).cast nbuf0_2)
/-- The buffer in which the product is kept as four slabs of lanes. -/
abbrev slab : Memref sig .tc .vmem S4x2048x128 .f32 := Memref.whole cc0_scratch0

set_option maxHeartbeats 4000000 in
/-- The body at a point that stores the query columns: from the inputs' contents `x0`, `x1`, any contents `xo` of the
    result buffer and any contents of the slabs, it runs to the end, leaves the inputs as they were, and leaves the
    result buffer at `xo` overwritten by the pieces this names. -/
def runQ (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S512x6144 .bf16) (harg4 : arg4.IsWhole) (arg5 : Memref sig .tc .vmem S4x2048x128 .f32) (harg5 : arg5.IsWhole) (hq : isQ i) (hk : ¬isK i) (hv : ¬isV i)
    (x0 : Vec F S2048x2048 .bf16) (x1 : Vec F S2048x512 .bf16) (xo : Vec F S512x6144 .bf16) :
    { L : List (View.Piece (Elt F) S512x6144 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

set_option maxHeartbeats 4000000 in
/-- The body at a point that stores the key columns: from the inputs' contents `x0`, `x1`, any contents `xo` of the
    result buffer and any contents of the slabs, it runs to the end, leaves the inputs as they were, and leaves the
    result buffer at `xo` overwritten by the pieces this names. -/
def runK (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S512x6144 .bf16) (harg4 : arg4.IsWhole) (arg5 : Memref sig .tc .vmem S4x2048x128 .f32) (harg5 : arg5.IsWhole) (hq : ¬isQ i) (hk : isK i) (hv : ¬isV i)
    (x0 : Vec F S2048x2048 .bf16) (x1 : Vec F S2048x512 .bf16) (xo : Vec F S512x6144 .bf16) :
    { L : List (View.Piece (Elt F) S512x6144 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

set_option maxHeartbeats 4000000 in
/-- The body at a point that stores the value columns: from the inputs' contents `x0`, `x1`, any contents `xo` of the
    result buffer and any contents of the slabs, it runs to the end, leaves the inputs as they were, and leaves the
    result buffer at `xo` overwritten by the pieces this names. -/
def runV (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S512x6144 .bf16) (harg4 : arg4.IsWhole) (arg5 : Memref sig .tc .vmem S4x2048x128 .f32) (harg5 : arg5.IsWhole) (hq : ¬isQ i) (hk : ¬isK i) (hv : isV i)
    (x0 : Vec F S2048x2048 .bf16) (x1 : Vec F S2048x512 .bf16) (xo : Vec F S512x6144 .bf16) :
    { L : List (View.Piece (Elt F) S512x6144 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

/-- What the point `t` leaves in the result buffer, given the blocks it reads and what it found there. -/
def left (c : Dev nD) (t : Fin cfg0.N) (x0 : Vec F S2048x2048 .bf16) (x1 : Vec F S2048x512 .bf16)
    (xo : Vec F S512x6144 .bf16) : Vec F S512x6144 .bf16 :=
  (stO t).view.read (Elt F) ((stO t).view.writes (Elt F) ((stO_whole t).unread xo)
    (if h0 : t.val % 3 = 0 then (runQ c (grid0.coords t) (stX t) (stX_whole t) (stW t) (stW_whole t) (stO t) (stO_whole t) slab (Memref.isWhole_whole _) ((isQ_iff t).mpr h0) (fun h => by have := (isK_iff t).mp h; omega) (fun h => by have := (isV_iff t).mp h; omega) x0 x1 xo).1
     else if h1 : t.val % 3 = 1 then (runK c (grid0.coords t) (stX t) (stX_whole t) (stW t) (stW_whole t) (stO t) (stO_whole t) slab (Memref.isWhole_whole _) (fun h => h0 ((isQ_iff t).mp h)) ((isK_iff t).mpr h1) (fun h => by have := (isV_iff t).mp h; omega) x0 x1 xo).1
     else (runV c (grid0.coords t) (stX t) (stX_whole t) (stW t) (stW_whole t) (stO t) (stO_whole t) slab (Memref.isWhole_whole _) (fun h => h0 ((isQ_iff t).mp h)) (fun h => h1 ((isK_iff t).mp h)) ((isV_iff t).mpr (by omega)) x0 x1 xo).1))

/-! ## The data of the proof -/

/-- The inputs are left as found, and the result buffer as `left` says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = left c t (iblk m c 0 t) (iblk m c 1 t) Y
  Φ _ := Pipeline.ΦA spec0 c
  q _ := fullShare
  owed _ := 0

/-- The arrays are as the grid finds them. -/
theorem rdat_A (c : Dev nD) (w : Fin cfg0.W) : (rdat m c).A w = V m c (Pipeline.arrRef spec0 w) := by
  dsimp only [rdat]

/-- The token window holds its block at every point. -/
theorem finds_x (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by dsimp only [rdat] at h; exact h) t Y h
  unfold RDat.fetched RDat.blockOf iblk; rw [rdat_A]; rfl

/-- The weight window holds its block at every point. -/
theorem finds_w (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by dsimp only [rdat] at h; exact h) t Y h
  unfold RDat.fetched RDat.blockOf iblk; rw [rdat_A]; rfl

/-- The slabs are the one buffer of the kernel's own. -/
theorem own_eq (c : Dev nD) :
    (Pipeline.ΦA spec0 c : M F)
      = iprop(iprop((∃ d, owns (c : Thread nD τ) slab fullShare d)) ∗ (∃ r, prngReg c r)) := by
  unfold Pipeline.ΦA; rw [scopedRest0_eq]; simp only [slab, owns_whole]; try rfl

set_option maxHeartbeats 1200000 in
/-- The body at a point, from the blocks it reads and any contents of the result buffer. -/
theorem sound_body (c : Dev nD) (t : Fin cfg0.N) (xo : Vec F S512x6144 .bf16) :
    (iprop(Pipeline.ΦA spec0 c ∗ (rdat m c).owesAt () t.castSucc
      ∗ owns (c : Thread nD τ) (stX t) fullShare (iblk m c 0 t)
      ∗ owns (c : Thread nD τ) (stW t) fullShare (iblk m c 1 t)
      ∗ owns (c : Thread nD τ) (stO t) fullShare xo) : M F)
      ⊢ wp frame (wpE (defs₀ (F := F)) Variants.none c none) Set.univ (bodyAt0 t) (fun _ =>
        iprop(Pipeline.ΦA spec0 c ∗ (rdat m c).owesAt () t.castSucc
          ∗ owns (c : Thread nD τ) (stX t) fullShare (iblk m c 0 t)
          ∗ owns (c : Thread nD τ) (stW t) fullShare (iblk m c 1 t)
          ∗ owns (c : Thread nD τ) (stO t) fullShare (left c t (iblk m c 0 t) (iblk m c 1 t) xo))) := by
  unfold bodyAt0
  rw [own_eq]
  by_cases h0 : t.val % 3 = 0
  · iintro ⟨⟨HS0, Hg⟩, Ho, H0, H1, H2⟩
    iapply ((runQ c (grid0.coords t) (stX t) (stX_whole t) (stW t) (stW_whole t) (stO t) (stO_whole t) slab (Memref.isWhole_whole _) ((isQ_iff t).mpr h0) (fun h => by have := (isK_iff t).mp h; omega) (fun h => by have := (isV_iff t).mp h; omega) (iblk m c 0 t) (iblk m c 1 t) xo).2 Set.univ _)
    isplitl [H0]; · iexact H0
    isplitl [H1]; · iexact H1
    isplitl [H2]; · iexact H2
    isplitl [HS0]; · iexact HS0
    iintro ⟨H0, H1, H2, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    unfold owns; iexists _; isplitr
    swap; · iexact H2
    ipureintro; unfold left; rw [dif_pos h0]
  · by_cases h1 : t.val % 3 = 1
    · iintro ⟨⟨HS0, Hg⟩, Ho, H0, H1, H2⟩
      iapply ((runK c (grid0.coords t) (stX t) (stX_whole t) (stW t) (stW_whole t) (stO t) (stO_whole t) slab (Memref.isWhole_whole _) (fun h => h0 ((isQ_iff t).mp h)) ((isK_iff t).mpr h1) (fun h => by have := (isV_iff t).mp h; omega) (iblk m c 0 t) (iblk m c 1 t) xo).2 Set.univ _)
      isplitl [H0]; · iexact H0
      isplitl [H1]; · iexact H1
      isplitl [H2]; · iexact H2
      isplitl [HS0]; · iexact HS0
      iintro ⟨H0, H1, H2, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      unfold owns; iexists _; isplitr
      swap; · iexact H2
      ipureintro; unfold left; rw [dif_neg h0, dif_pos h1]
    · iintro ⟨⟨HS0, Hg⟩, Ho, H0, H1, H2⟩
      iapply ((runV c (grid0.coords t) (stX t) (stX_whole t) (stW t) (stW_whole t) (stO t) (stO_whole t) slab (Memref.isWhole_whole _) (fun h => h0 ((isQ_iff t).mp h)) (fun h => h1 ((isK_iff t).mp h)) ((isV_iff t).mpr (by omega)) (iblk m c 0 t) (iblk m c 1 t) xo).2 Set.univ _)
      isplitl [H0]; · iexact H0
      isplitl [H1]; · iexact H1
      isplitl [H2]; · iexact H2
      isplitl [HS0]; · iexact HS0
      iintro ⟨H0, H1, H2, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      unfold owns; iexists _; isplitr
      swap; · iexact H2
      ipureintro; unfold left; rw [dif_neg h0, dif_neg h1]

/-- The body the grid runs at a point is the one above. -/
theorem body_row (t : Fin cfg0.N) :
    defs₀ (F := F) .tc cfg0.body (cfg0.bodyArgs t (cfg0.slots t)) = bodyAt0 t := by
  unfold defs₀; rw [Defs.onTc_tc]

/-- At every point the body leaves what the data say. -/
theorem body_obligation (c : Dev nD) : (rdat (F := F) m c).BodyObligation (defs₀ (F := F)) Variants.none () Set.univ := fun t Y hY => by
  rw [bigSep_W0, bigSep_W0, body_row]
  have e0 := finds_x m c t (Y 0) (hY 0)
  have e1 := finds_w m c t (Y 1) (hY 1)
  rw [e0, e1, show (rdat m c).Φ t.succ = Pipeline.ΦA spec0 c from rfl,
    show (rdat m c).owesAt () t.succ = (rdat m c).owesAt () t.castSucc from rfl]
  refine triple_restated (sound_body m c t (Y 2)) rfl .rfl fun _ => ?_
  iintro ⟨HΦ, Ho, H0, H1, H2⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  iexists _; isplitr
  swap; · iexact H2
  ipureintro; rfl

/-! ## The run and the frame -/

set_option backward.isDefEq.respectTransparency.types false in
/-- From any memory with zero counters every execution ends, the arrays are as the data say, every other buffer
    is as the grid found it, and the counters are at zero. -/
theorem run_main : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hΦ := fun _ _ => rfl)
    (Q' := fun r => RDat.FramePost cfg0 (rdat m) (V m) r ∧ r.2.sem = fun _ => 0) (hQ' := fun _ h => h)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(RDat.FramePost.arr_in h.1 c 0 rfl).trans ((rdat_A m c 0).trans (V_main_arg0 m c)),
      ((h.1 c).2 main_arg1 (Pipeline.mem_restRefs_of main_arg1 (by decide) (by decide))).trans (V_main_arg1 m c)⟩, h.2⟩) (run_main m ρ)

end Cert.Qkv1Ideal.Hand

end
-- ==== Proof.Qkv1Value.lean ====
/- Group 1's queries, keys and values: the kernel's array and the reference's are both the product of tokens and weights at
   the group's columns, 4 tokens to a row. -/
module

public import proofs.«01_k».proof.Proof.Project
public import proofs.«01_k».proof.Proof.Slabs
public import proofs.«01_k».proof.Proof.Qkv1IdealRun
public import proofs.«01_k».proof.Proof.Gen.Qkv1RefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Qkv1

open Idealize.ShloMosaic Idealize.ShloMosaic.TcCoe Idealize.SL.Sem Cert.Qkv1Ideal Cert.Qkv1Ideal.Gen Cert.Qkv1Ideal.Hand
open Idealize.ShloMosaic.Pipeline (RDat)
open Project (grouped)
open Slabs (Product Good good starts overwritten gathered slabs_hold)

/-- A block's product: of its tokens' rows and its columns. -/
def product (x0 : Vec Ideal S2048x2048 .bf16) (x1 : Vec Ideal S2048x512 .bf16) : Product :=
  fun n j => ∑ k : Fin 2048, x0 (ix2 n k) * x1 (ix2 k j)

/-- Slab 0 of a block's product: columns 0 to 127. -/
theorem slab0 (a : Vec Ideal S2048x2048 .bf16) (b : Vec Ideal S2048x512 .bf16) (n : Fin 2048) (l : Fin 128) :
    k0_pay42 (F := Ideal) a b (ix3 0 n l) = product a b n ⟨0 + l.val, by omega⟩ := by
  unfold product
  pointwise [k0_pay42, k0_pay41]

/-- Slab 1 of a block's product: columns 128 to 255. -/
theorem slab1 (a : Vec Ideal S2048x2048 .bf16) (b : Vec Ideal S2048x512 .bf16) (n : Fin 2048) (l : Fin 128) :
    k0_pay43 (F := Ideal) a b (ix3 0 n l) = product a b n ⟨128 + l.val, by omega⟩ := by
  unfold product
  pointwise [k0_pay43, k0_pay41]

/-- Slab 2 of a block's product: columns 256 to 383. -/
theorem slab2 (a : Vec Ideal S2048x2048 .bf16) (b : Vec Ideal S2048x512 .bf16) (n : Fin 2048) (l : Fin 128) :
    k0_pay44 (F := Ideal) a b (ix3 0 n l) = product a b n ⟨256 + l.val, by omega⟩ := by
  unfold product
  pointwise [k0_pay44, k0_pay41]

/-- Slab 3 of a block's product: columns 384 to 511. -/
theorem slab3 (a : Vec Ideal S2048x2048 .bf16) (b : Vec Ideal S2048x512 .bf16) (n : Fin 2048) (l : Fin 128) :
    k0_pay45 (F := Ideal) a b (ix3 0 n l) = product a b n ⟨384 + l.val, by omega⟩ := by
  unfold product
  pointwise [k0_pay45, k0_pay41]

/-- After the product's four slabs are stored, at a point that stores the query columns, the buffer holds the product. -/
theorem slabsQ (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runQ.sl.HS0_4 c arg2 harg2 arg3 harg3 x0 x1) (ix3 k n l) = product x0 x1 n ⟨128 * k.val + l.val, by omega⟩ := by
  unfold runQ.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the query columns holds what it should. -/
theorem goodQ (c : Dev nD) (arg2 : Memref sig .tc .vmem S2048x2048 .bf16) (harg2 : arg2.IsWhole) (arg3 : Memref sig .tc .vmem S2048x512 .bf16) (harg3 : arg3.IsWhole) (arg4 : Memref sig .tc .vmem S512x6144 .bf16) (harg4 : arg4.IsWhole) (arg5 : Memref sig .tc .vmem S4x2048x128 .f32) (harg5 : arg5.IsWhole)
    (i : grid0.Coords) (hq : isQ i) (hk : ¬isK i) (hv : ¬isV i) (x0 : Vec Ideal S2048x2048 .bf16) (x1 : Vec Ideal S2048x512 .bf16) (xo : Vec Ideal S512x6144 .bf16) :
    (∀ p ∈ (runQ c i arg2 harg2 arg3 harg3 arg4 harg4 arg5 harg5 hq hk hv x0 x1 xo).1, Good 4 512 6144 rfl rfl (product x0 x1) p)
      ∧ (runQ c i arg2 harg2 arg3 harg3 arg4 harg4 arg5 harg5 hq hk hv x0 x1 xo).1.map (fun p => p.1.off 1) = starts 4 0 := by
  have hs := slabsQ c arg2 harg2 arg3 harg3 x0 x1
  unfold runQ
  dsimp only
  refine ⟨?_, rfl⟩
  repeat' (refine List.forall_mem_cons.mpr ⟨good 4 512 6144 rfl rfl hs 0 (by decide) (hs := shapeCasts_S1x512x128_S512x128) (hb := bitsLt_bf16_f32) rfl rfl rfl (by decide) (by decide) (by decide), ?_⟩)
  exact fun p hp => absurd hp List.not_mem_nil

/-- After the product's four slabs are stored, at a point that stores the key columns, the buffer holds the product. -/
theorem slabsK (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runK.sl.HS0_4 c arg2 harg2 arg3 harg3 x0 x1) (ix3 k n l) = product x0 x1 n ⟨128 * k.val + l.val, by omega⟩ := by
  unfold runK.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the key columns holds what it should. -/
theorem goodK (c : Dev nD) (arg2 : Memref sig .tc .vmem S2048x2048 .bf16) (harg2 : arg2.IsWhole) (arg3 : Memref sig .tc .vmem S2048x512 .bf16) (harg3 : arg3.IsWhole) (arg4 : Memref sig .tc .vmem S512x6144 .bf16) (harg4 : arg4.IsWhole) (arg5 : Memref sig .tc .vmem S4x2048x128 .f32) (harg5 : arg5.IsWhole)
    (i : grid0.Coords) (hq : ¬isQ i) (hk : isK i) (hv : ¬isV i) (x0 : Vec Ideal S2048x2048 .bf16) (x1 : Vec Ideal S2048x512 .bf16) (xo : Vec Ideal S512x6144 .bf16) :
    (∀ p ∈ (runK c i arg2 harg2 arg3 harg3 arg4 harg4 arg5 harg5 hq hk hv x0 x1 xo).1, Good 4 512 6144 rfl rfl (product x0 x1) p)
      ∧ (runK c i arg2 harg2 arg3 harg3 arg4 harg4 arg5 harg5 hq hk hv x0 x1 xo).1.map (fun p => p.1.off 1) = starts 4 1 := by
  have hs := slabsK c arg2 harg2 arg3 harg3 x0 x1
  unfold runK
  dsimp only
  refine ⟨?_, rfl⟩
  repeat' (refine List.forall_mem_cons.mpr ⟨good 4 512 6144 rfl rfl hs 1 (by decide) (hs := shapeCasts_S1x512x128_S512x128) (hb := bitsLt_bf16_f32) rfl rfl rfl (by decide) (by decide) (by decide), ?_⟩)
  exact fun p hp => absurd hp List.not_mem_nil

/-- After the product's four slabs are stored, at a point that stores the value columns, the buffer holds the product. -/
theorem slabsV (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runV.sl.HS0_4 c arg2 harg2 arg3 harg3 x0 x1) (ix3 k n l) = product x0 x1 n ⟨128 * k.val + l.val, by omega⟩ := by
  unfold runV.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the value columns holds what it should. -/
theorem goodV (c : Dev nD) (arg2 : Memref sig .tc .vmem S2048x2048 .bf16) (harg2 : arg2.IsWhole) (arg3 : Memref sig .tc .vmem S2048x512 .bf16) (harg3 : arg3.IsWhole) (arg4 : Memref sig .tc .vmem S512x6144 .bf16) (harg4 : arg4.IsWhole) (arg5 : Memref sig .tc .vmem S4x2048x128 .f32) (harg5 : arg5.IsWhole)
    (i : grid0.Coords) (hq : ¬isQ i) (hk : ¬isK i) (hv : isV i) (x0 : Vec Ideal S2048x2048 .bf16) (x1 : Vec Ideal S2048x512 .bf16) (xo : Vec Ideal S512x6144 .bf16) :
    (∀ p ∈ (runV c i arg2 harg2 arg3 harg3 arg4 harg4 arg5 harg5 hq hk hv x0 x1 xo).1, Good 4 512 6144 rfl rfl (product x0 x1) p)
      ∧ (runV c i arg2 harg2 arg3 harg3 arg4 harg4 arg5 harg5 hq hk hv x0 x1 xo).1.map (fun p => p.1.off 1) = starts 4 2 := by
  have hs := slabsV c arg2 harg2 arg3 harg3 x0 x1
  unfold runV
  dsimp only
  refine ⟨?_, rfl⟩
  repeat' (refine List.forall_mem_cons.mpr ⟨good 4 512 6144 rfl rfl hs 2 (by decide) (hs := shapeCasts_S1x512x128_S512x128) (hb := bitsLt_bf16_f32) rfl rfl rfl (by decide) (by decide) (by decide), ?_⟩)
  exact fun p hp => absurd hp List.not_mem_nil

/-- What a point leaves: its third of every token's columns from its product, the rest as found. -/
theorem left_apply (c : Dev nD) (t : Fin cfg0.N) (x0 : Vec Ideal S2048x2048 .bf16) (x1 : Vec Ideal S2048x512 .bf16)
    (xo : Vec Ideal S512x6144 .bf16) (y : S512x6144.Idx) :
    left c t x0 x1 xo y = if (y 1).val / 512 % 3 = t.val % 3 then gathered 4 512 6144 rfl rfl (product x0 x1) y else xo y := by
  unfold left
  by_cases h0 : t.val % 3 = 0
  · have g := goodQ c (stX t) (stX_whole t) (stW t) (stW_whole t) (stO t) (stO_whole t) slab (Memref.isWhole_whole _) (grid0.coords t)
      ((isQ_iff t).mpr h0) (fun h => by have := (isK_iff t).mp h; omega) (fun h => by have := (isV_iff t).mp h; omega) x0 x1 xo
    rw [dif_pos h0, h0]
    refine (overwritten 4 512 6144 rfl rfl _ _ (by decide) g.1 g.2 y).trans ?_
    rw [(stO_whole t).read_unread]
  · by_cases h1 : t.val % 3 = 1
    · have g := goodK c (stX t) (stX_whole t) (stW t) (stW_whole t) (stO t) (stO_whole t) slab (Memref.isWhole_whole _) (grid0.coords t)
        (fun h => h0 ((isQ_iff t).mp h)) ((isK_iff t).mpr h1) (fun h => by have := (isV_iff t).mp h; omega) x0 x1 xo
      rw [dif_neg h0, dif_pos h1, h1]
      refine (overwritten 4 512 6144 rfl rfl _ _ (by decide) g.1 g.2 y).trans ?_
      rw [(stO_whole t).read_unread]
    · have h2 : t.val % 3 = 2 := by omega
      have g := goodV c (stX t) (stX_whole t) (stW t) (stW_whole t) (stO t) (stO_whole t) slab (Memref.isWhole_whole _) (grid0.coords t)
        (fun h => h0 ((isQ_iff t).mp h)) (fun h => h1 ((isK_iff t).mp h)) ((isV_iff t).mpr h2) x0 x1 xo
      rw [dif_neg h0, dif_neg h1, h2]
      refine (overwritten 4 512 6144 rfl rfl _ _ (by decide) g.1 g.2 y).trans ?_
      rw [(stO_whole t).read_unread]

/-- Where the windows' blocks lie. -/
theorem index_facts : ∀ t : Fin cfg0.N, win0_0.index t 0 = t.val / 3 ∧ win0_0.index t 1 = 0
    ∧ win0_1.index t 0 = 0 ∧ win0_1.index t 1 = 6 + 3 * (t.val % 3) + 1
    ∧ win0_2.index t 0 = t.val / 3 ∧ win0_2.index t 1 = 0 := by
  decide +kernel

variable (m : (ℓ : Loc nD τ sig) → Buf (Elt Ideal) ℓ)

/-- The weights that the region reads are the argument's. -/
theorem entry_eq (c : Dev nD) : V m c main_v0 = m (c, Proc.tc.devRef main_arg1) := by
  funext x
  unfold V
  entry_read
  rfl

/-- The tokens that the region reads are the argument's. -/
theorem entry_tokens (c : Dev nD) : V m c main_arg0 = m (c, Proc.tc.devRef main_arg0) := V_main_arg0 m c

/-- A point's block of tokens. -/
theorem tokens (c : Dev nD) (t : Fin cfg0.N) (n k : Fin 2048) (n' : Fin 32768) (h : n'.val = 2048 * (t.val / 3) + n.val) :
    iblk m c 0 t (ix2 n k) = m (c, Proc.tc.devRef main_arg0) (ix2 n' k) := by
  have hx := index_facts t
  blk_simp [iblk]
  rw [entry_tokens]
  refine congrArg (m (c, Proc.tc.devRef main_arg0)) ?_
  blk_ext

/-- A point's block of weights. -/
theorem weights (c : Dev nD) (t : Fin cfg0.N) (k : Fin 2048) (j : Fin 512) (j' : Fin 11776)
    (h : j'.val = 3072 + t.val % 3 * 1536 + 1 * 512 + j.val) :
    iblk m c 1 t (ix2 k j) = m (c, Proc.tc.devRef main_arg1) (ix2 k j') := by
  have hx := index_facts t
  blk_simp [iblk]
  rw [entry_eq]
  refine congrArg (m (c, Proc.tc.devRef main_arg1)) ?_
  blk_ext

/-- The specification at an index of a block, from the product of the point that stores it. -/
theorem gathered_eq (c : Dev nD) (t : Fin cfg0.N) (y : S512x6144.Idx) (h : (y 1).val / 512 % 3 = t.val % 3) (z : S8192x6144.Idx)
    (h0 : (z 0).val = 512 * (t.val / 3) + (y 0).val) (h1 : (z 1).val = (y 1).val) :
    gathered 4 512 6144 rfl rfl (product (iblk m c 0 t) (iblk m c 1 t)) y
      = grouped 1 (by decide) 4 8192 6144 rfl rfl (m (c, Proc.tc.devRef main_arg0)) (m (c, Proc.tc.devRef main_arg1)) z := by
  unfold gathered product grouped
  refine Finset.sum_congr (M := EReal) (s₁ := Finset.univ) (s₂ := Finset.univ) rfl fun k _ => congrArg₂ (fun a b : EReal => a * b) ?_ ?_
  · refine tokens m c t _ k _ ?_
    dsimp only
    rw [h0, h1]; omega
  · refine weights m c t k _ _ ?_
    dsimp only
    rw [h1]; omega

/-- What a point that writes its block back left there. -/
theorem leaves_apply (c : Dev nD) (t : Fin cfg0.N) (ht : t.val % 3 = 2) (X : S512x6144.Idx → Elt Ideal .bf16)
    (hX : (rdat m c).Leaves 2 t X) (y : S512x6144.Idx) (z : S8192x6144.Idx)
    (h0 : (z 0).val = 512 * (t.val / 3) + (y 0).val) (h1 : (z 1).val = (y 1).val) :
    X y = grouped 1 (by decide) 4 8192 6144 rfl rfl (m (c, Proc.tc.devRef main_arg0)) (m (c, Proc.tc.devRef main_arg1)) z := by
  have step : ∀ (u : Fin cfg0.N) (X : S512x6144.Idx → Elt Ideal .bf16), u.val / 3 = t.val / 3 → (rdat m c).Leaves 2 u X →
      ∃ Y, (rdat m c).Finds 2 u Y ∧ X y = if (y 1).val / 512 % 3 = u.val % 3 then
        grouped 1 (by decide) 4 8192 6144 rfl rfl (m (c, Proc.tc.devRef main_arg0)) (m (c, Proc.tc.devRef main_arg1)) z else Y y := by
    intro u X hu hX
    obtain ⟨Y, hY, e⟩ := hX
    refine ⟨Y, hY, ?_⟩
    have e' : X = left c u (iblk m c 0 u) (iblk m c 1 u) Y := e
    rw [e', left_apply]
    split
    · next h => exact gathered_eq m c u y h z (by rw [hu]; exact h0) h1
    · rfl
  have back : ∀ (u : Fin cfg0.N) (Y : S512x6144.Idx → Elt Ideal .bf16), u.val % 3 ≠ 0 → (rdat m c).Finds 2 u Y →
      (rdat m c).Leaves 2 ⟨u.val - 1, Nat.lt_of_le_of_lt (Nat.sub_le _ _) u.isLt⟩ Y := by
    intro u Y hu hY
    refine (((rdat m c).finds_of_pos ((cfg0.win 2).fetch_out rfl u) (by omega) Y).mp hY).resolve_left fun hf => ?_
    have := (flush0_2 _).mp hf
    dsimp only at this
    omega
  obtain ⟨Y2, f2, e2⟩ := step t X rfl hX
  obtain ⟨Y1, f1, e1⟩ := step _ Y2 (by dsimp only; omega) (back t Y2 (by omega) f2)
  obtain ⟨Y0, f0, e0⟩ := step _ Y1 (by dsimp only; omega) (back _ Y1 (by dsimp only; omega) f1)
  rw [e2]
  split
  · rfl
  rw [e1]
  split
  · rfl
  rw [e0]
  split
  · rfl
  · next h2 h1 h0 => exfalso; dsimp only at h0 h1; omega

/-- The kernel's result, from what the points that write their blocks back left. -/
theorem arr (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 2 cfg0.N
      = grouped 1 (by decide) 4 8192 6144 rfl rfl (m (c, Proc.tc.devRef main_arg0)) (m (c, Proc.tc.devRef main_arg1)) := by
  refine ((rdat m c).withAfter after).arrAt_eq_of_covers 2 _ (by decide +kernel) fun t hf y => ?_
  have hx := index_facts t
  have ht := (flush0_2 t).mp hf
  have hl := hL 2 t hf
  blk_simp
  rw [RDat.withAfter_after]
  refine leaves_apply m c t ht _ hl _ _ ?_ ?_
  · blk_simp
    rw [hx.2.2.2.2.1]; omega
  · blk_simp
    rw [hx.2.2.2.2.2]; omega

/-- Every run ends with the result the specification names and the arguments unchanged. -/
theorem result (ρ : Dev nD → PrngReg) : θ_run defs (onTc (τ := τ) (main (F := Ideal))) ⟨m, fun _ => 0, ρ⟩ fun r => ∀ c : Dev nD,
      r.2.mem ((c.tc : Thread nD τ).loc main_v1)
        = grouped 1 (by decide) 4 8192 6144 rfl rfl (m (c, Proc.tc.devRef main_arg0)) (m (c, Proc.tc.devRef main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨after, hL, hA⟩ := RDat.FramePost.exists_exact h.1 c
    exact ⟨(hA 2).trans (arr m c after hL),
      (RDat.FramePost.arr_in h.1 c 0 rfl).trans ((rdat_A m c 0).trans (V_main_arg0 m c)),
      ((h.1 c).2 main_arg1 (Pipeline.mem_restRefs_of main_arg1 (by decide) (by decide))).trans (V_main_arg1 m c)⟩) (run_main m ρ)

/-- The reference's result. -/
theorem reference_eq (X : Vec Ideal S32768x2048 .bf16) (W : FVec Ideal S2048x11776 .f32) :
    Cert.Qkv1RefIdeal.Read.val_main_v7 X W = grouped 1 (by decide) 4 8192 6144 rfl rfl X W := by
  funext y
  obtain ⟨i, j, rfl⟩ : ∃ (i : Fin 8192) (j : Fin 6144), y = ix2 i j :=
    ⟨y 0, y 1, by funext a; match a with | ⟨0, _⟩ => rfl | ⟨1, _⟩ => rfl⟩
  rw [Cert.Qkv1RefIdeal.Read.val_main_v7_apply]
  refine (congrArg _ (by rw [Cert.Qkv1RefIdeal.Read.val_main_v6_apply, Cert.Qkv1RefIdeal.Read.val_main_v5_apply, Cert.Qkv1RefIdeal.Read.val_main_v4_apply,
    Cert.Qkv1RefIdeal.Read.val_main_v3_apply, Cert.Qkv1RefIdeal.Read.val_main_v2_apply, Cert.Qkv1RefIdeal.Read.val_main_v1_apply])).trans ?_
  unfold grouped
  have hi := i.isLt
  have hj := j.isLt
  refine Finset.sum_congr (M := EReal) (s₁ := Finset.univ) (s₂ := Finset.univ) rfl fun k _ => congrArg₂ (fun a b : EReal => a * b) ?_ ?_
  · refine congrArg X (funext fun a => ?_)
    match a with
    | ⟨0, _⟩ =>
      refine Fin.ext ?_
      dsimp only [ix2]
      omega
    | ⟨1, _⟩ => rfl
  · refine congrArg W (funext fun a => ?_)
    match a with
    | ⟨0, _⟩ => rfl
    | ⟨1, _⟩ =>
      refine Fin.ext ?_
      dsimp only [ix2]
      omega

end Cert.Proof.Qkv1

end
-- ==== Proof.Qkv1Claim.lean ====
/- The claims about the programs of group 1's queries, keys and values, put together. -/
module

public import proofs.«01_k».proof.Defs
public import proofs.«01_k».proof.Proof.Qkv1Value
public import proofs.«01_k».proof.Proof.Qkv1Run
public import proofs.«01_k».proof.Proof.Gen.Qkv1RefIdeal.Run
public import proofs.«01_k».proof.Proof.Gen.Qkv1RefIdeal.Read
public import Idealize.ShloMosaic.Lib.Quiescent

@[expose] public section

noncomputable section

namespace Cert.Proof.Qkv1Claim

open Idealize.ShloMosaic Idealize.SL.Sem

/-- The kernel's frame, bit-exact. -/
theorem frame_p : Cert.quiescent_Qkv1 (hQkv1 := Cert.Qkv1.Gen.facts) := fun m ρ _ => Cert.Qkv1.Hand.frame m ρ

/-- The kernel's frame over the extended reals. -/
theorem frame_pi : Cert.quiescent_Qkv1Ideal (hQkv1Ideal := Cert.Qkv1Ideal.Gen.facts) := fun m ρ _ => Cert.Qkv1Ideal.Hand.frame m ρ

/-- The reference's frame. -/
theorem frame_ri : Cert.quiescent_Qkv1RefIdeal (hQkv1RefIdeal := Cert.Qkv1RefIdeal.Gen.facts) := fun m ρ _ =>
  (θ_run Cert.Qkv1RefIdeal.defs _ _).mono (fun r h => ⟨fun c => (h c).2, sem_eq_zero_of_no_sems (by decide) r.2⟩)
    (Cert.Qkv1RefIdeal.Value.run (F := Ideal) m ρ)

/-- No operation is replaced. -/
theorem preserves : Cert.preserves_Qkv1_Qkv1Ideal := trivial

/-- The kernel's result is the reference's. -/
theorem algebraic : Cert.algebraic_Qkv1Ideal_Qkv1RefIdeal (hQkv1Ideal := Cert.Qkv1Ideal.Gen.facts)
    (hQkv1RefIdeal := Cert.Qkv1RefIdeal.Gen.facts) := fun m ρ m' ρ' _ hm => by
  refine ⟨fun c => Project.grouped 1 (by decide) 4 8192 6144 rfl rfl (m (c, Proc.tc.devRef Cert.Qkv1Ideal.main_arg0)) (m (c, Proc.tc.devRef Cert.Qkv1Ideal.main_arg1)), ?_, ?_⟩
  · exact Qkv1.result m ρ
  · refine (θ_run Cert.Qkv1RefIdeal.defs _ _).mono (fun r h c => ⟨(h c).1.trans ?_, (h c).2⟩) (Cert.Qkv1RefIdeal.Value.run (F := Ideal) m' ρ')
    beta_reduce
    rw [← Qkv1.reference_eq, ← (hm c).1, ← (hm c).2]
    exact Cert.Qkv1RefIdeal.Read.val_main_v7_eq _ _

end Cert.Proof.Qkv1Claim

end
-- ==== Proof.Qkv2IdealRun.lean ====
/-
  Every run of the program of group 2's queries, keys and values, as printed for the extended reals, ends, and leaves its arguments as they were.

  A row of the grid has three points: they store the query, key and value columns of the same block of the result, and
  the last of them writes the block back. A point finds in the block's buffer what the point before left there, so what
  is left is stated as a relation between what a point finds and what it leaves.
-/
module

public import proofs.«01_k».proof.Proof.Gen.Qkv2Ideal.Launch
public import proofs.«01_k».proof.Proof.Gen.Qkv2Ideal.Skeleton
public import proofs.«01_k».proof.Proof.Gen.Qkv2Ideal.Points
public import proofs.«01_k».proof.Proof.Gen.Qkv2Ideal.Frame
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Qkv2Ideal.Hand

open Cert.Qkv2Ideal Cert.Qkv2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The propositions over the machine's state in which the steps of the kernel are reasoned about. -/
abbrev M (F : FTy → Type) [FloatOps F] : Type := sProp (MT nD τ sig Unit (Elt F) ℕ (UR sig nD τ) ℕ)

variable (m : (ℓ : Loc nD τ sig) → Buf (Elt F) ℓ) (ρ : Dev nD → PrngReg)

/-! ## Which third of a row a grid point stores -/

/-- The query columns are stored: the point's position in its triple is zero. -/
abbrev isQ (i : grid0.Coords) : Prop := k0_cond1 i = 1#1
/-- The key columns are stored: the point's position in its triple is one. -/
abbrev isK (i : grid0.Coords) : Prop := k0_cond2 i = 1#1
/-- The value columns are stored: the point's position in its triple is two. -/
abbrev isV (i : grid0.Coords) : Prop := k0_cond3 i = 1#1

/-- The branch `isQ` is taken exactly at the points that leave remainder 0 by three. -/
theorem isQ_iff : ∀ t : Fin cfg0.N, isQ (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isQ, k0_cond1, e0, e1]
    word_cmp
   : ∀ t : Fin grid0.N, isQ (grid0.coords t) ↔ t.val % 3 = 0)

/-- The branch `isK` is taken exactly at the points that leave remainder 1 by three. -/
theorem isK_iff : ∀ t : Fin cfg0.N, isK (grid0.coords t) ↔ t.val % 3 = 1 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isK, k0_cond2, e0, e1]
    word_cmp
   : ∀ t : Fin grid0.N, isK (grid0.coords t) ↔ t.val % 3 = 1)

/-- The branch `isV` is taken exactly at the points that leave remainder 2 by three. -/
theorem isV_iff : ∀ t : Fin cfg0.N, isV (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isV, k0_cond3, e0, e1]
    word_cmp
   : ∀ t : Fin grid0.N, isV (grid0.coords t) ↔ t.val % 3 = 2)

/-! ## The body on any staging buffers -/

/-- The staging buffers the body is given at a point, each a whole buffer. -/
abbrev stX (t : Fin cfg0.N) : Memref sig .tc .vmem S2048x2048 .bf16 := win0_0.stage (cfg0.slots t 0)
/-- The token buffer is a whole buffer. -/
abbrev stX_whole (t : Fin cfg0.N) : (stX t).IsWhole := hstage0_0 ((cfg0.slots t 0).cast nbuf0_0)
/-- The weight buffer of a point. -/
abbrev stW (t : Fin cfg0.N) : Memref sig .tc .vmem S2048x512 .bf16 := win0_1.stage (cfg0.slots t 1)
/-- The weight buffer is a whole buffer. -/
abbrev stW_whole (t : Fin cfg0.N) : (stW t).IsWhole := hstage0_1 ((cfg0.slots t 1).cast nbuf0_1)
/-- The result buffer of a point. -/
abbrev stO (t : Fin cfg0.N) : Memref sig .tc .vmem S128x24576 .bf16 := win0_2.stage (cfg0.slots t 2)
/-- The result buffer is a whole buffer. -/
abbrev stO_whole (t : Fin cfg0.N) : (stO t).IsWhole := hstage0_2 ((cfg0.slots t 2).cast nbuf0_2)
/-- The buffer in which the product is kept as four slabs of lanes. -/
abbrev slab : Memref sig .tc .vmem S4x2048x128 .f32 := Memref.whole cc0_scratch0

set_option maxHeartbeats 4000000 in
/-- The body at a point that stores the query columns: from the inputs' contents `x0`, `x1`, any contents `xo` of the
    result buffer and any contents of the slabs, it runs to the end, leaves the inputs as they were, and leaves the
    result buffer at `xo` overwritten by the pieces this names. -/
def runQ (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S128x24576 .bf16) (harg4 : arg4.IsWhole) (arg5 : Memref sig .tc .vmem S4x2048x128 .f32) (harg5 : arg5.IsWhole) (hq : isQ i) (hk : ¬isK i) (hv : ¬isV i)
    (x0 : Vec F S2048x2048 .bf16) (x1 : Vec F S2048x512 .bf16) (xo : Vec F S128x24576 .bf16) :
    { L : List (View.Piece (Elt F) S128x24576 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

set_option maxHeartbeats 4000000 in
/-- The body at a point that stores the key columns: from the inputs' contents `x0`, `x1`, any contents `xo` of the
    result buffer and any contents of the slabs, it runs to the end, leaves the inputs as they were, and leaves the
    result buffer at `xo` overwritten by the pieces this names. -/
def runK (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S128x24576 .bf16) (harg4 : arg4.IsWhole) (arg5 : Memref sig .tc .vmem S4x2048x128 .f32) (harg5 : arg5.IsWhole) (hq : ¬isQ i) (hk : isK i) (hv : ¬isV i)
    (x0 : Vec F S2048x2048 .bf16) (x1 : Vec F S2048x512 .bf16) (xo : Vec F S128x24576 .bf16) :
    { L : List (View.Piece (Elt F) S128x24576 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

set_option maxHeartbeats 4000000 in
/-- The body at a point that stores the value columns: from the inputs' contents `x0`, `x1`, any contents `xo` of the
    result buffer and any contents of the slabs, it runs to the end, leaves the inputs as they were, and leaves the
    result buffer at `xo` overwritten by the pieces this names. -/
def runV (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S128x24576 .bf16) (harg4 : arg4.IsWhole) (arg5 : Memref sig .tc .vmem S4x2048x128 .f32) (harg5 : arg5.IsWhole) (hq : ¬isQ i) (hk : ¬isK i) (hv : isV i)
    (x0 : Vec F S2048x2048 .bf16) (x1 : Vec F S2048x512 .bf16) (xo : Vec F S128x24576 .bf16) :
    { L : List (View.Piece (Elt F) S128x24576 .bf16) //
      ∀ (E : Set ℕ) (K : PUnit → M F),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo) L) ∗ (∃ f, arg5.view.loc (c : Thread nD τ) ↦[arg5.view.set]{fullShare} f)) -∗ K ⟨⟩))
          ⊢ wp frame (wpE (defs₀ (F := F)) Variants.none c none) E (cc0_project_classes i arg2 harg2 arg3 harg3 arg4 harg4 arg5 harg5) K } := by
  refine ⟨?_, fun E K => ?run⟩
  case run =>
    simp only [cc0_project_classes_eq_skeleton]; unfold cc0_project_classes_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hq | sl_exact hk | sl_exact hv)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS0

/-- What the point `t` leaves in the result buffer, given the blocks it reads and what it found there. -/
def left (c : Dev nD) (t : Fin cfg0.N) (x0 : Vec F S2048x2048 .bf16) (x1 : Vec F S2048x512 .bf16)
    (xo : Vec F S128x24576 .bf16) : Vec F S128x24576 .bf16 :=
  (stO t).view.read (Elt F) ((stO t).view.writes (Elt F) ((stO_whole t).unread xo)
    (if h0 : t.val % 3 = 0 then (runQ c (grid0.coords t) (stX t) (stX_whole t) (stW t) (stW_whole t) (stO t) (stO_whole t) slab (Memref.isWhole_whole _) ((isQ_iff t).mpr h0) (fun h => by have := (isK_iff t).mp h; omega) (fun h => by have := (isV_iff t).mp h; omega) x0 x1 xo).1
     else if h1 : t.val % 3 = 1 then (runK c (grid0.coords t) (stX t) (stX_whole t) (stW t) (stW_whole t) (stO t) (stO_whole t) slab (Memref.isWhole_whole _) (fun h => h0 ((isQ_iff t).mp h)) ((isK_iff t).mpr h1) (fun h => by have := (isV_iff t).mp h; omega) x0 x1 xo).1
     else (runV c (grid0.coords t) (stX t) (stX_whole t) (stW t) (stW_whole t) (stO t) (stO_whole t) slab (Memref.isWhole_whole _) (fun h => h0 ((isQ_iff t).mp h)) (fun h => h1 ((isK_iff t).mp h)) ((isV_iff t).mpr (by omega)) x0 x1 xo).1))

/-! ## The data of the proof -/

/-- The inputs are left as found, and the result buffer as `left` says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = left c t (iblk m c 0 t) (iblk m c 1 t) Y
  Φ _ := Pipeline.ΦA spec0 c
  q _ := fullShare
  owed _ := 0

/-- The arrays are as the grid finds them. -/
theorem rdat_A (c : Dev nD) (w : Fin cfg0.W) : (rdat m c).A w = V m c (Pipeline.arrRef spec0 w) := by
  dsimp only [rdat]

/-- The token window holds its block at every point. -/
theorem finds_x (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by dsimp only [rdat] at h; exact h) t Y h
  unfold RDat.fetched RDat.blockOf iblk; rw [rdat_A]; rfl

/-- The weight window holds its block at every point. -/
theorem finds_w (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by dsimp only [rdat] at h; exact h) t Y h
  unfold RDat.fetched RDat.blockOf iblk; rw [rdat_A]; rfl

/-- The slabs are the one buffer of the kernel's own. -/
theorem own_eq (c : Dev nD) :
    (Pipeline.ΦA spec0 c : M F)
      = iprop(iprop((∃ d, owns (c : Thread nD τ) slab fullShare d)) ∗ (∃ r, prngReg c r)) := by
  unfold Pipeline.ΦA; rw [scopedRest0_eq]; simp only [slab, owns_whole]; try rfl

set_option maxHeartbeats 1200000 in
/-- The body at a point, from the blocks it reads and any contents of the result buffer. -/
theorem sound_body (c : Dev nD) (t : Fin cfg0.N) (xo : Vec F S128x24576 .bf16) :
    (iprop(Pipeline.ΦA spec0 c ∗ (rdat m c).owesAt () t.castSucc
      ∗ owns (c : Thread nD τ) (stX t) fullShare (iblk m c 0 t)
      ∗ owns (c : Thread nD τ) (stW t) fullShare (iblk m c 1 t)
      ∗ owns (c : Thread nD τ) (stO t) fullShare xo) : M F)
      ⊢ wp frame (wpE (defs₀ (F := F)) Variants.none c none) Set.univ (bodyAt0 t) (fun _ =>
        iprop(Pipeline.ΦA spec0 c ∗ (rdat m c).owesAt () t.castSucc
          ∗ owns (c : Thread nD τ) (stX t) fullShare (iblk m c 0 t)
          ∗ owns (c : Thread nD τ) (stW t) fullShare (iblk m c 1 t)
          ∗ owns (c : Thread nD τ) (stO t) fullShare (left c t (iblk m c 0 t) (iblk m c 1 t) xo))) := by
  unfold bodyAt0
  rw [own_eq]
  by_cases h0 : t.val % 3 = 0
  · iintro ⟨⟨HS0, Hg⟩, Ho, H0, H1, H2⟩
    iapply ((runQ c (grid0.coords t) (stX t) (stX_whole t) (stW t) (stW_whole t) (stO t) (stO_whole t) slab (Memref.isWhole_whole _) ((isQ_iff t).mpr h0) (fun h => by have := (isK_iff t).mp h; omega) (fun h => by have := (isV_iff t).mp h; omega) (iblk m c 0 t) (iblk m c 1 t) xo).2 Set.univ _)
    isplitl [H0]; · iexact H0
    isplitl [H1]; · iexact H1
    isplitl [H2]; · iexact H2
    isplitl [HS0]; · iexact HS0
    iintro ⟨H0, H1, H2, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    unfold owns; iexists _; isplitr
    swap; · iexact H2
    ipureintro; unfold left; rw [dif_pos h0]
  · by_cases h1 : t.val % 3 = 1
    · iintro ⟨⟨HS0, Hg⟩, Ho, H0, H1, H2⟩
      iapply ((runK c (grid0.coords t) (stX t) (stX_whole t) (stW t) (stW_whole t) (stO t) (stO_whole t) slab (Memref.isWhole_whole _) (fun h => h0 ((isQ_iff t).mp h)) ((isK_iff t).mpr h1) (fun h => by have := (isV_iff t).mp h; omega) (iblk m c 0 t) (iblk m c 1 t) xo).2 Set.univ _)
      isplitl [H0]; · iexact H0
      isplitl [H1]; · iexact H1
      isplitl [H2]; · iexact H2
      isplitl [HS0]; · iexact HS0
      iintro ⟨H0, H1, H2, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      unfold owns; iexists _; isplitr
      swap; · iexact H2
      ipureintro; unfold left; rw [dif_neg h0, dif_pos h1]
    · iintro ⟨⟨HS0, Hg⟩, Ho, H0, H1, H2⟩
      iapply ((runV c (grid0.coords t) (stX t) (stX_whole t) (stW t) (stW_whole t) (stO t) (stO_whole t) slab (Memref.isWhole_whole _) (fun h => h0 ((isQ_iff t).mp h)) (fun h => h1 ((isK_iff t).mp h)) ((isV_iff t).mpr (by omega)) (iblk m c 0 t) (iblk m c 1 t) xo).2 Set.univ _)
      isplitl [H0]; · iexact H0
      isplitl [H1]; · iexact H1
      isplitl [H2]; · iexact H2
      isplitl [HS0]; · iexact HS0
      iintro ⟨H0, H1, H2, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      unfold owns; iexists _; isplitr
      swap; · iexact H2
      ipureintro; unfold left; rw [dif_neg h0, dif_neg h1]

/-- The body the grid runs at a point is the one above. -/
theorem body_row (t : Fin cfg0.N) :
    defs₀ (F := F) .tc cfg0.body (cfg0.bodyArgs t (cfg0.slots t)) = bodyAt0 t := by
  unfold defs₀; rw [Defs.onTc_tc]

/-- At every point the body leaves what the data say. -/
theorem body_obligation (c : Dev nD) : (rdat (F := F) m c).BodyObligation (defs₀ (F := F)) Variants.none () Set.univ := fun t Y hY => by
  rw [bigSep_W0, bigSep_W0, body_row]
  have e0 := finds_x m c t (Y 0) (hY 0)
  have e1 := finds_w m c t (Y 1) (hY 1)
  rw [e0, e1, show (rdat m c).Φ t.succ = Pipeline.ΦA spec0 c from rfl,
    show (rdat m c).owesAt () t.succ = (rdat m c).owesAt () t.castSucc from rfl]
  refine triple_restated (sound_body m c t (Y 2)) rfl .rfl fun _ => ?_
  iintro ⟨HΦ, Ho, H0, H1, H2⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  iexists _; isplitr
  swap; · iexact H2
  ipureintro; rfl

/-! ## The run and the frame -/

set_option backward.isDefEq.respectTransparency.types false in
/-- From any memory with zero counters every execution ends, the arrays are as the data say, every other buffer
    is as the grid found it, and the counters are at zero. -/
theorem run_main : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hΦ := fun _ _ => rfl)
    (Q' := fun r => RDat.FramePost cfg0 (rdat m) (V m) r ∧ r.2.sem = fun _ => 0) (hQ' := fun _ h => h)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(RDat.FramePost.arr_in h.1 c 0 rfl).trans ((rdat_A m c 0).trans (V_main_arg0 m c)),
      ((h.1 c).2 main_arg1 (Pipeline.mem_restRefs_of main_arg1 (by decide) (by decide))).trans (V_main_arg1 m c)⟩, h.2⟩) (run_main m ρ)

end Cert.Qkv2Ideal.Hand

end
-- ==== Proof.Qkv2Value.lean ====
/- Group 2's queries, keys and values: the kernel's array and the reference's are both the product of tokens and weights at
   the group's columns, 16 tokens to a row. -/
module

public import proofs.«01_k».proof.Proof.Project
public import proofs.«01_k».proof.Proof.Slabs
public import proofs.«01_k».proof.Proof.Qkv2IdealRun
public import proofs.«01_k».proof.Proof.Gen.Qkv2RefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Qkv2

open Idealize.ShloMosaic Idealize.ShloMosaic.TcCoe Idealize.SL.Sem Cert.Qkv2Ideal Cert.Qkv2Ideal.Gen Cert.Qkv2Ideal.Hand
open Idealize.ShloMosaic.Pipeline (RDat)
open Project (grouped)
open Slabs (Product Good good starts overwritten gathered slabs_hold)

/-- A block's product: of its tokens' rows and its columns. -/
def product (x0 : Vec Ideal S2048x2048 .bf16) (x1 : Vec Ideal S2048x512 .bf16) : Product :=
  fun n j => ∑ k : Fin 2048, x0 (ix2 n k) * x1 (ix2 k j)

/-- Slab 0 of a block's product: columns 0 to 127. -/
theorem slab0 (a : Vec Ideal S2048x2048 .bf16) (b : Vec Ideal S2048x512 .bf16) (n : Fin 2048) (l : Fin 128) :
    k0_pay186 (F := Ideal) a b (ix3 0 n l) = product a b n ⟨0 + l.val, by omega⟩ := by
  unfold product
  pointwise [k0_pay186, k0_pay185]

/-- Slab 1 of a block's product: columns 128 to 255. -/
theorem slab1 (a : Vec Ideal S2048x2048 .bf16) (b : Vec Ideal S2048x512 .bf16) (n : Fin 2048) (l : Fin 128) :
    k0_pay187 (F := Ideal) a b (ix3 0 n l) = product a b n ⟨128 + l.val, by omega⟩ := by
  unfold product
  pointwise [k0_pay187, k0_pay185]

/-- Slab 2 of a block's product: columns 256 to 383. -/
theorem slab2 (a : Vec Ideal S2048x2048 .bf16) (b : Vec Ideal S2048x512 .bf16) (n : Fin 2048) (l : Fin 128) :
    k0_pay188 (F := Ideal) a b (ix3 0 n l) = product a b n ⟨256 + l.val, by omega⟩ := by
  unfold product
  pointwise [k0_pay188, k0_pay185]

/-- Slab 3 of a block's product: columns 384 to 511. -/
theorem slab3 (a : Vec Ideal S2048x2048 .bf16) (b : Vec Ideal S2048x512 .bf16) (n : Fin 2048) (l : Fin 128) :
    k0_pay189 (F := Ideal) a b (ix3 0 n l) = product a b n ⟨384 + l.val, by omega⟩ := by
  unfold product
  pointwise [k0_pay189, k0_pay185]

/-- After the product's four slabs are stored, at a point that stores the query columns, the buffer holds the product. -/
theorem slabsQ (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runQ.sl.HS0_4 c arg2 harg2 arg3 harg3 x0 x1) (ix3 k n l) = product x0 x1 n ⟨128 * k.val + l.val, by omega⟩ := by
  unfold runQ.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the query columns holds what it should. -/
theorem goodQ (c : Dev nD) (arg2 : Memref sig .tc .vmem S2048x2048 .bf16) (harg2 : arg2.IsWhole) (arg3 : Memref sig .tc .vmem S2048x512 .bf16) (harg3 : arg3.IsWhole) (arg4 : Memref sig .tc .vmem S128x24576 .bf16) (harg4 : arg4.IsWhole) (arg5 : Memref sig .tc .vmem S4x2048x128 .f32) (harg5 : arg5.IsWhole)
    (i : grid0.Coords) (hq : isQ i) (hk : ¬isK i) (hv : ¬isV i) (x0 : Vec Ideal S2048x2048 .bf16) (x1 : Vec Ideal S2048x512 .bf16) (xo : Vec Ideal S128x24576 .bf16) :
    (∀ p ∈ (runQ c i arg2 harg2 arg3 harg3 arg4 harg4 arg5 harg5 hq hk hv x0 x1 xo).1, Good 16 128 24576 rfl rfl (product x0 x1) p)
      ∧ (runQ c i arg2 harg2 arg3 harg3 arg4 harg4 arg5 harg5 hq hk hv x0 x1 xo).1.map (fun p => p.1.off 1) = starts 16 0 := by
  have hs := slabsQ c arg2 harg2 arg3 harg3 x0 x1
  unfold runQ
  dsimp only
  refine ⟨?_, rfl⟩
  repeat' (refine List.forall_mem_cons.mpr ⟨good 16 128 24576 rfl rfl hs 0 (by decide) (hs := shapeCasts_S1x128x128_S128x128) (hb := bitsLt_bf16_f32) rfl rfl rfl (by decide) (by decide) (by decide), ?_⟩)
  exact fun p hp => absurd hp List.not_mem_nil

/-- After the product's four slabs are stored, at a point that stores the key columns, the buffer holds the product. -/
theorem slabsK (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runK.sl.HS0_4 c arg2 harg2 arg3 harg3 x0 x1) (ix3 k n l) = product x0 x1 n ⟨128 * k.val + l.val, by omega⟩ := by
  unfold runK.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the key columns holds what it should. -/
theorem goodK (c : Dev nD) (arg2 : Memref sig .tc .vmem S2048x2048 .bf16) (harg2 : arg2.IsWhole) (arg3 : Memref sig .tc .vmem S2048x512 .bf16) (harg3 : arg3.IsWhole) (arg4 : Memref sig .tc .vmem S128x24576 .bf16) (harg4 : arg4.IsWhole) (arg5 : Memref sig .tc .vmem S4x2048x128 .f32) (harg5 : arg5.IsWhole)
    (i : grid0.Coords) (hq : ¬isQ i) (hk : isK i) (hv : ¬isV i) (x0 : Vec Ideal S2048x2048 .bf16) (x1 : Vec Ideal S2048x512 .bf16) (xo : Vec Ideal S128x24576 .bf16) :
    (∀ p ∈ (runK c i arg2 harg2 arg3 harg3 arg4 harg4 arg5 harg5 hq hk hv x0 x1 xo).1, Good 16 128 24576 rfl rfl (product x0 x1) p)
      ∧ (runK c i arg2 harg2 arg3 harg3 arg4 harg4 arg5 harg5 hq hk hv x0 x1 xo).1.map (fun p => p.1.off 1) = starts 16 1 := by
  have hs := slabsK c arg2 harg2 arg3 harg3 x0 x1
  unfold runK
  dsimp only
  refine ⟨?_, rfl⟩
  repeat' (refine List.forall_mem_cons.mpr ⟨good 16 128 24576 rfl rfl hs 1 (by decide) (hs := shapeCasts_S1x128x128_S128x128) (hb := bitsLt_bf16_f32) rfl rfl rfl (by decide) (by decide) (by decide), ?_⟩)
  exact fun p hp => absurd hp List.not_mem_nil

/-- After the product's four slabs are stored, at a point that stores the value columns, the buffer holds the product. -/
theorem slabsV (c : Dev nD) (arg2 : Memref sig .tc .vmem S2048x2048 .bf16) (harg2 : arg2.IsWhole) (arg3 : Memref sig .tc .vmem S2048x512 .bf16) (harg3 : arg3.IsWhole)
    (x0 : Vec Ideal S2048x2048 .bf16) (x1 : Vec Ideal S2048x512 .bf16) (k : Fin 4) (n : Fin 2048) (l : Fin 128) :
    View.canon (runV.sl.HS0_4 c arg2 harg2 arg3 harg3 x0 x1) (ix3 k n l) = product x0 x1 n ⟨128 * k.val + l.val, by omega⟩ := by
  unfold runV.sl.HS0_4
  simp only [View.readAt_eq_ld, Memref.IsWhole.read_unread]
  rw [View.ld_unit_lit _ _ (by decide), View.ld_unit_lit _ _ (by decide)]
  exact slabs_hold (product x0 x1) _ _ _ _ (slab0 x0 x1) (slab1 x0 x1) (slab2 x0 x1) (slab3 x0 x1) k n l

set_option maxHeartbeats 4000000 in
/-- Every piece stored at a point that stores the value columns holds what it should. -/
theorem goodV (c : Dev nD) (arg2 : Memref sig .tc .vmem S2048x2048 .bf16) (harg2 : arg2.IsWhole) (arg3 : Memref sig .tc .vmem S2048x512 .bf16) (harg3 : arg3.IsWhole) (arg4 : Memref sig .tc .vmem S128x24576 .bf16) (harg4 : arg4.IsWhole) (arg5 : Memref sig .tc .vmem S4x2048x128 .f32) (harg5 : arg5.IsWhole)
    (i : grid0.Coords) (hq : ¬isQ i) (hk : ¬isK i) (hv : isV i) (x0 : Vec Ideal S2048x2048 .bf16) (x1 : Vec Ideal S2048x512 .bf16) (xo : Vec Ideal S128x24576 .bf16) :
    (∀ p ∈ (runV c i arg2 harg2 arg3 harg3 arg4 harg4 arg5 harg5 hq hk hv x0 x1 xo).1, Good 16 128 24576 rfl rfl (product x0 x1) p)
      ∧ (runV c i arg2 harg2 arg3 harg3 arg4 harg4 arg5 harg5 hq hk hv x0 x1 xo).1.map (fun p => p.1.off 1) = starts 16 2 := by
  have hs := slabsV c arg2 harg2 arg3 harg3 x0 x1
  unfold runV
  dsimp only
  refine ⟨?_, rfl⟩
  repeat' (refine List.forall_mem_cons.mpr ⟨good 16 128 24576 rfl rfl hs 2 (by decide) (hs := shapeCasts_S1x128x128_S128x128) (hb := bitsLt_bf16_f32) rfl rfl rfl (by decide) (by decide) (by decide), ?_⟩)
  exact fun p hp => absurd hp List.not_mem_nil

/-- What a point leaves: its third of every token's columns from its product, the rest as found. -/
theorem left_apply (c : Dev nD) (t : Fin cfg0.N) (x0 : Vec Ideal S2048x2048 .bf16) (x1 : Vec Ideal S2048x512 .bf16)
    (xo : Vec Ideal S128x24576 .bf16) (y : S128x24576.Idx) :
    left c t x0 x1 xo y = if (y 1).val / 512 % 3 = t.val % 3 then gathered 16 128 24576 rfl rfl (product x0 x1) y else xo y := by
  unfold left
  by_cases h0 : t.val % 3 = 0
  · have g := goodQ c (stX t) (stX_whole t) (stW t) (stW_whole t) (stO t) (stO_whole t) slab (Memref.isWhole_whole _) (grid0.coords t)
      ((isQ_iff t).mpr h0) (fun h => by have := (isK_iff t).mp h; omega) (fun h => by have := (isV_iff t).mp h; omega) x0 x1 xo
    rw [dif_pos h0, h0]
    refine (overwritten 16 128 24576 rfl rfl _ _ (by decide) g.1 g.2 y).trans ?_
    rw [(stO_whole t).read_unread]
  · by_cases h1 : t.val % 3 = 1
    · have g := goodK c (stX t) (stX_whole t) (stW t) (stW_whole t) (stO t) (stO_whole t) slab (Memref.isWhole_whole _) (grid0.coords t)
        (fun h => h0 ((isQ_iff t).mp h)) ((isK_iff t).mpr h1) (fun h => by have := (isV_iff t).mp h; omega) x0 x1 xo
      rw [dif_neg h0, dif_pos h1, h1]
      refine (overwritten 16 128 24576 rfl rfl _ _ (by decide) g.1 g.2 y).trans ?_
      rw [(stO_whole t).read_unread]
    · have h2 : t.val % 3 = 2 := by omega
      have g := goodV c (stX t) (stX_whole t) (stW t) (stW_whole t) (stO t) (stO_whole t) slab (Memref.isWhole_whole _) (grid0.coords t)
        (fun h => h0 ((isQ_iff t).mp h)) (fun h => h1 ((isK_iff t).mp h)) ((isV_iff t).mpr h2) x0 x1 xo
      rw [dif_neg h0, dif_neg h1, h2]
      refine (overwritten 16 128 24576 rfl rfl _ _ (by decide) g.1 g.2 y).trans ?_
      rw [(stO_whole t).read_unread]

/-- Where the windows' blocks lie. -/
theorem index_facts : ∀ t : Fin cfg0.N, win0_0.index t 0 = t.val / 3 ∧ win0_0.index t 1 = 0
    ∧ win0_1.index t 0 = 0 ∧ win0_1.index t 1 = 6 + 3 * (t.val % 3) + 2
    ∧ win0_2.index t 0 = t.val / 3 ∧ win0_2.index t 1 = 0 := by
  decide +kernel

variable (m : (ℓ : Loc nD τ sig) → Buf (Elt Ideal) ℓ)

/-- The weights that the region reads are the argument's. -/
theorem entry_eq (c : Dev nD) : V m c main_v0 = m (c, Proc.tc.devRef main_arg1) := by
  funext x
  unfold V
  entry_read
  rfl

/-- The tokens that the region reads are the argument's. -/
theorem entry_tokens (c : Dev nD) : V m c main_arg0 = m (c, Proc.tc.devRef main_arg0) := V_main_arg0 m c

/-- A point's block of tokens. -/
theorem tokens (c : Dev nD) (t : Fin cfg0.N) (n k : Fin 2048) (n' : Fin 32768) (h : n'.val = 2048 * (t.val / 3) + n.val) :
    iblk m c 0 t (ix2 n k) = m (c, Proc.tc.devRef main_arg0) (ix2 n' k) := by
  have hx := index_facts t
  blk_simp [iblk]
  rw [entry_tokens]
  refine congrArg (m (c, Proc.tc.devRef main_arg0)) ?_
  blk_ext

/-- A point's block of weights. -/
theorem weights (c : Dev nD) (t : Fin cfg0.N) (k : Fin 2048) (j : Fin 512) (j' : Fin 11776)
    (h : j'.val = 3072 + t.val % 3 * 1536 + 2 * 512 + j.val) :
    iblk m c 1 t (ix2 k j) = m (c, Proc.tc.devRef main_arg1) (ix2 k j') := by
  have hx := index_facts t
  blk_simp [iblk]
  rw [entry_eq]
  refine congrArg (m (c, Proc.tc.devRef main_arg1)) ?_
  blk_ext

/-- The specification at an index of a block, from the product of the point that stores it. -/
theorem gathered_eq (c : Dev nD) (t : Fin cfg0.N) (y : S128x24576.Idx) (h : (y 1).val / 512 % 3 = t.val % 3) (z : S2048x24576.Idx)
    (h0 : (z 0).val = 128 * (t.val / 3) + (y 0).val) (h1 : (z 1).val = (y 1).val) :
    gathered 16 128 24576 rfl rfl (product (iblk m c 0 t) (iblk m c 1 t)) y
      = grouped 2 (by decide) 16 2048 24576 rfl rfl (m (c, Proc.tc.devRef main_arg0)) (m (c, Proc.tc.devRef main_arg1)) z := by
  unfold gathered product grouped
  refine Finset.sum_congr (M := EReal) (s₁ := Finset.univ) (s₂ := Finset.univ) rfl fun k _ => congrArg₂ (fun a b : EReal => a * b) ?_ ?_
  · refine tokens m c t _ k _ ?_
    dsimp only
    rw [h0, h1]; omega
  · refine weights m c t k _ _ ?_
    dsimp only
    rw [h1]; omega

/-- What a point that writes its block back left there. -/
theorem leaves_apply (c : Dev nD) (t : Fin cfg0.N) (ht : t.val % 3 = 2) (X : S128x24576.Idx → Elt Ideal .bf16)
    (hX : (rdat m c).Leaves 2 t X) (y : S128x24576.Idx) (z : S2048x24576.Idx)
    (h0 : (z 0).val = 128 * (t.val / 3) + (y 0).val) (h1 : (z 1).val = (y 1).val) :
    X y = grouped 2 (by decide) 16 2048 24576 rfl rfl (m (c, Proc.tc.devRef main_arg0)) (m (c, Proc.tc.devRef main_arg1)) z := by
  have step : ∀ (u : Fin cfg0.N) (X : S128x24576.Idx → Elt Ideal .bf16), u.val / 3 = t.val / 3 → (rdat m c).Leaves 2 u X →
      ∃ Y, (rdat m c).Finds 2 u Y ∧ X y = if (y 1).val / 512 % 3 = u.val % 3 then
        grouped 2 (by decide) 16 2048 24576 rfl rfl (m (c, Proc.tc.devRef main_arg0)) (m (c, Proc.tc.devRef main_arg1)) z else Y y := by
    intro u X hu hX
    obtain ⟨Y, hY, e⟩ := hX
    refine ⟨Y, hY, ?_⟩
    have e' : X = left c u (iblk m c 0 u) (iblk m c 1 u) Y := e
    rw [e', left_apply]
    split
    · next h => exact gathered_eq m c u y h z (by rw [hu]; exact h0) h1
    · rfl
  have back : ∀ (u : Fin cfg0.N) (Y : S128x24576.Idx → Elt Ideal .bf16), u.val % 3 ≠ 0 → (rdat m c).Finds 2 u Y →
      (rdat m c).Leaves 2 ⟨u.val - 1, Nat.lt_of_le_of_lt (Nat.sub_le _ _) u.isLt⟩ Y := by
    intro u Y hu hY
    refine (((rdat m c).finds_of_pos ((cfg0.win 2).fetch_out rfl u) (by omega) Y).mp hY).resolve_left fun hf => ?_
    have := (flush0_2 _).mp hf
    dsimp only at this
    omega
  obtain ⟨Y2, f2, e2⟩ := step t X rfl hX
  obtain ⟨Y1, f1, e1⟩ := step _ Y2 (by dsimp only; omega) (back t Y2 (by omega) f2)
  obtain ⟨Y0, f0, e0⟩ := step _ Y1 (by dsimp only; omega) (back _ Y1 (by dsimp only; omega) f1)
  rw [e2]
  split
  · rfl
  rw [e1]
  split
  · rfl
  rw [e0]
  split
  · rfl
  · next h2 h1 h0 => exfalso; dsimp only at h0 h1; omega

/-- The kernel's result, from what the points that write their blocks back left. -/
theorem arr (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 2 cfg0.N
      = grouped 2 (by decide) 16 2048 24576 rfl rfl (m (c, Proc.tc.devRef main_arg0)) (m (c, Proc.tc.devRef main_arg1)) := by
  refine ((rdat m c).withAfter after).arrAt_eq_of_covers 2 _ (by decide +kernel) fun t hf y => ?_
  have hx := index_facts t
  have ht := (flush0_2 t).mp hf
  have hl := hL 2 t hf
  blk_simp
  rw [RDat.withAfter_after]
  refine leaves_apply m c t ht _ hl _ _ ?_ ?_
  · blk_simp
    rw [hx.2.2.2.2.1]; omega
  · blk_simp
    rw [hx.2.2.2.2.2]; omega

/-- Every run ends with the result the specification names and the arguments unchanged. -/
theorem result (ρ : Dev nD → PrngReg) : θ_run defs (onTc (τ := τ) (main (F := Ideal))) ⟨m, fun _ => 0, ρ⟩ fun r => ∀ c : Dev nD,
      r.2.mem ((c.tc : Thread nD τ).loc main_v1)
        = grouped 2 (by decide) 16 2048 24576 rfl rfl (m (c, Proc.tc.devRef main_arg0)) (m (c, Proc.tc.devRef main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨after, hL, hA⟩ := RDat.FramePost.exists_exact h.1 c
    exact ⟨(hA 2).trans (arr m c after hL),
      (RDat.FramePost.arr_in h.1 c 0 rfl).trans ((rdat_A m c 0).trans (V_main_arg0 m c)),
      ((h.1 c).2 main_arg1 (Pipeline.mem_restRefs_of main_arg1 (by decide) (by decide))).trans (V_main_arg1 m c)⟩) (run_main m ρ)

/-- The reference's result. -/
theorem reference_eq (X : Vec Ideal S32768x2048 .bf16) (W : FVec Ideal S2048x11776 .f32) :
    Cert.Qkv2RefIdeal.Read.val_main_v7 X W = grouped 2 (by decide) 16 2048 24576 rfl rfl X W := by
  funext y
  obtain ⟨i, j, rfl⟩ : ∃ (i : Fin 2048) (j : Fin 24576), y = ix2 i j :=
    ⟨y 0, y 1, by funext a; match a with | ⟨0, _⟩ => rfl | ⟨1, _⟩ => rfl⟩
  rw [Cert.Qkv2RefIdeal.Read.val_main_v7_apply]
  refine (congrArg _ (by rw [Cert.Qkv2RefIdeal.Read.val_main_v6_apply, Cert.Qkv2RefIdeal.Read.val_main_v5_apply, Cert.Qkv2RefIdeal.Read.val_main_v4_apply,
    Cert.Qkv2RefIdeal.Read.val_main_v3_apply, Cert.Qkv2RefIdeal.Read.val_main_v2_apply, Cert.Qkv2RefIdeal.Read.val_main_v1_apply])).trans ?_
  unfold grouped
  have hi := i.isLt
  have hj := j.isLt
  refine Finset.sum_congr (M := EReal) (s₁ := Finset.univ) (s₂ := Finset.univ) rfl fun k _ => congrArg₂ (fun a b : EReal => a * b) ?_ ?_
  · refine congrArg X (funext fun a => ?_)
    match a with
    | ⟨0, _⟩ =>
      refine Fin.ext ?_
      dsimp only [ix2]
      omega
    | ⟨1, _⟩ => rfl
  · refine congrArg W (funext fun a => ?_)
    match a with
    | ⟨0, _⟩ => rfl
    | ⟨1, _⟩ =>
      refine Fin.ext ?_
      dsimp only [ix2]
      omega

end Cert.Proof.Qkv2

end
-- ==== Proof.Qkv2Claim.lean ====
/- The claims about the programs of group 2's queries, keys and values, put together. -/
module

public import proofs.«01_k».proof.Defs
public import proofs.«01_k».proof.Proof.Qkv2Value
public import proofs.«01_k».proof.Proof.Qkv2Run
public import proofs.«01_k».proof.Proof.Gen.Qkv2RefIdeal.Run
public import proofs.«01_k».proof.Proof.Gen.Qkv2RefIdeal.Read
public import Idealize.ShloMosaic.Lib.Quiescent

@[expose] public section

noncomputable section

namespace Cert.Proof.Qkv2Claim

open Idealize.ShloMosaic Idealize.SL.Sem

/-- The kernel's frame, bit-exact. -/
theorem frame_p : Cert.quiescent_Qkv2 (hQkv2 := Cert.Qkv2.Gen.facts) := fun m ρ _ => Cert.Qkv2.Hand.frame m ρ

/-- The kernel's frame over the extended reals. -/
theorem frame_pi : Cert.quiescent_Qkv2Ideal (hQkv2Ideal := Cert.Qkv2Ideal.Gen.facts) := fun m ρ _ => Cert.Qkv2Ideal.Hand.frame m ρ

/-- The reference's frame. -/
theorem frame_ri : Cert.quiescent_Qkv2RefIdeal (hQkv2RefIdeal := Cert.Qkv2RefIdeal.Gen.facts) := fun m ρ _ =>
  (θ_run Cert.Qkv2RefIdeal.defs _ _).mono (fun r h => ⟨fun c => (h c).2, sem_eq_zero_of_no_sems (by decide) r.2⟩)
    (Cert.Qkv2RefIdeal.Value.run (F := Ideal) m ρ)

/-- No operation is replaced. -/
theorem preserves : Cert.preserves_Qkv2_Qkv2Ideal := trivial

/-- The kernel's result is the reference's. -/
theorem algebraic : Cert.algebraic_Qkv2Ideal_Qkv2RefIdeal (hQkv2Ideal := Cert.Qkv2Ideal.Gen.facts)
    (hQkv2RefIdeal := Cert.Qkv2RefIdeal.Gen.facts) := fun m ρ m' ρ' _ hm => by
  refine ⟨fun c => Project.grouped 2 (by decide) 16 2048 24576 rfl rfl (m (c, Proc.tc.devRef Cert.Qkv2Ideal.main_arg0)) (m (c, Proc.tc.devRef Cert.Qkv2Ideal.main_arg1)), ?_, ?_⟩
  · exact Qkv2.result m ρ
  · refine (θ_run Cert.Qkv2RefIdeal.defs _ _).mono (fun r h c => ⟨(h c).1.trans ?_, (h c).2⟩) (Cert.Qkv2RefIdeal.Value.run (F := Ideal) m' ρ')
    beta_reduce
    rw [← Qkv2.reference_eq, ← (hm c).1, ← (hm c).2]
    exact Cert.Qkv2RefIdeal.Read.val_main_v7_eq _ _

end Cert.Proof.Qkv2Claim

end
-- ==== Proof.AttnBIdealRun.lean ====
/-
  Every run of the attention of the group of dilation 4, as printed for the extended reals, ends, and leaves its argument as it was.

  The grid's last coordinate counts the 4 residues of tokens by 4. The points of one block of queries store its rows of one
  residue each, 4 rows apart, and the last of them writes the block back. A point finds in the results' buffers
  what the point before left there, so what is left is stated as a relation between what a point finds and what it leaves.
-/
module

public import proofs.«01_k».proof.Proof.Gen.AttnBIdeal.Launch
public import proofs.«01_k».proof.Proof.Gen.AttnBIdeal.Skeleton
public import proofs.«01_k».proof.Proof.Gen.AttnBIdeal.Points
public import proofs.«01_k».proof.Proof.Gen.AttnBIdeal.Frame
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.Claim

@[expose] public section

set_option maxRecDepth 16384

noncomputable section

namespace Cert.AttnBIdeal.Hand

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

/-- The propositions over the machine's state in which the steps of the kernel are reasoned about. -/
abbrev M (F : FTy → Type) [FloatOps F] : Type := sProp (MT nD τ sig Unit (Elt F) ℕ (UR sig nD τ) ℕ)

variable (m : (ℓ : Loc nD τ sig) → Buf (Elt F) ℓ) (ρ : Dev nD → PrngReg)

/-! ## The body on any staging buffers -/

set_option maxHeartbeats 4000000 in
/-- The body at a point: from the inputs' contents `x0` to `x6` and any contents `o7`, `o8` of the two results' buffers, it
    runs to the end, leaves the inputs as they were, and leaves each result's buffer overwritten by the pieces this names. -/
def run (c : Dev nD) (i : grid0.Coords) (arg3 : Memref sig .tc .vmem S1x256x512 .bf16) (harg3 : arg3.IsWhole) (arg4 : Memref sig .tc .vmem S1x64x512 .bf16) (harg4 : arg4.IsWhole) (arg5 : Memref sig .tc .vmem S1x256x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x256x512 .bf16) (harg8 : arg8.IsWhole) (arg9 : Memref sig .tc .vmem S1x64x512 .bf16) (harg9 : arg9.IsWhole) (arg10 : Memref sig .tc .vmem S1x4x1024x128 .f32) (harg10 : arg10.IsWhole) (arg11 : Memref sig .tc .vmem S1x4x1024x128 .f32) (harg11 : arg11.IsWhole)
    (x0 : Vec F S1x256x512 .bf16) (x1 : Vec F S1x64x512 .bf16) (x2 : Vec F S1x256x512 .bf16) (x3 : Vec F S1x64x512 .bf16) (x4 : Vec F S1x64x512 .bf16) (x5 : Vec F S1x256x512 .bf16) (x6 : Vec F S1x64x512 .bf16) (o7 : Vec F S1x4x1024x128 .f32) (o8 : Vec F S1x4x1024x128 .f32) :
    (L7 : List (View.Piece (Elt F) S1x4x1024x128 .f32)) × { L8 : List (View.Piece (Elt F) S1x4x1024x128 .f32) //
      ∀ (E : Set ℕ) (K : PUnit → M F),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare o7 ∗ owns (c : Thread nD τ) arg11 fullShare o8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread o7) L7)
              ∗ (arg11.view.loc (c : Thread nD τ) ↦[arg11.view.set]{fullShare} arg11.view.writes (Elt F) (harg11.unread o8) L8)) -∗ K ⟨⟩))
          ⊢ wp frame (wpE (defs₀ (F := F)) Variants.none c none) E (cc0_dilated_attn i arg3 harg3 arg4 harg4 arg5 harg5 arg6 harg6 arg7 harg7 arg8 harg8 arg9 harg9 arg10 harg10 arg11 harg11) K } := by
  refine ⟨?_, ?_, fun E K => ?run⟩
  case run =>
    simp only [cc0_dilated_attn_eq_skeleton]; unfold cc0_dilated_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    iexact H8

/-- What a point's run names, on the point's buffers. -/
abbrev runAt (c : Dev nD) (t : Fin cfg0.N) (x0 : Vec F S1x256x512 .bf16) (x1 : Vec F S1x64x512 .bf16) (x2 : Vec F S1x256x512 .bf16) (x3 : Vec F S1x64x512 .bf16) (x4 : Vec F S1x64x512 .bf16) (x5 : Vec F S1x256x512 .bf16) (x6 : Vec F S1x64x512 .bf16) (o7 : Vec F S1x4x1024x128 .f32) (o8 : Vec F S1x4x1024x128 .f32) :=
  run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) x0 x1 x2 x3 x4 x5 x6 o7 o8

/-- What the point `t` leaves in the first result's buffer, given the blocks it reads and what it found. -/
def left7 (c : Dev nD) (t : Fin cfg0.N) (x0 : Vec F S1x256x512 .bf16) (x1 : Vec F S1x64x512 .bf16) (x2 : Vec F S1x256x512 .bf16) (x3 : Vec F S1x64x512 .bf16) (x4 : Vec F S1x64x512 .bf16) (x5 : Vec F S1x256x512 .bf16) (x6 : Vec F S1x64x512 .bf16) (o7 : Vec F S1x4x1024x128 .f32) (o8 : Vec F S1x4x1024x128 .f32) : Vec F S1x4x1024x128 .f32 :=
  (st0_7 t).view.read (Elt F) ((st0_7 t).view.writes (Elt F) ((hstage0_7 ((cfg0.slots t 7).cast nbuf0_7)).unread o7) (runAt c t x0 x1 x2 x3 x4 x5 x6 o7 o8).1)

/-- What the point `t` leaves in the second result's buffer, given the blocks it reads and what it found. -/
def left8 (c : Dev nD) (t : Fin cfg0.N) (x0 : Vec F S1x256x512 .bf16) (x1 : Vec F S1x64x512 .bf16) (x2 : Vec F S1x256x512 .bf16) (x3 : Vec F S1x64x512 .bf16) (x4 : Vec F S1x64x512 .bf16) (x5 : Vec F S1x256x512 .bf16) (x6 : Vec F S1x64x512 .bf16) (o7 : Vec F S1x4x1024x128 .f32) (o8 : Vec F S1x4x1024x128 .f32) : Vec F S1x4x1024x128 .f32 :=
  (st0_8 t).view.read (Elt F) ((st0_8 t).view.writes (Elt F) ((hstage0_8 ((cfg0.slots t 8).cast nbuf0_8)).unread o8) (runAt c t x0 x1 x2 x3 x4 x5 x6 o7 o8).2.1)

/-! ## The data of the proof -/

/-- The inputs are left as found, and the results' buffers as `left7` and `left8` say. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => ∃ Z : Vec F S1x4x1024x128 .f32, X = left7 c t (iblk m c 0 t) (iblk m c 1 t) (iblk m c 2 t) (iblk m c 3 t) (iblk m c 4 t) (iblk m c 5 t) (iblk m c 6 t) Y Z
    | ⟨8, _⟩ => fun Y X => ∃ Z : Vec F S1x4x1024x128 .f32, X = left8 c t (iblk m c 0 t) (iblk m c 1 t) (iblk m c 2 t) (iblk m c 3 t) (iblk m c 4 t) (iblk m c 5 t) (iblk m c 6 t) Z Y
  Φ _ := Pipeline.ΦA spec0 c
  q w := Pipeline.shareOf spec0 w
  owed _ := 0

/-- The arrays are as the grid finds them. -/
theorem rdat_A (c : Dev nD) (w : Fin cfg0.W) : (rdat m c).A w = V m c (Pipeline.arrRef spec0 w) := by
  dsimp only [rdat]

/-- The window of the queries holds its block at every point. -/
theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by dsimp only [rdat] at h; exact h) t Y h
  unfold RDat.fetched RDat.blockOf iblk; rw [rdat_A]; rfl

/-- The window of the keys before holds its block at every point. -/
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by dsimp only [rdat] at h; exact h) t Y h
  unfold RDat.fetched RDat.blockOf iblk; rw [rdat_A]; rfl

/-- The window of the keys holds its block at every point. -/
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => by dsimp only [rdat] at h; exact h) t Y h
  unfold RDat.fetched RDat.blockOf iblk; rw [rdat_A]; rfl

/-- The window of the keys after holds its block at every point. -/
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => by dsimp only [rdat] at h; exact h) t Y h
  unfold RDat.fetched RDat.blockOf iblk; rw [rdat_A]; rfl

/-- The window of the values before holds its block at every point. -/
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => by dsimp only [rdat] at h; exact h) t Y h
  unfold RDat.fetched RDat.blockOf iblk; rw [rdat_A]; rfl

/-- The window of the values holds its block at every point. -/
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => by dsimp only [rdat] at h; exact h) t Y h
  unfold RDat.fetched RDat.blockOf iblk; rw [rdat_A]; rfl

/-- The window of the values after holds its block at every point. -/
theorem finds_6 (c : Dev nD) (t : Fin cfg0.N) (Y) (h : (rdat m c).Finds 6 t Y) : Y = iblk m c 6 t := by
  obtain ⟨d, rfl⟩ := (rdat m c).finds_in_eq_fetched 6 rfl (fun _ _ _ => rfl) (fun t Y X h => by dsimp only [rdat] at h; exact h) t Y h
  unfold RDat.fetched RDat.blockOf iblk; rw [rdat_A]; rfl

set_option maxHeartbeats 1200000 in
/-- The body at a point, from the blocks it reads and any contents of the results' buffers. -/
theorem sound_body (c : Dev nD) (t : Fin cfg0.N) (o7 o8 : Vec F S1x4x1024x128 .f32) :
    (iprop(Pipeline.ΦA spec0 c ∗ (rdat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t)
      ∗ owns (c : Thread nD τ) (st0_7 t) fullShare o7
      ∗ owns (c : Thread nD τ) (st0_8 t) fullShare o8) : M F)
      ⊢ wp frame (wpE (defs₀ (F := F)) Variants.none c none) Set.univ (bodyAt0 t) (fun _ =>
        iprop(Pipeline.ΦA spec0 c ∗ (rdat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t)
      ∗ owns (c : Thread nD τ) (st0_7 t) fullShare (left7 c t (iblk m c 0 t) (iblk m c 1 t) (iblk m c 2 t) (iblk m c 3 t) (iblk m c 4 t) (iblk m c 5 t) (iblk m c 6 t) o7 o8)
      ∗ owns (c : Thread nD τ) (st0_8 t) fullShare (left8 c t (iblk m c 0 t) (iblk m c 1 t) (iblk m c 2 t) (iblk m c 3 t) (iblk m c 4 t) (iblk m c 5 t) (iblk m c 6 t) o7 o8))) := by
  unfold bodyAt0
  iintro ⟨HΦ, Ho, H0, H1, H2, H3, H4, H5, H6, H7, H8⟩
  iapply ((runAt c t (iblk m c 0 t) (iblk m c 1 t) (iblk m c 2 t) (iblk m c 3 t) (iblk m c 4 t) (iblk m c 5 t) (iblk m c 6 t) o7 o8).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rfl
  unfold owns; iexists _; isplitr
  swap; · iexact H8
  ipureintro; rfl

/-- The body the grid runs at a point is the one above. -/
theorem body_row (t : Fin cfg0.N) :
    defs₀ (F := F) .tc cfg0.body (cfg0.bodyArgs t (cfg0.slots t)) = bodyAt0 t := by
  unfold defs₀; rw [Defs.onTc_tc]

/-- At every point the body leaves what the data say. -/
theorem body_obligation (c : Dev nD) : (rdat (F := F) m c).BodyObligation (defs₀ (F := F)) Variants.none () Set.univ := fun t Y hY => by
  rw [bigSep_W0, bigSep_W0, body_row]
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  have e5 := finds_5 m c t (Y 5) (hY 5)
  have e6 := finds_6 m c t (Y 6) (hY 6)
  rw [e0, e1, e2, e3, e4, e5, e6, show (rdat m c).Φ t.succ = Pipeline.ΦA spec0 c from rfl,
    show (rdat m c).owesAt () t.succ = (rdat m c).owesAt () t.castSucc from rfl]
  refine triple_restated (sound_body m c t (Y 7) (Y 8)) rfl .rfl fun _ => ?_
  iintro ⟨HΦ, Ho, H0, H1, H2, H3, H4, H5, H6, H7, H8⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; exact ⟨_, rfl⟩
  iexists _; isplitr
  swap; · iexact H8
  ipureintro; exact ⟨_, rfl⟩

/-! ## The run and the frame -/

set_option backward.isDefEq.respectTransparency.types false in
/-- From any memory with zero counters every execution ends, the arrays are as the data say, every other buffer
    is as the grid found it, and the counters are at zero. -/
theorem run_main : θ_run defs (onTc (τ := τ) (main (F := F))) (s₀ m ρ)
    (fun r => RDat.FramePost cfg0 (rdat m) (V m) r ∧ r.2.sem = fun _ => 0) :=
  RDat.θ_run_frame_track_shared cfgs (0 : Fin 1) launch₀0 defs₀ Variants.none (rdat m) m ρ main
    (hbody := body_obligation m) (hq := fun _ _ _ => rfl)
    (howed := fun _ _ => rfl) (V := V m) (hmain := hmain m Variants.none) (hA := rdat_A m) (hin := fun _ => .rfl) (hout := fun _ => .rfl)
    (Q' := fun r => RDat.FramePost cfg0 (rdat m) (V m) r ∧ r.2.sem = fun _ => 0) (hQ' := fun _ h => h)

/-- The argument ends unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).2 main_arg0 (Pipeline.mem_restRefs_of main_arg0 (by decide) (by decide))).trans (V_main_arg0 m c), h.2⟩) (run_main m ρ)

end Cert.AttnBIdeal.Hand

end
-- ==== Proof.Strided.lean ====
/-
  Pieces of a result block that hold every `D`-th row.

  The attention kernels of dilation 4 and 16 store the result of 128 queries of one class of tokens, for one pair of heads,
  in 128 rows of the block, `D` apart. The pieces of one point fill the rows of one class and leave the others as found.
-/
module

public import Idealize.ShloMosaic.Init
public import Idealize.ShloMosaic.Lib.Pointwise
public import Idealize.ShloMosaic.Lib.Pipeline.Value
public import Idealize.ShloMosaic.Lib.ValueLayout

@[expose] public section

set_option maxRecDepth 16384

noncomputable section

namespace Cert.Proof.Strided

open Idealize.ShloMosaic

/-- A block of a result: four pairs of heads, `R` tokens, 128 lanes. -/
abbrev Blk (R : ℕ) : Shape := ⟨4, ![1, 4, R, 128]⟩

variable {R : ℕ}

/-- A piece holds pair `p`'s rows `o`, `o + D`, …, 128 of them, and its values are those of `G`. -/
structure Good (D : ℕ) (G : (Blk R).Idx → EReal) (p : Fin 4) (o : ℕ) (P : View.Piece (Elt Ideal) (Blk R) .f32) : Prop where
  mem : ∀ y : (Blk R).Idx, y ∈ P.1.set ↔ (y 1).val = p.val ∧ ∃ a < 128, (y 2).val = o + D * a
  val : ∀ x : P.1.shape.Idx, P.2 x = G (P.1.emb x)

/-- A piece stored with stride `D` along the tokens. -/
theorem good {D : ℕ} {G : (Blk R).Idx → EReal} {p : Fin 4} {o : ℕ} {off : Fin 4 → ℕ}
    {inb : ∀ a : Fin 4, (![1, 1, 128, 128] : Fin 4 → ℕ) a = 0 ∨ off a + (![1, 1, D, 1] : Fin 4 → ℕ) a * ((![1, 1, 128, 128] : Fin 4 → ℕ) a - 1) < (Blk R).size a}
    {sp : ∀ a : Fin 4, 0 < (![1, 1, D, 1] : Fin 4 → ℕ) a} {w : (⟨4, ![1, 1, 128, 128]⟩ : Shape).Idx → EReal}
    (ho : off = ![0, p.val, o, 0]) (hR : o + D * 127 < R)
    (hw : ∀ (a l : Fin 128) (y : (Blk R).Idx), (y 1) = p → (y 2).val = o + D * a.val → (y 3) = l → w (ix4 0 0 a l) = G y) :
    Good D G p o ⟨⟨⟨off, ![1, 1, 128, 128], ![1, 1, D, 1], inb⟩, sp⟩, w⟩ := by
  subst ho
  refine ⟨fun y => ?_, fun x => ?_⟩
  · rw [LoadRect.mem_set]
    have h0 : (y 0).val < 1 := (y 0).isLt
    have h3 : (y 3).val < 128 := (y 3).isLt
    refine ⟨fun h => ⟨?_, ?_⟩, fun h a => ?_⟩
    · obtain ⟨j, hj, e⟩ := h 1
      have hj : j < 1 := hj
      have e : (y 1).val = p.val + 1 * j := e
      omega
    · obtain ⟨j, hj, e⟩ := h 2
      exact ⟨j, hj, e⟩
    · match a with
      | ⟨0, _⟩ => exact ⟨0, show 0 < 1 by omega, show (y 0).val = 0 + 1 * 0 by omega⟩
      | ⟨1, _⟩ => exact ⟨0, show 0 < 1 by omega, show (y 1).val = p.val + 1 * 0 by omega⟩
      | ⟨2, _⟩ => exact ⟨h.2.choose, h.2.choose_spec.1, h.2.choose_spec.2⟩
      | ⟨3, _⟩ => exact ⟨(y 3).val, show (y 3).val < 128 by omega, show (y 3).val = 0 + 1 * (y 3).val by omega⟩
  · obtain ⟨a, l, rfl⟩ : ∃ a l : Fin 128, x = ix4 0 0 a l :=
      ⟨x 2, x 3, by
        have h0 : (x 0).val < 1 := (x 0).isLt
        have h1 : (x 1).val < 1 := (x 1).isLt
        funext b
        match b with
        | ⟨0, _⟩ => exact Fin.ext (by show (x 0).val = 0; omega)
        | ⟨1, _⟩ => exact Fin.ext (by show (x 1).val = 0; omega)
        | ⟨2, _⟩ => rfl
        | ⟨3, _⟩ => rfl⟩
    refine hw a l _ (Fin.ext ?_) ?_ (Fin.ext ?_)
    · show p.val + 1 * 0 = p.val; omega
    · show o + D * a.val = o + D * a.val; rfl
    · show 0 + 1 * l.val = l.val; omega

/-- The pieces of one point, for every pair and every run of 128 queries, fill the rows of class `r` and leave the others. -/
theorem overwritten {sig : RefSig} {κ : Kind} {sp : Space} (v : View sig κ sp (Blk R) .f32) (f : v.ty.Contents (Elt Ideal))
    {D S r : ℕ} {G : (Blk R).Idx → EReal} {L : List (View.Piece (Elt Ideal) (Blk R) .f32)} {W : List (Fin 4 × ℕ)} (hr : r < D) (hR : R = 128 * D * S)
    (hL : List.Forall₂ (fun P q => Good D G q.1 (128 * D * q.2 + r) P) L W) (hW : ∀ p : Fin 4, ∀ s < S, (p, s) ∈ W) (y : (Blk R).Idx) :
    v.read (Elt Ideal) (v.writes (Elt Ideal) f L) y = if (y 2).val % D = r then G y else v.read (Elt Ideal) f y := by
  have hy : (y 2).val < R := (y 2).isLt
  have hgood : ∀ P ∈ L, ∃ p o, o % D = r ∧ Good D G p o P := by
    intro P hP
    clear hW
    induction hL with
    | nil => exact absurd hP List.not_mem_nil
    | cons h _ ih =>
      rcases List.mem_cons.mp hP with rfl | hP
      · refine ⟨_, _, ?_, h⟩
        rw [Nat.mul_assoc, Nat.mul_left_comm, Nat.mul_add_mod, Nat.mod_eq_of_lt hr]
      · exact ih hP
  by_cases h : (y 2).val % D = r
  · rw [if_pos h]
    refine View.read_writes_apply_of_pieces (v := v) (f := f) G L (fun P hP => ?_) y ?_
    · obtain ⟨_, _, _, g⟩ := hgood P hP
      exact g.val
    · have hD : 0 < D := by omega
      have hdiv := Nat.div_add_mod (y 2).val D
      have hlt : (y 2).val / D < 128 * S := by
        rw [Nat.div_lt_iff_lt_mul hD]
        have : 128 * S * D = 128 * D * S := by ring
        omega
      have hm := hW (y 1) ((y 2).val / D / 128) (by omega)
      have hfind : ∃ P ∈ L, Good D G (y 1) (128 * D * ((y 2).val / D / 128) + r) P := by
        clear hW hgood
        induction hL with
        | nil => exact absurd hm List.not_mem_nil
        | cons g _ ih =>
          rcases List.mem_cons.mp hm with e | hm
          · rw [← e] at g
            exact ⟨_, .head _, g⟩
          · obtain ⟨P, hP, g⟩ := ih hm
            exact ⟨P, .tail _ hP, g⟩
      obtain ⟨P, hP, g⟩ := hfind
      refine ⟨P, hP, (g.mem y).mpr ⟨rfl, (y 2).val / D % 128, Nat.mod_lt _ (by omega), ?_⟩⟩
      have e := Nat.div_add_mod ((y 2).val / D) 128
      have : 128 * D * ((y 2).val / D / 128) + D * ((y 2).val / D % 128) = D * ((y 2).val / D) := by
        conv => rhs; rw [← e]
        ring
      omega
  · rw [if_neg h]
    refine View.read_writes_apply_of_forall_not_mem (v := v) (f := f) y L fun P hP hm => h ?_
    obtain ⟨p, o, ho, g⟩ := hgood P hP
    obtain ⟨_, a, _, e⟩ := (g.mem y).mp hm
    rw [e, Nat.add_mul_mod_self_left, ho]

end Cert.Proof.Strided

end
-- ==== Proof.Classes.lean ====
/-
  The attention of a group of dilation `D`: the tokens of a sequence fall in `D` classes, by their remainder, and each class is
  a sequence of its own, whose neighbouring tokens lie `D` apart in the text.
-/
module

public import proofs.«01_k».proof.Proof.AttnArray
public import proofs.«01_k».proof.Proof.Strided

@[expose] public section

set_option maxRecDepth 16384

noncomputable section

namespace Cert.Proof.Classes

open Idealize.ShloMosaic Cert.AttnIdeal Cert.AttnIdeal.Gen Cert.AttnIdeal.Facts
open AttnSpec (Seq)
open AttnBlock
open AttnArray (head dim lane head_lane dim_lane MaskAt)
open Strided (Blk)

section Spec

variable (D N : ℕ) (hD : 0 < D) (hN : D * N = 2048)

/-- A token is within the sequence when its class has it. -/
theorem token_lt {D N : ℕ} (hN : D * N = 2048) (t : Fin N) (r : Fin D) : D * t.val + r.val < 2048 := by
  have : D * (t.val + 1) ≤ D * N := Nat.mul_le_mul_left D t.isLt
  rw [Nat.mul_add] at this
  have := r.isLt
  omega

/-- The queries (`w = 0`), keys (`w = 1`) or values (`w = 2`) of the tokens of class `r`, in the array of all three. -/
def seqs (X : Vec Ideal S16x2048x1536 .bf16) (w : Fin 3) (b : Fin 16) (r : Fin D) : Seq N := fun t h d =>
  X (ix3 b ⟨D * t.val + r.val, token_lt hN t r⟩ ⟨512 * w.val + 64 * h.val + d.val, by omega⟩)

/-- A token's class. -/
def classOf (n : ℕ) : Fin D := ⟨n % D, Nat.mod_lt _ hD⟩

/-- A token's place in its class. -/
def placeOf (n : Fin 2048) : Fin N := ⟨n.val / D, by rw [Nat.div_lt_iff_lt_mul hD, Nat.mul_comm, hN]; exact n.isLt⟩

variable (sl : Fin 8 → BitVec 32)

/-- The attention of every class of every sequence, in the layout of the result: pairs of heads over 128 lanes. -/
def attention (X : Vec Ideal S16x2048x1536 .bf16) : Vec Ideal S16x4x2048x128 .f32 := fun y =>
  AttnSpec.att D sl (seqs D N hN X 0 (y 0) (classOf D hD (y 2).val)) (seqs D N hN X 1 (y 0) (classOf D hD (y 2).val))
    (seqs D N hN X 2 (y 0) (classOf D hD (y 2).val)) (headOf (y 1) (y 3)) (placeOf D N hD hN (y 2)) (dimOf (y 3))

/-- The log-sum-exp of every class of every sequence, in the same layout. -/
def logSumExp (X : Vec Ideal S16x2048x1536 .bf16) : Vec Ideal S16x4x2048x128 .f32 := fun y =>
  AttnSpec.lse D sl (seqs D N hN X 0 (y 0) (classOf D hD (y 2).val)) (seqs D N hN X 1 (y 0) (classOf D hD (y 2).val))
    (headOf (y 1) (y 3)) (placeOf D N hD hN (y 2))

/-- Finite entries make finite sequences. -/
theorem seqs_real {X : Vec Ideal S16x2048x1536 .bf16} (hX : ∀ (b : Fin 16) (t : Fin 2048) (c : Fin 1536), c.val < 1024 → ∃ r : ℝ, X (ix3 b t c) = (r : EReal))
    (w : Fin 3) (hw : w.val < 2) (b : Fin 16) (r : Fin D) (t : Fin N) (h : Fin 8) (d : Fin 64) : ∃ x : ℝ, seqs D N hN X w b r t h d = x :=
  hX b _ _ (by simp only []; omega)

end Spec

section Block

variable (D : ℕ) (sl : Fin 8 → BitVec 32) {N R : ℕ} (base : ℕ) (hb : D * base + R ≤ D * N)

/-- The place in its class of a row of a block whose queries begin at `base`. -/
def rowPlace (n : Fin R) : Fin N := ⟨base + n.val / D, by
  have h1 : D * (base + n.val / D) ≤ D * base + n.val := by rw [Nat.mul_add]; exact Nat.add_le_add_left (Nat.mul_div_le _ _) _
  exact Nat.lt_of_mul_lt_mul_left (a := D) (by have := n.isLt; omega)⟩

/-- A block of the attention result, at the rows of the class whose sequences these are. -/
def blockOut (Q K V : Seq N) : (Blk R).Idx → EReal := fun y => AttnSpec.att D sl Q K V (headOf (y 1) (y 3)) (rowPlace D base hb (y 2)) (dimOf (y 3))

/-- A block of the log-sum-exp result, at the rows of the class whose sequences these are. -/
def blockLse (Q K : Seq N) : (Blk R).Idx → EReal := fun y => AttnSpec.lse D sl Q K (headOf (y 1) (y 3)) (rowPlace D base hb (y 2))

/-- A row of a piece whose queries begin `128 s` after the block's is the piece's query there. -/
theorem rowPlace_val {r s a : ℕ} (hr : r < D) (n : Fin R) (hn : n.val = 128 * D * s + r + D * a) : (rowPlace D base hb n).val = base + 128 * s + a := by
  have hD : 0 < D := by omega
  show base + n.val / D = _
  have : n.val / D = 128 * s + a := by
    rw [hn, show 128 * D * s + r + D * a = r + D * (128 * s + a) by ring, Nat.add_mul_div_left _ _ hD, Nat.div_eq_of_lt hr, Nat.zero_add]
  omega

/-- A block's rows of one class are the attention of that class, at the place of the block in the result. -/
theorem blockOut_eq {D N R base : ℕ} (hD : 0 < D) (hN : D * N = 2048) (hb : D * base + R ≤ D * N) (sl : Fin 8 → BitVec 32) (X : Vec Ideal S16x2048x1536 .bf16) (b : Fin 16) (r : Fin D)
    (y : (Blk R).Idx) (hr : (y 2).val % D = r.val) (z : S16x4x2048x128.Idx) (h0 : z 0 = b) (h1 : z 1 = y 1) (h2 : (z 2).val = D * base + (y 2).val) (h3 : z 3 = y 3) :
    blockOut D sl base hb (seqs D N hN X 0 b r) (seqs D N hN X 1 b r) (seqs D N hN X 2 b r) y = attention D N hD hN sl X z := by
  have hc : classOf D hD (z 2).val = r := Fin.ext (by show (z 2).val % D = r.val; rw [h2, Nat.mul_add_mod, hr])
  have hp : placeOf D N hD hN (z 2) = rowPlace D base hb (y 2) := Fin.ext (by
    show (z 2).val / D = base + (y 2).val / D
    rw [h2, Nat.mul_add_div hD])
  unfold blockOut attention
  rw [hc, hp, h0, h1, h3]

/-- A block's rows of one class are the log-sum-exp of that class, at the place of the block in the result. -/
theorem blockLse_eq {D N R base : ℕ} (hD : 0 < D) (hN : D * N = 2048) (hb : D * base + R ≤ D * N) (sl : Fin 8 → BitVec 32) (X : Vec Ideal S16x2048x1536 .bf16) (b : Fin 16) (r : Fin D)
    (y : (Blk R).Idx) (hr : (y 2).val % D = r.val) (z : S16x4x2048x128.Idx) (h0 : z 0 = b) (h1 : z 1 = y 1) (h2 : (z 2).val = D * base + (y 2).val) (h3 : z 3 = y 3) :
    blockLse D sl base hb (seqs D N hN X 0 b r) (seqs D N hN X 1 b r) y = logSumExp D N hD hN sl X z := by
  have hc : classOf D hD (z 2).val = r := Fin.ext (by show (z 2).val % D = r.val; rw [h2, Nat.mul_add_mod, hr])
  have hp : placeOf D N hD hN (z 2) = rowPlace D base hb (y 2) := Fin.ext (by
    show (z 2).val / D = base + (y 2).val / D
    rw [h2, Nat.mul_add_div hD])
  unfold blockLse logSumExp
  rw [hc, hp, h0, h1, h3]

end Block

/-- The keys (values) of a block of 128 queries: 64 rows of the block before, the block's own, 64 of the block after. -/
def keysC (h : Shape.Concatenates [S64x128, S128x128, S64x128] S256x128 0) (p : FVec Ideal S1x64x128 .bf16) (c : FVec Ideal S1x128x128 .bf16) (n : FVec Ideal S1x64x128 .bf16) : FVec Ideal S256x128 .bf16 :=
  concatenate S256x128 0 [⟨S64x128, shapeCast S64x128 p shapeCasts_S1x64x128_S64x128⟩,
    ⟨S128x128, shapeCast S128x128 c shapeCasts_S1x128x128_S128x128⟩, ⟨S64x128, shapeCast S64x128 n shapeCasts_S1x64x128_S64x128⟩] h

/-- The window of a block of 128 queries, at the block's own rows. -/
theorem keysC_apply (h : Shape.Concatenates [S64x128, S128x128, S64x128] S256x128 0) (p : FVec Ideal S1x64x128 .bf16) (c : FVec Ideal S1x128x128 .bf16) (n : FVec Ideal S1x64x128 .bf16) (b : Fin 256) (l : Fin 128)
    (h0 : 64 ≤ b.val) (h1 : b.val < 192) : keysC h p c n (ix2 b l) = c (ix3 0 ⟨b.val - 64, by omega⟩ l) := by
  pointwise [keysC]
  split_ifs <;> first | rfl | (exfalso; omega)

/-- The operand blocks of the 128 queries that are a whole class: their rows, and blocks before and after, which no token of the class has. -/
structure IsClass (Q K V : Seq 128) (x0 x2 x5 : FVec Ideal ⟨3, ![1, 128, 512]⟩ .bf16) : Prop where
  queries : ∀ (t : Fin 128) (c : Fin 512), x0 (ix3 0 t c) = Q t (head c) (dim c)
  keys : ∀ (t : Fin 128) (c : Fin 512), x2 (ix3 0 t c) = K t (head c) (dim c)
  values : ∀ (t : Fin 128) (c : Fin 512), x5 (ix3 0 t c) = V t (head c) (dim c)

/-- The operands of a piece of a whole class. -/
theorem isPieceC {Q K V : Seq 128} {mask : IVec S128x256 1} {x0 x2 x5 : FVec Ideal ⟨3, ![1, 128, 512]⟩ .bf16} (hb : IsClass Q K V x0 x2 x5)
    (hm : MaskAt 128 0 mask) (p : Fin 4) (h : Shape.Concatenates [S64x128, S128x128, S64x128] S256x128 0)
    {q kc vc : FVec Ideal S1x128x128 .bf16} {kp kn vp vn : FVec Ideal S1x64x128 .bf16}
    (hq : ∀ a l, q (ix3 0 a l) = x0 (ix3 0 a (lane p l))) (hkc : ∀ a l, kc (ix3 0 a l) = x2 (ix3 0 a (lane p l)))
    (hvc : ∀ a l, vc (ix3 0 a l) = x5 (ix3 0 a (lane p l))) :
    IsPiece Q K V p 0 mask (keysC h kp kc kn) (keysC h vp vc vn) q where
  bound := by omega
  mask := hm
  keys b l κ e := by
    have hκ := κ.isLt
    rw [keysC_apply _ _ _ _ _ _ (by omega) (by omega), hkc, ← head_lane, ← dim_lane, ← hb.keys κ]
    congr 2
    exact Fin.ext (by show b.val - 64 = κ.val; omega)
  values b l κ e := by
    have hκ := κ.isLt
    rw [keysC_apply _ _ _ _ _ _ (by omega) (by omega), hvc, ← head_lane, ← dim_lane, ← hb.values κ]
    congr 2
    exact Fin.ext (by show b.val - 64 = κ.val; omega)
  queries a l t e := by
    rw [hq, hb.queries, head_lane, dim_lane]
    congr 1
    exact Fin.ext (by omega)

end Cert.Proof.Classes

end
-- ==== Proof.AttnBValue.lean ====
/-
  The attention of the group of dilation 4: the kernel's two arrays are the attention and the log-sum-exp of its argument.

  A point of the grid takes the queries of one class of tokens and stores its results in every 4th row of a block; the 4 points
  of a block fill it one class after the other.
-/
module

public import proofs.«01_k».proof.Proof.AttnBIdealRun
public import proofs.«01_k».proof.Proof.Classes
public import Idealize.ShloMosaic.Lib.Pipeline.ValueKit
public import Idealize.ShloMosaic.Lib.Claim
public import Idealize.ShloMosaic.Lib.Pointwise

@[expose] public section

set_option maxRecDepth 16384

noncomputable section

namespace Cert.Proof.AttnB

open Idealize.ShloMosaic Idealize.ShloMosaic.TcCoe Idealize.SL.Sem Cert.AttnBIdeal Cert.AttnBIdeal.Gen Cert.AttnBIdeal.Hand
open Idealize.ShloMosaic.Pipeline (RDat)
open AttnSpec (Seq slope4)
open AttnBlock (out lse score keysA keysB headOf dimOf out_piece lse_piece toInt_offset)
open AttnArray (IsBlock MaskAt pieceA0 pieceA1 pieceA2 pieceA3 pieceB0 pieceB1 pieceB2 pieceB3 head dim)
open Classes (seqs attention logSumExp blockOut blockLse rowPlace rowPlace_val classOf placeOf)
open Strided (Good good overwritten)
open Words

/-- The mask of the first half. -/
theorem maskA (i : grid0.Coords) (hi : (i 1).val < 2) : MaskAt 512 (256 * (i 1).val) (k0_pay8 i) := fun a b => by
  pointwise [k0_pay8, k0_pay4, k0_pay3, k0_pay2]
  have hp : (IntOp.addi (Scalar.addi (Scalar.muli (BitVec.ofNat 32 (i 1).val) 256#32) 0#32) (IntOp.subi (BitVec.ofNat 32 b.val) 64#32)).toInt
      = ((i 1).val : ℤ) * 256 + 0 + (b.val - 64) :=
    toInt_add (toInt_add (toInt_mul (toInt_nat _ (by omega)) (show (256#32 : BitVec 32).toInt = 256 by decide) (by omega) (by omega))
      (show (0#32 : BitVec 32).toInt = 0 by decide) (by omega) (by omega))
      (toInt_sub (toInt_nat _ (by omega)) (show (64#32 : BitVec 32).toInt = 64 by decide) (by omega) (by omega)) (by omega) (by omega)
  rw [and_iff, and_iff, sle_iff (toInt_abs (toInt_offset a b) (by omega)) (show (64#32 : BitVec 32).toInt = 64 by decide),
    sge_iff hp (show (0#32 : BitVec 32).toInt = 0 by decide), slt_iff hp (show (512#32 : BitVec 32).toInt = 512 by decide)]
  push_cast
  rw [and_assoc]
  exact and_congr_right fun _ => by omega

/-- The mask of the second half, as a function of the point. -/
def maskOf (i : grid0.Coords) : IVec S128x256 1 := k0_pay78 (Scalar.muli (BitVec.ofNat 32 (i 1).val) 256#32) k0_pay2 k0_pay4

/-- The mask of the second half. -/
theorem maskB (i : grid0.Coords) (hi : (i 1).val < 2) : MaskAt 512 (256 * (i 1).val + 128) (maskOf i) := fun a b => by
  pointwise [maskOf, k0_pay78, k0_pay4, k0_pay3, k0_pay2]
  have hp : (IntOp.addi (Scalar.addi (Scalar.muli (BitVec.ofNat 32 (i 1).val) 256#32) 128#32) (IntOp.subi (BitVec.ofNat 32 b.val) 64#32)).toInt
      = ((i 1).val : ℤ) * 256 + 128 + (b.val - 64) :=
    toInt_add (toInt_add (toInt_mul (toInt_nat _ (by omega)) (show (256#32 : BitVec 32).toInt = 256 by decide) (by omega) (by omega))
      (show (128#32 : BitVec 32).toInt = 128 by decide) (by omega) (by omega))
      (toInt_sub (toInt_nat _ (by omega)) (show (64#32 : BitVec 32).toInt = 64 by decide) (by omega) (by omega)) (by omega) (by omega)
  rw [and_iff, and_iff, sle_iff (toInt_abs (toInt_offset a b) (by omega)) (show (64#32 : BitVec 32).toInt = 64 by decide),
    sge_iff hp (show (0#32 : BitVec 32).toInt = 0 by decide), slt_iff hp (show (512#32 : BitVec 32).toInt = 512 by decide)]
  push_cast
  rw [and_assoc]
  exact and_congr_right fun _ => by omega

set_option maxHeartbeats 4000000 in
/-- The pieces a point stores of the attention: each holds its queries' results, in the rows of the point's class. -/
theorem pieces7 {Q K V : Seq 512} (hQ : ∀ t h d, ∃ r : ℝ, Q t h d = r) (hK : ∀ t h d, ∃ r : ℝ, K t h d = r) (c : Dev nD) (i : grid0.Coords) (j : ℕ) (hi : (i 1).val = j) (hj : j < 2) (hr : (i 2).val < 4)
    (arg3 : Memref sig .tc .vmem S1x256x512 .bf16) (harg3 : arg3.IsWhole) (arg4 : Memref sig .tc .vmem S1x64x512 .bf16) (harg4 : arg4.IsWhole) (arg5 : Memref sig .tc .vmem S1x256x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x256x512 .bf16) (harg8 : arg8.IsWhole) (arg9 : Memref sig .tc .vmem S1x64x512 .bf16) (harg9 : arg9.IsWhole) (arg10 : Memref sig .tc .vmem S1x4x1024x128 .f32) (harg10 : arg10.IsWhole) (arg11 : Memref sig .tc .vmem S1x4x1024x128 .f32) (harg11 : arg11.IsWhole)
    (x0 : Vec Ideal S1x256x512 .bf16) (x1 : Vec Ideal S1x64x512 .bf16) (x2 : Vec Ideal S1x256x512 .bf16) (x3 : Vec Ideal S1x64x512 .bf16) (x4 : Vec Ideal S1x64x512 .bf16) (x5 : Vec Ideal S1x256x512 .bf16) (x6 : Vec Ideal S1x64x512 .bf16) (o7 o8 : Vec Ideal S1x4x1024x128 .f32) (hb : IsBlock Q K V j x0 x1 x2 x3 x4 x5 x6) :
    List.Forall₂ (fun P q => Good 4 (blockOut 4 slope4 (256 * j) (by omega : 4 * (256 * j) + 1024 ≤ 4 * 512) Q K V) q.1 (128 * 4 * q.2 + (i 2).val) P)
      (run (F := Ideal) c i arg3 harg3 arg4 harg4 arg5 harg5 arg6 harg6 arg7 harg7 arg8 harg8 arg9 harg9 arg10 harg10 arg11 harg11 x0 x1 x2 x3 x4 x5 x6 o7 o8).1 ([(3, 1), (2, 1), (1, 1), (0, 1), (3, 0), (2, 0), (1, 0), (0, 0)] : List (Fin 4 × ℕ)) := by
  have hb' : IsBlock Q K V j (arg3.view.read (Elt Ideal) (harg3.unread x0)) (arg4.view.read (Elt Ideal) (harg4.unread x1)) (arg5.view.read (Elt Ideal) (harg5.unread x2)) (arg6.view.read (Elt Ideal) (harg6.unread x3)) (arg7.view.read (Elt Ideal) (harg7.unread x4)) (arg8.view.read (Elt Ideal) (harg8.unread x5)) (arg9.view.read (Elt Ideal) (harg9.unread x6)) := by
    simp only [Memref.IsWhole.read_unread]; exact hb
  subst hi
  have mA := maskA i hj
  have mB := maskB i hj
  have hN : 256 * (i 1).val + 256 ≤ 512 := by omega
  have hR : 4 * (256 * (i 1).val) + 1024 ≤ 4 * 512 := by omega
  unfold run
  dsimp only
  refine .cons (good (p := 3) (o := 128 * 4 * 1 + (i 2).val) ((k0_off4_eq i ⟨1, by decide⟩).trans (by simp)) (by omega) fun a l y h1 h2 h3 => ?_) ?_
  · refine (out_piece (D := 4) (sl := slope4) (by decide) AttnSpec.slope4_exponent hQ hK (pieceB3 hb' hN mB) 6 7 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 2) (o := 128 * 4 * 1 + (i 2).val) ((k0_off3_eq i ⟨1, by decide⟩).trans (by simp)) (by omega) fun a l y h1 h2 h3 => ?_) ?_
  · refine (out_piece (D := 4) (sl := slope4) (by decide) AttnSpec.slope4_exponent hQ hK (pieceB2 hb' hN mB) 4 5 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 1) (o := 128 * 4 * 1 + (i 2).val) ((k0_off2_eq i ⟨1, by decide⟩).trans (by simp)) (by omega) fun a l y h1 h2 h3 => ?_) ?_
  · refine (out_piece (D := 4) (sl := slope4) (by decide) AttnSpec.slope4_exponent hQ hK (pieceB1 hb' hN mB) 2 3 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 0) (o := 128 * 4 * 1 + (i 2).val) ((k0_off1_eq i ⟨1, by decide⟩).trans (by simp)) (by omega) fun a l y h1 h2 h3 => ?_) ?_
  · refine (out_piece (D := 4) (sl := slope4) (by decide) AttnSpec.slope4_exponent hQ hK (pieceB0 hb' hN mB) 0 1 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 3) (o := 128 * 4 * 0 + (i 2).val) ((k0_off4_eq i ⟨0, by decide⟩).trans (by simp)) (by omega) fun a l y h1 h2 h3 => ?_) ?_
  · refine (out_piece (D := 4) (sl := slope4) (by decide) AttnSpec.slope4_exponent hQ hK (pieceA3 hb' hN mA) 6 7 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 2) (o := 128 * 4 * 0 + (i 2).val) ((k0_off3_eq i ⟨0, by decide⟩).trans (by simp)) (by omega) fun a l y h1 h2 h3 => ?_) ?_
  · refine (out_piece (D := 4) (sl := slope4) (by decide) AttnSpec.slope4_exponent hQ hK (pieceA2 hb' hN mA) 4 5 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 1) (o := 128 * 4 * 0 + (i 2).val) ((k0_off2_eq i ⟨0, by decide⟩).trans (by simp)) (by omega) fun a l y h1 h2 h3 => ?_) ?_
  · refine (out_piece (D := 4) (sl := slope4) (by decide) AttnSpec.slope4_exponent hQ hK (pieceA1 hb' hN mA) 2 3 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  refine .cons (good (p := 0) (o := 128 * 4 * 0 + (i 2).val) ((k0_off1_eq i ⟨0, by decide⟩).trans (by simp)) (by omega) fun a l y h1 h2 h3 => ?_) ?_
  · refine (out_piece (D := 4) (sl := slope4) (by decide) AttnSpec.slope4_exponent hQ hK (pieceA0 hb' hN mA) 0 1 rfl rfl a l (rowPlace 4 (256 * (i 1).val) hR (y 2)) ?_).trans ?_
    · refine (rowPlace_val 4 _ _ hr (y 2) h2).trans ?_
      omega
    · show _ = AttnSpec.att _ _ _ _ _ (headOf (y 1) (y 3)) _ (dimOf (y 3))
      rw [h1, h3] <;> rfl
  exact .nil

/-- What a point leaves of the attention: the rows of its class from its queries, the rest as found. -/
theorem left7_apply {Q K V : Seq 512} (hQ : ∀ t h d, ∃ r : ℝ, Q t h d = r) (hK : ∀ t h d, ∃ r : ℝ, K t h d = r) (c : Dev nD) (t : Fin cfg0.N) (j : ℕ) (hi : (grid0.coords t 1).val = j) (hj : j < 2) (hr : (grid0.coords t 2).val < 4)
    (x0 : Vec Ideal S1x256x512 .bf16) (x1 : Vec Ideal S1x64x512 .bf16) (x2 : Vec Ideal S1x256x512 .bf16) (x3 : Vec Ideal S1x64x512 .bf16) (x4 : Vec Ideal S1x64x512 .bf16) (x5 : Vec Ideal S1x256x512 .bf16) (x6 : Vec Ideal S1x64x512 .bf16) (hb : IsBlock Q K V j x0 x1 x2 x3 x4 x5 x6) (Y Z : Vec Ideal S1x4x1024x128 .f32) (y : S1x4x1024x128.Idx) :
    left7 (F := Ideal) c t x0 x1 x2 x3 x4 x5 x6 Y Z y = if (y 2).val % 4 = (grid0.coords t 2).val then blockOut 4 slope4 (256 * j) (by omega : 4 * (256 * j) + 1024 ≤ 4 * 512) Q K V y else Y y := by
  unfold left7
  refine (overwritten (st0_7 t).view _ (S := 2) hr rfl (pieces7 hQ hK c (grid0.coords t) j hi hj hr _ _ _ _ _ _ _ _ _ _ _ _ _ _ _ _ _ _ x0 x1 x2 x3 x4 x5 x6 _ _ hb) (by decide) y).trans ?_
  exact if_congr Iff.rfl rfl (congrFun (((hstage0_7 ((cfg0.slots t 7).cast nbuf0_7))).read_unread _) y)

set_option maxHeartbeats 4000000 in
/-- The pieces a point stores of the log-sum-exp: each holds its queries' results, in the rows of the point's class. -/
theorem pieces8 {Q K V : Seq 512} (c : Dev nD) (i : grid0.Coords) (j : ℕ) (hi : (i 1).val = j) (hj : j < 2) (hr : (i 2).val < 4)
    (arg3 : Memref sig .tc .vmem S1x256x512 .bf16) (harg3 : arg3.IsWhole) (arg4 : Memref sig .tc .vmem S1x64x512 .bf16) (harg4 : arg4.IsWhole) (arg5 : Memref sig .tc .vmem S1x256x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x256x512 .bf16) (harg8 : arg8.IsWhole) (arg9 : Memref sig .tc .vmem S1x64x512 .bf16) (harg9 : arg9.IsWhole) (arg10 : Memref sig .tc .vmem S1x4x1024x128 .f32) (harg10 : arg10.IsWhole) (arg11 : Memref sig .tc .vmem S1x4x1024x128 .f32) (harg11 : arg11.IsWhole)
    (x0 : Vec Ideal S1x256x512 .bf16) (x1 : Vec Ideal S1x64x512 .bf16) (x2 : Vec Ideal S1x256x512 .bf16) (x3 : Vec Ideal S1x64x512 .bf16) (x4 : Vec Ideal S1x64x512 .bf16) (x5 : Vec Ideal S1x256x512 .bf16) (x6 : Vec Ideal S1x64x512 .bf16) (o7 o8 : Vec Ideal S1x4x1024x128 .f32) (hb : IsBlock Q K V j x0 x1 x2 x3 x4 x5 x6) :
    List.Forall₂ (fun P q => Good 4 (blockLse 4 slope4 (256 * j) (by omega : 4 * (256 * j) + 1024 ≤ 4 * 512) Q K) q.1 (128 * 4 * q.2 + (i 2).val) P)
      (run (F := Ideal) c i arg3 harg3 arg4 harg4 arg5 harg5 arg6 harg6 arg7 harg7 arg8 harg8 arg9 harg9 arg10 harg10 arg11 harg11 x0 x1 x2 x3 x4 x5 x6 o7 o8).2.1 ([(3, 1), (2, 1), (1, 1), (0, 1), (3, 0), (2, 0), (1, 0), (0, 0)] : List (Fin 4 × ℕ)) := by
  have hb' : IsBlock Q K V j (arg3.view.read (Elt Ideal) (harg3.unread x0)) (arg4.view.read (Elt Ideal) (harg4.unread x1)) (arg5.view.read (Elt Ideal) (harg5.unread x2)) (arg6.view.read (Elt Ideal) (harg6.unread x3)) (arg7.view.read (Elt Ideal) (harg7.unread x4)) (arg8.view.read (Elt Ideal) (harg8.unread x5)) (arg9.view.read (Elt Ideal) (harg9.unread x6)) := by
    simp only [Memref.IsWhole.read_unread]; exact hb
  subst hi
  have mA := maskA i hj
  have mB := maskB i hj
  have hN : 256 * (i 1).val + 256 ≤ 512 := by omega
  have hR : 4 * (256 * (i 1).val) + 1024 ≤ 4 * 512 := by omega
  unfold run
  dsimp only
  refine .cons (good (p := 3) (o := 128 * 4 * 1 + (i 2).val) ((k0_off4_eq i ⟨1, by decide⟩).trans (by simp)) (by omega) fun a l y h1 h2 h3 => ?_) ?_
  · refine (lse_piece (D := 4) (sl := slope4) (by decide) (pieceB3 hb' hN mB) 6 7 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 2) (o := 128 * 4 * 1 + (i 2).val) ((k0_off3_eq i ⟨1, by decide⟩).trans (by simp)) (by omega) fun a l y h1 h2 h3 => ?_) ?_
  · refine (lse_piece (D := 4) (sl := slope4) (by decide) (pieceB2 hb' hN mB) 4 5 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 1) (o := 128 * 4 * 1 + (i 2).val) ((k0_off2_eq i ⟨1, by decide⟩).trans (by simp)) (by omega) fun a l y h1 h2 h3 => ?_) ?_
  · refine (lse_piece (D := 4) (sl := slope4) (by decide) (pieceB1 hb' hN mB) 2 3 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 0) (o := 128 * 4 * 1 + (i 2).val) ((k0_off1_eq i ⟨1, by decide⟩).trans (by simp)) (by omega) fun a l y h1 h2 h3 => ?_) ?_
  · refine (lse_piece (D := 4) (sl := slope4) (by decide) (pieceB0 hb' hN mB) 0 1 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 3) (o := 128 * 4 * 0 + (i 2).val) ((k0_off4_eq i ⟨0, by decide⟩).trans (by simp)) (by omega) fun a l y h1 h2 h3 => ?_) ?_
  · refine (lse_piece (D := 4) (sl := slope4) (by decide) (pieceA3 hb' hN mA) 6 7 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 2) (o := 128 * 4 * 0 + (i 2).val) ((k0_off3_eq i ⟨0, by decide⟩).trans (by simp)) (by omega) fun a l y h1 h2 h3 => ?_) ?_
  · refine (lse_piece (D := 4) (sl := slope4) (by decide) (pieceA2 hb' hN mA) 4 5 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 1) (o := 128 * 4 * 0 + (i 2).val) ((k0_off2_eq i ⟨0, by decide⟩).trans (by simp)) (by omega) fun a l y h1 h2 h3 => ?_) ?_
  · refine (lse_piece (D := 4) (sl := slope4) (by decide) (pieceA1 hb' hN mA) 2 3 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  refine .cons (good (p := 0) (o := 128 * 4 * 0 + (i 2).val) ((k0_off1_eq i ⟨0, by decide⟩).trans (by simp)) (by omega) fun a l y h1 h2 h3 => ?_) ?_
  · refine (lse_piece (D := 4) (sl := slope4) (by decide) (pieceA0 hb' hN mA) 0 1 rfl rfl a l (rowPlace 4 (256 * (i 1).val) hR (y 2)) ?_).trans ?_
    · refine (rowPlace_val 4 _ _ hr (y 2) h2).trans ?_
      omega
    · show _ = AttnSpec.lse _ _ _ _ (headOf (y 1) (y 3)) _
      rw [h1, h3] <;> rfl
  exact .nil

/-- What a point leaves of the log-sum-exp: the rows of its class from its queries, the rest as found. -/
theorem left8_apply {Q K V : Seq 512} (c : Dev nD) (t : Fin cfg0.N) (j : ℕ) (hi : (grid0.coords t 1).val = j) (hj : j < 2) (hr : (grid0.coords t 2).val < 4)
    (x0 : Vec Ideal S1x256x512 .bf16) (x1 : Vec Ideal S1x64x512 .bf16) (x2 : Vec Ideal S1x256x512 .bf16) (x3 : Vec Ideal S1x64x512 .bf16) (x4 : Vec Ideal S1x64x512 .bf16) (x5 : Vec Ideal S1x256x512 .bf16) (x6 : Vec Ideal S1x64x512 .bf16) (hb : IsBlock Q K V j x0 x1 x2 x3 x4 x5 x6) (Y Z : Vec Ideal S1x4x1024x128 .f32) (y : S1x4x1024x128.Idx) :
    left8 (F := Ideal) c t x0 x1 x2 x3 x4 x5 x6 Z Y y = if (y 2).val % 4 = (grid0.coords t 2).val then blockLse 4 slope4 (256 * j) (by omega : 4 * (256 * j) + 1024 ≤ 4 * 512) Q K y else Y y := by
  unfold left8
  refine (overwritten (st0_8 t).view _ (S := 2) hr rfl (pieces8 c (grid0.coords t) j hi hj hr _ _ _ _ _ _ _ _ _ _ _ _ _ _ _ _ _ _ x0 x1 x2 x3 x4 x5 x6 _ _ hb) (by decide) y).trans ?_
  exact if_congr Iff.rfl rfl (congrFun (((hstage0_8 ((cfg0.slots t 8).cast nbuf0_8))).read_unread _) y)

/-- Which block each window stages at a point. -/
theorem index_facts : ∀ t : Fin cfg0.N, win0_0.index t 0 = (grid0.coords t 0).val ∧ win0_0.index t 1 = (grid0.coords t 1).val ∧ win0_0.index t 2 = 3 * (grid0.coords t 2).val + 0
    ∧ win0_1.index t 0 = (grid0.coords t 0).val ∧ win0_1.index t 1 = 4 * (grid0.coords t 1).val - 1 ∧ win0_1.index t 2 = 3 * (grid0.coords t 2).val + 1
    ∧ win0_2.index t 0 = (grid0.coords t 0).val ∧ win0_2.index t 1 = (grid0.coords t 1).val ∧ win0_2.index t 2 = 3 * (grid0.coords t 2).val + 1
    ∧ win0_3.index t 0 = (grid0.coords t 0).val ∧ win0_3.index t 1 = min (4 * (grid0.coords t 1).val + 4) 7 ∧ win0_3.index t 2 = 3 * (grid0.coords t 2).val + 1
    ∧ win0_4.index t 0 = (grid0.coords t 0).val ∧ win0_4.index t 1 = 4 * (grid0.coords t 1).val - 1 ∧ win0_4.index t 2 = 3 * (grid0.coords t 2).val + 2
    ∧ win0_5.index t 0 = (grid0.coords t 0).val ∧ win0_5.index t 1 = (grid0.coords t 1).val ∧ win0_5.index t 2 = 3 * (grid0.coords t 2).val + 2
    ∧ win0_6.index t 0 = (grid0.coords t 0).val ∧ win0_6.index t 1 = min (4 * (grid0.coords t 1).val + 4) 7 ∧ win0_6.index t 2 = 3 * (grid0.coords t 2).val + 2
    ∧ win0_7.index t 0 = (grid0.coords t 0).val ∧ win0_7.index t 1 = 0 ∧ win0_7.index t 2 = (grid0.coords t 1).val ∧ win0_7.index t 3 = 0
    ∧ win0_8.index t 0 = (grid0.coords t 0).val ∧ win0_8.index t 1 = 0 ∧ win0_8.index t 2 = (grid0.coords t 1).val ∧ win0_8.index t 3 = 0 := by
  decide +kernel

/-- A point's place in the grid. -/
theorem coords_eq : ∀ t : Fin cfg0.N, (grid0.coords t 0).val = t.val / 8 ∧ (grid0.coords t 1).val = t.val / 4 % 2 ∧ (grid0.coords t 2).val = t.val % 4
    ∧ (grid0.coords t 0).val < 16 := by
  decide +kernel

variable (m : (ℓ : Loc nD τ sig) → Buf (Elt Ideal) ℓ)

/-- The array that the region reads is the argument, 4 tokens to a row. -/
theorem entry_apply (c : Dev nD) (z : S16x512x6144.Idx) (b : Fin 16) (t : Fin 2048) (e : Fin 1536) (h0 : (z 0).val = b.val)
    (h1 : 4 * (z 1).val + (z 2).val / 1536 = t.val) (h2 : (z 2).val % 1536 = e.val) :
    (V m c main_v1 : Vec Ideal S16x512x6144 .bf16) z = (m (c, Proc.tc.devRef main_arg0) : Vec Ideal S16x2048x1536 .bf16) (ix3 b t e) := by
  idx_vars z
  unfold V
  entry_read
  generalize (m (c, Proc.tc.devRef main_arg0) : Vec Ideal S16x2048x1536 .bf16) = x
  pointwise
  refine congrArg x (funext fun a => ?_)
  match a with
  | ⟨0, _⟩ => exact Fin.ext (by dsimp only [ix3]; omega)
  | ⟨1, _⟩ => exact Fin.ext (by dsimp only [ix3]; omega)
  | ⟨2, _⟩ => exact Fin.ext (by dsimp only [ix3]; omega)

/-- The blocks a point reads are those of its queries. -/
theorem isBlock (c : Dev nD) (t : Fin cfg0.N) (b : Fin 16) (r : Fin 4) (hb : (grid0.coords t 0).val = b.val) (hj : (grid0.coords t 1).val < 2) (hr : (grid0.coords t 2).val = r.val) :
    IsBlock (seqs 4 512 rfl (m (c, Proc.tc.devRef main_arg0)) 0 b r) (seqs 4 512 rfl (m (c, Proc.tc.devRef main_arg0)) 1 b r) (seqs 4 512 rfl (m (c, Proc.tc.devRef main_arg0)) 2 b r)
      (grid0.coords t 1).val (iblk m c 0 t) (iblk m c 1 t) (iblk m c 2 t) (iblk m c 3 t) (iblk m c 4 t) (iblk m c 5 t) (iblk m c 6 t) := by
  have hx := index_facts t
  have v0 : ((0 : Fin 3) : ℕ) = 0 := rfl
  have v1 : ((1 : Fin 3) : ℕ) = 1 := rfl
  have v2 : ((2 : Fin 3) : ℕ) = 2 := rfl
  refine ⟨?_, ?_, ?_, ?_, ?_, ?_, ?_⟩ <;> intro s e κ hκ <;> blk_simp [iblk] <;> rw [seqs] <;>
    refine entry_apply m c _ b _ _ ?_ ?_ ?_ <;> blk_simp <;> (try simp only [head, dim]) <;> omega

/-- What a point leaves of the attention: the rows of the classes up to its own hold what the specification says. -/
theorem leaves7 (c : Dev nD) (hX : ∀ (b : Fin 16) (t : Fin 2048) (e : Fin 1536), e.val < 1024 → ∃ r : ℝ, (m (c, Proc.tc.devRef main_arg0) : Vec Ideal S16x2048x1536 .bf16) (ix3 b t e) = (r : EReal))
    (k : ℕ) : ∀ (u : Fin cfg0.N), u.val % 4 = k → ∀ X : S1x4x1024x128.Idx → Elt Ideal .f32, (rdat m c).Leaves 7 u X →
    ∀ (y : S1x4x1024x128.Idx), (y 2).val % 4 ≤ k → ∀ z : S16x4x2048x128.Idx, (z 0).val = u.val / 8 → z 1 = y 1 → (z 2).val = 1024 * (u.val / 4 % 2) + (y 2).val → z 3 = y 3 →
      X y = attention 4 512 (by decide) rfl slope4 (m (c, Proc.tc.devRef main_arg0)) z := by
  have step : ∀ (u : Fin cfg0.N) (X : S1x4x1024x128.Idx → Elt Ideal .f32), (rdat m c).Leaves 7 u X → ∃ Y, (rdat m c).Finds 7 u Y ∧
      ∀ (y : S1x4x1024x128.Idx) (z : S16x4x2048x128.Idx), (z 0).val = u.val / 8 → z 1 = y 1 → (z 2).val = 1024 * (u.val / 4 % 2) + (y 2).val → z 3 = y 3 →
        X y = if (y 2).val % 4 = u.val % 4 then attention 4 512 (by decide) rfl slope4 (m (c, Proc.tc.devRef main_arg0)) z else Y y := by
    intro u X hX'
    obtain ⟨Y, hY, Z, e⟩ := hX'
    refine ⟨Y, hY, fun y z h0 h1 h2 h3 => ?_⟩
    obtain ⟨c0, c1, c2, cb⟩ := coords_eq u
    let b : Fin 16 := ⟨(grid0.coords u 0).val, cb⟩
    let r : Fin 4 := ⟨(grid0.coords u 2).val, by omega⟩
    have e' : X = left7 c u (iblk m c 0 u) (iblk m c 1 u) (iblk m c 2 u) (iblk m c 3 u) (iblk m c 4 u) (iblk m c 5 u) (iblk m c 6 u) Y Z := e
    rw [e', left7_apply (Classes.seqs_real 4 512 rfl hX 0 (by decide) b r) (Classes.seqs_real 4 512 rfl hX 1 (by decide) b r) c u (grid0.coords u 1).val rfl (by omega) (by omega) _ _ _ _ _ _ _ (isBlock m c u b r rfl (by omega) rfl) Y Z y, c2]
    split
    · next h => exact Classes.blockOut_eq (D := 4) (N := 512) (base := 256 * (grid0.coords u 1).val) (by decide) rfl _ slope4 _ b r y (h.trans c2.symm) z (Fin.ext (h0.trans c0.symm)) h1 (by rw [h2]; omega) h3
    · rfl
  induction k with
  | zero =>
    intro u hu X hL y hy z h0 h1 h2 h3
    obtain ⟨Y, _, e⟩ := step u X hL
    rw [e y z h0 h1 h2 h3, if_pos (by omega)]
  | succ k ih =>
    intro u hu X hL y hy z h0 h1 h2 h3
    obtain ⟨Y, hY, e⟩ := step u X hL
    rw [e y z h0 h1 h2 h3]
    split
    · rfl
    · next hne =>
      have hl : (rdat m c).Leaves 7 ⟨u.val - 1, Nat.lt_of_le_of_lt (Nat.sub_le _ _) u.isLt⟩ Y := by
        refine (((rdat m c).finds_of_pos ((cfg0.win 7).fetch_out rfl u) (by omega) Y).mp hY).resolve_left fun hf => ?_
        have := (flush0_7 _).mp hf
        dsimp only at this
        omega
      exact ih _ (by dsimp only; omega) Y hl y (by omega) z (by dsimp only; omega) h1 (by dsimp only; omega) h3

/-- The kernel's first result, from what the points that write their blocks back left. -/
theorem arr7 (c : Dev nD) (hX : ∀ (b : Fin 16) (t : Fin 2048) (e : Fin 1536), e.val < 1024 → ∃ r : ℝ, (m (c, Proc.tc.devRef main_arg0) : Vec Ideal S16x2048x1536 .bf16) (ix3 b t e) = (r : EReal))
    (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 7 cfg0.N = attention 4 512 (by decide) rfl slope4 (m (c, Proc.tc.devRef main_arg0)) := by
  refine ((rdat m c).withAfter after).arrAt_eq_of_covers 7 _ (by decide +kernel) fun t hf y => ?_
  have hx := index_facts t
  obtain ⟨c0, c1, c2, cb⟩ := coords_eq t
  have ht := (flush0_7 t).mp hf
  have hl := hL 7 t hf
  blk_simp
  rw [RDat.withAfter_after]
  refine leaves7 m c hX 3 t ht _ hl _ (by omega) _ ?_ (Fin.ext ?_) ?_ (Fin.ext ?_) <;> blk_simp <;> omega

/-- What a point leaves of the log-sum-exp: the rows of the classes up to its own hold what the specification says. -/
theorem leaves8 (c : Dev nD) (k : ℕ) : ∀ (u : Fin cfg0.N), u.val % 4 = k → ∀ X : S1x4x1024x128.Idx → Elt Ideal .f32, (rdat m c).Leaves 8 u X →
    ∀ (y : S1x4x1024x128.Idx), (y 2).val % 4 ≤ k → ∀ z : S16x4x2048x128.Idx, (z 0).val = u.val / 8 → z 1 = y 1 → (z 2).val = 1024 * (u.val / 4 % 2) + (y 2).val → z 3 = y 3 →
      X y = logSumExp 4 512 (by decide) rfl slope4 (m (c, Proc.tc.devRef main_arg0)) z := by
  have step : ∀ (u : Fin cfg0.N) (X : S1x4x1024x128.Idx → Elt Ideal .f32), (rdat m c).Leaves 8 u X → ∃ Y, (rdat m c).Finds 8 u Y ∧
      ∀ (y : S1x4x1024x128.Idx) (z : S16x4x2048x128.Idx), (z 0).val = u.val / 8 → z 1 = y 1 → (z 2).val = 1024 * (u.val / 4 % 2) + (y 2).val → z 3 = y 3 →
        X y = if (y 2).val % 4 = u.val % 4 then logSumExp 4 512 (by decide) rfl slope4 (m (c, Proc.tc.devRef main_arg0)) z else Y y := by
    intro u X hX'
    obtain ⟨Y, hY, Z, e⟩ := hX'
    refine ⟨Y, hY, fun y z h0 h1 h2 h3 => ?_⟩
    obtain ⟨c0, c1, c2, cb⟩ := coords_eq u
    let b : Fin 16 := ⟨(grid0.coords u 0).val, cb⟩
    let r : Fin 4 := ⟨(grid0.coords u 2).val, by omega⟩
    have e' : X = left8 c u (iblk m c 0 u) (iblk m c 1 u) (iblk m c 2 u) (iblk m c 3 u) (iblk m c 4 u) (iblk m c 5 u) (iblk m c 6 u) Z Y := e
    rw [e', left8_apply c u (grid0.coords u 1).val rfl (by omega) (by omega) _ _ _ _ _ _ _ (isBlock m c u b r rfl (by omega) rfl) Y Z y, c2]
    split
    · next h => exact Classes.blockLse_eq (D := 4) (N := 512) (base := 256 * (grid0.coords u 1).val) (by decide) rfl _ slope4 _ b r y (h.trans c2.symm) z (Fin.ext (h0.trans c0.symm)) h1 (by rw [h2]; omega) h3
    · rfl
  induction k with
  | zero =>
    intro u hu X hL y hy z h0 h1 h2 h3
    obtain ⟨Y, _, e⟩ := step u X hL
    rw [e y z h0 h1 h2 h3, if_pos (by omega)]
  | succ k ih =>
    intro u hu X hL y hy z h0 h1 h2 h3
    obtain ⟨Y, hY, e⟩ := step u X hL
    rw [e y z h0 h1 h2 h3]
    split
    · rfl
    · next hne =>
      have hl : (rdat m c).Leaves 8 ⟨u.val - 1, Nat.lt_of_le_of_lt (Nat.sub_le _ _) u.isLt⟩ Y := by
        refine (((rdat m c).finds_of_pos ((cfg0.win 8).fetch_out rfl u) (by omega) Y).mp hY).resolve_left fun hf => ?_
        have := (flush0_8 _).mp hf
        dsimp only at this
        omega
      exact ih _ (by dsimp only; omega) Y hl y (by omega) z (by dsimp only; omega) h1 (by dsimp only; omega) h3

/-- The kernel's second result, from what the points that write their blocks back left. -/
theorem arr8 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 8 cfg0.N = logSumExp 4 512 (by decide) rfl slope4 (m (c, Proc.tc.devRef main_arg0)) := by
  refine ((rdat m c).withAfter after).arrAt_eq_of_covers 8 _ (by decide +kernel) fun t hf y => ?_
  have hx := index_facts t
  obtain ⟨c0, c1, c2, cb⟩ := coords_eq t
  have ht := (flush0_8 t).mp hf
  have hl := hL 8 t hf
  blk_simp
  rw [RDat.withAfter_after]
  refine leaves8 m c 3 t ht _ hl _ (by omega) _ ?_ (Fin.ext ?_) ?_ (Fin.ext ?_) <;> blk_simp <;> omega

/-- Every run ends with the two results the specification names and the argument unchanged. -/
theorem result (ρ : Dev nD → PrngReg)
    (hX : ∀ (c : Dev nD) (b : Fin 16) (t : Fin 2048) (e : Fin 1536), e.val < 1024 → ∃ r : ℝ, (m (c, Proc.tc.devRef main_arg0) : Vec Ideal S16x2048x1536 .bf16) (ix3 b t e) = (r : EReal)) :
    θ_run defs (onTc (τ := τ) (main (F := Ideal))) ⟨m, fun _ => 0, ρ⟩ fun r => ∀ c : Dev nD,
      r.2.mem ((c.tc : Thread nD τ).loc main_v2_0) = attention 4 512 (by decide) rfl slope4 (m (c, Proc.tc.devRef main_arg0))
      ∧ r.2.mem ((c.tc : Thread nD τ).loc main_v2_1) = logSumExp 4 512 (by decide) rfl slope4 (m (c, Proc.tc.devRef main_arg0))
      ∧ r.2.mem ((c.tc : Thread nD τ).loc main_arg0) = m ((c.tc : Thread nD τ).loc main_arg0) :=
  (θ_run defs _ _).mono (fun r h c => by
    obtain ⟨after, hL, hA⟩ := RDat.FramePost.exists_exact h.1 c
    exact ⟨(hA 7).trans (arr7 m c (hX c) after hL), (hA 8).trans (arr8 m c after hL),
      ((h.1 c).2 main_arg0 (Pipeline.mem_restRefs_of main_arg0 (by decide) (by decide))).trans (V_main_arg0 m c)⟩) (run_main m ρ)

end Cert.Proof.AttnB

end
-- ==== Proof.AttnBReference.lean ====
/-
  The reference's two results for the group of dilation 4 are the attention and the log-sum-exp of its argument.
-/
module

public import proofs.«01_k».proof.Proof.Gen.AttnBRefIdeal.Read
public import proofs.«01_k».proof.Proof.Classes

@[expose] public section

set_option maxRecDepth 16384

noncomputable section

namespace Cert.Proof.AttnBReference

open Idealize.ShloMosaic Cert.AttnBRefIdeal Cert.AttnBRefIdeal.Gen Cert.AttnBRefIdeal.Facts Cert.AttnBRefIdeal.Read Cert.Proof.Words
open Classes (seqs classOf placeOf)
open scoped BigOperators

variable (x : (⟨S16x2048x1536, .bf16⟩ : BufTy).Contents (Elt Ideal))

/-- The token of a row of a block of 64. -/
def tokenOf (n : Fin 8) (u : Fin 64) : Fin 512 := ⟨64 * n.val + u.val, by omega⟩

/-- The queries, by class and block of 64. -/
theorem queries_apply (b : Fin 16) (c : Fin 4) (n : Fin 8) (u : Fin 64) (h : Fin 8) (d : Fin 64) :
    val_main_v19 x (ix6 b c n u h d) = seqs 4 512 rfl x 0 b c (tokenOf n u) h d := by
  pointwise [val_main_v19, val_main_v18, val_main_v17, val_main_v3, val_main_v2, val_main_v1, val_main_v0]
  unfold seqs tokenOf
  congr 2 <;> apply Fin.ext <;> simp <;> omega

/-- The keys of a block: those of the class from 64 before the block. -/
theorem keys_apply (b : Fin 16) (c : Fin 4) (n : Fin 8) (w : Fin 192) (h : Fin 8) (d : Fin 64) (κ : Fin 512) (e : (κ.val : ℤ) = 64 * n.val - 64 + w.val) :
    val_main_v29 x (ix6 b c n w h d) = seqs 4 512 rfl x 1 b c κ h d := by
  pointwise [val_main_v29, val_main_v28, val_main_v27, val_main_v26, val_main_v25, val_main_v24, val_main_v23, val_main_v22, val_main_v21,
    val_main_v20, val_main_v5, val_main_v4, val_main_v1, val_main_v0, val_main_call0_v0, val_main_c]
  unfold seqs
  split_ifs <;> first
    | (exfalso; omega)
    | (congr 2 <;> apply Fin.ext <;> simp <;> omega)

/-- The values of a block: those of the class from 64 before the block. -/
theorem values_apply (b : Fin 16) (c : Fin 4) (n : Fin 8) (w : Fin 192) (h : Fin 8) (d : Fin 64) (κ : Fin 512) (e : (κ.val : ℤ) = 64 * n.val - 64 + w.val) :
    val_main_v39 x (ix6 b c n w h d) = seqs 4 512 rfl x 2 b c κ h d := by
  pointwise [val_main_v39, val_main_v38, val_main_v37, val_main_v36, val_main_v35, val_main_v34, val_main_v33, val_main_v32, val_main_v31,
    val_main_v30, val_main_v7, val_main_v6, val_main_v1, val_main_v0, val_main_call1_v0, val_main_c_7]
  unfold seqs
  split_ifs <;> first
    | (exfalso; omega)
    | (congr 2 <;> apply Fin.ext <;> simp <;> omega)

/-- The slopes. -/
theorem slopes_apply (h : Fin 8) : val_main_v16 (F := Ideal) (ix1 h) = Ideal.ofBits .f32 (AttnSpec.slope4 h) := by
  pointwise [val_main_v16]
  fin_cases h <;> rfl

/-- A key's place in the window less the query's. -/
theorem toInt_offset (u : Fin 64) (w : Fin 192) :
    (IntOp.subi (IntOp.subi (BitVec.ofNat 32 w.val) 64#32) (BitVec.ofNat 32 u.val)).toInt = (w.val : ℤ) - 64 - u.val :=
  toInt_sub (toInt_sub (toInt_nat w.val (by omega)) (show (64#32 : BitVec 32).toInt = 64 by decide) (by omega) (by omega))
    (toInt_nat u.val (by omega)) (by omega) (by omega)

/-- What the mask lets through. -/
theorem mask_apply (n : Fin 8) (u : Fin 64) (w : Fin 192) : val_main_v75 (F := Ideal) (ix3 n u w) = 1#1 ↔
    |(w.val : ℤ) - 64 - u.val| ≤ 64 ∧ 0 ≤ 64 * (n.val : ℤ) - 64 + w.val ∧ 64 * (n.val : ℤ) - 64 + w.val < 512 := by
  pointwise [val_main_v75, val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45, val_main_v44,
    val_main_v43, val_main_c_9, val_main_c_10, val_main_c_11, val_main_c_12, val_main_c_13, val_main_c_14]
  have hp : (IntOp.addi (IntOp.muli (IntOp.subi (BitVec.ofNat 32 n.val) 1#32) 64#32) (BitVec.ofNat 32 w.val)).toInt
      = ((n.val : ℤ) - 1) * 64 + w.val :=
    toInt_add (toInt_mul (toInt_sub (toInt_nat _ (by omega)) (show (1#32 : BitVec 32).toInt = 1 by decide) (by omega) (by omega))
      (show (64#32 : BitVec 32).toInt = 64 by decide) (by omega) (by omega)) (toInt_nat _ (by omega)) (by omega) (by omega)
  rw [and_iff, and_iff, sle_iff (toInt_abs (toInt_offset u w) (by omega)) (show (64#32 : BitVec 32).toInt = 64 by decide),
    sge_iff hp (show (0#32 : BitVec 32).toInt = 0 by decide), slt_iff hp (show (512#32 : BitVec 32).toInt = 512 by decide)]
  exact and_congr_right fun _ => by omega

/-- The bias: the slope times the distance in the text, negated. -/
theorem bias_apply (h : Fin 8) (u : Fin 64) (w : Fin 192) : val_main_v85 (F := Ideal) (ix3 h u w)
    = -Ideal.ofBits .f32 (AttnSpec.slope4 h) * ((((4 : ℕ) * |(w.val : ℤ) - 64 - u.val| : ℤ) : ℝ) : EReal) := by
  pointwise [val_main_v85, val_main_v84, val_main_v83, val_main_v82, val_main_v81, val_main_v80, val_main_v79, val_main_v78, val_main_v77, val_main_v76,
    val_main_v51, val_main_v50, val_main_v49, val_main_v48, val_main_v47, val_main_v46, val_main_v45, val_main_v44, val_main_v43, val_main_c_9, val_main_c_15]
  have h1 := toInt_abs (toInt_offset u w) (by omega)
  have hb : |(w.val : ℤ) - 64 - u.val| ≤ 1000 := abs_le.2 ⟨by omega, by omega⟩
  have h0 := abs_nonneg ((w.val : ℤ) - 64 - u.val)
  rw [slopes_apply, sitofp_eq (toInt_mul (show (4#32 : BitVec 32).toInt = 4 by decide) h1 (by omega) (by omega)), Nat.cast_ofNat]

/-- The scores of a block. -/
theorem score_apply (b : Fin 16) (c : Fin 4) (n : Fin 8) (h : Fin 8) (u : Fin 64) (w : Fin 192) : val_main_v90 x (ix6 b c n h u w) =
    if |(w.val : ℤ) - 64 - u.val| ≤ 64 ∧ 0 ≤ 64 * (n.val : ℤ) - 64 + w.val ∧ 64 * (n.val : ℤ) - 64 + w.val < 512 then
      (∑ d, val_main_v19 x (ix6 b c n u h d) * val_main_v29 x (ix6 b c n w h d)) * Ideal.ofBits .f32 0x3E000000#32
        - Ideal.ofBits .f32 (AttnSpec.slope4 h) * ((((4 : ℕ) * |(w.val : ℤ) - 64 - u.val| : ℤ) : ℝ) : EReal)
    else ⊥ := by
  rw [← select_iff (mask_apply n u w), sub_eq_add_neg, ← EReal.neg_mul, ← bias_apply]
  pointwise [val_main_v90, val_main_call2_v2, val_main_call2_v1, val_main_call2_v0, val_main_cst_16, val_main_v89, val_main_v88, val_main_v87, val_main_v86,
    val_main_v42, val_main_v40, val_main_v41, val_main_cst_8]
  exact congrArg _ (show Ideal.ofBits .f32 4286578688#32 = (⊥ : EReal) from AttnBlock.ofBits_bot)

/-- A block's row of scores is a window of the sequence's scores. -/
theorem isRow (b : Fin 16) (c : Fin 4) (n : Fin 8) (h : Fin 8) (u : Fin 64) :
    AttnSpec.IsRow 4 AttnSpec.slope4 (seqs 4 512 rfl x 0 b c) (seqs 4 512 rfl x 1 b c) h (tokenOf n u) (64 * (n.val : ℤ) - 64) fun w : Fin 192 => val_main_v90 x (ix6 b c n h u w) where
  covers := by simp only [tokenOf]; omega
  inside w κ e := by
    beta_reduce
    have ht : (κ.val : ℤ) - (tokenOf n u).val = w.val - 64 - u.val := by simp only [tokenOf]; omega
    rw [score_apply, AttnSpec.score, ht]
    refine if_congr (and_iff_left ⟨by omega, by omega⟩) ?_ rfl
    congr 2
    refine Finset.sum_congr rfl fun d _ => ?_
    rw [queries_apply, keys_apply x b c n w h d κ e]
  outside w hw := by
    beta_reduce
    rw [score_apply, if_neg]
    intro hm
    exact hw ⟨(64 * (n.val : ℤ) - 64 + w.val).toNat, by omega⟩ (by show ((64 * (n.val : ℤ) - 64 + w.val).toNat : ℤ) = _; omega)

/-- The scores are reduced over their last axis. -/
theorem reduces : S16x4x8x8x64x192.Reduces [5] S16x4x8x8x64 := by decide

/-- An index of the scores from one of the reduced array. -/
theorem lift_apply (b : Fin 16) (c : Fin 4) (n : Fin 8) (h : Fin 8) (u : Fin 64) (w : Fin 192) :
    reduces.lift (ix5 b c n h u) w = (ix6 b c n h u w : S16x4x8x8x64x192.Idx) := by
  funext a
  fin_cases a <;> rfl

/-- The same index, as the sum names it. -/
theorem index_apply (b : Fin 16) (c : Fin 4) (n : Fin 8) (h : Fin 8) (u : Fin 64) (w : Fin 192) :
    idx_main_v96 (ix5 b c n h u) w = (ix6 b c n h u w : S16x4x8x8x64x192.Idx) := by
  funext a
  fin_cases a <;> rfl

/-- The largest score. -/
theorem top_apply (b : Fin 16) (c : Fin 4) (n : Fin 8) (h : Fin 8) (u : Fin 64) :
    val_main_v91 x (ix5 b c n h u) = AttnSpec.top 4 AttnSpec.slope4 (seqs 4 512 rfl x 0 b c) (seqs 4 512 rfl x 1 b c) h (tokenOf n u) := by
  rw [← AttnSpec.row_top (isRow x b c n h u)]
  unfold val_main_v91
  generalize val_main_v90 x = s
  rw [Host.reduce_eq_fold_single FloatOps.maximumf _ _ reducesTo_S16x4x8x8x64x192_S16x4x8x8x64_d5 reduces h_S_]
  have hs : s ∘ reduces.lift (ix5 b c n h u) = fun w : Fin 192 => s (ix6 b c n h u w) := funext fun w => congrArg s (lift_apply b c n h u w)
  have hi : val_main_cst_17 (F := Ideal) (Shape.Idx.first h_S_) = (⊥ : EReal) := AttnBlock.ofBits_bot
  rw [hs, hi]
  rfl

/-- The exponentials. -/
theorem shifted_apply (b : Fin 16) (c : Fin 4) (n : Fin 8) (h : Fin 8) (u : Fin 64) (w : Fin 192) :
    val_main_v95 x (ix6 b c n h u w) = Ideal.exp (val_main_v90 x (ix6 b c n h u w) - val_main_v91 x (ix5 b c n h u)) := by
  pointwise [val_main_v95, val_main_v94, val_main_v93, val_main_v92]

/-- The sum of the exponentials. -/
theorem mass_apply (b : Fin 16) (c : Fin 4) (n : Fin 8) (h : Fin 8) (u : Fin 64) :
    val_main_v96 x (ix5 b c n h u) = AttnSpec.mass 4 AttnSpec.slope4 (seqs 4 512 rfl x 0 b c) (seqs 4 512 rfl x 1 b c) h (tokenOf n u) := by
  rw [val_main_v96_apply, AttnSpec.mass, ← AttnSpec.row_sum (isRow x b c n h u), ← top_apply]
  have hi : val_main_cst_18 (F := Ideal) (Shape.Idx.first h_S_) = (0 : EReal) := Ideal.ofBits_zero_f32
  rw [hi, zero_add]
  refine Finset.sum_congr rfl fun w _ => ?_
  rw [index_apply, shifted_apply]

/-- The log-sum-exp of a block. -/
theorem lse_apply (b : Fin 16) (c : Fin 4) (n : Fin 8) (h : Fin 8) (u : Fin 64) :
    val_main_v98 x (ix5 b c n h u) = AttnSpec.lse 4 AttnSpec.slope4 (seqs 4 512 rfl x 0 b c) (seqs 4 512 rfl x 1 b c) h (tokenOf n u) := by
  rw [val_main_v98_apply, val_main_v97_apply, top_apply, mass_apply]
  rfl

/-- The attention of a block. -/
theorem att_apply (b : Fin 16) (c : Fin 4) (n : Fin 8) (h : Fin 8) (d u : Fin 64) :
    val_main_v103 x (ix6 b c n h d u) = AttnSpec.att 4 AttnSpec.slope4 (seqs 4 512 rfl x 0 b c) (seqs 4 512 rfl x 1 b c) (seqs 4 512 rfl x 2 b c) h (tokenOf n u) d := by
  pointwise [val_main_v103, val_main_v102, val_main_v101, val_main_v100, val_main_v99]
  rw [lse_apply]
  simp only [mul_comm (val_main_v39 x _)]
  exact AttnSpec.row_weighted (isRow x b c n h u) _ (fun κ => seqs 4 512 rfl x 2 b c κ h d) (fun w => val_main_v39 x (ix6 b c n w h d))
    (fun w κ e => values_apply x b c n w h d κ e)

/-- The layout by pairs of heads. -/
theorem pairs_apply (s : (⟨S16x2048x8x64, .f32⟩ : BufTy).Contents (Elt Ideal)) (b : Fin 16) (p : Fin 4) (t : Fin 2048) (l : Fin 128) :
    transpose S16x4x2048x128 [0, 2, 1, 3] (shapeCast S16x2048x4x128 s shapeCasts_S16x2048x8x64_S16x2048x4x128)
      transposes_S16x2048x4x128_S16x4x2048x128_0_2_1_3 (ix4 b p t l)
    = s (ix4 b t ⟨p.val * 2 + l.val / 64, by omega⟩ ⟨l.val % 64, by omega⟩) := by
  pointwise

/-- The blocks of 64 put together. -/
theorem blocks_apply (s : (⟨S16x4x8x8x64x64, .f32⟩ : BufTy).Contents (Elt Ideal)) (b : Fin 16) (c : Fin 4) (t : Fin 512) (h : Fin 8) (d : Fin 64) :
    shapeCast S16x4x512x8x64 (transpose S16x4x8x64x8x64 [0, 1, 2, 5, 3, 4] s transposes_S16x4x8x8x64x64_S16x4x8x64x8x64_0_1_2_5_3_4)
      shapeCasts_S16x4x8x64x8x64_S16x4x512x8x64 (ix5 b c t h d)
    = s (ix6 b c ⟨t.val / 64, by omega⟩ h d ⟨t.val % 64, by omega⟩) := by
  pointwise

/-- The classes put together. -/
theorem classes_apply (s : (⟨S16x4x512x8x64, .f32⟩ : BufTy).Contents (Elt Ideal)) (b : Fin 16) (t : Fin 2048) (h : Fin 8) (d : Fin 64) :
    shapeCast S16x2048x8x64 (transpose S16x512x4x8x64 [0, 2, 1, 3, 4] s transposes_S16x4x512x8x64_S16x512x4x8x64_0_2_1_3_4)
      shapeCasts_S16x512x4x8x64_S16x2048x8x64 (ix4 b t h d)
    = s (ix5 b ⟨t.val % 4, by omega⟩ ⟨t.val / 4, by omega⟩ h d) := by
  pointwise

/-- The blocks of 64 put together, for the log-sum-exp. -/
theorem rows_apply (s : (⟨S16x4x8x8x64, .f32⟩ : BufTy).Contents (Elt Ideal)) (b : Fin 16) (c : Fin 4) (t : Fin 512) (h : Fin 8) :
    shapeCast S16x4x512x8 (transpose S16x4x8x64x8 [0, 1, 2, 4, 3] s transposes_S16x4x8x8x64_S16x4x8x64x8_0_1_2_4_3)
      shapeCasts_S16x4x8x64x8_S16x4x512x8 (ix4 b c t h)
    = s (ix5 b c ⟨t.val / 64, by omega⟩ h ⟨t.val % 64, by omega⟩) := by
  pointwise

/-- The log-sum-exp over the lanes of its head. -/
theorem lanes_apply (s : (⟨S16x4x512x8, .f32⟩ : BufTy).Contents (Elt Ideal)) (b : Fin 16) (t : Fin 2048) (h : Fin 8) (d : Fin 64) :
    broadcastInDim S16x2048x8x64 ![0, 1, 2, 3] bcast_S16x2048x8x1_S16x2048x8x64_0_1_2_3 (broadcastInDim S16x2048x8x1 ![0, 1, 2] bcast_S16x2048x8_S16x2048x8x1_0_1_2
      (shapeCast S16x2048x8 (transpose S16x512x4x8 [0, 2, 1, 3] s transposes_S16x4x512x8_S16x512x4x8_0_2_1_3) shapeCasts_S16x512x4x8_S16x2048x8)) (ix4 b t h d)
    = s (ix4 b ⟨t.val % 4, by omega⟩ ⟨t.val / 4, by omega⟩ h) := by
  pointwise

/-- The first result from the blocks. -/
theorem result_apply (b : Fin 16) (p : Fin 4) (t : Fin 2048) (l : Fin 128) : val_main_v113 x (ix4 b p t l)
    = val_main_v103 x (ix6 b ⟨t.val % 4, by omega⟩ ⟨t.val / 4 / 64, by omega⟩ ⟨p.val * 2 + l.val / 64, by omega⟩ ⟨l.val % 64, by omega⟩ ⟨t.val / 4 % 64, by omega⟩) := by
  unfold val_main_v113 val_main_v112 val_main_v107 val_main_v106 val_main_v105 val_main_v104
  generalize val_main_v103 x = s
  exact (pairs_apply _ b p t l).trans ((classes_apply _ b t _ _).trans (blocks_apply s b _ _ _ _))

/-- The second result from the blocks. -/
theorem result_lse_apply (b : Fin 16) (p : Fin 4) (t : Fin 2048) (l : Fin 128) : val_main_v117 x (ix4 b p t l)
    = val_main_v98 x (ix5 b ⟨t.val % 4, by omega⟩ ⟨t.val / 4 / 64, by omega⟩ ⟨p.val * 2 + l.val / 64, by omega⟩ ⟨t.val / 4 % 64, by omega⟩) := by
  unfold val_main_v117 val_main_v116 val_main_v115 val_main_v114 val_main_v111 val_main_v110 val_main_v109 val_main_v108
  generalize val_main_v98 x = s
  exact (pairs_apply _ b p t l).trans ((lanes_apply _ b t _ _).trans (rows_apply s b _ _ _))

/-- A lane's head. -/
theorem head_eq (p : Fin 4) (l : Fin 128) : (⟨p.val * 2 + l.val / 64, by omega⟩ : Fin 8) = AttnBlock.headOf p l :=
  Fin.ext (by show p.val * 2 + l.val / 64 = 2 * p.val + l.val / 64; omega)

/-- A token from its block and row. -/
theorem token_eq (t : Fin 2048) : tokenOf ⟨t.val / 4 / 64, by omega⟩ ⟨t.val / 4 % 64, by omega⟩ = placeOf 4 512 (by decide) rfl t :=
  Fin.ext (by show 64 * (t.val / 4 / 64) + t.val / 4 % 64 = t.val / 4; omega)

/-- A token's class. -/
theorem class_eq (t : Fin 2048) : (⟨t.val % 4, by omega⟩ : Fin 4) = classOf 4 (by decide) t.val := rfl

/-- The reference's first result. -/
theorem attention_eq : val_main_v113 x = Classes.attention 4 512 (by decide) rfl AttnSpec.slope4 x := by
  funext y
  idx_vars y
  have hd : (⟨y3.val % 64, by omega⟩ : Fin 64) = AttnBlock.dimOf y3 := rfl
  rw [result_apply, att_apply, token_eq, class_eq, head_eq, hd]
  rfl

/-- The reference's second result. -/
theorem logSumExp_eq : val_main_v117 x = Classes.logSumExp 4 512 (by decide) rfl AttnSpec.slope4 x := by
  funext y
  idx_vars y
  rw [result_lse_apply, lse_apply, token_eq, class_eq, head_eq]
  rfl

end Cert.Proof.AttnBReference

end
-- ==== Proof.AttnBClaim.lean ====
/- The claims about the attention programs of the group of dilation 4, put together: the frames, the named constant, and the equality of the
   kernel's two results with the reference's for finite queries and keys. -/
module

public import proofs.«01_k».proof.Defs
public import proofs.«01_k».proof.Proof.AttnClaim
public import proofs.«01_k».proof.Proof.AttnBValue
public import proofs.«01_k».proof.Proof.AttnBRun
public import proofs.«01_k».proof.Proof.AttnBReference
public import proofs.«01_k».proof.Proof.Gen.AttnBRefIdeal.Run
public import proofs.«01_k».proof.Proof.Gen.AttnBRefIdeal.Read
public import Idealize.ShloMosaic.Lib.Quiescent
public import Idealize.ShloMosaic.Lib.Pointwise

@[expose] public section

noncomputable section

namespace Cert.Proof.AttnBClaim

open Idealize.ShloMosaic Idealize.SL.Sem

/-- The kernel's frame, bit-exact. -/
theorem frame_p : Cert.quiescent_AttnB (hAttnB := Cert.AttnB.Gen.facts) := fun m ρ _ => Cert.AttnB.Hand.frame m ρ

/-- The kernel's frame over the extended reals. -/
theorem frame_pi : Cert.quiescent_AttnBIdeal (hAttnBIdeal := Cert.AttnBIdeal.Gen.facts) := fun m ρ _ => Cert.AttnBIdeal.Hand.frame m ρ

/-- The reference's frame. -/
theorem frame_ri : Cert.quiescent_AttnBRefIdeal (hAttnBRefIdeal := Cert.AttnBRefIdeal.Gen.facts) := fun m ρ _ =>
  (θ_run Cert.AttnBRefIdeal.defs _ _).mono (fun r h => ⟨fun c => (h c).2.2, sem_eq_zero_of_no_sems (by decide) r.2⟩)
    (Cert.AttnBRefIdeal.Value.run (F := Ideal) m ρ)

/-- The mask constant is the table's `⊥`. -/
theorem preserves : Cert.preserves_AttnB_AttnBIdeal :=
  IdealRules.named_const.statement Cert.AttnBIdeal.κ "mask" .f32 0xF149F2CA#32 ⊥ rfl

/-- The kernel's two results are the reference's, for finite queries and keys. -/
theorem algebraic : Cert.algebraic_AttnBIdeal_AttnBRefIdeal_pre_finite_qk (hAttnBIdeal := Cert.AttnBIdeal.Gen.facts)
    (hAttnBRefIdeal := Cert.AttnBRefIdeal.Gen.facts) (hPre_finite_qk := AttnClaim.preFacts) := fun m ρ m' ρ' hp hm => by
  refine ⟨fun c => Classes.attention 4 512 (by decide) rfl AttnSpec.slope4 (m ((c.tc : Thread Cert.AttnBIdeal.nD Cert.AttnBIdeal.τ).loc Cert.AttnBIdeal.main_arg0)),
    fun c => Classes.logSumExp 4 512 (by decide) rfl AttnSpec.slope4 (m ((c.tc : Thread Cert.AttnBIdeal.nD Cert.AttnBIdeal.τ).loc Cert.AttnBIdeal.main_arg0)), ?_, ?_⟩
  · exact AttnB.result m ρ fun c b t e he => AttnClaim.finite_entries _ (hp c) b t e he
  · refine (θ_run Cert.AttnBRefIdeal.defs _ _).mono (fun r h c => ⟨(h c).1.trans ?_, (h c).2.1.trans ?_, (h c).2.2⟩)
      (Cert.AttnBRefIdeal.Value.run (F := Ideal) m' ρ')
    · rw [Cert.AttnBRefIdeal.Read.val_main_v113_eq, AttnBReference.attention_eq, hm c]
    · rw [Cert.AttnBRefIdeal.Read.val_main_v117_eq, AttnBReference.logSumExp_eq, hm c]

end Cert.Proof.AttnBClaim

end
-- ==== Proof.AttnCIdealRun.lean ====
/-
  Every run of the attention of the group of dilation 16, as printed for the extended reals, ends, and leaves its argument as it was.

  The grid's last coordinate counts the 16 residues of tokens by 16. The points of one block of queries store its rows of one
  residue each, 16 rows apart, and the last of them writes the block back. A point finds in the results' buffers
  what the point before left there, so what is left is stated as a relation between what a point finds and what it leaves.
-/
module

public import proofs.«01_k».proof.Proof.Gen.AttnCIdeal.Launch
public import proofs.«01_k».proof.Proof.Gen.AttnCIdeal.Skeleton
public import proofs.«01_k».proof.Proof.Gen.AttnCIdeal.Points
public import proofs.«01_k».proof.Proof.Gen.AttnCIdeal.Frame
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.Claim

@[expose] public section

set_option maxRecDepth 16384

noncomputable section

namespace Cert.AttnCIdeal.Hand

open Cert.AttnCIdeal Cert.AttnCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

/-- The propositions over the machine's state in which the steps of the kernel are reasoned about. -/
abbrev M (F : FTy → Type) [FloatOps F] : Type := sProp (MT nD τ sig Unit (Elt F) ℕ (UR sig nD τ) ℕ)

variable (m : (ℓ : Loc nD τ sig) → Buf (Elt F) ℓ) (ρ : Dev nD → PrngReg)

/-! ## The body on any staging buffers -/

set_option maxHeartbeats 4000000 in
/-- The body at a point: from the inputs' contents `x0` to `x6` and any contents `o7`, `o8` of the two results' buffers, it
    runs to the end, leaves the inputs as they were, and leaves each result's buffer overwritten by the pieces this names. -/
def run (c : Dev nD) (i : grid0.Coords) (arg3 : Memref sig .tc .vmem S1x128x512 .bf16) (harg3 : arg3.IsWhole) (arg4 : Memref sig .tc .vmem S1x64x512 .bf16) (harg4 : arg4.IsWhole) (arg5 : Memref sig .tc .vmem S1x128x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x128x512 .bf16) (harg8 : arg8.IsWhole) (arg9 : Memref sig .tc .vmem S1x64x512 .bf16) (harg9 : arg9.IsWhole) (arg10 : Memref sig .tc .vmem S1x4x2048x128 .f32) (harg10 : arg10.IsWhole) (arg11 : Memref sig .tc .vmem S1x4x2048x128 .f32) (harg11 : arg11.IsWhole)
    (x0 : Vec F S1x128x512 .bf16) (x1 : Vec F S1x64x512 .bf16) (x2 : Vec F S1x128x512 .bf16) (x3 : Vec F S1x64x512 .bf16) (x4 : Vec F S1x64x512 .bf16) (x5 : Vec F S1x128x512 .bf16) (x6 : Vec F S1x64x512 .bf16) (o7 : Vec F S1x4x2048x128 .f32) (o8 : Vec F S1x4x2048x128 .f32) :
    (L7 : List (View.Piece (Elt F) S1x4x2048x128 .f32)) × { L8 : List (View.Piece (Elt F) S1x4x2048x128 .f32) //
      ∀ (E : Set ℕ) (K : PUnit → M F),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare o7 ∗ owns (c : Thread nD τ) arg11 fullShare o8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread o7) L7)
              ∗ (arg11.view.loc (c : Thread nD τ) ↦[arg11.view.set]{fullShare} arg11.view.writes (Elt F) (harg11.unread o8) L8)) -∗ K ⟨⟩))
          ⊢ wp frame (wpE (defs₀ (F := F)) Variants.none c none) E (cc0_dilated_attn i arg3 harg3 arg4 harg4 arg5 harg5 arg6 harg6 arg7 harg7 arg8 harg8 arg9 harg9 arg10 harg10 arg11 harg11) K } := by
  refine ⟨?_, ?_, fun E K => ?run⟩
  case run =>
    simp only [cc0_dilated_attn_eq_skeleton]; unfold cc0_dilated_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    iexact H8

/-- What a point's run names, on the point's buffers. -/
abbrev runAt (c : Dev nD) (t : Fin cfg0.N) (x0 : Vec F S1x128x512 .bf16) (x1 : Vec F S1x64x512 .bf16) (x2 : Vec F S1x128x512 .bf16) (x3 : Vec F S1x64x512 .bf16) (x4 : Vec F S1x64x512 .bf16) (x5 : Vec F S1x128x512 .bf16) (x6 : Vec F S1x64x512 .bf16) (o7 : Vec F S1x4x2048x128 .f32) (o8 : Vec F S1x4x2048x128 .f32) :=
  run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) x0 x1 x2 x3 x4 x5 x6 o7 o8

/-- What the point `t` leaves in the first result's buffer, given the blocks it reads and what it found. -/
def left7 (c : Dev nD) (t : Fin cfg0.N) (x0 : Vec F S1x128x512 .bf16) (x1 : Vec F S1x64x512 .bf16) (x2 : Vec F S1x128x512 .bf16) (x3 : Vec F S1x64x512 .bf16) (x4 : Vec F S1x64x512 .bf16) (x5 : Vec F S1x128x512 .bf16) (x6 : Vec F S1x64x512 .bf16) (o7 : Vec F S1x4x2048x128 .f32) (o8 : Vec F S1x4x2048x128 .f32) : Vec F S1x4x2048x128 .f32 :=
  (st0_7 t).view.read (Elt F) ((st0_7 t).view.writes (Elt F) ((hstage0_7 ((cfg0.slots t 7).cast nbuf0_7)).unread o7) (runAt c t x0 x1 x2 x3 x4 x5 x6 o7 o8).1)

/-- What the point `t` leaves in the second result's buffer, given the blocks it reads and what it found. -/
def left8 (c : Dev nD) (t : Fin cfg0.N) (x0 : Vec F S1x128x512 .bf16) (x1 : Vec F S1x64x512 .bf16) (x2 : Vec F S1x128x512 .bf16) (x3 : Vec F S1x64x512 .bf16) (x4 : Vec F S1x64x512 .bf16) (x5 : Vec F S1x128x512 .bf16) (x6 : Vec F S1x64x512 .bf16) (o7 : Vec F S1x4x2048x128 .f32) (o8 : Vec F S1x4x2048x128 .f32) : Vec F S1x4x2048x128 .f32 :=
  (st0_8 t).view.read (Elt F) ((st0_8 t).view.writes (Elt F) ((hstage0_8 ((cfg0.slots t 8).cast nbuf0_8)).unread o8) (runAt c t x0 x1 x2 x3 x4 x5 x6 o7 o8).2.1)

/-! ## The data of the proof -/

/-- The inputs are left as found, and the results' buffers as `left7` and `left8` say. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => ∃ Z : Vec F S1x4x2048x128 .f32, X = left7 c t (iblk m c 0 t) (iblk m c 1 t) (iblk m c 2 t) (iblk m c 3 t) (iblk m c 4 t) (iblk m c 5 t) (iblk m c 6 t) Y Z
    | ⟨8, _⟩ => fun Y X => ∃ Z : Vec F S1x4x2048x128 .f32, X = left8 c t (iblk m c 0 t) (iblk m c 1 t) (iblk m c 2 t) (iblk m c 3 t) (iblk m c 4 t) (iblk m c 5 t) (iblk m c 6 t) Z Y
  Φ _ := Pipeline.ΦA spec0 c
  q w := Pipeline.shareOf spec0 w
  owed _ := 0

/-- The arrays are as the grid finds them. -/
theorem rdat_A (c : Dev nD) (w : Fin cfg0.W) : (rdat m c).A w = V m c (Pipeline.arrRef spec0 w) := by
  dsimp only [rdat]

/-- The window of the queries holds its block at every point. -/
theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by dsimp only [rdat] at h; exact h) t Y h
  unfold RDat.fetched RDat.blockOf iblk; rw [rdat_A]; rfl

/-- The window of the keys before holds its block at every point. -/
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by dsimp only [rdat] at h; exact h) t Y h
  unfold RDat.fetched RDat.blockOf iblk; rw [rdat_A]; rfl

/-- The window of the keys holds its block at every point. -/
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => by dsimp only [rdat] at h; exact h) t Y h
  unfold RDat.fetched RDat.blockOf iblk; rw [rdat_A]; rfl

/-- The window of the keys after holds its block at every point. -/
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => by dsimp only [rdat] at h; exact h) t Y h
  unfold RDat.fetched RDat.blockOf iblk; rw [rdat_A]; rfl

/-- The window of the values before holds its block at every point. -/
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => by dsimp only [rdat] at h; exact h) t Y h
  unfold RDat.fetched RDat.blockOf iblk; rw [rdat_A]; rfl

/-- The window of the values holds its block at every point. -/
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => by dsimp only [rdat] at h; exact h) t Y h
  unfold RDat.fetched RDat.blockOf iblk; rw [rdat_A]; rfl

/-- The window of the values after holds its block at every point. -/
theorem finds_6 (c : Dev nD) (t : Fin cfg0.N) (Y) (h : (rdat m c).Finds 6 t Y) : Y = iblk m c 6 t := by
  obtain ⟨d, rfl⟩ := (rdat m c).finds_in_eq_fetched 6 rfl (fun _ _ _ => rfl) (fun t Y X h => by dsimp only [rdat] at h; exact h) t Y h
  unfold RDat.fetched RDat.blockOf iblk; rw [rdat_A]; rfl

set_option maxHeartbeats 1200000 in
/-- The body at a point, from the blocks it reads and any contents of the results' buffers. -/
theorem sound_body (c : Dev nD) (t : Fin cfg0.N) (o7 o8 : Vec F S1x4x2048x128 .f32) :
    (iprop(Pipeline.ΦA spec0 c ∗ (rdat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t)
      ∗ owns (c : Thread nD τ) (st0_7 t) fullShare o7
      ∗ owns (c : Thread nD τ) (st0_8 t) fullShare o8) : M F)
      ⊢ wp frame (wpE (defs₀ (F := F)) Variants.none c none) Set.univ (bodyAt0 t) (fun _ =>
        iprop(Pipeline.ΦA spec0 c ∗ (rdat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t)
      ∗ owns (c : Thread nD τ) (st0_7 t) fullShare (left7 c t (iblk m c 0 t) (iblk m c 1 t) (iblk m c 2 t) (iblk m c 3 t) (iblk m c 4 t) (iblk m c 5 t) (iblk m c 6 t) o7 o8)
      ∗ owns (c : Thread nD τ) (st0_8 t) fullShare (left8 c t (iblk m c 0 t) (iblk m c 1 t) (iblk m c 2 t) (iblk m c 3 t) (iblk m c 4 t) (iblk m c 5 t) (iblk m c 6 t) o7 o8))) := by
  unfold bodyAt0
  iintro ⟨HΦ, Ho, H0, H1, H2, H3, H4, H5, H6, H7, H8⟩
  iapply ((runAt c t (iblk m c 0 t) (iblk m c 1 t) (iblk m c 2 t) (iblk m c 3 t) (iblk m c 4 t) (iblk m c 5 t) (iblk m c 6 t) o7 o8).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rfl
  unfold owns; iexists _; isplitr
  swap; · iexact H8
  ipureintro; rfl

/-- The body the grid runs at a point is the one above. -/
theorem body_row (t : Fin cfg0.N) :
    defs₀ (F := F) .tc cfg0.body (cfg0.bodyArgs t (cfg0.slots t)) = bodyAt0 t := by
  unfold defs₀; rw [Defs.onTc_tc]

/-- At every point the body leaves what the data say. -/
theorem body_obligation (c : Dev nD) : (rdat (F := F) m c).BodyObligation (defs₀ (F := F)) Variants.none () Set.univ := fun t Y hY => by
  rw [bigSep_W0, bigSep_W0, body_row]
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  have e5 := finds_5 m c t (Y 5) (hY 5)
  have e6 := finds_6 m c t (Y 6) (hY 6)
  rw [e0, e1, e2, e3, e4, e5, e6, show (rdat m c).Φ t.succ = Pipeline.ΦA spec0 c from rfl,
    show (rdat m c).owesAt () t.succ = (rdat m c).owesAt () t.castSucc from rfl]
  refine triple_restated (sound_body m c t (Y 7) (Y 8)) rfl .rfl fun _ => ?_
  iintro ⟨HΦ, Ho, H0, H1, H2, H3, H4, H5, H6, H7, H8⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; exact ⟨_, rfl⟩
  iexists _; isplitr
  swap; · iexact H8
  ipureintro; exact ⟨_, rfl⟩

/-! ## The run and the frame -/

set_option backward.isDefEq.respectTransparency.types false in
/-- From any memory with zero counters every execution ends, the arrays are as the data say, every other buffer
    is as the grid found it, and the counters are at zero. -/
theorem run_main : θ_run defs (onTc (τ := τ) (main (F := F))) (s₀ m ρ)
    (fun r => RDat.FramePost cfg0 (rdat m) (V m) r ∧ r.2.sem = fun _ => 0) :=
  RDat.θ_run_frame_track_shared cfgs (0 : Fin 1) launch₀0 defs₀ Variants.none (rdat m) m ρ main
    (hbody := body_obligation m) (hq := fun _ _ _ => rfl)
    (howed := fun _ _ => rfl) (V := V m) (hmain := hmain m Variants.none) (hA := rdat_A m) (hin := fun _ => .rfl) (hout := fun _ => .rfl)
    (Q' := fun r => RDat.FramePost cfg0 (rdat m) (V m) r ∧ r.2.sem = fun _ => 0) (hQ' := fun _ h => h)

/-- The argument ends unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).2 main_arg0 (Pipeline.mem_restRefs_of main_arg0 (by decide) (by decide))).trans (V_main_arg0 m c), h.2⟩) (run_main m ρ)

end Cert.AttnCIdeal.Hand

end
-- ==== Proof.AttnCValue.lean ====
/-
  The attention of the group of dilation 16: the kernel's two arrays are the attention and the log-sum-exp of its argument.

  A point of the grid takes the queries of one class of tokens and stores its results in every 16th row of a block; the 16 points
  of a block fill it one class after the other.
-/
module

public import proofs.«01_k».proof.Proof.AttnCIdealRun
public import proofs.«01_k».proof.Proof.Classes
public import Idealize.ShloMosaic.Lib.Pipeline.ValueKit
public import Idealize.ShloMosaic.Lib.Claim
public import Idealize.ShloMosaic.Lib.Pointwise

@[expose] public section

set_option maxRecDepth 16384

noncomputable section

namespace Cert.Proof.AttnC

open Idealize.ShloMosaic Idealize.ShloMosaic.TcCoe Idealize.SL.Sem Cert.AttnCIdeal Cert.AttnCIdeal.Gen Cert.AttnCIdeal.Hand
open Idealize.ShloMosaic.Pipeline (RDat)
open AttnSpec (Seq slope16)
open AttnBlock (out lse score keysA keysB headOf dimOf out_piece lse_piece toInt_offset)
open AttnArray (IsBlock MaskAt lane head dim)
open Classes (seqs attention logSumExp blockOut blockLse rowPlace rowPlace_val classOf placeOf keysC isPieceC IsClass)
open Strided (Good good overwritten)
open Words

/-- The mask: a class is one block, and its first query is its first token. -/
theorem maskC (i : grid0.Coords) : MaskAt 128 0 (k0_pay7 i) := fun a b => by
  pointwise [k0_pay7, k0_pay3, k0_pay2]
  have hp : (IntOp.addi (Scalar.addi (Scalar.muli 0#32 128#32) 0#32) (IntOp.subi (BitVec.ofNat 32 b.val) 64#32)).toInt
      = (0 : ℤ) * 128 + 0 + (b.val - 64) :=
    toInt_add (toInt_add (toInt_mul (show (0#32 : BitVec 32).toInt = 0 by decide) (show (128#32 : BitVec 32).toInt = 128 by decide) (by omega) (by omega))
      (show (0#32 : BitVec 32).toInt = 0 by decide) (by omega) (by omega))
      (toInt_sub (toInt_nat _ (by omega)) (show (64#32 : BitVec 32).toInt = 64 by decide) (by omega) (by omega)) (by omega) (by omega)
  rw [and_iff, and_iff, sle_iff (toInt_abs (toInt_offset a b) (by omega)) (show (64#32 : BitVec 32).toInt = 64 by decide),
    sge_iff hp (show (0#32 : BitVec 32).toInt = 0 by decide), slt_iff hp (show (128#32 : BitVec 32).toInt = 128 by decide)]
  push_cast
  rw [and_assoc]
  exact and_congr_right fun _ => by omega

/-- A pair's piece is made of the blocks' lanes of that pair. -/
theorem piece {Q K V : Seq 128} {mask : IVec S128x256 1} {x0 x2 x5 : Vec Ideal S1x128x512 .bf16} {x1 x3 x4 x6 : Vec Ideal S1x64x512 .bf16}
    (hb : IsClass Q K V x0 x2 x5) (hm : MaskAt 128 0 mask) (p : Fin 4) {off : Fin 3 → ℕ} (ho : off = ![0, 0, 128 * p.val])
    {i0 : ∀ a, off a + S1x128x128.size a ≤ S1x128x512.size a} {i1 : ∀ a, off a + S1x64x128.size a ≤ S1x64x512.size a} :
    AttnBlock.IsPiece Q K V p 0 mask
      (keysC concatenates_S64x128_S128x128_S64x128_S256x128_d0 (View.ld x1 (Rect.unit (s := S1x64x512) off S1x64x128.size i1)) (View.ld x2 (Rect.unit (s := S1x128x512) off S1x128x128.size i0)) (View.ld x3 (Rect.unit (s := S1x64x512) off S1x64x128.size i1)))
      (keysC concatenates_S64x128_S128x128_S64x128_S256x128_d0 (View.ld x4 (Rect.unit (s := S1x64x512) off S1x64x128.size i1)) (View.ld x5 (Rect.unit (s := S1x128x512) off S1x128x128.size i0)) (View.ld x6 (Rect.unit (s := S1x64x512) off S1x64x128.size i1)))
      (View.ld x0 (Rect.unit (s := S1x128x512) off S1x128x128.size i0)) := by
  subst ho
  have e : ∀ (x : Vec Ideal S1x128x512 .bf16) (a l : Fin 128), View.ld x (Rect.unit (s := S1x128x512) ![0, 0, 128 * p.val] S1x128x128.size i0) (ix3 0 a l) = x (ix3 0 a (lane p l)) := by
    intro x a l
    refine congrArg x (funext fun d => ?_)
    match d with
    | ⟨0, _⟩ => rfl
    | ⟨1, _⟩ => exact Fin.ext (show 0 + 1 * a.val = a.val by omega)
    | ⟨2, _⟩ => exact Fin.ext (show 128 * p.val + 1 * l.val = 128 * p.val + l.val by omega)
  exact isPieceC hb hm p _ (e x0) (e x2) (e x5)

set_option maxHeartbeats 4000000 in
/-- The pieces a point stores of the attention: each holds its queries' results, in the rows of the point's class. -/
theorem pieces7 {Q K V : Seq 128} (hQ : ∀ t h d, ∃ r : ℝ, Q t h d = r) (hK : ∀ t h d, ∃ r : ℝ, K t h d = r) (c : Dev nD) (i : grid0.Coords) (hi : (i 1).val < 1) (hr : (i 2).val < 16)
    (arg3 : Memref sig .tc .vmem S1x128x512 .bf16) (harg3 : arg3.IsWhole) (arg4 : Memref sig .tc .vmem S1x64x512 .bf16) (harg4 : arg4.IsWhole) (arg5 : Memref sig .tc .vmem S1x128x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x128x512 .bf16) (harg8 : arg8.IsWhole) (arg9 : Memref sig .tc .vmem S1x64x512 .bf16) (harg9 : arg9.IsWhole) (arg10 : Memref sig .tc .vmem S1x4x2048x128 .f32) (harg10 : arg10.IsWhole) (arg11 : Memref sig .tc .vmem S1x4x2048x128 .f32) (harg11 : arg11.IsWhole)
    (x0 : Vec Ideal S1x128x512 .bf16) (x1 : Vec Ideal S1x64x512 .bf16) (x2 : Vec Ideal S1x128x512 .bf16) (x3 : Vec Ideal S1x64x512 .bf16) (x4 : Vec Ideal S1x64x512 .bf16) (x5 : Vec Ideal S1x128x512 .bf16) (x6 : Vec Ideal S1x64x512 .bf16) (o7 o8 : Vec Ideal S1x4x2048x128 .f32) (hb : IsClass Q K V x0 x2 x5) :
    List.Forall₂ (fun P q => Good 16 (blockOut 16 slope16 (0) (by decide : 16 * 0 + 2048 ≤ 16 * 128) Q K V) q.1 (128 * 16 * q.2 + (i 2).val) P)
      (run (F := Ideal) c i arg3 harg3 arg4 harg4 arg5 harg5 arg6 harg6 arg7 harg7 arg8 harg8 arg9 harg9 arg10 harg10 arg11 harg11 x0 x1 x2 x3 x4 x5 x6 o7 o8).1 ([(3, 0), (2, 0), (1, 0), (0, 0)] : List (Fin 4 × ℕ)) := by
  have hb' : IsClass Q K V (arg3.view.read (Elt Ideal) (harg3.unread x0)) (arg5.view.read (Elt Ideal) (harg5.unread x2)) (arg8.view.read (Elt Ideal) (harg8.unread x5)) := by
    simp only [Memref.IsWhole.read_unread]; exact hb
  have mC := maskC i
  have hR : 16 * 0 + 2048 ≤ 16 * 128 := by decide
  unfold run
  dsimp only
  refine .cons (good (p := 3) (o := 128 * 16 * 0 + (i 2).val) ((k0_off4_eq i).trans (by simp)) (by omega) fun a l y h1 h2 h3 => ?_) ?_
  · refine (out_piece (D := 16) (sl := slope16) (by decide) AttnSpec.slope16_exponent hQ hK (piece hb' mC 3 (off := ![0, 0, 384]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 6 7 rfl rfl a l (rowPlace 16 (0) hR (y 2)) ?_).trans ?_
    · refine (rowPlace_val 16 _ _ hr (y 2) h2).trans ?_
      omega
    · show _ = AttnSpec.att _ _ _ _ _ (headOf (y 1) (y 3)) _ (dimOf (y 3))
      rw [h1, h3] <;> rfl
  refine .cons (good (p := 2) (o := 128 * 16 * 0 + (i 2).val) ((k0_off3_eq i).trans (by simp)) (by omega) fun a l y h1 h2 h3 => ?_) ?_
  · refine (out_piece (D := 16) (sl := slope16) (by decide) AttnSpec.slope16_exponent hQ hK (piece hb' mC 2 (off := ![0, 0, 256]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 4 5 rfl rfl a l (rowPlace 16 (0) hR (y 2)) ?_).trans ?_
    · refine (rowPlace_val 16 _ _ hr (y 2) h2).trans ?_
      omega
    · show _ = AttnSpec.att _ _ _ _ _ (headOf (y 1) (y 3)) _ (dimOf (y 3))
      rw [h1, h3] <;> rfl
  refine .cons (good (p := 1) (o := 128 * 16 * 0 + (i 2).val) ((k0_off2_eq i).trans (by simp)) (by omega) fun a l y h1 h2 h3 => ?_) ?_
  · refine (out_piece (D := 16) (sl := slope16) (by decide) AttnSpec.slope16_exponent hQ hK (piece hb' mC 1 (off := ![0, 0, 128]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 2 3 rfl rfl a l (rowPlace 16 (0) hR (y 2)) ?_).trans ?_
    · refine (rowPlace_val 16 _ _ hr (y 2) h2).trans ?_
      omega
    · show _ = AttnSpec.att _ _ _ _ _ (headOf (y 1) (y 3)) _ (dimOf (y 3))
      rw [h1, h3] <;> rfl
  refine .cons (good (p := 0) (o := 128 * 16 * 0 + (i 2).val) ((k0_off1_eq i).trans (by simp)) (by omega) fun a l y h1 h2 h3 => ?_) ?_
  · refine (out_piece (D := 16) (sl := slope16) (by decide) AttnSpec.slope16_exponent hQ hK (piece hb' mC 0 (off := ![0, 0, 0]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 0 1 rfl rfl a l (rowPlace 16 (0) hR (y 2)) ?_).trans ?_
    · refine (rowPlace_val 16 _ _ hr (y 2) h2).trans ?_
      omega
    · show _ = AttnSpec.att _ _ _ _ _ (headOf (y 1) (y 3)) _ (dimOf (y 3))
      rw [h1, h3] <;> rfl
  exact .nil

/-- What a point leaves of the attention: the rows of its class from its queries, the rest as found. -/
theorem left7_apply {Q K V : Seq 128} (hQ : ∀ t h d, ∃ r : ℝ, Q t h d = r) (hK : ∀ t h d, ∃ r : ℝ, K t h d = r) (c : Dev nD) (t : Fin cfg0.N) (hi : (grid0.coords t 1).val < 1) (hr : (grid0.coords t 2).val < 16)
    (x0 : Vec Ideal S1x128x512 .bf16) (x1 : Vec Ideal S1x64x512 .bf16) (x2 : Vec Ideal S1x128x512 .bf16) (x3 : Vec Ideal S1x64x512 .bf16) (x4 : Vec Ideal S1x64x512 .bf16) (x5 : Vec Ideal S1x128x512 .bf16) (x6 : Vec Ideal S1x64x512 .bf16) (hb : IsClass Q K V x0 x2 x5) (Y Z : Vec Ideal S1x4x2048x128 .f32) (y : S1x4x2048x128.Idx) :
    left7 (F := Ideal) c t x0 x1 x2 x3 x4 x5 x6 Y Z y = if (y 2).val % 16 = (grid0.coords t 2).val then blockOut 16 slope16 (0) (by decide : 16 * 0 + 2048 ≤ 16 * 128) Q K V y else Y y := by
  unfold left7
  refine (overwritten (st0_7 t).view _ (S := 1) hr rfl (pieces7 hQ hK c (grid0.coords t) hi hr _ _ _ _ _ _ _ _ _ _ _ _ _ _ _ _ _ _ x0 x1 x2 x3 x4 x5 x6 _ _ hb) (by decide) y).trans ?_
  exact if_congr Iff.rfl rfl (congrFun (((hstage0_7 ((cfg0.slots t 7).cast nbuf0_7))).read_unread _) y)

set_option maxHeartbeats 4000000 in
/-- The pieces a point stores of the log-sum-exp: each holds its queries' results, in the rows of the point's class. -/
theorem pieces8 {Q K V : Seq 128} (c : Dev nD) (i : grid0.Coords) (hi : (i 1).val < 1) (hr : (i 2).val < 16)
    (arg3 : Memref sig .tc .vmem S1x128x512 .bf16) (harg3 : arg3.IsWhole) (arg4 : Memref sig .tc .vmem S1x64x512 .bf16) (harg4 : arg4.IsWhole) (arg5 : Memref sig .tc .vmem S1x128x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x128x512 .bf16) (harg8 : arg8.IsWhole) (arg9 : Memref sig .tc .vmem S1x64x512 .bf16) (harg9 : arg9.IsWhole) (arg10 : Memref sig .tc .vmem S1x4x2048x128 .f32) (harg10 : arg10.IsWhole) (arg11 : Memref sig .tc .vmem S1x4x2048x128 .f32) (harg11 : arg11.IsWhole)
    (x0 : Vec Ideal S1x128x512 .bf16) (x1 : Vec Ideal S1x64x512 .bf16) (x2 : Vec Ideal S1x128x512 .bf16) (x3 : Vec Ideal S1x64x512 .bf16) (x4 : Vec Ideal S1x64x512 .bf16) (x5 : Vec Ideal S1x128x512 .bf16) (x6 : Vec Ideal S1x64x512 .bf16) (o7 o8 : Vec Ideal S1x4x2048x128 .f32) (hb : IsClass Q K V x0 x2 x5) :
    List.Forall₂ (fun P q => Good 16 (blockLse 16 slope16 (0) (by decide : 16 * 0 + 2048 ≤ 16 * 128) Q K) q.1 (128 * 16 * q.2 + (i 2).val) P)
      (run (F := Ideal) c i arg3 harg3 arg4 harg4 arg5 harg5 arg6 harg6 arg7 harg7 arg8 harg8 arg9 harg9 arg10 harg10 arg11 harg11 x0 x1 x2 x3 x4 x5 x6 o7 o8).2.1 ([(3, 0), (2, 0), (1, 0), (0, 0)] : List (Fin 4 × ℕ)) := by
  have hb' : IsClass Q K V (arg3.view.read (Elt Ideal) (harg3.unread x0)) (arg5.view.read (Elt Ideal) (harg5.unread x2)) (arg8.view.read (Elt Ideal) (harg8.unread x5)) := by
    simp only [Memref.IsWhole.read_unread]; exact hb
  have mC := maskC i
  have hR : 16 * 0 + 2048 ≤ 16 * 128 := by decide
  unfold run
  dsimp only
  refine .cons (good (p := 3) (o := 128 * 16 * 0 + (i 2).val) ((k0_off4_eq i).trans (by simp)) (by omega) fun a l y h1 h2 h3 => ?_) ?_
  · refine (lse_piece (D := 16) (sl := slope16) (by decide) (piece hb' mC 3 (off := ![0, 0, 384]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 6 7 rfl rfl a l (rowPlace 16 (0) hR (y 2)) ?_).trans ?_
    · refine (rowPlace_val 16 _ _ hr (y 2) h2).trans ?_
      omega
    · show _ = AttnSpec.lse _ _ _ _ (headOf (y 1) (y 3)) _
      rw [h1, h3] <;> rfl
  refine .cons (good (p := 2) (o := 128 * 16 * 0 + (i 2).val) ((k0_off3_eq i).trans (by simp)) (by omega) fun a l y h1 h2 h3 => ?_) ?_
  · refine (lse_piece (D := 16) (sl := slope16) (by decide) (piece hb' mC 2 (off := ![0, 0, 256]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 4 5 rfl rfl a l (rowPlace 16 (0) hR (y 2)) ?_).trans ?_
    · refine (rowPlace_val 16 _ _ hr (y 2) h2).trans ?_
      omega
    · show _ = AttnSpec.lse _ _ _ _ (headOf (y 1) (y 3)) _
      rw [h1, h3] <;> rfl
  refine .cons (good (p := 1) (o := 128 * 16 * 0 + (i 2).val) ((k0_off2_eq i).trans (by simp)) (by omega) fun a l y h1 h2 h3 => ?_) ?_
  · refine (lse_piece (D := 16) (sl := slope16) (by decide) (piece hb' mC 1 (off := ![0, 0, 128]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 2 3 rfl rfl a l (rowPlace 16 (0) hR (y 2)) ?_).trans ?_
    · refine (rowPlace_val 16 _ _ hr (y 2) h2).trans ?_
      omega
    · show _ = AttnSpec.lse _ _ _ _ (headOf (y 1) (y 3)) _
      rw [h1, h3] <;> rfl
  refine .cons (good (p := 0) (o := 128 * 16 * 0 + (i 2).val) ((k0_off1_eq i).trans (by simp)) (by omega) fun a l y h1 h2 h3 => ?_) ?_
  · refine (lse_piece (D := 16) (sl := slope16) (by decide) (piece hb' mC 0 (off := ![0, 0, 0]) (by decide) (x1 := (arg4.view.read (Elt Ideal) (harg4.unread x1))) (x3 := (arg6.view.read (Elt Ideal) (harg6.unread x3))) (x4 := (arg7.view.read (Elt Ideal) (harg7.unread x4))) (x6 := (arg9.view.read (Elt Ideal) (harg9.unread x6)))) 0 1 rfl rfl a l (rowPlace 16 (0) hR (y 2)) ?_).trans ?_
    · refine (rowPlace_val 16 _ _ hr (y 2) h2).trans ?_
      omega
    · show _ = AttnSpec.lse _ _ _ _ (headOf (y 1) (y 3)) _
      rw [h1, h3] <;> rfl
  exact .nil

/-- What a point leaves of the log-sum-exp: the rows of its class from its queries, the rest as found. -/
theorem left8_apply {Q K V : Seq 128} (c : Dev nD) (t : Fin cfg0.N) (hi : (grid0.coords t 1).val < 1) (hr : (grid0.coords t 2).val < 16)
    (x0 : Vec Ideal S1x128x512 .bf16) (x1 : Vec Ideal S1x64x512 .bf16) (x2 : Vec Ideal S1x128x512 .bf16) (x3 : Vec Ideal S1x64x512 .bf16) (x4 : Vec Ideal S1x64x512 .bf16) (x5 : Vec Ideal S1x128x512 .bf16) (x6 : Vec Ideal S1x64x512 .bf16) (hb : IsClass Q K V x0 x2 x5) (Y Z : Vec Ideal S1x4x2048x128 .f32) (y : S1x4x2048x128.Idx) :
    left8 (F := Ideal) c t x0 x1 x2 x3 x4 x5 x6 Z Y y = if (y 2).val % 16 = (grid0.coords t 2).val then blockLse 16 slope16 (0) (by decide : 16 * 0 + 2048 ≤ 16 * 128) Q K y else Y y := by
  unfold left8
  refine (overwritten (st0_8 t).view _ (S := 1) hr rfl (pieces8 c (grid0.coords t) hi hr _ _ _ _ _ _ _ _ _ _ _ _ _ _ _ _ _ _ x0 x1 x2 x3 x4 x5 x6 _ _ hb) (by decide) y).trans ?_
  exact if_congr Iff.rfl rfl (congrFun (((hstage0_8 ((cfg0.slots t 8).cast nbuf0_8))).read_unread _) y)

/-- Which block each window stages at a point. -/
theorem index_facts : ∀ t : Fin cfg0.N, win0_0.index t 0 = (grid0.coords t 0).val ∧ win0_0.index t 1 = (grid0.coords t 1).val ∧ win0_0.index t 2 = 3 * (grid0.coords t 2).val + 0
    ∧ win0_1.index t 0 = (grid0.coords t 0).val ∧ win0_1.index t 1 = 2 * (grid0.coords t 1).val - 1 ∧ win0_1.index t 2 = 3 * (grid0.coords t 2).val + 1
    ∧ win0_2.index t 0 = (grid0.coords t 0).val ∧ win0_2.index t 1 = (grid0.coords t 1).val ∧ win0_2.index t 2 = 3 * (grid0.coords t 2).val + 1
    ∧ win0_3.index t 0 = (grid0.coords t 0).val ∧ win0_3.index t 1 = min (2 * (grid0.coords t 1).val + 2) 1 ∧ win0_3.index t 2 = 3 * (grid0.coords t 2).val + 1
    ∧ win0_4.index t 0 = (grid0.coords t 0).val ∧ win0_4.index t 1 = 2 * (grid0.coords t 1).val - 1 ∧ win0_4.index t 2 = 3 * (grid0.coords t 2).val + 2
    ∧ win0_5.index t 0 = (grid0.coords t 0).val ∧ win0_5.index t 1 = (grid0.coords t 1).val ∧ win0_5.index t 2 = 3 * (grid0.coords t 2).val + 2
    ∧ win0_6.index t 0 = (grid0.coords t 0).val ∧ win0_6.index t 1 = min (2 * (grid0.coords t 1).val + 2) 1 ∧ win0_6.index t 2 = 3 * (grid0.coords t 2).val + 2
    ∧ win0_7.index t 0 = (grid0.coords t 0).val ∧ win0_7.index t 1 = 0 ∧ win0_7.index t 2 = (grid0.coords t 1).val ∧ win0_7.index t 3 = 0
    ∧ win0_8.index t 0 = (grid0.coords t 0).val ∧ win0_8.index t 1 = 0 ∧ win0_8.index t 2 = (grid0.coords t 1).val ∧ win0_8.index t 3 = 0 := by
  decide +kernel

/-- A point's place in the grid. -/
theorem coords_eq : ∀ t : Fin cfg0.N, (grid0.coords t 0).val = t.val / 16 ∧ (grid0.coords t 1).val = t.val / 16 % 1 ∧ (grid0.coords t 2).val = t.val % 16
    ∧ (grid0.coords t 0).val < 16 := by
  decide +kernel

variable (m : (ℓ : Loc nD τ sig) → Buf (Elt Ideal) ℓ)

/-- The array that the region reads is the argument, 16 tokens to a row. -/
theorem entry_apply (c : Dev nD) (z : S16x128x24576.Idx) (b : Fin 16) (t : Fin 2048) (e : Fin 1536) (h0 : (z 0).val = b.val)
    (h1 : 16 * (z 1).val + (z 2).val / 1536 = t.val) (h2 : (z 2).val % 1536 = e.val) :
    (V m c main_v1 : Vec Ideal S16x128x24576 .bf16) z = (m (c, Proc.tc.devRef main_arg0) : Vec Ideal S16x2048x1536 .bf16) (ix3 b t e) := by
  idx_vars z
  unfold V
  entry_read
  generalize (m (c, Proc.tc.devRef main_arg0) : Vec Ideal S16x2048x1536 .bf16) = x
  pointwise
  refine congrArg x (funext fun a => ?_)
  match a with
  | ⟨0, _⟩ => exact Fin.ext (by dsimp only [ix3]; omega)
  | ⟨1, _⟩ => exact Fin.ext (by dsimp only [ix3]; omega)
  | ⟨2, _⟩ => exact Fin.ext (by dsimp only [ix3]; omega)

/-- The blocks a point reads are those of its class. -/
theorem isClass (c : Dev nD) (t : Fin cfg0.N) (b : Fin 16) (r : Fin 16) (hb : (grid0.coords t 0).val = b.val) (hj : (grid0.coords t 1).val < 1) (hr : (grid0.coords t 2).val = r.val) :
    IsClass (seqs 16 128 rfl (m (c, Proc.tc.devRef main_arg0)) 0 b r) (seqs 16 128 rfl (m (c, Proc.tc.devRef main_arg0)) 1 b r) (seqs 16 128 rfl (m (c, Proc.tc.devRef main_arg0)) 2 b r)
      (iblk m c 0 t) (iblk m c 2 t) (iblk m c 5 t) := by
  have hx := index_facts t
  have v0 : ((0 : Fin 3) : ℕ) = 0 := rfl
  have v1 : ((1 : Fin 3) : ℕ) = 1 := rfl
  have v2 : ((2 : Fin 3) : ℕ) = 2 := rfl
  refine ⟨?_, ?_, ?_⟩ <;> intro κ e <;> blk_simp [iblk] <;> rw [seqs] <;>
    refine entry_apply m c _ b _ _ ?_ ?_ ?_ <;> blk_simp <;> (try simp only [head, dim]) <;> omega

/-- What a point leaves of the attention: the rows of the classes up to its own hold what the specification says. -/
theorem leaves7 (c : Dev nD) (hX : ∀ (b : Fin 16) (t : Fin 2048) (e : Fin 1536), e.val < 1024 → ∃ r : ℝ, (m (c, Proc.tc.devRef main_arg0) : Vec Ideal S16x2048x1536 .bf16) (ix3 b t e) = (r : EReal))
    (k : ℕ) : ∀ (u : Fin cfg0.N), u.val % 16 = k → ∀ X : S1x4x2048x128.Idx → Elt Ideal .f32, (rdat m c).Leaves 7 u X →
    ∀ (y : S1x4x2048x128.Idx), (y 2).val % 16 ≤ k → ∀ z : S16x4x2048x128.Idx, (z 0).val = u.val / 16 → z 1 = y 1 → (z 2).val = 2048 * (u.val / 16 % 1) + (y 2).val → z 3 = y 3 →
      X y = attention 16 128 (by decide) rfl slope16 (m (c, Proc.tc.devRef main_arg0)) z := by
  have step : ∀ (u : Fin cfg0.N) (X : S1x4x2048x128.Idx → Elt Ideal .f32), (rdat m c).Leaves 7 u X → ∃ Y, (rdat m c).Finds 7 u Y ∧
      ∀ (y : S1x4x2048x128.Idx) (z : S16x4x2048x128.Idx), (z 0).val = u.val / 16 → z 1 = y 1 → (z 2).val = 2048 * (u.val / 16 % 1) + (y 2).val → z 3 = y 3 →
        X y = if (y 2).val % 16 = u.val % 16 then attention 16 128 (by decide) rfl slope16 (m (c, Proc.tc.devRef main_arg0)) z else Y y := by
    intro u X hX'
    obtain ⟨Y, hY, Z, e⟩ := hX'
    refine ⟨Y, hY, fun y z h0 h1 h2 h3 => ?_⟩
    obtain ⟨c0, c1, c2, cb⟩ := coords_eq u
    let b : Fin 16 := ⟨(grid0.coords u 0).val, cb⟩
    let r : Fin 16 := ⟨(grid0.coords u 2).val, by omega⟩
    have e' : X = left7 c u (iblk m c 0 u) (iblk m c 1 u) (iblk m c 2 u) (iblk m c 3 u) (iblk m c 4 u) (iblk m c 5 u) (iblk m c 6 u) Y Z := e
    rw [e', left7_apply (Classes.seqs_real 16 128 rfl hX 0 (by decide) b r) (Classes.seqs_real 16 128 rfl hX 1 (by decide) b r) c u (by omega) (by omega) _ _ _ _ _ _ _ (isClass m c u b r rfl (by omega) rfl) Y Z y, c2]
    split
    · next h => exact Classes.blockOut_eq (D := 16) (N := 128) (base := 0) (by decide) rfl _ slope16 _ b r y (h.trans c2.symm) z (Fin.ext (h0.trans c0.symm)) h1 (by rw [h2]; omega) h3
    · rfl
  induction k with
  | zero =>
    intro u hu X hL y hy z h0 h1 h2 h3
    obtain ⟨Y, _, e⟩ := step u X hL
    rw [e y z h0 h1 h2 h3, if_pos (by omega)]
  | succ k ih =>
    intro u hu X hL y hy z h0 h1 h2 h3
    obtain ⟨Y, hY, e⟩ := step u X hL
    rw [e y z h0 h1 h2 h3]
    split
    · rfl
    · next hne =>
      have hl : (rdat m c).Leaves 7 ⟨u.val - 1, Nat.lt_of_le_of_lt (Nat.sub_le _ _) u.isLt⟩ Y := by
        refine (((rdat m c).finds_of_pos ((cfg0.win 7).fetch_out rfl u) (by omega) Y).mp hY).resolve_left fun hf => ?_
        have := (flush0_7 _).mp hf
        dsimp only at this
        omega
      exact ih _ (by dsimp only; omega) Y hl y (by omega) z (by dsimp only; omega) h1 (by dsimp only; omega) h3

/-- The kernel's first result, from what the points that write their blocks back left. -/
theorem arr7 (c : Dev nD) (hX : ∀ (b : Fin 16) (t : Fin 2048) (e : Fin 1536), e.val < 1024 → ∃ r : ℝ, (m (c, Proc.tc.devRef main_arg0) : Vec Ideal S16x2048x1536 .bf16) (ix3 b t e) = (r : EReal))
    (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 7 cfg0.N = attention 16 128 (by decide) rfl slope16 (m (c, Proc.tc.devRef main_arg0)) := by
  refine ((rdat m c).withAfter after).arrAt_eq_of_covers 7 _ (by decide +kernel) fun t hf y => ?_
  have hx := index_facts t
  obtain ⟨c0, c1, c2, cb⟩ := coords_eq t
  have ht := (flush0_7 t).mp hf
  have hl := hL 7 t hf
  blk_simp
  rw [RDat.withAfter_after]
  refine leaves7 m c hX 15 t ht _ hl _ (by omega) _ ?_ (Fin.ext ?_) ?_ (Fin.ext ?_) <;> blk_simp <;> omega

/-- What a point leaves of the log-sum-exp: the rows of the classes up to its own hold what the specification says. -/
theorem leaves8 (c : Dev nD) (k : ℕ) : ∀ (u : Fin cfg0.N), u.val % 16 = k → ∀ X : S1x4x2048x128.Idx → Elt Ideal .f32, (rdat m c).Leaves 8 u X →
    ∀ (y : S1x4x2048x128.Idx), (y 2).val % 16 ≤ k → ∀ z : S16x4x2048x128.Idx, (z 0).val = u.val / 16 → z 1 = y 1 → (z 2).val = 2048 * (u.val / 16 % 1) + (y 2).val → z 3 = y 3 →
      X y = logSumExp 16 128 (by decide) rfl slope16 (m (c, Proc.tc.devRef main_arg0)) z := by
  have step : ∀ (u : Fin cfg0.N) (X : S1x4x2048x128.Idx → Elt Ideal .f32), (rdat m c).Leaves 8 u X → ∃ Y, (rdat m c).Finds 8 u Y ∧
      ∀ (y : S1x4x2048x128.Idx) (z : S16x4x2048x128.Idx), (z 0).val = u.val / 16 → z 1 = y 1 → (z 2).val = 2048 * (u.val / 16 % 1) + (y 2).val → z 3 = y 3 →
        X y = if (y 2).val % 16 = u.val % 16 then logSumExp 16 128 (by decide) rfl slope16 (m (c, Proc.tc.devRef main_arg0)) z else Y y := by
    intro u X hX'
    obtain ⟨Y, hY, Z, e⟩ := hX'
    refine ⟨Y, hY, fun y z h0 h1 h2 h3 => ?_⟩
    obtain ⟨c0, c1, c2, cb⟩ := coords_eq u
    let b : Fin 16 := ⟨(grid0.coords u 0).val, cb⟩
    let r : Fin 16 := ⟨(grid0.coords u 2).val, by omega⟩
    have e' : X = left8 c u (iblk m c 0 u) (iblk m c 1 u) (iblk m c 2 u) (iblk m c 3 u) (iblk m c 4 u) (iblk m c 5 u) (iblk m c 6 u) Z Y := e
    rw [e', left8_apply c u (by omega) (by omega) _ _ _ _ _ _ _ (isClass m c u b r rfl (by omega) rfl) Y Z y, c2]
    split
    · next h => exact Classes.blockLse_eq (D := 16) (N := 128) (base := 0) (by decide) rfl _ slope16 _ b r y (h.trans c2.symm) z (Fin.ext (h0.trans c0.symm)) h1 (by rw [h2]; omega) h3
    · rfl
  induction k with
  | zero =>
    intro u hu X hL y hy z h0 h1 h2 h3
    obtain ⟨Y, _, e⟩ := step u X hL
    rw [e y z h0 h1 h2 h3, if_pos (by omega)]
  | succ k ih =>
    intro u hu X hL y hy z h0 h1 h2 h3
    obtain ⟨Y, hY, e⟩ := step u X hL
    rw [e y z h0 h1 h2 h3]
    split
    · rfl
    · next hne =>
      have hl : (rdat m c).Leaves 8 ⟨u.val - 1, Nat.lt_of_le_of_lt (Nat.sub_le _ _) u.isLt⟩ Y := by
        refine (((rdat m c).finds_of_pos ((cfg0.win 8).fetch_out rfl u) (by omega) Y).mp hY).resolve_left fun hf => ?_
        have := (flush0_8 _).mp hf
        dsimp only at this
        omega
      exact ih _ (by dsimp only; omega) Y hl y (by omega) z (by dsimp only; omega) h1 (by dsimp only; omega) h3

/-- The kernel's second result, from what the points that write their blocks back left. -/
theorem arr8 (c : Dev nD) (after : (w : Fin cfg0.W) → Fin cfg0.N → (cfg0.win w).block.Idx → Elt Ideal (cfg0.win w).elt)
    (hL : ∀ (w : Fin cfg0.W) (u : Fin cfg0.N), (cfg0.win w).flush u = true → (rdat m c).Leaves w u (after w u)) :
    ((rdat m c).withAfter after).arrAt 8 cfg0.N = logSumExp 16 128 (by decide) rfl slope16 (m (c, Proc.tc.devRef main_arg0)) := by
  refine ((rdat m c).withAfter after).arrAt_eq_of_covers 8 _ (by decide +kernel) fun t hf y => ?_
  have hx := index_facts t
  obtain ⟨c0, c1, c2, cb⟩ := coords_eq t
  have ht := (flush0_8 t).mp hf
  have hl := hL 8 t hf
  blk_simp
  rw [RDat.withAfter_after]
  refine leaves8 m c 15 t ht _ hl _ (by omega) _ ?_ (Fin.ext ?_) ?_ (Fin.ext ?_) <;> blk_simp <;> omega

/-- Every run ends with the two results the specification names and the argument unchanged. -/
theorem result (ρ : Dev nD → PrngReg)
    (hX : ∀ (c : Dev nD) (b : Fin 16) (t : Fin 2048) (e : Fin 1536), e.val < 1024 → ∃ r : ℝ, (m (c, Proc.tc.devRef main_arg0) : Vec Ideal S16x2048x1536 .bf16) (ix3 b t e) = (r : EReal)) :
    θ_run defs (onTc (τ := τ) (main (F := Ideal))) ⟨m, fun _ => 0, ρ⟩ fun r => ∀ c : Dev nD,
      r.2.mem ((c.tc : Thread nD τ).loc main_v2_0) = attention 16 128 (by decide) rfl slope16 (m (c, Proc.tc.devRef main_arg0))
      ∧ r.2.mem ((c.tc : Thread nD τ).loc main_v2_1) = logSumExp 16 128 (by decide) rfl slope16 (m (c, Proc.tc.devRef main_arg0))
      ∧ r.2.mem ((c.tc : Thread nD τ).loc main_arg0) = m ((c.tc : Thread nD τ).loc main_arg0) :=
  (θ_run defs _ _).mono (fun r h c => by
    obtain ⟨after, hL, hA⟩ := RDat.FramePost.exists_exact h.1 c
    exact ⟨(hA 7).trans (arr7 m c (hX c) after hL), (hA 8).trans (arr8 m c after hL),
      ((h.1 c).2 main_arg0 (Pipeline.mem_restRefs_of main_arg0 (by decide) (by decide))).trans (V_main_arg0 m c)⟩) (run_main m ρ)

end Cert.Proof.AttnC

end
-- ==== Proof.AttnCReference.lean ====
/-
  The reference's two results for the group of dilation 16 are the attention and the log-sum-exp of its argument.
-/
module

public import proofs.«01_k».proof.Proof.Gen.AttnCRefIdeal.Read
public import proofs.«01_k».proof.Proof.Classes

@[expose] public section

set_option maxRecDepth 16384

noncomputable section

namespace Cert.Proof.AttnCReference

open Idealize.ShloMosaic Cert.AttnCRefIdeal Cert.AttnCRefIdeal.Gen Cert.AttnCRefIdeal.Facts Cert.AttnCRefIdeal.Read Cert.Proof.Words
open Classes (seqs classOf placeOf)
open scoped BigOperators

variable (x : (⟨S16x2048x1536, .bf16⟩ : BufTy).Contents (Elt Ideal))

/-- The token of a row of a block of 64. -/
def tokenOf (n : Fin 2) (u : Fin 64) : Fin 128 := ⟨64 * n.val + u.val, by omega⟩

/-- The queries, by class and block of 64. -/
theorem queries_apply (b : Fin 16) (c : Fin 16) (n : Fin 2) (u : Fin 64) (h : Fin 8) (d : Fin 64) :
    val_main_v19 x (ix6 b c n u h d) = seqs 16 128 rfl x 0 b c (tokenOf n u) h d := by
  pointwise [val_main_v19, val_main_v18, val_main_v17, val_main_v3, val_main_v2, val_main_v1, val_main_v0]
  unfold seqs tokenOf
  congr 2 <;> apply Fin.ext <;> simp <;> omega

/-- The keys of a block: those of the class from 64 before the block. -/
theorem keys_apply (b : Fin 16) (c : Fin 16) (n : Fin 2) (w : Fin 192) (h : Fin 8) (d : Fin 64) (κ : Fin 128) (e : (κ.val : ℤ) = 64 * n.val - 64 + w.val) :
    val_main_v29 x (ix6 b c n w h d) = seqs 16 128 rfl x 1 b c κ h d := by
  pointwise [val_main_v29, val_main_v28, val_main_v27, val_main_v26, val_main_v25, val_main_v24, val_main_v23, val_main_v22, val_main_v21,
    val_main_v20, val_main_v5, val_main_v4, val_main_v1, val_main_v0, val_main_call0_v0, val_main_c]
  unfold seqs
  split_ifs <;> first
    | (exfalso; omega)
    | (congr 2 <;> apply Fin.ext <;> simp <;> omega)

/-- The values of a block: those of the class from 64 before the block. -/
theorem values_apply (b : Fin 16) (c : Fin 16) (n : Fin 2) (w : Fin 192) (h : Fin 8) (d : Fin 64) (κ : Fin 128) (e : (κ.val : ℤ) = 64 * n.val - 64 + w.val) :
    val_main_v39 x (ix6 b c n w h d) = seqs 16 128 rfl x 2 b c κ h d := by
  pointwise [val_main_v39, val_main_v38, val_main_v37, val_main_v36, val_main_v35, val_main_v34, val_main_v33, val_main_v32, val_main_v31,
    val_main_v30, val_main_v7, val_main_v6, val_main_v1, val_main_v0, val_main_call1_v0, val_main_c_7]
  unfold seqs
  split_ifs <;> first
    | (exfalso; omega)
    | (congr 2 <;> apply Fin.ext <;> simp <;> omega)

/-- The slopes. -/
theorem slopes_apply (h : Fin 8) : val_main_v16 (F := Ideal) (ix1 h) = Ideal.ofBits .f32 (AttnSpec.slope16 h) := by
  pointwise [val_main_v16]
  fin_cases h <;> rfl

/-- A key's place in the window less the query's. -/
theorem toInt_offset (u : Fin 64) (w : Fin 192) :
    (IntOp.subi (IntOp.subi (BitVec.ofNat 32 w.val) 64#32) (BitVec.ofNat 32 u.val)).toInt = (w.val : ℤ) - 64 - u.val :=
  toInt_sub (toInt_sub (toInt_nat w.val (by omega)) (show (64#32 : BitVec 32).toInt = 64 by decide) (by omega) (by omega))
    (toInt_nat u.val (by omega)) (by omega) (by omega)

/-- What the mask lets through. -/
theorem mask_apply (n : Fin 2) (u : Fin 64) (w : Fin 192) : val_main_v75 (F := Ideal) (ix3 n u w) = 1#1 ↔
    |(w.val : ℤ) - 64 - u.val| ≤ 64 ∧ 0 ≤ 64 * (n.val : ℤ) - 64 + w.val ∧ 64 * (n.val : ℤ) - 64 + w.val < 128 := by
  pointwise [val_main_v75, val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45, val_main_v44,
    val_main_v43, val_main_c_9, val_main_c_10, val_main_c_11, val_main_c_12, val_main_c_13, val_main_c_14]
  have hp : (IntOp.addi (IntOp.muli (IntOp.subi (BitVec.ofNat 32 n.val) 1#32) 64#32) (BitVec.ofNat 32 w.val)).toInt
      = ((n.val : ℤ) - 1) * 64 + w.val :=
    toInt_add (toInt_mul (toInt_sub (toInt_nat _ (by omega)) (show (1#32 : BitVec 32).toInt = 1 by decide) (by omega) (by omega))
      (show (64#32 : BitVec 32).toInt = 64 by decide) (by omega) (by omega)) (toInt_nat _ (by omega)) (by omega) (by omega)
  rw [and_iff, and_iff, sle_iff (toInt_abs (toInt_offset u w) (by omega)) (show (64#32 : BitVec 32).toInt = 64 by decide),
    sge_iff hp (show (0#32 : BitVec 32).toInt = 0 by decide), slt_iff hp (show (128#32 : BitVec 32).toInt = 128 by decide)]
  exact and_congr_right fun _ => by omega

/-- The bias: the slope times the distance in the text, negated. -/
theorem bias_apply (h : Fin 8) (u : Fin 64) (w : Fin 192) : val_main_v85 (F := Ideal) (ix3 h u w)
    = -Ideal.ofBits .f32 (AttnSpec.slope16 h) * ((((16 : ℕ) * |(w.val : ℤ) - 64 - u.val| : ℤ) : ℝ) : EReal) := by
  pointwise [val_main_v85, val_main_v84, val_main_v83, val_main_v82, val_main_v81, val_main_v80, val_main_v79, val_main_v78, val_main_v77, val_main_v76,
    val_main_v51, val_main_v50, val_main_v49, val_main_v48, val_main_v47, val_main_v46, val_main_v45, val_main_v44, val_main_v43, val_main_c_9, val_main_c_15]
  have h1 := toInt_abs (toInt_offset u w) (by omega)
  have hb : |(w.val : ℤ) - 64 - u.val| ≤ 1000 := abs_le.2 ⟨by omega, by omega⟩
  have h0 := abs_nonneg ((w.val : ℤ) - 64 - u.val)
  rw [slopes_apply, sitofp_eq (toInt_mul (show (16#32 : BitVec 32).toInt = 16 by decide) h1 (by omega) (by omega)), Nat.cast_ofNat]

/-- The scores of a block. -/
theorem score_apply (b : Fin 16) (c : Fin 16) (n : Fin 2) (h : Fin 8) (u : Fin 64) (w : Fin 192) : val_main_v90 x (ix6 b c n h u w) =
    if |(w.val : ℤ) - 64 - u.val| ≤ 64 ∧ 0 ≤ 64 * (n.val : ℤ) - 64 + w.val ∧ 64 * (n.val : ℤ) - 64 + w.val < 128 then
      (∑ d, val_main_v19 x (ix6 b c n u h d) * val_main_v29 x (ix6 b c n w h d)) * Ideal.ofBits .f32 0x3E000000#32
        - Ideal.ofBits .f32 (AttnSpec.slope16 h) * ((((16 : ℕ) * |(w.val : ℤ) - 64 - u.val| : ℤ) : ℝ) : EReal)
    else ⊥ := by
  rw [← select_iff (mask_apply n u w), sub_eq_add_neg, ← EReal.neg_mul, ← bias_apply]
  pointwise [val_main_v90, val_main_call2_v2, val_main_call2_v1, val_main_call2_v0, val_main_cst_16, val_main_v89, val_main_v88, val_main_v87, val_main_v86,
    val_main_v42, val_main_v40, val_main_v41, val_main_cst_8]
  exact congrArg _ (show Ideal.ofBits .f32 4286578688#32 = (⊥ : EReal) from AttnBlock.ofBits_bot)

/-- A block's row of scores is a window of the sequence's scores. -/
theorem isRow (b : Fin 16) (c : Fin 16) (n : Fin 2) (h : Fin 8) (u : Fin 64) :
    AttnSpec.IsRow 16 AttnSpec.slope16 (seqs 16 128 rfl x 0 b c) (seqs 16 128 rfl x 1 b c) h (tokenOf n u) (64 * (n.val : ℤ) - 64) fun w : Fin 192 => val_main_v90 x (ix6 b c n h u w) where
  covers := by simp only [tokenOf]; omega
  inside w κ e := by
    beta_reduce
    have ht : (κ.val : ℤ) - (tokenOf n u).val = w.val - 64 - u.val := by simp only [tokenOf]; omega
    rw [score_apply, AttnSpec.score, ht]
    refine if_congr (and_iff_left ⟨by omega, by omega⟩) ?_ rfl
    congr 2
    refine Finset.sum_congr rfl fun d _ => ?_
    rw [queries_apply, keys_apply x b c n w h d κ e]
  outside w hw := by
    beta_reduce
    rw [score_apply, if_neg]
    intro hm
    exact hw ⟨(64 * (n.val : ℤ) - 64 + w.val).toNat, by omega⟩ (by show ((64 * (n.val : ℤ) - 64 + w.val).toNat : ℤ) = _; omega)

/-- The scores are reduced over their last axis. -/
theorem reduces : S16x16x2x8x64x192.Reduces [5] S16x16x2x8x64 := by decide

/-- An index of the scores from one of the reduced array. -/
theorem lift_apply (b : Fin 16) (c : Fin 16) (n : Fin 2) (h : Fin 8) (u : Fin 64) (w : Fin 192) :
    reduces.lift (ix5 b c n h u) w = (ix6 b c n h u w : S16x16x2x8x64x192.Idx) := by
  funext a
  fin_cases a <;> rfl

/-- The same index, as the sum names it. -/
theorem index_apply (b : Fin 16) (c : Fin 16) (n : Fin 2) (h : Fin 8) (u : Fin 64) (w : Fin 192) :
    idx_main_v96 (ix5 b c n h u) w = (ix6 b c n h u w : S16x16x2x8x64x192.Idx) := by
  funext a
  fin_cases a <;> rfl

/-- The largest score. -/
theorem top_apply (b : Fin 16) (c : Fin 16) (n : Fin 2) (h : Fin 8) (u : Fin 64) :
    val_main_v91 x (ix5 b c n h u) = AttnSpec.top 16 AttnSpec.slope16 (seqs 16 128 rfl x 0 b c) (seqs 16 128 rfl x 1 b c) h (tokenOf n u) := by
  rw [← AttnSpec.row_top (isRow x b c n h u)]
  unfold val_main_v91
  generalize val_main_v90 x = s
  rw [Host.reduce_eq_fold_single FloatOps.maximumf _ _ reducesTo_S16x16x2x8x64x192_S16x16x2x8x64_d5 reduces h_S_]
  have hs : s ∘ reduces.lift (ix5 b c n h u) = fun w : Fin 192 => s (ix6 b c n h u w) := funext fun w => congrArg s (lift_apply b c n h u w)
  have hi : val_main_cst_17 (F := Ideal) (Shape.Idx.first h_S_) = (⊥ : EReal) := AttnBlock.ofBits_bot
  rw [hs, hi]
  rfl

/-- The exponentials. -/
theorem shifted_apply (b : Fin 16) (c : Fin 16) (n : Fin 2) (h : Fin 8) (u : Fin 64) (w : Fin 192) :
    val_main_v95 x (ix6 b c n h u w) = Ideal.exp (val_main_v90 x (ix6 b c n h u w) - val_main_v91 x (ix5 b c n h u)) := by
  pointwise [val_main_v95, val_main_v94, val_main_v93, val_main_v92]

/-- The sum of the exponentials. -/
theorem mass_apply (b : Fin 16) (c : Fin 16) (n : Fin 2) (h : Fin 8) (u : Fin 64) :
    val_main_v96 x (ix5 b c n h u) = AttnSpec.mass 16 AttnSpec.slope16 (seqs 16 128 rfl x 0 b c) (seqs 16 128 rfl x 1 b c) h (tokenOf n u) := by
  rw [val_main_v96_apply, AttnSpec.mass, ← AttnSpec.row_sum (isRow x b c n h u), ← top_apply]
  have hi : val_main_cst_18 (F := Ideal) (Shape.Idx.first h_S_) = (0 : EReal) := Ideal.ofBits_zero_f32
  rw [hi, zero_add]
  refine Finset.sum_congr rfl fun w _ => ?_
  rw [index_apply, shifted_apply]

/-- The log-sum-exp of a block. -/
theorem lse_apply (b : Fin 16) (c : Fin 16) (n : Fin 2) (h : Fin 8) (u : Fin 64) :
    val_main_v98 x (ix5 b c n h u) = AttnSpec.lse 16 AttnSpec.slope16 (seqs 16 128 rfl x 0 b c) (seqs 16 128 rfl x 1 b c) h (tokenOf n u) := by
  rw [val_main_v98_apply, val_main_v97_apply, top_apply, mass_apply]
  rfl

/-- The attention of a block. -/
theorem att_apply (b : Fin 16) (c : Fin 16) (n : Fin 2) (h : Fin 8) (d u : Fin 64) :
    val_main_v103 x (ix6 b c n h d u) = AttnSpec.att 16 AttnSpec.slope16 (seqs 16 128 rfl x 0 b c) (seqs 16 128 rfl x 1 b c) (seqs 16 128 rfl x 2 b c) h (tokenOf n u) d := by
  pointwise [val_main_v103, val_main_v102, val_main_v101, val_main_v100, val_main_v99]
  rw [lse_apply]
  simp only [mul_comm (val_main_v39 x _)]
  exact AttnSpec.row_weighted (isRow x b c n h u) _ (fun κ => seqs 16 128 rfl x 2 b c κ h d) (fun w => val_main_v39 x (ix6 b c n w h d))
    (fun w κ e => values_apply x b c n w h d κ e)

/-- The layout by pairs of heads. -/
theorem pairs_apply (s : (⟨S16x2048x8x64, .f32⟩ : BufTy).Contents (Elt Ideal)) (b : Fin 16) (p : Fin 4) (t : Fin 2048) (l : Fin 128) :
    transpose S16x4x2048x128 [0, 2, 1, 3] (shapeCast S16x2048x4x128 s shapeCasts_S16x2048x8x64_S16x2048x4x128)
      transposes_S16x2048x4x128_S16x4x2048x128_0_2_1_3 (ix4 b p t l)
    = s (ix4 b t ⟨p.val * 2 + l.val / 64, by omega⟩ ⟨l.val % 64, by omega⟩) := by
  pointwise

/-- The blocks of 64 put together. -/
theorem blocks_apply (s : (⟨S16x16x2x8x64x64, .f32⟩ : BufTy).Contents (Elt Ideal)) (b : Fin 16) (c : Fin 16) (t : Fin 128) (h : Fin 8) (d : Fin 64) :
    shapeCast S16x16x128x8x64 (transpose S16x16x2x64x8x64 [0, 1, 2, 5, 3, 4] s transposes_S16x16x2x8x64x64_S16x16x2x64x8x64_0_1_2_5_3_4)
      shapeCasts_S16x16x2x64x8x64_S16x16x128x8x64 (ix5 b c t h d)
    = s (ix6 b c ⟨t.val / 64, by omega⟩ h d ⟨t.val % 64, by omega⟩) := by
  pointwise

/-- The classes put together. -/
theorem classes_apply (s : (⟨S16x16x128x8x64, .f32⟩ : BufTy).Contents (Elt Ideal)) (b : Fin 16) (t : Fin 2048) (h : Fin 8) (d : Fin 64) :
    shapeCast S16x2048x8x64 (transpose S16x128x16x8x64 [0, 2, 1, 3, 4] s transposes_S16x16x128x8x64_S16x128x16x8x64_0_2_1_3_4)
      shapeCasts_S16x128x16x8x64_S16x2048x8x64 (ix4 b t h d)
    = s (ix5 b ⟨t.val % 16, by omega⟩ ⟨t.val / 16, by omega⟩ h d) := by
  pointwise

/-- The blocks of 64 put together, for the log-sum-exp. -/
theorem rows_apply (s : (⟨S16x16x2x8x64, .f32⟩ : BufTy).Contents (Elt Ideal)) (b : Fin 16) (c : Fin 16) (t : Fin 128) (h : Fin 8) :
    shapeCast S16x16x128x8 (transpose S16x16x2x64x8 [0, 1, 2, 4, 3] s transposes_S16x16x2x8x64_S16x16x2x64x8_0_1_2_4_3)
      shapeCasts_S16x16x2x64x8_S16x16x128x8 (ix4 b c t h)
    = s (ix5 b c ⟨t.val / 64, by omega⟩ h ⟨t.val % 64, by omega⟩) := by
  pointwise

/-- The log-sum-exp over the lanes of its head. -/
theorem lanes_apply (s : (⟨S16x16x128x8, .f32⟩ : BufTy).Contents (Elt Ideal)) (b : Fin 16) (t : Fin 2048) (h : Fin 8) (d : Fin 64) :
    broadcastInDim S16x2048x8x64 ![0, 1, 2, 3] bcast_S16x2048x8x1_S16x2048x8x64_0_1_2_3 (broadcastInDim S16x2048x8x1 ![0, 1, 2] bcast_S16x2048x8_S16x2048x8x1_0_1_2
      (shapeCast S16x2048x8 (transpose S16x128x16x8 [0, 2, 1, 3] s transposes_S16x16x128x8_S16x128x16x8_0_2_1_3) shapeCasts_S16x128x16x8_S16x2048x8)) (ix4 b t h d)
    = s (ix4 b ⟨t.val % 16, by omega⟩ ⟨t.val / 16, by omega⟩ h) := by
  pointwise

/-- The first result from the blocks. -/
theorem result_apply (b : Fin 16) (p : Fin 4) (t : Fin 2048) (l : Fin 128) : val_main_v113 x (ix4 b p t l)
    = val_main_v103 x (ix6 b ⟨t.val % 16, by omega⟩ ⟨t.val / 16 / 64, by omega⟩ ⟨p.val * 2 + l.val / 64, by omega⟩ ⟨l.val % 64, by omega⟩ ⟨t.val / 16 % 64, by omega⟩) := by
  unfold val_main_v113 val_main_v112 val_main_v107 val_main_v106 val_main_v105 val_main_v104
  generalize val_main_v103 x = s
  exact (pairs_apply _ b p t l).trans ((classes_apply _ b t _ _).trans (blocks_apply s b _ _ _ _))

/-- The second result from the blocks. -/
theorem result_lse_apply (b : Fin 16) (p : Fin 4) (t : Fin 2048) (l : Fin 128) : val_main_v117 x (ix4 b p t l)
    = val_main_v98 x (ix5 b ⟨t.val % 16, by omega⟩ ⟨t.val / 16 / 64, by omega⟩ ⟨p.val * 2 + l.val / 64, by omega⟩ ⟨t.val / 16 % 64, by omega⟩) := by
  unfold val_main_v117 val_main_v116 val_main_v115 val_main_v114 val_main_v111 val_main_v110 val_main_v109 val_main_v108
  generalize val_main_v98 x = s
  exact (pairs_apply _ b p t l).trans ((lanes_apply _ b t _ _).trans (rows_apply s b _ _ _))

/-- A lane's head. -/
theorem head_eq (p : Fin 4) (l : Fin 128) : (⟨p.val * 2 + l.val / 64, by omega⟩ : Fin 8) = AttnBlock.headOf p l :=
  Fin.ext (by show p.val * 2 + l.val / 64 = 2 * p.val + l.val / 64; omega)

/-- A token from its block and row. -/
theorem token_eq (t : Fin 2048) : tokenOf ⟨t.val / 16 / 64, by omega⟩ ⟨t.val / 16 % 64, by omega⟩ = placeOf 16 128 (by decide) rfl t :=
  Fin.ext (by show 64 * (t.val / 16 / 64) + t.val / 16 % 64 = t.val / 16; omega)

/-- A token's class. -/
theorem class_eq (t : Fin 2048) : (⟨t.val % 16, by omega⟩ : Fin 16) = classOf 16 (by decide) t.val := rfl

/-- The reference's first result. -/
theorem attention_eq : val_main_v113 x = Classes.attention 16 128 (by decide) rfl AttnSpec.slope16 x := by
  funext y
  idx_vars y
  have hd : (⟨y3.val % 64, by omega⟩ : Fin 64) = AttnBlock.dimOf y3 := rfl
  rw [result_apply, att_apply, token_eq, class_eq, head_eq, hd]
  rfl

/-- The reference's second result. -/
theorem logSumExp_eq : val_main_v117 x = Classes.logSumExp 16 128 (by decide) rfl AttnSpec.slope16 x := by
  funext y
  idx_vars y
  rw [result_lse_apply, lse_apply, token_eq, class_eq, head_eq]
  rfl

end Cert.Proof.AttnCReference

end
-- ==== Proof.AttnCClaim.lean ====
/- The claims about the attention programs of the group of dilation 16, put together: the frames, the named constant, and the equality of the
   kernel's two results with the reference's for finite queries and keys. -/
module

public import proofs.«01_k».proof.Defs
public import proofs.«01_k».proof.Proof.AttnClaim
public import proofs.«01_k».proof.Proof.AttnCValue
public import proofs.«01_k».proof.Proof.AttnCRun
public import proofs.«01_k».proof.Proof.AttnCReference
public import proofs.«01_k».proof.Proof.Gen.AttnCRefIdeal.Run
public import proofs.«01_k».proof.Proof.Gen.AttnCRefIdeal.Read
public import Idealize.ShloMosaic.Lib.Quiescent
public import Idealize.ShloMosaic.Lib.Pointwise

@[expose] public section

noncomputable section

namespace Cert.Proof.AttnCClaim

open Idealize.ShloMosaic Idealize.SL.Sem

/-- The kernel's frame, bit-exact. -/
theorem frame_p : Cert.quiescent_AttnC (hAttnC := Cert.AttnC.Gen.facts) := fun m ρ _ => Cert.AttnC.Hand.frame m ρ

/-- The kernel's frame over the extended reals. -/
theorem frame_pi : Cert.quiescent_AttnCIdeal (hAttnCIdeal := Cert.AttnCIdeal.Gen.facts) := fun m ρ _ => Cert.AttnCIdeal.Hand.frame m ρ

/-- The reference's frame. -/
theorem frame_ri : Cert.quiescent_AttnCRefIdeal (hAttnCRefIdeal := Cert.AttnCRefIdeal.Gen.facts) := fun m ρ _ =>
  (θ_run Cert.AttnCRefIdeal.defs _ _).mono (fun r h => ⟨fun c => (h c).2.2, sem_eq_zero_of_no_sems (by decide) r.2⟩)
    (Cert.AttnCRefIdeal.Value.run (F := Ideal) m ρ)

/-- The mask constant is the table's `⊥`. -/
theorem preserves : Cert.preserves_AttnC_AttnCIdeal :=
  IdealRules.named_const.statement Cert.AttnCIdeal.κ "mask" .f32 0xF149F2CA#32 ⊥ rfl

/-- The kernel's two results are the reference's, for finite queries and keys. -/
theorem algebraic : Cert.algebraic_AttnCIdeal_AttnCRefIdeal_pre_finite_qk (hAttnCIdeal := Cert.AttnCIdeal.Gen.facts)
    (hAttnCRefIdeal := Cert.AttnCRefIdeal.Gen.facts) (hPre_finite_qk := AttnClaim.preFacts) := fun m ρ m' ρ' hp hm => by
  refine ⟨fun c => Classes.attention 16 128 (by decide) rfl AttnSpec.slope16 (m ((c.tc : Thread Cert.AttnCIdeal.nD Cert.AttnCIdeal.τ).loc Cert.AttnCIdeal.main_arg0)),
    fun c => Classes.logSumExp 16 128 (by decide) rfl AttnSpec.slope16 (m ((c.tc : Thread Cert.AttnCIdeal.nD Cert.AttnCIdeal.τ).loc Cert.AttnCIdeal.main_arg0)), ?_, ?_⟩
  · exact AttnC.result m ρ fun c b t e he => AttnClaim.finite_entries _ (hp c) b t e he
  · refine (θ_run Cert.AttnCRefIdeal.defs _ _).mono (fun r h c => ⟨(h c).1.trans ?_, (h c).2.1.trans ?_, (h c).2.2⟩)
      (Cert.AttnCRefIdeal.Value.run (F := Ideal) m' ρ')
    · rw [Cert.AttnCRefIdeal.Read.val_main_v113_eq, AttnCReference.attention_eq, hm c]
    · rw [Cert.AttnCRefIdeal.Read.val_main_v117_eq, AttnCReference.logSumExp_eq, hm c]

end Cert.Proof.AttnCClaim

end
-- ==== Proof.NormValue.lean ====
/- The first norm: the kernel's array and the reference's are both the tokens, each normed. -/
module

public import proofs.«01_k».proof.Proof.Merging
public import proofs.«01_k».proof.Proof.Gen.NormIdeal.Value
public import proofs.«01_k».proof.Proof.Gen.NormRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Norm

open Idealize.ShloMosaic Idealize.ShloMosaic.TcCoe Idealize.SL.Sem Cert.NormIdeal Cert.NormIdeal.Gen Cert.NormIdeal.Facts
open Merging (normed)
open scoped BigOperators

/-- The tokens, each divided by the root of its mean square and scaled by the gains. -/
def tokens (X : Vec Ideal ⟨2, ![32768, 2048]⟩ .f32) (g : Vec Ideal ⟨1, ![2048]⟩ .f32) : FVec Ideal ⟨2, ![32768, 2048]⟩ .bf16 :=
  fun y => normed (fun k => X (ix2 (y 0) k)) (fun k => g (ix1 k)) (y 1)

/-- One block: its tokens' rows, normed. -/
theorem block (a : Vec Ideal S512x2048 .f32) (g : Vec Ideal S1x2048 .f32) (r : Fin 512) (n : Fin 2048) :
    out0_2 (F := Ideal) a g (ix2 r n) = normed (fun k => a (ix2 r k)) (fun k => g (ix2 0 k)) n := by
  unfold out0_2 r0_0 r0_1
  rw [View.canon_cons_unit_lit _ _ _ (by decide), View.ld_unit_lit _ _ (by decide), View.ld_unit_lit _ _ (by decide)]
  pointwise [k0_pay1]
  rfl

/-- Where the windows' blocks lie. -/
theorem index_facts : ∀ t : Fin cfg0.N, win0_0.index t 0 = (grid0.coords t 0).val ∧ win0_0.index t 1 = 0
    ∧ win0_1.index t 0 = 0 ∧ win0_1.index t 1 = 0 ∧ win0_2.index t 0 = (grid0.coords t 0).val ∧ win0_2.index t 1 = 0 := by
  decide +kernel

variable (m : (ℓ : Loc nD τ sig) → Buf (Elt Ideal) ℓ)

/-- The gains that the region reads are the argument's, as one row. -/
theorem entry_gains (c : Dev nD) (k : Fin 2048) : V m c main_v0 (ix2 0 k : S1x2048.Idx) = m (c, Proc.tc.devRef main_arg1) (ix1 k : S2048.Idx) := by
  unfold V
  entry_read
  pointwise []

/-- The block of gains, at an index. -/
theorem block_gains (c : Dev nD) (t : Fin cfg0.N) (k : Fin 2048) :
    iblk m c 1 t (ix2 0 k : S1x2048.Idx) = m (c, Proc.tc.devRef main_arg1) (ix1 k : S2048.Idx) := by
  have hx := index_facts t
  rw [← entry_gains m c k]
  blk_simp [iblk]
  refine congrArg (V m c main_v0) ?_
  blk_ext

/-- The kernel's result. -/
theorem arr (c : Dev nD) : (dats m 0 c).arrAt 2 cfg0.N
    = tokens (m (c, Proc.tc.devRef main_arg0)) (m (c, Proc.tc.devRef main_arg1)) := by
  refine (dats m 0 c).arrAt_eq_of_covers 2 _ (by decide +kernel) fun t hf y => ?_
  have hx := index_facts t
  blk_simp
  rw [after0_2]
  idx_vars y
  rw [block]
  simp only [block_gains]
  have e : ∀ k : Fin 2048, iblk m c 0 t (ix2 y0 k : S512x2048.Idx)
      = m (c, Proc.tc.devRef main_arg0) (ix2 (((View.whole main_v1).slice (win0_2.rect t)).emb (ix2 y0 y1) 0) k : S32768x2048.Idx) := fun k => by
    blk_simp [iblk]
    rw [V_main_arg0]
    refine congrArg (m (c, Proc.tc.devRef main_arg0)) ?_
    blk_ext
  simp only [e]
  refine congrArg (normed _ _) ?_
  apply Fin.ext
  blk_simp
  omega

/-- The reference's result. -/
theorem reference_eq (X : Vec Ideal S32768x2048 .f32) (g : Vec Ideal S2048 .f32) :
    Cert.NormRefIdeal.Read.val_main_v13 (F := Ideal) X g = tokens X g := by
  funext y
  idx_vars y
  pointwise [Cert.NormRefIdeal.Read.val_main_v13, Cert.NormRefIdeal.Read.val_main_v12, Cert.NormRefIdeal.Read.val_main_v11,
    Cert.NormRefIdeal.Read.val_main_v10, Cert.NormRefIdeal.Read.val_main_v9, Cert.NormRefIdeal.Read.val_main_v8, Cert.NormRefIdeal.Read.val_main_v7,
    Cert.NormRefIdeal.Read.val_main_v6, Cert.NormRefIdeal.Read.val_main_v5, Cert.NormRefIdeal.Read.val_main_v4, Cert.NormRefIdeal.Read.val_main_v3,
    Cert.NormRefIdeal.Read.val_main_v2, Cert.NormRefIdeal.Read.val_main_v1, Cert.NormRefIdeal.Read.val_main_v0, Cert.NormRefIdeal.Read.val_main_cst,
    Cert.NormRefIdeal.Read.val_main_cst_0, Cert.NormRefIdeal.Read.val_main_cst_1]
  rfl

end Cert.Proof.Norm

end
-- ==== Proof.NormClaim.lean ====
/- The claims about the first norm's programs, put together. -/
module

public import proofs.«01_k».proof.Defs
public import proofs.«01_k».proof.Proof.NormValue
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Quiescent

@[expose] public section

noncomputable section

namespace Cert.Proof.NormClaim

open Idealize.ShloMosaic Idealize.SL.Sem

/-- The kernel's frame, bit-exact. -/
theorem frame_p : Cert.quiescent_Norm (hNorm := Cert.Norm.Gen.facts) := fun m ρ _ => Cert.Norm.Gen.frame m ρ

/-- The kernel's frame over the extended reals. -/
theorem frame_pi : Cert.quiescent_NormIdeal (hNormIdeal := Cert.NormIdeal.Gen.facts) := fun m ρ _ => Cert.NormIdeal.Gen.frame m ρ

/-- The reference's frame. -/
theorem frame_ri : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run (F := Ideal) m ρ)

/-- No operation is replaced. -/
theorem preserves : Cert.preserves_Norm_NormIdeal := trivial

/-- The kernel's result is the reference's. -/
theorem algebraic : Cert.algebraic_NormIdeal_NormRefIdeal (hNormIdeal := Cert.NormIdeal.Gen.facts)
    (hNormRefIdeal := Cert.NormRefIdeal.Gen.facts) := fun m ρ m' ρ' _ hm => by
  refine ⟨fun c => (Cert.NormIdeal.Gen.dats m 0 c).arrAt 2 Cert.NormIdeal.cfg0.N, ?_, ?_⟩
  · exact Cert.NormIdeal.Value.run_blocks (F := Ideal) m ρ
  · refine (θ_run Cert.NormRefIdeal.defs _ _).mono (fun r h c => ⟨(h c).1.trans ?_, (h c).2⟩) (Cert.NormRefIdeal.Value.run (F := Ideal) m' ρ')
    beta_reduce
    rw [Norm.arr, ← Norm.reference_eq, ← (hm c).1, ← (hm c).2]
    exact Cert.NormRefIdeal.Read.val_main_v13_eq _ _

end Cert.Proof.NormClaim

end
-- ==== Proof.ShortValue.lean ====
/- The short convolution of the Hyena inputs and the product of its second and third part: the kernel's arrays and the
   reference's are both the sum over three neighbouring tokens. -/
module

public import proofs.«01_k».proof.Proof.Words
public import proofs.«01_k».proof.Proof.Gen.ShortIdeal.Value
public import proofs.«01_k».proof.Proof.Gen.ShortRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Short

open Idealize.ShloMosaic Idealize.ShloMosaic.TcCoe Idealize.SL.Sem Cert.ShortIdeal Cert.ShortIdeal.Gen Cert.ShortIdeal.Facts

/-- The convolution of one channel at a token: the token before it, itself and the one after it, by three weights, on top
    of a bias. There is a zero before the first token and after the last. -/
def taps (u : Fin 2048 → EReal) (w : Fin 3 → EReal) (b : EReal) (t : Fin 2048) : EReal :=
  b + (if h : t.val = 0 then 0 else u ⟨t.val - 1, by omega⟩) * w 0 + u t * w 1
    + (if h : t.val = 2047 then 0 else u ⟨t.val + 1, by omega⟩) * w 2

/-- The convolution of a channel of a sequence. -/
def conv (X : Vec Ideal ⟨3, ![16, 2048, 3072]⟩ .bf16) (w : Vec Ideal ⟨2, ![3, 3072]⟩ .f32) (b : Vec Ideal ⟨1, ![3072]⟩ .f32)
    (s : Fin 16) (t : Fin 2048) (c : Fin 3072) : EReal :=
  taps (fun t' => X (ix3 s t' c)) (fun k => w (ix2 k c)) (b (ix1 c)) t

/-- The convolution at the same place. -/
theorem conv_congr {X : Vec Ideal ⟨3, ![16, 2048, 3072]⟩ .bf16} {w : Vec Ideal ⟨2, ![3, 3072]⟩ .f32} {b : Vec Ideal ⟨1, ![3072]⟩ .f32}
    {s s' : Fin 16} {t t' : Fin 2048} {c c' : Fin 3072} (hs : s.val = s'.val) (ht : t.val = t'.val) (hc : c.val = c'.val) :
    conv X w b s t c = conv X w b s' t' c' := by
  rw [Fin.ext hs, Fin.ext ht, Fin.ext hc]

/-- The first result: the first part of the channels. -/
def gates (X : Vec Ideal ⟨3, ![16, 2048, 3072]⟩ .bf16) (w : Vec Ideal ⟨2, ![3, 3072]⟩ .f32) (b : Vec Ideal ⟨1, ![3072]⟩ .f32) :
    FVec Ideal ⟨3, ![16, 2048, 1024]⟩ .bf16 :=
  fun y => conv X w b (y 0) (y 1) ⟨(y 2).val, lt_trans (y 2).isLt (by decide)⟩

/-- The second result: the product of the third part and the second. -/
def products (X : Vec Ideal ⟨3, ![16, 2048, 3072]⟩ .bf16) (w : Vec Ideal ⟨2, ![3, 3072]⟩ .f32) (b : Vec Ideal ⟨1, ![3072]⟩ .f32) :
    FVec Ideal ⟨3, ![16, 2048, 1024]⟩ .bf16 :=
  fun y => conv X w b (y 0) (y 1) ⟨2048 + (y 2).val, Nat.add_lt_add_left (y 2).isLt 2048⟩
    * conv X w b (y 0) (y 1) ⟨1024 + (y 2).val, lt_trans (Nat.add_lt_add_left (y 2).isLt 1024) (by decide)⟩

/-- The mask of a block's first row. -/
theorem first_apply (t : Fin 2048) (c : Fin 512) : k0_pay2 (ix2 t c) = 1#1 ↔ t.val = 0 := by
  pointwise [k0_pay2]
  refine (Words.bool_eq_one _).trans ?_
  rw [beq_iff_eq, ← BitVec.toNat_inj, BitVec.toNat_ofNat, BitVec.toNat_ofNat, Nat.mod_eq_of_lt (lt_trans t.isLt (by decide)),
    Nat.mod_eq_of_lt (by decide)]

/-- The mask of a block's last row. -/
theorem last_apply (t : Fin 2048) (c : Fin 512) : k0_pay3 (ix2 t c) = 1#1 ↔ t.val = 2047 := by
  pointwise [k0_pay3]
  refine (Words.bool_eq_one _).trans ?_
  rw [beq_iff_eq, ← BitVec.toNat_inj, BitVec.toNat_ofNat, BitVec.toNat_ofNat, Nat.mod_eq_of_lt (lt_trans t.isLt (by decide)),
    Nat.mod_eq_of_lt (by decide)]

/-- With the neighbours taken from the rolled sequence and the two ends masked, the convolution is the same. -/
theorem taps_rolled (u : Fin 2048 → EReal) (w : Fin 3 → EReal) (b : EReal) (t : Fin 2048) (p q : BitVec 1)
    (hp : p = 1#1 ↔ t.val = 0) (hq : q = 1#1 ↔ t.val = 2047) :
    b + Scalar.select p 0 (u ⟨(t.val + 2048 - 1) % 2048, Nat.mod_lt _ (by decide)⟩ * w 0) + u t * w 1
      + Scalar.select q 0 (u ⟨(t.val + 2048 - 2047) % 2048, Nat.mod_lt _ (by decide)⟩ * w 2) = taps u w b t := by
  have h := t.isLt
  have e0 : (if t.val = 0 then 0 else u ⟨(t.val + 2048 - 1) % 2048, Nat.mod_lt _ (by decide)⟩ * w 0)
      = (if h : t.val = 0 then 0 else u ⟨t.val - 1, by omega⟩) * w 0 := by
    split_ifs with c
    · rw [zero_mul]
    · refine congrArg (fun k => u k * w 0) (Fin.ext ?_)
      show (t.val + 2048 - 1) % 2048 = t.val - 1
      omega
  have e2 : (if t.val = 2047 then 0 else u ⟨(t.val + 2048 - 2047) % 2048, Nat.mod_lt _ (by decide)⟩ * w 2)
      = (if h : t.val = 2047 then 0 else u ⟨t.val + 1, by omega⟩) * w 2 := by
    split_ifs with c
    · rw [zero_mul]
    · refine congrArg (fun k => u k * w 2) (Fin.ext ?_)
      show (t.val + 2048 - 2047) % 2048 = t.val + 1
      omega
  rw [Words.select_iff hp, Words.select_iff hq, e0, e2]
  rfl

/-- A block of the first result. -/
theorem block9 (x0 x1 x2 : Vec Ideal S1x2048x512 .bf16) (x3 x4 x5 : Vec Ideal S3x512 .f32) (x6 x7 x8 : Vec Ideal S1x512 .f32) (t : Fin 2048) (c : Fin 512) :
    out0_9 x0 x1 x2 x3 x4 x5 x6 x7 x8 (ix3 0 t c) = taps (fun t' => x0 (ix3 0 t' c)) (fun k => x3 (ix2 k c)) (x6 (ix2 0 c)) t := by
  unfold out0_9 r0_0 r0_1
  rw [View.canon_cons_unit_lit _ _ _ (by decide), View.ld_unit_lit _ _ (by decide), View.ld_unit_lit _ _ (by decide)]
  pointwise [k0_pay4]
  exact taps_rolled (fun t' => x0 (ix3 0 t' c)) (fun k => x3 (ix2 k c)) (x6 (ix2 0 c)) t _ _ (first_apply t c) (last_apply t c)

/-- A block of the second result. -/
theorem block10 (x0 x1 x2 : Vec Ideal S1x2048x512 .bf16) (x3 x4 x5 : Vec Ideal S3x512 .f32) (x6 x7 x8 : Vec Ideal S1x512 .f32) (t : Fin 2048) (c : Fin 512) :
    out0_10 x0 x1 x2 x3 x4 x5 x6 x7 x8 (ix3 0 t c) = taps (fun t' => x2 (ix3 0 t' c)) (fun k => x5 (ix2 k c)) (x8 (ix2 0 c)) t
      * taps (fun t' => x1 (ix3 0 t' c)) (fun k => x4 (ix2 k c)) (x7 (ix2 0 c)) t := by
  unfold out0_10 r0_0 r0_1
  rw [View.canon_cons_unit_lit _ _ _ (by decide)]
  rw [View.ld_unit_lit _ _ (by decide), View.ld_unit_lit _ _ (by decide), View.ld_unit_lit _ _ (by decide), View.ld_unit_lit _ _ (by decide)]
  pointwise [k0_pay1, k0_pay5, k0_pay6, k0_pay7, k0_pay8, k0_pay9, k0_pay10, k0_pay11]
  exact congrArg₂ (· * ·)
    (taps_rolled (fun t' => x2 (ix3 0 t' c)) (fun k => x5 (ix2 k c)) (x8 (ix2 0 c)) t _ _ (first_apply t c) (last_apply t c))
    (taps_rolled (fun t' => x1 (ix3 0 t' c)) (fun k => x4 (ix2 k c)) (x7 (ix2 0 c)) t _ _ (first_apply t c) (last_apply t c))

/-- Where the windows' blocks lie. -/
theorem index_facts : ∀ t : Fin cfg0.N, (grid0.coords t 0).val < 16 ∧ (grid0.coords t 1).val < 2
    ∧ win0_0.index t 0 = (grid0.coords t 0).val ∧ win0_0.index t 1 = 0 ∧ win0_0.index t 2 = (grid0.coords t 1).val
    ∧ win0_1.index t 0 = (grid0.coords t 0).val ∧ win0_1.index t 1 = 0 ∧ win0_1.index t 2 = 2 + (grid0.coords t 1).val
    ∧ win0_2.index t 0 = (grid0.coords t 0).val ∧ win0_2.index t 1 = 0 ∧ win0_2.index t 2 = 4 + (grid0.coords t 1).val
    ∧ win0_3.index t 0 = 0 ∧ win0_3.index t 1 = (grid0.coords t 1).val
    ∧ win0_4.index t 0 = 0 ∧ win0_4.index t 1 = 2 + (grid0.coords t 1).val
    ∧ win0_5.index t 0 = 0 ∧ win0_5.index t 1 = 4 + (grid0.coords t 1).val
    ∧ win0_6.index t 0 = 0 ∧ win0_6.index t 1 = (grid0.coords t 1).val
    ∧ win0_7.index t 0 = 0 ∧ win0_7.index t 1 = 2 + (grid0.coords t 1).val
    ∧ win0_8.index t 0 = 0 ∧ win0_8.index t 1 = 4 + (grid0.coords t 1).val
    ∧ win0_9.index t 0 = (grid0.coords t 0).val ∧ win0_9.index t 1 = 0 ∧ win0_9.index t 2 = (grid0.coords t 1).val
    ∧ win0_10.index t 0 = (grid0.coords t 0).val ∧ win0_10.index t 1 = 0 ∧ win0_10.index t 2 = (grid0.coords t 1).val := by
  decide +kernel

/-- A channel of a block, among all. -/
def channel (p : ℕ) (t : Fin cfg0.N) (n : Fin 512) (hp : p ≤ 2) : Fin 3072 :=
  ⟨1024 * p + 512 * (grid0.coords t 1).val + n.val, by have := (index_facts t).2.1; have := n.isLt; omega⟩

variable (m : (ℓ : Loc nD τ sig) → Buf (Elt Ideal) ℓ)

/-- The biases that the region reads are the argument's, as one row. -/
theorem entry_bias (c : Dev nD) (k : Fin 3072) : V m c main_v0 (ix2 0 k : S1x3072.Idx) = m (c, Proc.tc.devRef main_arg2) (ix1 k : S3072.Idx) := by
  unfold V
  entry_read
  pointwise []

/-- The first part's block of inputs. -/
theorem inputs_0 (c : Dev nD) (t : Fin cfg0.N) (r : Fin 2048) (n : Fin 512) : iblk m c 0 t (ix3 0 r n : S1x2048x512.Idx)
    = m (c, Proc.tc.devRef main_arg0) (ix3 ⟨(grid0.coords t 0).val, (index_facts t).1⟩ r (channel 0 t n (by decide)) : S16x2048x3072.Idx) := by
  have hx := index_facts t
  blk_simp [iblk]
  rw [V_main_arg0]
  refine congrArg (m (c, Proc.tc.devRef main_arg0)) ?_
  unfold channel
  blk_ext

/-- The first part's block of weights. -/
theorem weights_0 (c : Dev nD) (t : Fin cfg0.N) (k : Fin 3) (n : Fin 512) : iblk m c 3 t (ix2 k n : S3x512.Idx)
    = m (c, Proc.tc.devRef main_arg1) (ix2 k (channel 0 t n (by decide)) : S3x3072.Idx) := by
  have hx := index_facts t
  blk_simp [iblk]
  rw [V_main_arg1]
  refine congrArg (m (c, Proc.tc.devRef main_arg1)) ?_
  unfold channel
  blk_ext

/-- The first part's block of biases. -/
theorem biases_0 (c : Dev nD) (t : Fin cfg0.N) (n : Fin 512) : iblk m c 6 t (ix2 0 n : S1x512.Idx)
    = m (c, Proc.tc.devRef main_arg2) (ix1 (channel 0 t n (by decide)) : S3072.Idx) := by
  have hx := index_facts t
  rw [← entry_bias m c]
  blk_simp [iblk]
  refine congrArg (V m c main_v0) ?_
  unfold channel
  blk_ext

/-- The second part's block of inputs. -/
theorem inputs_1 (c : Dev nD) (t : Fin cfg0.N) (r : Fin 2048) (n : Fin 512) : iblk m c 1 t (ix3 0 r n : S1x2048x512.Idx)
    = m (c, Proc.tc.devRef main_arg0) (ix3 ⟨(grid0.coords t 0).val, (index_facts t).1⟩ r (channel 1 t n (by decide)) : S16x2048x3072.Idx) := by
  have hx := index_facts t
  blk_simp [iblk]
  rw [V_main_arg0]
  refine congrArg (m (c, Proc.tc.devRef main_arg0)) ?_
  unfold channel
  blk_ext

/-- The second part's block of weights. -/
theorem weights_1 (c : Dev nD) (t : Fin cfg0.N) (k : Fin 3) (n : Fin 512) : iblk m c 4 t (ix2 k n : S3x512.Idx)
    = m (c, Proc.tc.devRef main_arg1) (ix2 k (channel 1 t n (by decide)) : S3x3072.Idx) := by
  have hx := index_facts t
  blk_simp [iblk]
  rw [V_main_arg1]
  refine congrArg (m (c, Proc.tc.devRef main_arg1)) ?_
  unfold channel
  blk_ext

/-- The second part's block of biases. -/
theorem biases_1 (c : Dev nD) (t : Fin cfg0.N) (n : Fin 512) : iblk m c 7 t (ix2 0 n : S1x512.Idx)
    = m (c, Proc.tc.devRef main_arg2) (ix1 (channel 1 t n (by decide)) : S3072.Idx) := by
  have hx := index_facts t
  rw [← entry_bias m c]
  blk_simp [iblk]
  refine congrArg (V m c main_v0) ?_
  unfold channel
  blk_ext

/-- The third part's block of inputs. -/
theorem inputs_2 (c : Dev nD) (t : Fin cfg0.N) (r : Fin 2048) (n : Fin 512) : iblk m c 2 t (ix3 0 r n : S1x2048x512.Idx)
    = m (c, Proc.tc.devRef main_arg0) (ix3 ⟨(grid0.coords t 0).val, (index_facts t).1⟩ r (channel 2 t n (by decide)) : S16x2048x3072.Idx) := by
  have hx := index_facts t
  blk_simp [iblk]
  rw [V_main_arg0]
  refine congrArg (m (c, Proc.tc.devRef main_arg0)) ?_
  unfold channel
  blk_ext

/-- The third part's block of weights. -/
theorem weights_2 (c : Dev nD) (t : Fin cfg0.N) (k : Fin 3) (n : Fin 512) : iblk m c 5 t (ix2 k n : S3x512.Idx)
    = m (c, Proc.tc.devRef main_arg1) (ix2 k (channel 2 t n (by decide)) : S3x3072.Idx) := by
  have hx := index_facts t
  blk_simp [iblk]
  rw [V_main_arg1]
  refine congrArg (m (c, Proc.tc.devRef main_arg1)) ?_
  unfold channel
  blk_ext

/-- The third part's block of biases. -/
theorem biases_2 (c : Dev nD) (t : Fin cfg0.N) (n : Fin 512) : iblk m c 8 t (ix2 0 n : S1x512.Idx)
    = m (c, Proc.tc.devRef main_arg2) (ix1 (channel 2 t n (by decide)) : S3072.Idx) := by
  have hx := index_facts t
  rw [← entry_bias m c]
  blk_simp [iblk]
  refine congrArg (V m c main_v0) ?_
  unfold channel
  blk_ext

/-- The kernel's first result. -/
theorem arr_9 (c : Dev nD) : (dats m 0 c).arrAt 9 cfg0.N
    = gates (m (c, Proc.tc.devRef main_arg0)) (m (c, Proc.tc.devRef main_arg1)) (m (c, Proc.tc.devRef main_arg2)) := by
  refine (dats m 0 c).arrAt_eq_of_covers 9 _ (by decide +kernel) fun t hf y => ?_
  have hx := index_facts t
  blk_simp
  rw [after0_9]
  idx_vars y
  obtain rfl : y0 = 0 := Subsingleton.elim _ _
  rw [block9]
  simp only [inputs_0, weights_0, biases_0]
  refine conv_congr ?_ ?_ ?_
  · blk_simp
    simp only [Fin.val_mk]
    omega
  · blk_simp
    omega
  · unfold channel
    blk_simp
    simp only [Fin.val_mk]
    omega

/-- The kernel's second result. -/
theorem arr_10 (c : Dev nD) : (dats m 0 c).arrAt 10 cfg0.N
    = products (m (c, Proc.tc.devRef main_arg0)) (m (c, Proc.tc.devRef main_arg1)) (m (c, Proc.tc.devRef main_arg2)) := by
  refine (dats m 0 c).arrAt_eq_of_covers 10 _ (by decide +kernel) fun t hf y => ?_
  have hx := index_facts t
  blk_simp
  rw [after0_10]
  idx_vars y
  obtain rfl : y0 = 0 := Subsingleton.elim _ _
  rw [block10]
  simp only [inputs_2, weights_2, biases_2, inputs_1, weights_1, biases_1]
  refine congrArg₂ (· * ·) (conv_congr ?_ ?_ ?_) (conv_congr ?_ ?_ ?_)
  · blk_simp
    simp only [Fin.val_mk]
    omega
  · blk_simp
    omega
  · unfold channel
    blk_simp
    simp only [Fin.val_mk]
    omega
  · blk_simp
    simp only [Fin.val_mk]
    omega
  · blk_simp
    omega
  · unfold channel
    blk_simp
    simp only [Fin.val_mk]
    omega

/-- The reference's convolution. -/
theorem conv_apply (X : Vec Ideal S16x2048x3072 .bf16) (w : Vec Ideal S3x3072 .f32) (b : Vec Ideal S3072 .f32) (s : Fin 16) (t : Fin 2048) (c : Fin 3072) :
    Cert.ShortRefIdeal.Read.val_main_v24 (F := Ideal) X w b (ix3 s t c) = conv X w b s t c := by
  pointwise [Cert.ShortRefIdeal.Read.val_main_v24, Cert.ShortRefIdeal.Read.val_main_v23, Cert.ShortRefIdeal.Read.val_main_v22, Cert.ShortRefIdeal.Read.val_main_v21, Cert.ShortRefIdeal.Read.val_main_v20, Cert.ShortRefIdeal.Read.val_main_v19, Cert.ShortRefIdeal.Read.val_main_v18, Cert.ShortRefIdeal.Read.val_main_v17, Cert.ShortRefIdeal.Read.val_main_v16, Cert.ShortRefIdeal.Read.val_main_v15, Cert.ShortRefIdeal.Read.val_main_v14, Cert.ShortRefIdeal.Read.val_main_v13, Cert.ShortRefIdeal.Read.val_main_v12, Cert.ShortRefIdeal.Read.val_main_v11, Cert.ShortRefIdeal.Read.val_main_v10, Cert.ShortRefIdeal.Read.val_main_v9, Cert.ShortRefIdeal.Read.val_main_v8, Cert.ShortRefIdeal.Read.val_main_v7, Cert.ShortRefIdeal.Read.val_main_v6, Cert.ShortRefIdeal.Read.val_main_v5, Cert.ShortRefIdeal.Read.val_main_v4, Cert.ShortRefIdeal.Read.val_main_v3, Cert.ShortRefIdeal.Read.val_main_v2, Cert.ShortRefIdeal.Read.val_main_v1, Cert.ShortRefIdeal.Read.val_main_v0, Cert.ShortRefIdeal.Read.val_main_call0_v0]
  have h := t.isLt
  have z : FloatOps.sitofp (F := Ideal) .f32 (Cert.ShortRefIdeal.Read.val_main_c (F := Ideal) (Shape.Idx.first Cert.ShortRefIdeal.Gen.h_S_)) = 0 :=
    (Words.sitofp_eq (a := 0) (by decide)).trans (by simp)
  have e0 : (if h : 1 ≤ t.val ∧ t.val - 1 < 2048 then X (ix3 s ⟨t.val - 1, h.2⟩ c) else 0)
      = if h : t.val = 0 then 0 else X (ix3 s ⟨t.val - 1, by omega⟩ c) := by
    split_ifs <;> first | rfl | omega
  have e2 : (if h : 1 ≤ 2 + t.val ∧ 2 + t.val - 1 < 2048 then X (ix3 s ⟨2 + t.val - 1, h.2⟩ c) else 0)
      = if h : t.val = 2047 then 0 else X (ix3 s ⟨t.val + 1, by omega⟩ c) := by
    split_ifs
    · omega
    · exact congrArg (fun k => X (ix3 s k c)) (Fin.ext (by show 2 + t.val - 1 = t.val + 1; omega))
    · rfl
    · omega
  rw [z]
  refine (congrArg₂ (fun a d => b (ix1 c) + a * w (ix2 0 c) + X (ix3 s t c) * w (ix2 1 c) + d * w (ix2 2 c)) e0 e2).trans ?_
  rfl

/-- The reference's first result. -/
theorem reference_gates (X : Vec Ideal S16x2048x3072 .bf16) (w : Vec Ideal S3x3072 .f32) (b : Vec Ideal S3072 .f32) :
    Cert.ShortRefIdeal.Read.val_main_v28 (F := Ideal) X w b = gates X w b := by
  funext y
  idx_vars y
  pointwise [Cert.ShortRefIdeal.Read.val_main_v28, Cert.ShortRefIdeal.Read.val_main_v25]
  rw [conv_apply]
  rfl

/-- The reference's second result. -/
theorem reference_products (X : Vec Ideal S16x2048x3072 .bf16) (w : Vec Ideal S3x3072 .f32) (b : Vec Ideal S3072 .f32) :
    Cert.ShortRefIdeal.Read.val_main_v30 (F := Ideal) X w b = products X w b := by
  funext y
  idx_vars y
  pointwise [Cert.ShortRefIdeal.Read.val_main_v30, Cert.ShortRefIdeal.Read.val_main_v29, Cert.ShortRefIdeal.Read.val_main_v27,
    Cert.ShortRefIdeal.Read.val_main_v26]
  rw [conv_apply, conv_apply]
  rfl

end Cert.Proof.Short

end
-- ==== Proof.ShortClaim.lean ====
/- The claims about the short convolution's programs, put together. -/
module

public import proofs.«01_k».proof.Defs
public import proofs.«01_k».proof.Proof.ShortValue
public import proofs.«01_k».proof.Proof.Gen.Short.Frame
public import proofs.«01_k».proof.Proof.Gen.ShortIdeal.Value
public import proofs.«01_k».proof.Proof.Gen.ShortRefIdeal.Run
public import proofs.«01_k».proof.Proof.Gen.ShortRefIdeal.Read
public import Idealize.ShloMosaic.Lib.Quiescent

@[expose] public section

noncomputable section

namespace Cert.Proof.ShortClaim

open Idealize.ShloMosaic Idealize.SL.Sem

/-- The kernel's frame, bit-exact. -/
theorem frame_p : Cert.quiescent_Short (hShort := Cert.Short.Gen.facts) := fun m ρ _ => Cert.Short.Gen.frame m ρ

/-- The kernel's frame over the extended reals. -/
theorem frame_pi : Cert.quiescent_ShortIdeal (hShortIdeal := Cert.ShortIdeal.Gen.facts) := fun m ρ _ => Cert.ShortIdeal.Gen.frame m ρ

/-- The reference's frame. -/
theorem frame_ri : Cert.quiescent_ShortRefIdeal (hShortRefIdeal := Cert.ShortRefIdeal.Gen.facts) := fun m ρ _ =>
  (θ_run Cert.ShortRefIdeal.defs _ _).mono (fun r h => ⟨fun c => (h c).2.2, sem_eq_zero_of_no_sems (by decide) r.2⟩)
    (Cert.ShortRefIdeal.Value.run (F := Ideal) m ρ)

/-- No operation is replaced. -/
theorem preserves : Cert.preserves_Short_ShortIdeal := trivial

/-- The kernel's two results are the reference's. -/
theorem algebraic : Cert.algebraic_ShortIdeal_ShortRefIdeal (hShortIdeal := Cert.ShortIdeal.Gen.facts)
    (hShortRefIdeal := Cert.ShortRefIdeal.Gen.facts) := fun m ρ m' ρ' _ hm => by
  refine ⟨fun c => (Cert.ShortIdeal.Gen.dats m 0 c).arrAt 9 Cert.ShortIdeal.cfg0.N,
    fun c => (Cert.ShortIdeal.Gen.dats m 0 c).arrAt 10 Cert.ShortIdeal.cfg0.N, ?_, ?_⟩
  · exact Cert.ShortIdeal.Value.run_blocks (F := Ideal) m ρ
  · refine (θ_run Cert.ShortRefIdeal.defs _ _).mono (fun r h c => ⟨(h c).1.trans ?_, (h c).2.1.trans ?_, (h c).2.2⟩)
      (Cert.ShortRefIdeal.Value.run (F := Ideal) m' ρ')
    · beta_reduce
      rw [Short.arr_9, ← Short.reference_gates, ← (hm c).1, ← (hm c).2.1, ← (hm c).2.2]
      exact Cert.ShortRefIdeal.Read.val_main_v28_eq _ _ _
    · beta_reduce
      rw [Short.arr_10, ← Short.reference_products, ← (hm c).1, ← (hm c).2.1, ← (hm c).2.2]
      exact Cert.ShortRefIdeal.Read.val_main_v30_eq m' c

end Cert.Proof.ShortClaim

end
-- ==== Proof.lean ====
/- The claims of the certificate: the frames, the named constant and the value claim of each program, proved in the
   modules under Proof/. -/
module

public import proofs.«01_k».proof.Proof.Gen.AttnB
public import proofs.«01_k».proof.Proof.Gen.AttnB.Frame
public import proofs.«01_k».proof.Proof.Gen.AttnB.Skeleton
public import proofs.«01_k».proof.Proof.Gen.AttnBIdeal
public import proofs.«01_k».proof.Proof.Gen.AttnBIdeal.Frame
public import proofs.«01_k».proof.Proof.Gen.AttnBIdeal.Skeleton
public import proofs.«01_k».proof.Proof.Gen.AttnBRefIdeal.Run
public import proofs.«01_k».proof.Proof.Gen.AttnBRefIdeal.Read
public import proofs.«01_k».proof.Proof.Gen.AttnC
public import proofs.«01_k».proof.Proof.Gen.AttnC.Frame
public import proofs.«01_k».proof.Proof.Gen.AttnC.Skeleton
public import proofs.«01_k».proof.Proof.Gen.AttnCIdeal
public import proofs.«01_k».proof.Proof.Gen.AttnCIdeal.Frame
public import proofs.«01_k».proof.Proof.Gen.AttnCIdeal.Skeleton
public import proofs.«01_k».proof.Proof.Gen.AttnCRefIdeal.Run
public import proofs.«01_k».proof.Proof.Gen.AttnCRefIdeal.Read
public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Short
public import proofs.«01_k».proof.Proof.Gen.Short.Frame
public import proofs.«01_k».proof.Proof.Gen.ShortIdeal
public import proofs.«01_k».proof.Proof.Gen.ShortIdeal.Frame
public import proofs.«01_k».proof.Proof.Gen.ShortIdeal.Value
public import proofs.«01_k».proof.Proof.Gen.ShortRefIdeal
public import proofs.«01_k».proof.Proof.Gen.ShortRefIdeal.Run
public import proofs.«01_k».proof.Proof.Gen.ShortRefIdeal.Read
public import proofs.«01_k».proof.Proof.Gen.HProj
public import proofs.«01_k».proof.Proof.Gen.HProj.Frame
public import proofs.«01_k».proof.Proof.Gen.HProjIdeal
public import proofs.«01_k».proof.Proof.Gen.HProjIdeal.Frame
public import proofs.«01_k».proof.Proof.Gen.HProjIdeal.Value
public import proofs.«01_k».proof.Proof.Gen.HProjRefIdeal
public import proofs.«01_k».proof.Proof.Gen.HProjRefIdeal.Run
public import proofs.«01_k».proof.Proof.Gen.HProjRefIdeal.Read
public import proofs.«01_k».proof.Proof.Gen.GLog
public import proofs.«01_k».proof.Proof.Gen.GLog.Frame
public import proofs.«01_k».proof.Proof.Gen.GLogIdeal
public import proofs.«01_k».proof.Proof.Gen.GLogIdeal.Frame
public import proofs.«01_k».proof.Proof.Gen.GLogIdeal.Value
public import proofs.«01_k».proof.Proof.Gen.GLogRefIdeal
public import proofs.«01_k».proof.Proof.Gen.GLogRefIdeal.Run
public import proofs.«01_k».proof.Proof.Gen.GLogRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Qkv0
public import proofs.«01_k».proof.Proof.Gen.Qkv0.Frame
public import proofs.«01_k».proof.Proof.Gen.Qkv0.Skeleton
public import proofs.«01_k».proof.Proof.Gen.Qkv0Ideal
public import proofs.«01_k».proof.Proof.Gen.Qkv0Ideal.Frame
public import proofs.«01_k».proof.Proof.Gen.Qkv0Ideal.Skeleton
public import proofs.«01_k».proof.Proof.Gen.Qkv0RefIdeal
public import proofs.«01_k».proof.Proof.Gen.Qkv0RefIdeal.Run
public import proofs.«01_k».proof.Proof.Gen.Qkv0RefIdeal.Read
public import proofs.«01_k».proof.Proof.Gen.Qkv1
public import proofs.«01_k».proof.Proof.Gen.Qkv1.Frame
public import proofs.«01_k».proof.Proof.Gen.Qkv1.Skeleton
public import proofs.«01_k».proof.Proof.Gen.Qkv1Ideal
public import proofs.«01_k».proof.Proof.Gen.Qkv1Ideal.Frame
public import proofs.«01_k».proof.Proof.Gen.Qkv1Ideal.Skeleton
public import proofs.«01_k».proof.Proof.Gen.Qkv1RefIdeal
public import proofs.«01_k».proof.Proof.Gen.Qkv1RefIdeal.Run
public import proofs.«01_k».proof.Proof.Gen.Qkv1RefIdeal.Read
public import proofs.«01_k».proof.Proof.Gen.Qkv2
public import proofs.«01_k».proof.Proof.Gen.Qkv2.Frame
public import proofs.«01_k».proof.Proof.Gen.Qkv2.Skeleton
public import proofs.«01_k».proof.Proof.Gen.Qkv2Ideal
public import proofs.«01_k».proof.Proof.Gen.Qkv2Ideal.Frame
public import proofs.«01_k».proof.Proof.Gen.Qkv2Ideal.Skeleton
public import proofs.«01_k».proof.Proof.Gen.Qkv2RefIdeal
public import proofs.«01_k».proof.Proof.Gen.Qkv2RefIdeal.Run
public import proofs.«01_k».proof.Proof.Gen.Qkv2RefIdeal.Read
public import proofs.«01_k».proof.Proof.AttnClaim
public import proofs.«01_k».proof.Proof.HProjClaim
public import proofs.«01_k».proof.Proof.GLogClaim
public import proofs.«01_k».proof.Proof.MergeClaim
public import proofs.«01_k».proof.Proof.Qkv0Claim
public import proofs.«01_k».proof.Proof.Qkv1Claim
public import proofs.«01_k».proof.Proof.Qkv2Claim
public import proofs.«01_k».proof.Proof.AttnBClaim
public import proofs.«01_k».proof.Proof.AttnCClaim
public import proofs.«01_k».proof.Proof.NormClaim
public import proofs.«01_k».proof.Proof.ShortClaim

@[expose] public section

noncomputable section

namespace Cert.Proof

/-- Everything the certificate claims. -/
theorem claim : Cert.Claim :=
  ⟨Cert.Attn.Gen.facts, Cert.AttnIdeal.Gen.facts, Cert.AttnRefIdeal.Gen.facts, Cert.HProj.Gen.facts,
    Cert.HProjIdeal.Gen.facts, Cert.HProjRefIdeal.Gen.facts, Cert.GLog.Gen.facts, Cert.GLogIdeal.Gen.facts,
    Cert.GLogRefIdeal.Gen.facts, Cert.Merge.Gen.facts, Cert.MergeIdeal.Gen.facts, Cert.MergeRefIdeal.Gen.facts,
    Cert.Qkv0.Gen.facts, Cert.Qkv0Ideal.Gen.facts, Cert.Qkv0RefIdeal.Gen.facts,
    Cert.Qkv1.Gen.facts, Cert.Qkv1Ideal.Gen.facts, Cert.Qkv1RefIdeal.Gen.facts,
    Cert.Qkv2.Gen.facts, Cert.Qkv2Ideal.Gen.facts, Cert.Qkv2RefIdeal.Gen.facts,
    Cert.AttnB.Gen.facts, Cert.AttnBIdeal.Gen.facts, Cert.AttnBRefIdeal.Gen.facts,
    Cert.AttnC.Gen.facts, Cert.AttnCIdeal.Gen.facts, Cert.AttnCRefIdeal.Gen.facts,
    Cert.Norm.Gen.facts, Cert.NormIdeal.Gen.facts, Cert.NormRefIdeal.Gen.facts,
    Cert.Short.Gen.facts, Cert.ShortIdeal.Gen.facts, Cert.ShortRefIdeal.Gen.facts,
    AttnClaim.preFacts, MergeClaim.preFacts, AttnClaim.frame_p, AttnClaim.frame_pi,
    fun m ρ _ => AttnClaim.frame_pi m ρ trivial, AttnClaim.frame_ri, fun m ρ _ => AttnClaim.frame_ri m ρ trivial, HProjClaim.frame_p,
    HProjClaim.frame_pi, HProjClaim.frame_ri, GLogClaim.frame_p, GLogClaim.frame_pi,
    GLogClaim.frame_ri, MergeClaim.frame_p, MergeClaim.frame_pi, fun m ρ _ => MergeClaim.frame_pi m ρ trivial,
    MergeClaim.frame_ri, fun m ρ _ => MergeClaim.frame_ri m ρ trivial,
    Qkv0Claim.frame_p, Qkv0Claim.frame_pi, Qkv0Claim.frame_ri,
    Qkv1Claim.frame_p, Qkv1Claim.frame_pi, Qkv1Claim.frame_ri,
    Qkv2Claim.frame_p, Qkv2Claim.frame_pi, Qkv2Claim.frame_ri,
    AttnBClaim.frame_p, AttnBClaim.frame_pi, fun m ρ _ => AttnBClaim.frame_pi m ρ trivial,
    AttnBClaim.frame_ri, fun m ρ _ => AttnBClaim.frame_ri m ρ trivial,
    AttnCClaim.frame_p, AttnCClaim.frame_pi, fun m ρ _ => AttnCClaim.frame_pi m ρ trivial,
    AttnCClaim.frame_ri, fun m ρ _ => AttnCClaim.frame_ri m ρ trivial,
    NormClaim.frame_p, NormClaim.frame_pi, NormClaim.frame_ri,
    ShortClaim.frame_p, ShortClaim.frame_pi, ShortClaim.frame_ri,
    AttnClaim.preserves, AttnClaim.algebraic,
    HProjClaim.preserves, HProjClaim.algebraic, GLogClaim.preserves, GLogClaim.algebraic,
    MergeClaim.preserves, MergeClaim.algebraic,
    Qkv0Claim.preserves, Qkv0Claim.algebraic, Qkv1Claim.preserves, Qkv1Claim.algebraic, Qkv2Claim.preserves, Qkv2Claim.algebraic,
    AttnBClaim.preserves, AttnBClaim.algebraic, AttnCClaim.preserves, AttnCClaim.algebraic,
    NormClaim.preserves, NormClaim.algebraic, ShortClaim.preserves, ShortClaim.algebraic⟩

end Cert.Proof

end
